-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Kernel27Ideal_finite27 [hPre_finite27 : Cert.Pre_finite27.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_finite27.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2))).1 = (fun _ => 1#1)
    ∧ (Cert.Pre_finite27.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2))).2 = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_finite27 [hPre_finite27 : Cert.Pre_finite27.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_finite27.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2))).1 = (fun _ => 1#1)
    ∧ (Cert.Pre_finite27.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Kernel27Ideal_pre_finite27 [hKernel27Ideal : Cert.Kernel27Ideal.Facts] [hPre_finite27 : Cert.Pre_finite27.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal_finite27 m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Reference27Ideal_pre_finite27 [hReference27Ideal : Cert.Reference27Ideal.Facts] [hPre_finite27 : Cert.Pre_finite27.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_finite27 m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v54)) (v2 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_v55) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v2) = v1 c
          ∧ r.2.mem ((c.tc : Thread Cert.Reference7Ideal.nD Cert.Reference7Ideal.τ).loc Cert.Reference7Ideal.main_v7) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  IdealRules.named_const.Statement Cert.Kernel27Ideal.κ "mask" .f32 0xF149F2CA#32 ⊥
  ∧ IdealRules.named_const.Statement Cert.Kernel27Ideal.κ "scale_log2e" .f32 0x3DD53B95#32 (((Real.sqrt 192)⁻¹ * (Real.log 2)⁻¹ : ℝ) : EReal)
  ∧ IdealRules.named_const.Statement Cert.Kernel27Ideal.κ "log2e" .f32 0x3FB8AA3B#32 (((Real.log 2)⁻¹ : ℝ) : EReal)

def algebraic_Kernel27Ideal_Reference27Ideal_pre_finite27 [hKernel27Ideal : Cert.Kernel27Ideal.Facts] [hReference27Ideal : Cert.Reference27Ideal.Facts] [hPre_finite27 : Cert.Pre_finite27.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal_finite27 m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v10)) (v1 : (c : Dev Cert.Kernel27Ideal.nD) → Buf (Elt Ideal) ((c.tc : Thread Cert.Kernel27Ideal.nD Cert.Kernel27Ideal.τ).loc Cert.Kernel27Ideal.main_v9_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v10) = v0 c
          ∧ r.2.mem ((c.tc : Thread Cert.Kernel27Ideal.nD Cert.Kernel27Ideal.τ).loc Cert.Kernel27Ideal.main_v9_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v50) = v0 c
          ∧ r.2.mem ((c.tc : Thread Cert.Reference27Ideal.nD Cert.Reference27Ideal.τ).loc Cert.Reference27Ideal.main_v53) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite2 : Cert.Pre_finite2.Facts) (hPre_finite27 : Cert.Pre_finite27.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Kernel27Ideal_pre_finite27 (hKernel27Ideal := hKernel27Ideal) (hPre_finite27 := hPre_finite27)
    ∧ quiescent_Reference27Ideal (hReference27Ideal := hReference27Ideal)
    ∧ quiescent_Reference27Ideal_pre_finite27 (hReference27Ideal := hReference27Ideal) (hPre_finite27 := hPre_finite27)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal_pre_finite27 (hKernel27Ideal := hKernel27Ideal) (hReference27Ideal := hReference27Ideal) (hPre_finite27 := hPre_finite27)
-- ==== Pre_finite.lean ====
abbrev S8192x8x192 : Shape := ⟨3, ![8192, 8, 192]⟩
abbrev S8192x8x128 : Shape := ⟨3, ![8192, 8, 128]⟩
abbrev S8192x2048 : Shape := ⟨2, ![8192, 2048]⟩
abbrev S_ : Shape := ⟨0, ![]⟩
abbrev S8192x1024 : Shape := ⟨2, ![8192, 1024]⟩

class Facts : Prop where
  bcast_S_S8192x8x192 : S_.BroadcastsInDim S8192x8x192 (![] : Fin 0 → Fin S8192x8x192.rank)
  bcast_S_S8192x8x128 : S_.BroadcastsInDim S8192x8x128 (![] : Fin 0 → Fin S8192x8x128.rank)
  slices_S8192x2048_S8192x1024_0_0 : S8192x2048.Slices ![0, 0] S8192x1024
  bcast_S_S8192x1024 : S_.BroadcastsInDim S8192x1024 (![] : Fin 0 → Fin S8192x1024.rank)

variable [Facts]

def fn {F : FTy → Type} [FloatOps F] (main_arg0 : FVec F S8192x8x192 .f32) (main_arg1 : FVec F S8192x8x192 .f32) (main_arg2 : FVec F S8192x8x128 .f32) (main_arg3 : FVec F S8192x2048 .f32) : IVec S8192x8x192 1 × IVec S8192x8x192 1 × IVec S8192x8x128 1 × IVec S8192x1024 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x192 .f32 := Host.absf main_arg1
  let main_cst_0 : FVec F S_ .f32 := constant S_ .f32 0x7F800000#32
  let main_v4 : FVec F S8192x8x192 .f32 := broadcastInDim S8192x8x192 ![] bcast_S_S8192x8x192 main_cst_0
  let main_v5 : IVec S8192x8x192 1 := cmpf .olt main_v3 main_v4
  let main_v6 : FVec F S8192x8x128 .f32 := Host.absf main_arg2
  let main_cst_1 : FVec F S_ .f32 := constant S_ .f32 0x7F800000#32
  let main_v7 : FVec F S8192x8x128 .f32 := broadcastInDim S8192x8x128 ![] bcast_S_S8192x8x128 main_cst_1
  let main_v8 : IVec S8192x8x128 1 := cmpf .olt main_v6 main_v7
  let main_v9 : FVec F S8192x1024 .f32 := (extractStridedSlice S8192x1024 ![0, 0] · slices_S8192x2048_S8192x1024_0_0) main_arg3
  let main_v10 : FVec F S8192x1024 .f32 := Host.absf main_v9
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  (main_v2, main_v5, main_v8, main_v12)
-- ==== Pre_finite2.lean ====
abbrev S8192x2048 : Shape := ⟨2, ![8192, 2048]⟩
abbrev S2048x11264 : Shape := ⟨2, ![2048, 11264]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)

variable [Facts]

def fn {F : FTy → Type} [FloatOps F] (main_arg0 : FVec F S8192x2048 .f32) (main_arg1 : FVec F S2048x11264 .f32) (main_arg2 : FVec F S5632x2048 .f32) (main_arg3 : FVec F S8192x2048 .f32) : IVec S8192x2048 1 × IVec S2048x11264 1 × IVec S5632x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048x11264 .f32 := Host.absf main_arg1
  let main_cst_0 : FVec F S_ .f32 := constant S_ .f32 0x7F800000#32
  let main_v4 : FVec F S2048x11264 .f32 := broadcastInDim S2048x11264 ![] bcast_S_S2048x11264 main_cst_0
  let main_v5 : IVec S2048x11264 1 := cmpf .olt main_v3 main_v4
  let main_v6 : FVec F S5632x2048 .f32 := Host.absf main_arg2
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  (main_v2, main_v5, main_v8, main_v11)
-- ==== Pre_finite27.lean ====
abbrev S8192x8x192 : Shape := ⟨3, ![8192, 8, 192]⟩
abbrev S8192x8x128 : Shape := ⟨3, ![8192, 8, 128]⟩
abbrev S_ : Shape := ⟨0, ![]⟩

class Facts : Prop where
  bcast_S_S8192x8x192 : S_.BroadcastsInDim S8192x8x192 (![] : Fin 0 → Fin S8192x8x192.rank)

variable [Facts]

def fn {F : FTy → Type} [FloatOps F] (main_arg0 : FVec F S8192x8x192 .f32) (main_arg1 : FVec F S8192x8x192 .f32) (main_arg2 : FVec F S8192x8x128 .f32) : IVec S8192x8x192 1 × IVec S8192x8x192 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8192x8x192 .f32 := Host.absf main_arg1
  let main_cst_0 : FVec F S_ .f32 := constant S_ .f32 0x7F800000#32
  let main_v4 : FVec F S8192x8x192 .f32 := broadcastInDim S8192x8x192 ![] bcast_S_S8192x8x192 main_cst_0
  let main_v5 : IVec S8192x8x192 1 := cmpf .olt main_v3 main_v4
  (main_v2, main_v5)
-- ==== Kernel.lean ====
abbrev S8192x8x192 : Shape := ⟨3, ![8192, 8, 192]⟩
abbrev S8192x8x128 : Shape := ⟨3, ![8192, 8, 128]⟩
abbrev S8192x2048 : Shape := ⟨2, ![8192, 2048]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x1024 : Shape := ⟨2, ![8192, 1024]⟩
abbrev S8192x8 : Shape := ⟨2, ![8192, 8]⟩
abbrev S8192x8x256 : Shape := ⟨3, ![8192, 8, 256]⟩
abbrev S8x1x8192 : Shape := ⟨3, ![8, 1, 8192]⟩
abbrev S8x8x8192 : Shape := ⟨3, ![8, 8, 8192]⟩
abbrev S64x8192 : Shape := ⟨2, ![64, 8192]⟩
abbrev S512x256 : Shape := ⟨2, ![512, 256]⟩
abbrev S8192x256 : Shape := ⟨2, ![8192, 256]⟩
abbrev S8192x128 : Shape := ⟨2, ![8192, 128]⟩
abbrev S512x128 : Shape := ⟨2, ![512, 128]⟩
abbrev S8x512 : Shape := ⟨2, ![8, 512]⟩
abbrev S1x512 : Shape := ⟨2, ![1, 512]⟩
abbrev S512x512 : Shape := ⟨2, ![512, 512]⟩

abbrev nBuf : Space → Nat
  | .hbm => 75
  | .vmem => 19
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x2048, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x8192x8192, .f32⟩
  | .hbm, ⟨9, _⟩ => ⟨S8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S_, .f32⟩
  | .hbm, ⟨17, _⟩ => ⟨S_, .f32⟩
  | .hbm, ⟨18, _⟩ => ⟨S8x8192x8192, .i1⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x8192, .f32⟩
  | .hbm, ⟨31, _⟩ => ⟨S8x8192x8192, .f32⟩
  | .hbm, ⟨32, _⟩ => ⟨S8x128x8192, .f32⟩
  | .hbm, ⟨33, _⟩ => ⟨S8192x8x128, .f32⟩
  | .hbm, ⟨34, _⟩ => ⟨S8x8192x1, .f32⟩
  | .hbm, ⟨35, _⟩ => ⟨S8x8192x1, .f32⟩
  | .hbm, ⟨36, _⟩ => ⟨S8x8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8x8192, .f32⟩
  | .hbm, ⟨41, _⟩ => ⟨S8x8192, .f32⟩
  | .hbm, ⟨42, _⟩ => ⟨S8192x1024, .f32⟩
  | .hbm, ⟨43, _⟩ => ⟨S8192x8x128, .f32⟩
  | .hbm, ⟨44, _⟩ => ⟨S8192x8x128, .f32⟩
  | .hbm, ⟨45, _⟩ => ⟨S_, .f32⟩
  | .hbm, ⟨46, _⟩ => ⟨S8192x8, .f32⟩
  | .hbm, ⟨47, _⟩ => ⟨S8x8192, .f32⟩
  | .hbm, ⟨48, _⟩ => ⟨S_, .i32⟩
  | .hbm, ⟨49, _⟩ => ⟨S_, .f32⟩
  | .hbm, ⟨50, _⟩ => ⟨S8192x8x256, .f32⟩
  | .hbm, ⟨51, _⟩ => ⟨S8192x2048, .f32⟩
  | .hbm, ⟨52, _⟩ => ⟨S8192x2048, .bf16⟩
  | .hbm, ⟨53, _⟩ => ⟨S_, .i32⟩
  | .hbm, ⟨54, _⟩ => ⟨S_, .f32⟩
  | .hbm, ⟨55, _⟩ => ⟨S8192x8x256, .f32⟩
  | .hbm, ⟨56, _⟩ => ⟨S8192x2048, .f32⟩
  | .hbm, ⟨57, _⟩ => ⟨S8192x2048, .bf16⟩
  | .hbm, ⟨58, _⟩ => ⟨S8192x1024, .f32⟩
  | .hbm, ⟨59, _⟩ => ⟨S8192x1024, .bf16⟩
  | .hbm, ⟨60, _⟩ => ⟨S8192x2048, .bf16⟩
  | .hbm, ⟨61, _⟩ => ⟨S8x1x8192, .f32⟩
  | .hbm, ⟨62, _⟩ => ⟨S8x8x8192, .f32⟩
  | .hbm, ⟨63, _⟩ => ⟨S64x8192, .f32⟩
  | .hbm, ⟨64, _⟩ => ⟨S8x1x8192, .f32⟩
  | .hbm, ⟨65, _⟩ => ⟨S8x8x8192, .f32⟩
  | .hbm, ⟨66, _⟩ => ⟨S64x8192, .f32⟩
  | .hbm, ⟨67, _⟩ => ⟨S8192x2048, .f32⟩
  | .hbm, ⟨68, _⟩ => ⟨S8192x2048, .f32⟩
  | .hbm, ⟨69, _⟩ => ⟨S8192x1024, .f32⟩
  | .hbm, ⟨70, _⟩ => ⟨S8192x8x256, .f32⟩
  | .hbm, ⟨71, _⟩ => ⟨S8192x8x192, .f32⟩
  | .hbm, ⟨72, _⟩ => ⟨S8192x8x256, .f32⟩
  | .hbm, ⟨73, _⟩ => ⟨S8192x8x192, .f32⟩
  | .hbm, ⟨74, _⟩ => ⟨S8192x8x128, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S512x256, .f32⟩
  | .local _ .vmem, ⟨13, _⟩ => ⟨S512x256, .f32⟩
  | .local _ .vmem, ⟨14, _⟩ => ⟨S8192x256, .f32⟩
  | .local _ .vmem, ⟨15, _⟩ => ⟨S8192x256, .f32⟩
  | .local _ .vmem, ⟨16, _⟩ => ⟨S8192x128, .f32⟩
  | .local _ .vmem, ⟨17, _⟩ => ⟨S8192x128, .f32⟩
  | .local _ .vmem, ⟨18, _⟩ => ⟨S512x256, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_c : Ref sig .tc := ⟨.hbm, 48, rfl⟩
abbrev main_call1_v0 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_call2_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50_0 : Ref sig .tc := ⟨.hbm, 67, rfl⟩
abbrev main_v50_1 : Ref sig .tc := ⟨.hbm, 68, rfl⟩
abbrev main_v50_2 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_11 : BitVec 32 := 0#32
  let arg1 : BitVec 32 := BitVec.ofNat 32 (i 1).val
  let v15 : BitVec 32 := Scalar.subi arg1 c0_i32_11
  let c1_i32 : BitVec 32 := 1#32
  let v17 : BitVec 32 := Scalar.divsi v15 c1_i32
  let v18 : BitVec 32 := Scalar.muli v17 c1_i32
  let v19 : BitVec 32 := Scalar.addi c0_i32_11 v18
  let c1_i32_12 : BitVec 32 := 1#32
  ⟨c0_i32_11, v19, c1_i32_12⟩
def k0_mult1 (i : grid0.Coords) (k0_t1 : Fin (k0_t1_loop i).trips) : BitVec 32 :=
  let c0_i32_11 : BitVec 32 := 0#32
  let c1_i32_12 : BitVec 32 := 1#32
  let arg12 : BitVec 32 := Scf.iv c0_i32_11 c1_i32_12 k0_t1
  let c512_i32_36 : BitVec 32 := 512#32
  let v69 : BitVec 32 := Scalar.muli arg12 c512_i32_36
  v69
def k0_off1 (i : grid0.Coords) (k0_t1 : Fin (k0_t1_loop i).trips) : Fin 2 → Nat :=
  let c0_i32_11 : BitVec 32 := 0#32
  let c1_i32_12 : BitVec 32 := 1#32
  let arg12 : BitVec 32 := Scf.iv c0_i32_11 c1_i32_12 k0_t1
  let c512_i32_36 : BitVec 32 := 512#32
  let v69 : BitVec 32 := Scalar.muli arg12 c512_i32_36
  let v70 : BitVec 32 := v69
  let v71 : Index := Scalar.indexCast v70
  let c0_37 : Index := 0#32
  ![v71.toNat, 0]
def k0_off2 (i : grid0.Coords) (k0_t1 : Fin (k0_t1_loop i).trips) : Fin 2 → Nat :=
  let c0_i32_11 : BitVec 32 := 0#32
  let c1_i32_12 : BitVec 32 := 1#32
  let arg12 : BitVec 32 := Scf.iv c0_i32_11 c1_i32_12 k0_t1
  let c512_i32_36 : BitVec 32 := 512#32
  let v69 : BitVec 32 := Scalar.muli arg12 c512_i32_36
  let v70 : BitVec 32 := v69
  let v80 : Index := Scalar.indexCast v70
  let c0_40 : Index := 0#32
  ![v80.toNat, 0]
@[reducible] def k0_t2_loop (i : grid0.Coords) : Scf.Loop 32 :=
  let c0_i32_11 : BitVec 32 := 0#32
  let arg1 : BitVec 32 := BitVec.ofNat 32 (i 1).val
  let v15 : BitVec 32 := Scalar.subi arg1 c0_i32_11
  let c1_i32 : BitVec 32 := 1#32
  let v17 : BitVec 32 := Scalar.divsi v15 c1_i32
  let v18 : BitVec 32 := Scalar.muli v17 c1_i32
  let v19 : BitVec 32 := Scalar.addi c0_i32_11 v18
  let v16 : BitVec 32 := Scalar.addi c0_i32_11 v15
  let c1_i32_13 : BitVec 32 := 1#32
  ⟨v19, v16, c1_i32_13⟩
def k0_mult2 (i : grid0.Coords) (k0_t2 : Fin (k0_t2_loop i).trips) : BitVec 32 :=
  let c0_i32_11 : BitVec 32 := 0#32
  let arg1 : BitVec 32 := BitVec.ofNat 32 (i 1).val
  let v15 : BitVec 32 := Scalar.subi arg1 c0_i32_11
  let c1_i32 : BitVec 32 := 1#32
  let v17 : BitVec 32 := Scalar.divsi v15 c1_i32
  let v18 : BitVec 32 := Scalar.muli v17 c1_i32
  let v19 : BitVec 32 := Scalar.addi c0_i32_11 v18
  let c1_i32_13 : BitVec 32 := 1#32
  let arg12 : BitVec 32 := Scf.iv v19 c1_i32_13 k0_t2
  let c512_i32_36 : BitVec 32 := 512#32
  let v69 : BitVec 32 := Scalar.muli arg12 c512_i32_36
  v69
def k0_off3 (i : grid0.Coords) (k0_t2 : Fin (k0_t2_loop i).trips) : Fin 2 → Nat :=
  let c0_i32_11 : BitVec 32 := 0#32
  let arg1 : BitVec 32 := BitVec.ofNat 32 (i 1).val
  let v15 : BitVec 32 := Scalar.subi arg1 c0_i32_11
  let c1_i32 : BitVec 32 := 1#32
  let v17 : BitVec 32 := Scalar.divsi v15 c1_i32
  let v18 : BitVec 32 := Scalar.muli v17 c1_i32
  let v19 : BitVec 32 := Scalar.addi c0_i32_11 v18
  let c1_i32_13 : BitVec 32 := 1#32
  let arg12 : BitVec 32 := Scf.iv v19 c1_i32_13 k0_t2
  let c512_i32_36 : BitVec 32 := 512#32
  let v69 : BitVec 32 := Scalar.muli arg12 c512_i32_36
  let v70 : BitVec 32 := v69
  let v71 : Index := Scalar.indexCast v70
  let c0_37 : Index := 0#32
  ![v71.toNat, 0]
def k0_off4 (i : grid0.Coords) (k0_t2 : Fin (k0_t2_loop i).trips) : Fin 2 → Nat :=
  let c0_i32_11 : BitVec 32 := 0#32
  let arg1 : BitVec 32 := BitVec.ofNat 32 (i 1).val
  let v15 : BitVec 32 := Scalar.subi arg1 c0_i32_11
  let c1_i32 : BitVec 32 := 1#32
  let v17 : BitVec 32 := Scalar.divsi v15 c1_i32
  let v18 : BitVec 32 := Scalar.muli v17 c1_i32
  let v19 : BitVec 32 := Scalar.addi c0_i32_11 v18
  let c1_i32_13 : BitVec 32 := 1#32
  let arg12 : BitVec 32 := Scf.iv v19 c1_i32_13 k0_t2
  let c512_i32_36 : BitVec 32 := 512#32
  let v69 : BitVec 32 := Scalar.muli arg12 c512_i32_36
  let v70 : BitVec 32 := v69
  let v80 : Index := Scalar.indexCast v70
  let c0_40 : Index := 0#32
  ![v80.toNat, 0]
def k0_mult3 (i : grid0.Coords) : BitVec 32 :=
  let arg1 : BitVec 32 := BitVec.ofNat 32 (i 1).val
  let c512_i32 : BitVec 32 := 512#32
  let v20 : BitVec 32 := Scalar.muli arg1 c512_i32
  v20
def k0_off5 (i : grid0.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v22 : Index := Scalar.indexCast v21
  let c0_14 : Index := 0#32
  ![v22.toNat, 0]
def k0_off6 (i : grid0.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v36 : Index := Scalar.indexCast v21
  let c0_18 : Index := 0#32
  ![v36.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "mask" => some ⊥
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S8192x8x192 : Shape := ⟨3, ![8192, 8, 192]⟩
abbrev S8192x8x128 : Shape := ⟨3, ![8192, 8, 128]⟩
abbrev S8192x2048 : Shape := ⟨2, ![8192, 2048]⟩
abbrev S8192x1024 : Shape := ⟨2, ![8192, 1024]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩

abbrev nBuf : Space → Nat
  | .hbm => 92
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8192x2048, .f32⟩
  | .hbm, ⟨4, _⟩ => ⟨S8192x1024, .f32⟩
  | .hbm, ⟨5, _⟩ => ⟨S8192x8x128, .f32⟩
  | .hbm, ⟨6, _⟩ => ⟨S8x8192x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S8x8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .i1⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S8x8192, .i1⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S8x8192, .f32⟩
  | .hbm, ⟨49, _⟩ => ⟨S8x8192, .f32⟩
  | .hbm, ⟨50, _⟩ => ⟨S8x8192x1, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S_, .f32⟩
  | .hbm, ⟨55, _⟩ => ⟨S8x8192, .f32⟩
  | .hbm, ⟨56, _⟩ => ⟨S8x8192x1, .f32⟩
  | .hbm, ⟨57, _⟩ => ⟨S8x8192x8192, .f32⟩
  | .hbm, ⟨58, _⟩ => ⟨S8x8192x8192, .f32⟩
  | .hbm, ⟨59, _⟩ => ⟨S8x8192x1, .f32⟩
  | .hbm, ⟨60, _⟩ => ⟨S_, .f32⟩
  | .hbm, ⟨61, _⟩ => ⟨S8x8192x1, .f32⟩
  | .hbm, ⟨62, _⟩ => ⟨S8x8192x1, .f32⟩
  | .hbm, ⟨63, _⟩ => ⟨S8x128x8192, .f32⟩
  | .hbm, ⟨64, _⟩ => ⟨S8192x8x128, .f32⟩
  | .hbm, ⟨65, _⟩ => ⟨S8x128x8192, .f32⟩
  | .hbm, ⟨66, _⟩ => ⟨S8x8192x8192, .f32⟩
  | .hbm, ⟨67, _⟩ => ⟨S8x128x8192, .f32⟩
  | .hbm, ⟨68, _⟩ => ⟨S8192x8x128, .f32⟩
  | .hbm, ⟨69, _⟩ => ⟨S8x8192x8192, .f32⟩
  | .hbm, ⟨70, _⟩ => ⟨S8x8192x8192, .f32⟩
  | .hbm, ⟨71, _⟩ => ⟨S8x8192x8192, .f32⟩
  | .hbm, ⟨72, _⟩ => ⟨S_, .f32⟩
  | .hbm, ⟨73, _⟩ => ⟨S8x8192, .f32⟩
  | .hbm, ⟨74, _⟩ => ⟨S8x8192x1, .f32⟩
  | .hbm, ⟨75, _⟩ => ⟨S8x8192x1, .f32⟩
  | .hbm, ⟨76, _⟩ => ⟨S8x8192x8192, .f32⟩
  | .hbm, ⟨77, _⟩ => ⟨S8x8192x8192, .f32⟩
  | .hbm, ⟨78, _⟩ => ⟨S_, .f32⟩
  | .hbm, ⟨79, _⟩ => ⟨S8x8192, .f32⟩
  | .hbm, ⟨80, _⟩ => ⟨S8x8192x8192, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192x8192, .f32⟩
  | .hbm, ⟨85, _⟩ => ⟨S8x8192x8192, .f32⟩
  | .hbm, ⟨86, _⟩ => ⟨S8x8192x8192, .f32⟩
  | .hbm, ⟨87, _⟩ => ⟨S8x8192x8192, .f32⟩
  | .hbm, ⟨88, _⟩ => ⟨S8x8192x192, .f32⟩
  | .hbm, ⟨89, _⟩ => ⟨S8192x8x192, .f32⟩
  | .hbm, ⟨90, _⟩ => ⟨S8x8192x192, .f32⟩
  | .hbm, ⟨91, _⟩ => ⟨S8192x8x192, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Kernel2.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S2048x5632 : Shape := ⟨2, ![2048, 5632]⟩
abbrev S128x5632 : Shape := ⟨2, ![128, 5632]⟩
abbrev S128x11264 : Shape := ⟨2, ![128, 11264]⟩

abbrev nBuf : Space → Nat
  | .hbm => 11
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S5632x2048, .f32⟩
  | .hbm, ⟨3, _⟩ => ⟨S8192x2048, .f32⟩
  | .hbm, ⟨4, _⟩ => ⟨S8192x11264, .f32⟩
  | .hbm, ⟨5, _⟩ => ⟨S8192x5632, .f32⟩
  | .hbm, ⟨6, _⟩ => ⟨S8192x5632, .f32⟩
  | .hbm, ⟨7, _⟩ => ⟨S2048x5632, .f32⟩
  | .hbm, ⟨8, _⟩ => ⟨S8192x5632, .f32⟩
  | .hbm, ⟨9, _⟩ => ⟨S8192x5632, .bf16⟩
  | .hbm, ⟨10, _⟩ => ⟨S8192x11264, .bf16⟩
  | .local _ .vmem, ⟨0, _⟩ => ⟨S128x5632, .f32⟩
  | .local _ .vmem, ⟨1, _⟩ => ⟨S128x5632, .f32⟩
  | .local _ .vmem, ⟨2, _⟩ => ⟨S128x5632, .f32⟩
  | .local _ .vmem, ⟨3, _⟩ => ⟨S128x5632, .f32⟩
  | .local _ .vmem, ⟨4, _⟩ => ⟨S128x5632, .bf16⟩
  | .local _ .vmem, ⟨5, _⟩ => ⟨S128x5632, .bf16⟩
  | .local _ .vmem, ⟨6, _⟩ => ⟨S128x11264, .bf16⟩
  | .local _ .vmem, ⟨7, _⟩ => ⟨S128x11264, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x11264 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩
abbrev S2048x5632 : Shape := ⟨2, ![2048, 5632]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S5632x2048, .f32⟩
  | .hbm, ⟨3, _⟩ => ⟨S8192x2048, .f32⟩
  | .hbm, ⟨4, _⟩ => ⟨S8192x11264, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S2048x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x11264, .f32⟩
  | .hbm, ⟨30, _⟩ => ⟨S8192x11264, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel3.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x2048 : Shape := ⟨2, ![8192, 2048]⟩
abbrev S8192x11264 : Shape := ⟨2, ![8192, 11264]⟩
abbrev S11264x2048 : Shape := ⟨2, ![11264, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S8192x11264, .bf16⟩
  | .hbm, ⟨3, _⟩ => ⟨S8192x2048, .bf16⟩
  | .hbm, ⟨4, _⟩ => ⟨S11264x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S_, .f32⟩
  | .hbm, ⟨3, _⟩ => ⟨S2048x11264, .f32⟩
  | .hbm, ⟨4, _⟩ => ⟨S8192x11264, .f32⟩
  | .hbm, ⟨5, _⟩ => ⟨S11264x2048, .f32⟩
  | .hbm, ⟨6, _⟩ => ⟨S2048x11264, .f32⟩
  | .hbm, ⟨7, _⟩ => ⟨S11264x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2048x11264 : Shape := ⟨2, ![2048, 11264]⟩
abbrev S8192x11264 : Shape := ⟨2, ![8192, 11264]⟩
abbrev S11264x2048 : Shape := ⟨2, ![11264, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x11264, .f32⟩
  | .hbm, ⟨1, _⟩ => ⟨S8192x11264, .f32⟩
  | .hbm, ⟨2, _⟩ => ⟨S8192x11264, .bf16⟩
  | .hbm, ⟨3, _⟩ => ⟨S11264x2048, .f32⟩
  | .hbm, ⟨4, _⟩ => ⟨S11264x2048, .bf16⟩
  | .hbm, ⟨5, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x11264 : Shape := ⟨2, ![2048, 11264]⟩
abbrev S8192x11264 : Shape := ⟨2, ![8192, 11264]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S8192x11264, .f32⟩
  | .hbm, ⟨2, _⟩ => ⟨S_, .f32⟩
  | .hbm, ⟨3, _⟩ => ⟨S8192x2048, .f32⟩
  | .hbm, ⟨4, _⟩ => ⟨S8192x11264, .f32⟩
  | .hbm, ⟨5, _⟩ => ⟨S8192x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S5632x2048 : Shape := ⟨2, ![5632, 2048]⟩
abbrev S8192x2048 : Shape := ⟨2, ![8192, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S5632x2048, .f32⟩
  | .hbm, ⟨1, _⟩ => ⟨S8192x2048, .f32⟩
  | .hbm, ⟨2, _⟩ => ⟨S8192x2048, .bf16⟩
  | .hbm, ⟨3, _⟩ => ⟨S5632x2048, .bf16⟩
  | .hbm, ⟨4, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S5632x2048 : Shape := ⟨2, ![5632, 2048]⟩
abbrev S8192x2048 : Shape := ⟨2, ![8192, 2048]⟩
abbrev S_ : Shape := ⟨0, ![]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S8192x2048, .f32⟩
  | .hbm, ⟨2, _⟩ => ⟨S_, .f32⟩
  | .hbm, ⟨3, _⟩ => ⟨S8192x5632, .f32⟩
  | .hbm, ⟨4, _⟩ => ⟨S8192x2048, .f32⟩
  | .hbm, ⟨5, _⟩ => ⟨S8192x5632, .f32⟩
  | .hbm, ⟨6, _⟩ => ⟨S8192x5632, .bf16⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x2048 : Shape := ⟨2, ![8192, 2048]⟩
abbrev S2048x11264 : Shape := ⟨2, ![2048, 11264]⟩
abbrev S11264x2048 : Shape := ⟨2, ![11264, 2048]⟩
abbrev S8192x5632 : Shape := ⟨2, ![8192, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x2048, .bf16⟩
  | .hbm, ⟨3, _⟩ => ⟨S11264x2048, .f32⟩
  | .hbm, ⟨4, _⟩ => ⟨S11264x2048, .bf16⟩
  | .hbm, ⟨5, _⟩ => ⟨S8192x5632, .f32⟩
  | .hbm, ⟨6, _⟩ => ⟨S8192x5632, .f32⟩
  | .hbm, ⟨7, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Kernel8.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S8192x2048 : Shape := ⟨2, ![8192, 2048]⟩
abbrev S8192x4096 : Shape := ⟨2, ![8192, 4096]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x4096, .bf16⟩
  | .hbm, ⟨3, _⟩ => ⟨S8192x2048, .bf16⟩
  | .hbm, ⟨4, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S_, .f32⟩
  | .hbm, ⟨3, _⟩ => ⟨S2048x4096, .f32⟩
  | .hbm, ⟨4, _⟩ => ⟨S8192x4096, .f32⟩
  | .hbm, ⟨5, _⟩ => ⟨S4096x2048, .f32⟩
  | .hbm, ⟨6, _⟩ => ⟨S2048x4096, .f32⟩
  | .hbm, ⟨7, _⟩ => ⟨S4096x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2048x4096 : Shape := ⟨2, ![2048, 4096]⟩
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S8192x4096, .f32⟩
  | .hbm, ⟨2, _⟩ => ⟨S8192x4096, .bf16⟩
  | .hbm, ⟨3, _⟩ => ⟨S4096x2048, .f32⟩
  | .hbm, ⟨4, _⟩ => ⟨S4096x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x4096 : Shape := ⟨2, ![2048, 4096]⟩
abbrev S8192x4096 : Shape := ⟨2, ![8192, 4096]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S8192x4096, .f32⟩
  | .hbm, ⟨2, _⟩ => ⟨S_, .f32⟩
  | .hbm, ⟨3, _⟩ => ⟨S8192x2048, .f32⟩
  | .hbm, ⟨4, _⟩ => ⟨S8192x4096, .f32⟩
  | .hbm, ⟨5, _⟩ => ⟨S8192x2048, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S8192x2048 : Shape := ⟨2, ![8192, 2048]⟩
abbrev S2048x4096 : Shape := ⟨2, ![2048, 4096]⟩
abbrev S4096x2048 : Shape := ⟨2, ![4096, 2048]⟩
abbrev S8192x4096 : Shape := ⟨2, ![8192, 4096]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S4096x2048, .f32⟩
  | .hbm, ⟨4, _⟩ => ⟨S4096x2048, .bf16⟩
  | .hbm, ⟨5, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S8192x2048 : Shape := ⟨2, ![8192, 2048]⟩
abbrev S8192x4096 : Shape := ⟨2, ![8192, 4096]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .bf16⟩
  | .hbm, ⟨3, _⟩ => ⟨S8192x4096, .bf16⟩
  | .hbm, ⟨4, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S8192x4096 : Shape := ⟨2, ![8192, 4096]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S2048x2048, .f32⟩
  | .hbm, ⟨7, _⟩ => ⟨S2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S2048x2048 : Shape := ⟨2, ![2048, 2048]⟩
abbrev S8192x4096 : Shape := ⟨2, ![8192, 4096]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8192x4096, .f32⟩
  | .hbm, ⟨2, _⟩ => ⟨S8192x4096, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x2048 : Shape := ⟨2, ![2048, 2048]⟩
abbrev S8192x4096 : Shape := ⟨2, ![8192, 4096]⟩
abbrev S8192x2048 : Shape := ⟨2, ![8192, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8192x4096, .f32⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8192x2048 : Shape := ⟨2, ![8192, 2048]⟩
abbrev S2048x4224 : Shape := ⟨2, ![2048, 4224]⟩
abbrev S4224x2048 : Shape := ⟨2, ![4224, 2048]⟩
abbrev S8192x4224 : Shape := ⟨2, ![8192, 4224]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4224, .f32⟩
  | .hbm, ⟨2, _⟩ => ⟨S8192x2048, .bf16⟩
  | .hbm, ⟨3, _⟩ => ⟨S4224x2048, .f32⟩
  | .hbm, ⟨4, _⟩ => ⟨S4224x2048, .bf16⟩
  | .hbm, ⟨5, _⟩ => ⟨S8192x4224, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S2048x4224 : Shape := ⟨2, ![2048, 4224]⟩
abbrev S8192x4224 : Shape := ⟨2, ![8192, 4224]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4224, .f32⟩
  | .hbm, ⟨2, _⟩ => ⟨S8192x4224, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S8192x2048 : Shape := ⟨2, ![8192, 2048]⟩
abbrev S8192x4224 : Shape := ⟨2, ![8192, 4224]⟩
abbrev S4224x2048 : Shape := ⟨2, ![4224, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4224, .f32⟩
  | .hbm, ⟨2, _⟩ => ⟨S8192x4224, .bf16⟩
  | .hbm, ⟨3, _⟩ => ⟨S8192x2048, .bf16⟩
  | .hbm, ⟨4, _⟩ => ⟨S4224x2048, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x2048 : Shape := ⟨2, ![8192, 2048]⟩
abbrev S8192x4224 : Shape := ⟨2, ![8192, 4224]⟩
abbrev S_ : Shape := ⟨0, ![]⟩
abbrev S2048x4224 : Shape := ⟨2, ![2048, 4224]⟩
abbrev S4224x2048 : Shape := ⟨2, ![4224, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4224, .f32⟩
  | .hbm, ⟨2, _⟩ => ⟨S_, .f32⟩
  | .hbm, ⟨3, _⟩ => ⟨S2048x4224, .f32⟩
  | .hbm, ⟨4, _⟩ => ⟨S8192x4224, .f32⟩
  | .hbm, ⟨5, _⟩ => ⟨S4224x2048, .f32⟩
  | .hbm, ⟨6, _⟩ => ⟨S2048x4224, .f32⟩
  | .hbm, ⟨7, _⟩ => ⟨S4224x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S2048x4224 : Shape := ⟨2, ![2048, 4224]⟩
abbrev S8192x4224 : Shape := ⟨2, ![8192, 4224]⟩
abbrev S4224x2048 : Shape := ⟨2, ![4224, 2048]⟩
abbrev S8192x2048 : Shape := ⟨2, ![8192, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x4224, .f32⟩
  | .hbm, ⟨1, _⟩ => ⟨S8192x4224, .f32⟩
  | .hbm, ⟨2, _⟩ => ⟨S8192x4224, .bf16⟩
  | .hbm, ⟨3, _⟩ => ⟨S4224x2048, .f32⟩
  | .hbm, ⟨4, _⟩ => ⟨S4224x2048, .bf16⟩
  | .hbm, ⟨5, _⟩ => ⟨S8192x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2048x4224 : Shape := ⟨2, ![2048, 4224]⟩
abbrev S8192x4224 : Shape := ⟨2, ![8192, 4224]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4224, .f32⟩
  | .hbm, ⟨1, _⟩ => ⟨S8192x4224, .f32⟩
  | .hbm, ⟨2, _⟩ => ⟨S_, .f32⟩
  | .hbm, ⟨3, _⟩ => ⟨S8192x2048, .f32⟩
  | .hbm, ⟨4, _⟩ => ⟨S8192x4224, .f32⟩
  | .hbm, ⟨5, _⟩ => ⟨S8192x2048, .f32⟩
  | _, _ => ⟨S2048x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S8192x1024 : Shape := ⟨2, ![8192, 1024]⟩
abbrev S512x2048 : Shape := ⟨2, ![512, 2048]⟩
abbrev S2048x512 : Shape := ⟨2, ![2048, 512]⟩
abbrev S8192x2048 : Shape := ⟨2, ![8192, 2048]⟩
abbrev S1024x512 : Shape := ⟨2, ![1024, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S512x2048, .f32⟩
  | .hbm, ⟨2, _⟩ => ⟨S8192x1024, .bf16⟩
  | .hbm, ⟨3, _⟩ => ⟨S2048x512, .f32⟩
  | .hbm, ⟨4, _⟩ => ⟨S2048x512, .bf16⟩
  | .hbm, ⟨5, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S512x2048 : Shape := ⟨2, ![512, 2048]⟩
abbrev S8192x512 : Shape := ⟨2, ![8192, 512]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x2048, .f32⟩
  | .hbm, ⟨2, _⟩ => ⟨S8192x512, .f32⟩
  | .hbm, ⟨3, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S8192x1024 : Shape := ⟨2, ![8192, 1024]⟩
abbrev S512x2048 : Shape := ⟨2, ![512, 2048]⟩
abbrev S2048x512 : Shape := ⟨2, ![2048, 512]⟩
abbrev S8192x2048 : Shape := ⟨2, ![8192, 2048]⟩
abbrev S1024x512 : Shape := ⟨2, ![1024, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S512x2048, .f32⟩
  | .hbm, ⟨2, _⟩ => ⟨S8192x1024, .bf16⟩
  | .hbm, ⟨3, _⟩ => ⟨S2048x512, .f32⟩
  | .hbm, ⟨4, _⟩ => ⟨S2048x512, .bf16⟩
  | .hbm, ⟨5, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S512x2048 : Shape := ⟨2, ![512, 2048]⟩
abbrev S8192x512 : Shape := ⟨2, ![8192, 512]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S512x2048, .f32⟩
  | .hbm, ⟨2, _⟩ => ⟨S8192x512, .f32⟩
  | .hbm, ⟨3, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel22.lean ====
abbrev S8192x1024 : Shape := ⟨2, ![8192, 1024]⟩
abbrev S8192x2048 : Shape := ⟨2, ![8192, 2048]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .bf16⟩
  | .hbm, ⟨3, _⟩ => ⟨S8192x1024, .bf16⟩
  | .hbm, ⟨4, _⟩ => ⟨S2048x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x1024 : Shape := ⟨2, ![8192, 1024]⟩
abbrev S8192x2048 : Shape := ⟨2, ![8192, 2048]⟩
abbrev S8192x512 : Shape := ⟨2, ![8192, 512]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x512, .f32⟩
  | .hbm, ⟨3, _⟩ => ⟨S_, .f32⟩
  | .hbm, ⟨4, _⟩ => ⟨S512x2048, .f32⟩
  | .hbm, ⟨5, _⟩ => ⟨S8192x2048, .f32⟩
  | .hbm, ⟨6, _⟩ => ⟨S2048x512, .f32⟩
  | .hbm, ⟨7, _⟩ => ⟨S512x2048, .f32⟩
  | .hbm, ⟨8, _⟩ => ⟨S2048x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel23.lean ====
abbrev S8192x1024 : Shape := ⟨2, ![8192, 1024]⟩
abbrev S8192x2048 : Shape := ⟨2, ![8192, 2048]⟩
abbrev S2048x512 : Shape := ⟨2, ![2048, 512]⟩
abbrev S2048x1024 : Shape := ⟨2, ![2048, 1024]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .bf16⟩
  | .hbm, ⟨3, _⟩ => ⟨S8192x1024, .bf16⟩
  | .hbm, ⟨4, _⟩ => ⟨S2048x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x1024 : Shape := ⟨2, ![8192, 1024]⟩
abbrev S8192x2048 : Shape := ⟨2, ![8192, 2048]⟩
abbrev S8192x512 : Shape := ⟨2, ![8192, 512]⟩
abbrev S_ : Shape := ⟨0, ![]⟩
abbrev S512x2048 : Shape := ⟨2, ![512, 2048]⟩
abbrev S2048x512 : Shape := ⟨2, ![2048, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x512, .f32⟩
  | .hbm, ⟨3, _⟩ => ⟨S_, .f32⟩
  | .hbm, ⟨4, _⟩ => ⟨S512x2048, .f32⟩
  | .hbm, ⟨5, _⟩ => ⟨S8192x2048, .f32⟩
  | .hbm, ⟨6, _⟩ => ⟨S2048x512, .f32⟩
  | .hbm, ⟨7, _⟩ => ⟨S512x2048, .f32⟩
  | .hbm, ⟨8, _⟩ => ⟨S2048x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S512x2048 : Shape := ⟨2, ![512, 2048]⟩
abbrev S8192x2048 : Shape := ⟨2, ![8192, 2048]⟩
abbrev S2048x512 : Shape := ⟨2, ![2048, 512]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S8192x2048, .f32⟩
  | .hbm, ⟨2, _⟩ => ⟨S8192x2048, .bf16⟩
  | .hbm, ⟨3, _⟩ => ⟨S2048x512, .f32⟩
  | .hbm, ⟨4, _⟩ => ⟨S2048x512, .bf16⟩
  | .hbm, ⟨5, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S512x2048 : Shape := ⟨2, ![512, 2048]⟩
abbrev S8192x2048 : Shape := ⟨2, ![8192, 2048]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S8192x2048, .f32⟩
  | .hbm, ⟨2, _⟩ => ⟨S_, .f32⟩
  | .hbm, ⟨3, _⟩ => ⟨S8192x512, .f32⟩
  | .hbm, ⟨4, _⟩ => ⟨S8192x2048, .f32⟩
  | .hbm, ⟨5, _⟩ => ⟨S8192x512, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel25.lean ====
abbrev S8192x256 : Shape := ⟨2, ![8192, 256]⟩
abbrev S256x2048 : Shape := ⟨2, ![256, 2048]⟩
abbrev S2048x256 : Shape := ⟨2, ![2048, 256]⟩
abbrev S8192x2048 : Shape := ⟨2, ![8192, 2048]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S2048x256, .f32⟩
  | .hbm, ⟨3, _⟩ => ⟨S2048x256, .bf16⟩
  | .hbm, ⟨4, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S8192x256 : Shape := ⟨2, ![8192, 256]⟩
abbrev S8192x4096 : Shape := ⟨2, ![8192, 4096]⟩
abbrev S2048x256 : Shape := ⟨2, ![2048, 256]⟩
abbrev S2048x1024 : Shape := ⟨2, ![2048, 1024]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S8192x4096, .bf16⟩
  | .hbm, ⟨3, _⟩ => ⟨S2048x256, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .f32⟩
  | .local _ .vmem, ⟨3, _⟩ => ⟨S2048x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x256 : Shape := ⟨2, ![8192, 256]⟩
abbrev S8192x4096 : Shape := ⟨2, ![8192, 4096]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x4096, .f32⟩
  | .hbm, ⟨2, _⟩ => ⟨S8192x2048, .f32⟩
  | .hbm, ⟨3, _⟩ => ⟨S_, .f32⟩
  | .hbm, ⟨4, _⟩ => ⟨S256x2048, .f32⟩
  | .hbm, ⟨5, _⟩ => ⟨S8192x2048, .f32⟩
  | .hbm, ⟨6, _⟩ => ⟨S2048x256, .f32⟩
  | .hbm, ⟨7, _⟩ => ⟨S256x2048, .f32⟩
  | .hbm, ⟨8, _⟩ => ⟨S2048x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S8192x8x192 : Shape := ⟨3, ![8192, 8, 192]⟩
abbrev S8192x8x128 : Shape := ⟨3, ![8192, 8, 128]⟩
abbrev S_ : Shape := ⟨0, ![]⟩
abbrev S8192x8x256 : Shape := ⟨3, ![8192, 8, 256]⟩
abbrev S8192x2048 : Shape := ⟨2, ![8192, 2048]⟩
abbrev S8192x1024 : Shape := ⟨2, ![8192, 1024]⟩
abbrev S1024x8192 : Shape := ⟨2, ![1024, 8192]⟩
abbrev S64x8192 : Shape := ⟨2, ![64, 8192]⟩
abbrev S512x256 : Shape := ⟨2, ![512, 256]⟩
abbrev S8192x256 : Shape := ⟨2, ![8192, 256]⟩
abbrev S128x8192 : Shape := ⟨2, ![128, 8192]⟩
abbrev S512x128 : Shape := ⟨2, ![512, 128]⟩
abbrev S8x512 : Shape := ⟨2, ![8, 512]⟩
abbrev S128x512 : Shape := ⟨2, ![128, 512]⟩
abbrev S512x512 : Shape := ⟨2, ![512, 512]⟩
abbrev S1x512 : Shape := ⟨2, ![1, 512]⟩
abbrev S512 : Shape := ⟨1, ![512]⟩

abbrev nBuf : Space → Nat
  | .hbm => 19
  | .vmem => 13
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S_, .i32⟩
  | .hbm, ⟨4, _⟩ => ⟨S_, .f32⟩
  | .hbm, ⟨5, _⟩ => ⟨S8192x8x256, .f32⟩
  | .hbm, ⟨6, _⟩ => ⟨S8192x2048, .f32⟩
  | .hbm, ⟨7, _⟩ => ⟨S8192x2048, .bf16⟩
  | .hbm, ⟨8, _⟩ => ⟨S_, .i32⟩
  | .hbm, ⟨9, _⟩ => ⟨S_, .f32⟩
  | .hbm, ⟨10, _⟩ => ⟨S8192x8x256, .f32⟩
  | .hbm, ⟨11, _⟩ => ⟨S8192x2048, .f32⟩
  | .hbm, ⟨12, _⟩ => ⟨S8192x2048, .bf16⟩
  | .hbm, ⟨13, _⟩ => ⟨S8192x1024, .f32⟩
  | .hbm, ⟨14, _⟩ => ⟨S8192x1024, .bf16⟩
  | .hbm, ⟨15, _⟩ => ⟨S1024x8192, .bf16⟩
  | .hbm, ⟨16, _⟩ => ⟨S8192x1024, .f32⟩
  | .hbm, ⟨17, _⟩ => ⟨S64x8192, .f32⟩
  | .hbm, ⟨18, _⟩ => ⟨S8192x8x128, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S128x8192, .bf16⟩
  | .local _ .vmem, ⟨5, _⟩ => ⟨S128x8192, .bf16⟩
  | .local _ .vmem, ⟨6, _⟩ => ⟨S512x128, .f32⟩
  | .local _ .vmem, ⟨7, _⟩ => ⟨S512x128, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S128x512, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

@[reducible] def k0_t1_loop (i : grid0.Coords) : Scf.Loop 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_10 : BitVec 32 := 1#32
  ⟨c0_i32_9, v18, c1_i32_10⟩
def k0_mult1 (i : grid0.Coords) (k0_t1 : Fin (k0_t1_loop i).trips) : BitVec 32 :=
  let c0_i32_9 : BitVec 32 := 0#32
  let c1_i32_10 : BitVec 32 := 1#32
  let arg10 : BitVec 32 := Scf.iv c0_i32_9 c1_i32_10 k0_t1
  let c512_i32_45 : BitVec 32 := 512#32
  let v81 : BitVec 32 := Scalar.muli arg10 c512_i32_45
  v81
def k0_off1 (i : grid0.Coords) (k0_t1 : Fin (k0_t1_loop i).trips) : Fin 2 → Nat :=
  let c0_i32_9 : BitVec 32 := 0#32
  let c1_i32_10 : BitVec 32 := 1#32
  let arg10 : BitVec 32 := Scf.iv c0_i32_9 c1_i32_10 k0_t1
  let c512_i32_45 : BitVec 32 := 512#32
  let v81 : BitVec 32 := Scalar.muli arg10 c512_i32_45
  let v82 : BitVec 32 := v81
  let v83 : Index := Scalar.indexCast v82
  let c0_46 : Index := 0#32
  ![v83.toNat, 0]
def k0_off2 (i : grid0.Coords) (k0_t1 : Fin (k0_t1_loop i).trips) : Fin 2 → Nat :=
  let c0_57 : Index := 0#32
  let c0_i32_9 : BitVec 32 := 0#32
  let c1_i32_10 : BitVec 32 := 1#32
  let arg10 : BitVec 32 := Scf.iv c0_i32_9 c1_i32_10 k0_t1
  let c512_i32_45 : BitVec 32 := 512#32
  let v81 : BitVec 32 := Scalar.muli arg10 c512_i32_45
  let v82 : BitVec 32 := v81
  let v106 : Index := Scalar.indexCast v82
  ![0, v106.toNat]
@[reducible] def k0_t2_loop (i : grid0.Coords) : Scf.Loop 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let v15 : BitVec 32 := Scalar.addi c0_i32_9 v14
  let c1_i32_11 : BitVec 32 := 1#32
  ⟨v18, v15, c1_i32_11⟩
def k0_mult2 (i : grid0.Coords) (k0_t2 : Fin (k0_t2_loop i).trips) : BitVec 32 :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg10 : BitVec 32 := Scf.iv v18 c1_i32_11 k0_t2
  let c512_i32_45 : BitVec 32 := 512#32
  let v81 : BitVec 32 := Scalar.muli arg10 c512_i32_45
  v81
def k0_off3 (i : grid0.Coords) (k0_t2 : Fin (k0_t2_loop i).trips) : Fin 2 → Nat :=
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg10 : BitVec 32 := Scf.iv v18 c1_i32_11 k0_t2
  let c512_i32_45 : BitVec 32 := 512#32
  let v81 : BitVec 32 := Scalar.muli arg10 c512_i32_45
  let v82 : BitVec 32 := v81
  let v83 : Index := Scalar.indexCast v82
  let c0_46 : Index := 0#32
  ![v83.toNat, 0]
def k0_off4 (i : grid0.Coords) (k0_t2 : Fin (k0_t2_loop i).trips) : Fin 2 → Nat :=
  let c0_57 : Index := 0#32
  let c0_i32_9 : BitVec 32 := 0#32
  let arg1 : BitVec 32 := BitVec.ofNat 32 (i 1).val
  let v14 : BitVec 32 := Scalar.subi arg1 c0_i32_9
  let c1_i32 : BitVec 32 := 1#32
  let v16 : BitVec 32 := Scalar.divsi v14 c1_i32
  let v17 : BitVec 32 := Scalar.muli v16 c1_i32
  let v18 : BitVec 32 := Scalar.addi c0_i32_9 v17
  let c1_i32_11 : BitVec 32 := 1#32
  let arg10 : BitVec 32 := Scf.iv v18 c1_i32_11 k0_t2
  let c512_i32_45 : BitVec 32 := 512#32
  let v81 : BitVec 32 := Scalar.muli arg10 c512_i32_45
  let v82 : BitVec 32 := v81
  let v106 : Index := Scalar.indexCast v82
  ![0, v106.toNat]
def k0_mult3 (i : grid0.Coords) : BitVec 32 :=
  let arg1 : BitVec 32 := BitVec.ofNat 32 (i 1).val
  let c512_i32 : BitVec 32 := 512#32
  let v19 : BitVec 32 := Scalar.muli arg1 c512_i32
  v19
def k0_off5 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v21 : Index := Scalar.indexCast v20
  let c0_12 : Index := 0#32
  ![v21.toNat, 0]
def k0_off6 (i : grid0.Coords) : Fin 2 → Nat :=
  let c0_24 : Index := 0#32
  let arg1 : BitVec 32 := BitVec.ofNat 32 (i 1).val
  let c512_i32 : BitVec 32 := 512#32
  let v19 : BitVec 32 := Scalar.muli arg1 c512_i32
  let v20 : BitVec 32 := v19
  let v49 : Index := Scalar.indexCast v20
  ![0, v49.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel27Ideal.lean ====
variable {F : FTy → Type} [FloatOps F] [Named F]
def κ : String → Option EReal := fun
  | "log2e" => some (((Real.log 2)⁻¹ : ℝ) : EReal)
  | "mask" => some ⊥
  | "scale_log2e" => some (((Real.sqrt 192)⁻¹ * (Real.log 2)⁻¹ : ℝ) : EReal)
  | _ => none
-- ==== Reference27Ideal.lean ====
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x1x8192 : Shape := ⟨3, ![8, 1, 8192]⟩
abbrev S8x8x8192 : Shape := ⟨3, ![8, 8, 8192]⟩
abbrev S64x8192 : Shape := ⟨2, ![64, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8192x8x192, .f32⟩
  | .hbm, ⟨2, _⟩ => ⟨S8192x8x128, .f32⟩
  | .hbm, ⟨3, _⟩ => ⟨S8x8192x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x1, .f32⟩
  | .hbm, ⟨30, _⟩ => ⟨S8x8192x1, .f32⟩
  | .hbm, ⟨31, _⟩ => ⟨S8x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x8192, .f32⟩
  | .hbm, ⟨36, _⟩ => ⟨S8x8192, .f32⟩
  | .hbm, ⟨37, _⟩ => ⟨S8x8192x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x8192x8192, .f32⟩
  | .hbm, ⟨42, _⟩ => ⟨S8x8192x8192, .f32⟩
  | .hbm, ⟨43, _⟩ => ⟨S8192, .i32⟩
  | .hbm, ⟨44, _⟩ => ⟨S1x8192, .i32⟩
  | .hbm, ⟨45, _⟩ => ⟨S8192x1, .i32⟩
  | .hbm, ⟨46, _⟩ => ⟨S8192x8192, .i32⟩
  | .hbm, ⟨47, _⟩ => ⟨S8192x8192, .i32⟩
  | .hbm, ⟨48, _⟩ => ⟨S8192x8192, .i1⟩
  | .hbm, ⟨49, _⟩ => ⟨S_, .f32⟩
  | .hbm, ⟨50, _⟩ => ⟨S_, .f32⟩
  | .hbm, ⟨51, _⟩ => ⟨S8x8192x8192, .i1⟩
  | .hbm, ⟨52, _⟩ => ⟨S8x8192x8192, .f32⟩
  | .hbm, ⟨53, _⟩ => ⟨S8x8192x8192, .f32⟩
  | .hbm, ⟨54, _⟩ => ⟨S_, .f32⟩
  | .hbm, ⟨55, _⟩ => ⟨S8x8192, .f32⟩
  | .hbm, ⟨56, _⟩ => ⟨S_, .f32⟩
  | .hbm, ⟨57, _⟩ => ⟨S8x8192, .f32⟩
  | .hbm, ⟨58, _⟩ => ⟨S8x8192, .f32⟩
  | .hbm, ⟨59, _⟩ => ⟨S8x8192x1, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x1, .f32⟩
  | .hbm, ⟨66, _⟩ => ⟨S8x8192x8192, .f32⟩
  | .hbm, ⟨67, _⟩ => ⟨S8x8192x8192, .f32⟩
  | .hbm, ⟨68, _⟩ => ⟨S8x128x8192, .f32⟩
  | .hbm, ⟨69, _⟩ => ⟨S8192x8x128, .f32⟩
  | .hbm, ⟨70, _⟩ => ⟨S8x1x8192, .f32⟩
  | .hbm, ⟨71, _⟩ => ⟨S8x8x8192, .f32⟩
  | .hbm, ⟨72, _⟩ => ⟨S64x8192, .f32⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]
-- ==== Proof.Consts.lean ====
/- UNTRUSTED — the constants of the attention gradient: the bit patterns the programs spell, as the extended reals they
   denote, and the named constants (the softmax scale 1/√192, log₂ e, their product, and the mask −∞). -/
module

public import Idealize.ShloMosaic.PureOps.Ideal
public import Idealize.ShloMosaic.Lib.Tactic
public import Idealize.ShloMosaic.Lib.Pointwise
public import proofs.«01_k».proof.Defs
public import proofs.«01_k».proof.KernelIdeal
public import proofs.«01_k».proof.ReferenceIdeal

@[expose] public section

noncomputable section

namespace Cert.Attn

open Idealize.ShloMosaic

/-- The softmax scale, one over the root of the head size. -/
def csc : ℝ := (Real.sqrt 192)⁻¹
/-- One over the natural logarithm of two. -/
def cl2 : ℝ := (Real.log 2)⁻¹

theorem ofBits_neg_inf : Ideal.ofBits .f32 0xFF800000#32 = (⊥ : EReal) := by
  simp [Ideal.ofBits, Ideal.ieee]

theorem k_scale : Named.named (F := Ideal) Cert.KernelIdeal.κ "scale" (φ := .f32) 0x3D93CD3A#32 = ((csc : ℝ) : EReal) :=
  IdealRules.named_const.ideal_named_scalar _ _ _ _ rfl

theorem k_scale_log2e : Named.named (F := Ideal) Cert.KernelIdeal.κ "scale_log2e" (φ := .f32) 0x3DD53B95#32 = ((csc * cl2 : ℝ) : EReal) :=
  IdealRules.named_const.ideal_named_scalar _ _ _ _ rfl

theorem k_mask : Named.named (F := Ideal) Cert.KernelIdeal.κ "mask" (φ := .f32) 0xF149F2CA#32 = (⊥ : EReal) :=
  IdealRules.named_const.ideal_named_scalar _ _ _ _ rfl

end Cert.Attn

end
-- ==== Proof.Grad.lean ====
/- UNTRUSTED — one attention head over the reals: the probabilities and the score gradient at a (key row, query row) pair,
   from the query, key, value and output-gradient rows, the saved log-sum-exp row and the saved row of inner products. -/
module

public import proofs.«01_k».proof.Proof.Consts

@[expose] public section

noncomputable section

namespace Cert.Attn

open Idealize.ShloMosaic

/-- What one head's gradient reads, as real arrays indexed by row and column. -/
structure Head where
  /-- queries -/
  q : ℕ → ℕ → ℝ
  /-- keys -/
  k : ℕ → ℕ → ℝ
  /-- values -/
  v : ℕ → ℕ → ℝ
  /-- the gradient of the attention's output -/
  o : ℕ → ℕ → ℝ
  /-- each query row's log-sum-exp, in base two -/
  l : ℕ → ℝ
  /-- each query row's inner product of the output with its gradient -/
  e : ℕ → ℝ

variable (X : Head)

/-- The score of key row `r` and query row `c`, unscaled. -/
def Head.s (r c : ℕ) : ℝ := ∑ d : Fin 256, X.k r d * X.q c d
/-- The probability, the causal mask left out. -/
def Head.pf (r c : ℕ) : ℝ := Real.rpow 2 (X.s r c * (csc * cl2) - X.l c)
/-- The probability: nothing above the diagonal. -/
def Head.p (r c : ℕ) : ℝ := if r ≤ c then X.pf r c else 0
/-- The gradient of the probability. -/
def Head.dp (r c : ℕ) : ℝ := ∑ d : Fin 128, X.v r d * X.o c d
/-- The gradient of the unscaled score. -/
def Head.ds (r c : ℕ) : ℝ := X.p r c * (X.dp r c - X.e c) * csc

/-- The key gradient's sum over the query rows below `n`. -/
def Head.dk (n r b : ℕ) : ℝ := ∑ c ∈ Finset.range n, X.ds r c * X.q c b
/-- The value gradient's sum over the query rows below `n`. -/
def Head.dv (n r b : ℕ) : ℝ := ∑ c ∈ Finset.range n, X.p r c * X.o c b
/-- The query gradient's sum over the key rows below `n`. -/
def Head.dq (n c b : ℕ) : ℝ := ∑ r ∈ Finset.range n, X.ds r c * X.k r b

theorem Head.p_zero {r c : ℕ} (h : c < r) : X.p r c = 0 := if_neg (by omega)
theorem Head.ds_zero {r c : ℕ} (h : c < r) : X.ds r c = 0 := by rw [Head.ds, X.p_zero h, zero_mul, zero_mul]

theorem Head.dk_step (n w r b : ℕ) :
    X.dk (n + w) r b = X.dk n r b + ∑ c : Fin w, X.ds r (n + c) * X.q (n + c) b := by
  unfold Head.dk
  rw [Finset.sum_range_add, Finset.sum_range (n := w)]
theorem Head.dv_step (n w r b : ℕ) :
    X.dv (n + w) r b = X.dv n r b + ∑ c : Fin w, X.p r (n + c) * X.o (n + c) b := by
  unfold Head.dv
  rw [Finset.sum_range_add, Finset.sum_range (n := w)]
theorem Head.dq_step (n w c b : ℕ) :
    X.dq (n + w) c b = X.dq n c b + ∑ r : Fin w, X.ds (n + r) c * X.k (n + r) b := by
  unfold Head.dq
  rw [Finset.sum_range_add, Finset.sum_range (n := w)]

/-- A key row past the query rows has no gradient yet. -/
theorem Head.dk_zero {n r : ℕ} (b : ℕ) (h : n ≤ r) : X.dk n r b = 0 :=
  Finset.sum_eq_zero fun c hc => by rw [X.ds_zero (by have := Finset.mem_range.mp hc; omega), zero_mul]
theorem Head.dv_zero {n r : ℕ} (b : ℕ) (h : n ≤ r) : X.dv n r b = 0 :=
  Finset.sum_eq_zero fun c hc => by rw [X.p_zero (by have := Finset.mem_range.mp hc; omega), zero_mul]
/-- Nothing has been added yet. -/
theorem Head.dq_nil (c b : ℕ) : X.dq 0 c b = 0 := Finset.sum_range_zero _
/-- Key rows past the query row add nothing. -/
theorem Head.dq_full {n c : ℕ} (N b : ℕ) (h : c < n) (hN : n ≤ N) : X.dq N c b = X.dq n c b := by
  symm
  refine Finset.sum_subset (Finset.range_mono hN) fun r _ hr => ?_
  rw [X.ds_zero (by have := Finset.mem_range.not.mp hr; omega), zero_mul]

/-- A finite sum of real numbers, taken among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- A block of `n` rows and `m` columns that holds the real array `f` from row `r0` on. -/
def IsBlk {n m : ℕ} (v : (⟨2, ![n, m]⟩ : Shape).Idx → EReal) (f : ℕ → ℕ → ℝ) (r0 : ℕ) : Prop :=
  ∀ (a : Fin n) (b : Fin m), v (ix2 a b) = ((f (r0 + a) b : ℝ) : EReal)

/-- A one-row block that holds the real row `f` from position `c0` on. -/
def IsRow {n m : ℕ} (v : (⟨2, ![n, m]⟩ : Shape).Idx → EReal) (f : ℕ → ℝ) (c0 : ℕ) : Prop :=
  ∀ (a : Fin n) (b : Fin m), v (ix2 a b) = ((f (c0 + b) : ℝ) : EReal)

end Cert.Attn

end
-- ==== Proof.Soft.lean ====
/- UNTRUSTED — the attention's softmax, as both programs compute it on the host, over the reals. -/
module

public import proofs.«01_k».proof.Proof.Grad
public import proofs.«01_k».proof.Proof.Gen.ReferenceIdeal
public import Idealize.ShloMosaic.Lib.WordCmp

@[expose] public section

set_option maxRecDepth 16384

noncomputable section

namespace Cert.Attn

open Idealize.ShloMosaic Cert.ReferenceIdeal Cert.ReferenceIdeal.Gen

/-- A three-dimensional array that holds the real array `f`. -/
def IsR3 {n k d : ℕ} (v : (⟨3, ![n, k, d]⟩ : Shape).Idx → EReal) (f : ℕ → ℕ → ℕ → ℝ) : Prop :=
  ∀ (a : Fin n) (b : Fin k) (e : Fin d), v (ix3 a b e) = ((f a b e : ℝ) : EReal)

/-- A two-dimensional array that holds the real array `f`. -/
def IsR2 {n k : ℕ} (v : (⟨2, ![n, k]⟩ : Shape).Idx → EReal) (f : ℕ → ℕ → ℝ) : Prop :=
  ∀ (a : Fin n) (b : Fin k), v (ix2 a b) = ((f a b : ℝ) : EReal)

theorem ofBits_192 : Ideal.ofBits .f32 0x43400000#32 = ((192 : ℝ) : EReal) := by
  simp [Ideal.ofBits, Ideal.ieee]
  rw [← EReal.coe_mul]; norm_num

theorem ofBits_two : Ideal.ofBits .f32 0x40000000#32 = ((2 : ℝ) : EReal) := by
  simp [Ideal.ofBits, Ideal.ieee]
  rw [← EReal.coe_mul]; norm_num

theorem div_real {y : ℝ} (h : y ≠ 0) (x : ℝ) : Ideal.div (x : EReal) (y : EReal) = ((x / y : ℝ) : EReal) := by
  rw [Ideal.div_coe h, ← EReal.coe_mul, mul_one_div]

theorem sqrt192_pos : 0 < Real.sqrt 192 := Real.sqrt_pos.mpr (by norm_num)

theorem root192 (i : S_.Idx) : (id (Host.sqrt (constant S_ .f32 0x43400000#32)) : FVec Ideal S_ .f32) i = ((Real.sqrt 192 : ℝ) : EReal) := by
  show Ideal.sqrt (Ideal.ofBits .f32 0x43400000#32) = _
  rw [ofBits_192, Ideal.sqrt_coe, if_neg (by norm_num)]

/-! ## The largest of finitely many extended reals -/

theorem fold_max_ne_top {n : ℕ} {f : Fin n → EReal} (hf : ∀ i, f i ≠ ⊤) : Finset.fold max (⊥ : EReal) f Finset.univ ≠ ⊤ :=
  ne_of_lt (Finset.fold_max_lt _ |>.mpr ⟨bot_lt_top, fun i _ => lt_top_iff_ne_top.mpr (hf i)⟩)

theorem fold_max_ne_bot {n : ℕ} {f : Fin n → EReal} (i : Fin n) (hf : f i ≠ ⊥) : Finset.fold max (⊥ : EReal) f Finset.univ ≠ ⊥ :=
  ne_of_gt (Finset.lt_fold_max _ |>.mpr (Or.inr ⟨i, Finset.mem_univ _, bot_lt_iff_ne_bot.mpr hf⟩))

/-! ## The softmax over the reals -/

section Reals

variable (fq fk : ℕ → ℕ → ℕ → ℝ) (M : ℕ → ℕ → ℝ)

/-- The score of query row `c` and key row `r` in head `h`. -/
def sR (h c r : ℕ) : ℝ := (∑ d : Fin 192, fq c h d * fk r h d) / Real.sqrt 192
/-- Its exponential against the row's number `M`, nothing above the diagonal. -/
def eR (h c r : ℕ) : ℝ := if r ≤ c then Real.exp (sR fq fk h c r - M h c) else 0
/-- The row's sum of exponentials. -/
def lR (h c : ℕ) : ℝ := ∑ r : Fin 8192, eR fq fk M h c r
/-- The row's probabilities. -/
def pR (h c r : ℕ) : ℝ := eR fq fk M h c r / lR fq fk M h c

theorem eR_nonneg (h c r : ℕ) : 0 ≤ eR fq fk M h c r := by
  unfold eR; split_ifs
  · exact (Real.exp_pos _).le
  · exact le_rfl

theorem lR_pos (h c : ℕ) : 0 < lR fq fk M h c :=
  Finset.sum_pos' (fun r _ => eR_nonneg fq fk M h c r) ⟨⟨0, by norm_num⟩, Finset.mem_univ _, by
    unfold eR; rw [if_pos (Nat.zero_le c)]; exact Real.exp_pos _⟩

end Reals

/-! ## The same, as the programs compute it -/

/-- Which key rows a query row sees: those not after it. -/
def msk : IVec S8x8192x8192 1 :=
  broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

/-- The scores. -/
def scA (q k : FVec Ideal S8192x8x192 .f32) : FVec Ideal S8x8192x8192 .f32 :=
  Host.divf (Host.dotGeneral dot_S8192x8x192_S8192x8x192_S8x8192x8192_2_2_0_0_1_1 none q k) (broadcastInDim S8x8192x8192 ![] bcast_S_S8x8192x8192 (id (Host.sqrt (constant S_ .f32 0x43400000#32))))

/-- The scores under the mask. -/
def msA (q k : FVec Ideal S8192x8x192 .f32) : FVec Ideal S8x8192x8192 .f32 :=
  select msk (scA q k) (broadcastInDim S8x8192x8192 ![] bcast_S_S8x8192x8192 (id (constant S_ .f32 0xFF800000#32)))

/-- Each row's largest score. -/
def mxA (q k : FVec Ideal S8192x8x192 .f32) : FVec Ideal S8x8192 .f32 :=
  Host.reduce FloatOps.maximumf (msA q k) (constant S_ .f32 0xFF800000#32) reducesTo_S8x8192x8192_S8x8192_d2 h_S_

/-- The exponentials. -/
def exA (q k : FVec Ideal S8192x8x192 .f32) : FVec Ideal S8x8192x8192 .f32 :=
  Host.exp (subf (msA q k) (broadcastInDim S8x8192x8192 ![0, 1, 2] bcast_S8x8192x1_S8x8192x8192_0_1_2 (broadcastInDim S8x8192x1 ![0, 1] bcast_S8x8192_S8x8192x1_0_1 (mxA q k))))

/-- Their row sums. -/
def smA (q k : FVec Ideal S8192x8x192 .f32) : FVec Ideal S8x8192 .f32 :=
  Host.reduceAdd (exA q k) (constant S_ .f32 0x00000000#32) reducesTo_S8x8192x8192_S8x8192_d2 h_S_

/-- A row of numbers, one for each row of an array of rows. -/
def rowsA (L : FVec Ideal S8x8192 .f32) : FVec Ideal S8x8192x8192 .f32 :=
  broadcastInDim S8x8192x8192 ![0, 1, 2] bcast_S8x8192x1_S8x8192x8192_0_1_2 (broadcastInDim S8x8192x1 ![0, 1] bcast_S8x8192_S8x8192x1_0_1 L)

/-- The probabilities. -/
def prA (q k : FVec Ideal S8192x8x192 .f32) : FVec Ideal S8x8192x8192 .f32 := Host.divf (exA q k) (rowsA (smA q k))

theorem msk_at (h : Fin 8) (c r : Fin 8192) : msk (ix3 h c r) = if (r : ℕ) ≤ c then 1#1 else 0#1 := by
  unfold msk
  pointwise
  split_ifs with hrc
  · exact (WordCmp.cmpi_sle_ofNat_eq_one_iff (by omega) (by omega)).mpr hrc
  · exact (WordCmp.cmpi_sle_ofNat_eq_zero_iff (by omega) (by omega)).mpr hrc

theorem rowsA_at (L : FVec Ideal S8x8192 .f32) (h : Fin 8) (c r : Fin 8192) : rowsA L (ix3 h c r) = L (ix2 h c) := by
  unfold rowsA
  pointwise

section Stages

variable {q k : FVec Ideal S8192x8x192 .f32} {fq fk : ℕ → ℕ → ℕ → ℝ}
  (hq : IsR3 (n := 8192) (k := 8) (d := 192) q fq) (hk : IsR3 (n := 8192) (k := 8) (d := 192) k fk)

include hq hk

theorem scA_real : IsR3 (n := 8) (k := 8192) (d := 8192) (scA q k) (sR fq fk) := by
  intro h c r
  unfold scA sR
  pointwise
  rw [root192]
  simp only [hq _ _ _, hk _ _ _, ← EReal.coe_mul, ← coe_sum]
  rw [div_real sqrt192_pos.ne']

theorem msA_at (h : Fin 8) (c r : Fin 8192) : msA q k (ix3 h c r) = if (r : ℕ) ≤ c then ((sR fq fk h c r : ℝ) : EReal) else ⊥ := by
  unfold msA
  pointwise
  rw [msk_at, scA_real hq hk]
  split_ifs
  · rfl
  · exact ofBits_neg_inf

theorem mxA_at (h : Fin 8) (c : Fin 8192) : mxA q k (ix2 h c) = Finset.fold max (⊥ : EReal) (fun r => msA q k (ix3 h c r)) Finset.univ := by
  unfold mxA
  pointwise
  rw [ofBits_neg_inf]

/-- Each row's largest score is a real number. -/
theorem mxA_real : IsR2 (n := 8) (k := 8192) (mxA q k) (fun h c => if hb : h < 8 ∧ c < 8192 then (mxA q k (ix2 ⟨h, hb.1⟩ ⟨c, hb.2⟩)).toReal else 0) := by
  intro h c
  dsimp only
  rw [dif_pos ⟨h.isLt, c.isLt⟩]
  refine (EReal.coe_toReal ?_ ?_).symm
  · rw [mxA_at hq hk]
    refine fold_max_ne_top fun r => ?_
    rw [msA_at hq hk]
    split_ifs
    · exact EReal.coe_ne_top _
    · exact bot_ne_top
  · rw [mxA_at hq hk]
    refine fold_max_ne_bot ⟨0, by norm_num⟩ ?_
    rw [msA_at hq hk, if_pos (Nat.zero_le _)]
    exact EReal.coe_ne_bot _

variable {M : ℕ → ℕ → ℝ} (hM : IsR2 (n := 8) (k := 8192) (mxA q k) M)

include hM

theorem exA_real : IsR3 (n := 8) (k := 8192) (d := 8192) (exA q k) (eR fq fk M) := by
  intro h c r
  unfold exA eR
  pointwise
  rw [msA_at hq hk, hM]
  split_ifs
  · rw [← EReal.coe_sub, Ideal.exp_coe]
  · rw [EReal.bot_sub, Ideal.exp_bot]; rfl

theorem smA_real : IsR2 (n := 8) (k := 8192) (smA q k) (lR fq fk M) := by
  intro h c
  unfold smA lR
  pointwise
  simp only [exA_real hq hk hM _ _ _, ← coe_sum]

theorem prA_real : IsR3 (n := 8) (k := 8192) (d := 8192) (prA q k) (pR fq fk M) := by
  intro h c r
  unfold prA pR
  pointwise
  rw [rowsA_at, smA_real hq hk hM, exA_real hq hk hM, div_real (lR_pos fq fk M h c).ne']

end Stages

end Cert.Attn

end
-- ==== Proof.Pay.lean ====
/- UNTRUSTED — what the values the kernel stores are, block by block: one 512 × 512 tile of scores and the three
   products made from it, over the reals. -/
module

public import proofs.«01_k».proof.Proof.Grad
public import proofs.«01_k».proof.Proof.Gen.KernelIdeal.Skeleton
public import Idealize.ShloMosaic.Lib.WordCmp

@[expose] public section

set_option maxRecDepth 16384

noncomputable section

namespace Cert.Attn

open Idealize.ShloMosaic Cert.KernelIdeal Cert.KernelIdeal.Gen

variable (X : Head) {R C : ℕ}

theorem exp2_def (x : EReal) : FloatOps.exp2 (F := Ideal) (φ := .f32) x = Ideal.exp2 x := rfl

/-- The unmasked probabilities of one tile. -/
theorem pay2_eq {v8 : FVec Ideal S512x256 .bf16} {v12 : FVec Ideal S1x512 .f32} {v72 : Vec Ideal S512x256 .bf16}
    (hq : IsBlk v8 X.q C) (hk : IsBlk v72 X.k R) (hl : IsRow v12 X.l C) (r c : Fin 512) :
    k0_pay2 (F := Ideal) v8 v12 v72 (ix2 r c) = ((X.pf (R + r) (C + c) : ℝ) : EReal) := by
  pointwise [k0_pay2, k0_pay1]
  rw [k_scale_log2e, hl 0 c, Finset.sum_congr rfl fun d _ => by rw [hk r d, hq c d, ← EReal.coe_mul],
    ← coe_sum, ← EReal.coe_mul, ← EReal.coe_sub, exp2_def, Ideal.exp2_coe]
  rfl

/-- The probability of a tile below the diagonal needs no mask. -/
theorem Head.pf_eq {r c : ℕ} (h : r ≤ c) : X.pf r c = X.p r c := (if_pos h).symm

/-- The score gradient of one tile below the diagonal. -/
theorem pay3_eq {v8 : FVec Ideal S512x256 .bf16} {v10 : FVec Ideal S512x128 .bf16} {v12 v14 : FVec Ideal S1x512 .f32}
    {v72 : Vec Ideal S512x256 .bf16} {v81 : Vec Ideal S512x128 .bf16} (hRC : R + 512 ≤ C)
    (hq : IsBlk v8 X.q C) (ho : IsBlk v10 X.o C) (hl : IsRow v12 X.l C) (he : IsRow v14 X.e C)
    (hk : IsBlk v72 X.k R) (hv : IsBlk v81 X.v R) (r c : Fin 512) :
    k0_pay3 (F := Ideal) v8 v10 v12 v14 v72 v81 (ix2 r c) = ((X.ds (R + r) (C + c) : ℝ) : EReal) := by
  pointwise [k0_pay3]
  rw [pay2_eq X hq hk hl r c, X.pf_eq (by omega), k_scale, he 0 c,
    Finset.sum_congr rfl fun d _ => by rw [hv r d, ho c d, ← EReal.coe_mul],
    ← coe_sum, ← EReal.coe_sub, ← EReal.coe_mul, ← EReal.coe_mul]
  rfl

/-- What one tile below the diagonal adds to the query gradient. -/
theorem pay4_eq {v8 : FVec Ideal S512x256 .bf16} {v10 : FVec Ideal S512x128 .bf16} {v12 v14 : FVec Ideal S1x512 .f32}
    {v72 : Vec Ideal S512x256 .bf16} {v81 : Vec Ideal S512x128 .bf16} {v90 : Vec Ideal S512x256 .f32} (hRC : R + 512 ≤ C)
    (hq : IsBlk v8 X.q C) (ho : IsBlk v10 X.o C) (hl : IsRow v12 X.l C) (he : IsRow v14 X.e C)
    (hk : IsBlk v72 X.k R) (hv : IsBlk v81 X.v R) (ha : IsBlk v90 (X.dq R) C) :
    IsBlk (k0_pay4 (F := Ideal) v8 v10 v12 v14 v72 v81 v90) (X.dq (R + 512)) C := fun a b => by
  pointwise [k0_pay4, k0_pay1]
  rw [ha a b, Finset.sum_congr rfl fun r _ => by rw [pay3_eq X hRC hq ho hl he hk hv r a, hk r b, ← EReal.coe_mul],
    ← coe_sum, ← EReal.coe_add, X.dq_step]

/-- What one tile below the diagonal adds to the key gradient. -/
theorem pay5_eq {v8 : FVec Ideal S512x256 .bf16} {v10 : FVec Ideal S512x128 .bf16} {v12 v14 : FVec Ideal S1x512 .f32}
    {v72 : Vec Ideal S512x256 .bf16} {v81 : Vec Ideal S512x128 .bf16} {v97 : Vec Ideal S512x256 .f32} (hRC : R + 512 ≤ C)
    (hq : IsBlk v8 X.q C) (ho : IsBlk v10 X.o C) (hl : IsRow v12 X.l C) (he : IsRow v14 X.e C)
    (hk : IsBlk v72 X.k R) (hv : IsBlk v81 X.v R) (ha : IsBlk v97 (X.dk C) R) :
    IsBlk (k0_pay5 (F := Ideal) v8 v10 v12 v14 v72 v81 v97) (X.dk (C + 512)) R := fun a b => by
  pointwise [k0_pay5]
  rw [ha a b, Finset.sum_congr rfl fun c _ => by rw [pay3_eq X hRC hq ho hl he hk hv a c, hq c b, ← EReal.coe_mul],
    ← coe_sum, ← EReal.coe_add, X.dk_step]

/-- What one tile below the diagonal adds to the value gradient. -/
theorem pay6_eq {v8 : FVec Ideal S512x256 .bf16} {v10 : FVec Ideal S512x128 .bf16} {v12 : FVec Ideal S1x512 .f32}
    {v72 : Vec Ideal S512x256 .bf16} {v104 : Vec Ideal S512x128 .f32} (hRC : R + 512 ≤ C)
    (hq : IsBlk v8 X.q C) (ho : IsBlk v10 X.o C) (hl : IsRow v12 X.l C)
    (hk : IsBlk v72 X.k R) (ha : IsBlk v104 (X.dv C) R) :
    IsBlk (k0_pay6 (F := Ideal) v8 v10 v12 v72 v104) (X.dv (C + 512)) R := fun a b => by
  pointwise [k0_pay6]
  rw [ha a b, Finset.sum_congr rfl fun c _ => by rw [pay2_eq X hq hk hl a c, X.pf_eq (by omega), ho c b, ← EReal.coe_mul],
    ← coe_sum, ← EReal.coe_add, X.dv_step]

/-! ## The tile on the diagonal -/

/-- The scaled scores of the tile on the diagonal. -/
theorem pay21_eq {v7 v23 : Vec Ideal S512x256 .bf16} (hq : IsBlk v7 X.q C) (hk : IsBlk v23 X.k C) (r c : Fin 512) :
    k0_pay21 (F := Ideal) v7 v23 (ix2 r c) = ((X.s (C + r) (C + c) * (csc * cl2) : ℝ) : EReal) := by
  pointwise [k0_pay21, k0_pay20, k0_pay16]
  rw [k_scale_log2e, Finset.sum_congr rfl fun d _ => by rw [hk r d, hq c d, ← EReal.coe_mul], ← coe_sum, ← EReal.coe_mul]
  rfl

/-- The mask of the tile on the diagonal: key row at most query row. -/
theorem pay22_eq (r c : Fin 512) : k0_pay22 (ix2 r c) = 1#1 ↔ (r : ℕ) ≤ c := by
  pointwise [k0_pay22]
  exact Idealize.ShloMosaic.WordCmp.cmpi_sle_ofNat_eq_one_iff (by have := r.isLt; norm_num; omega) (by have := c.isLt; norm_num; omega)

/-- The kernel's constant for a masked score. -/
abbrev kmask : Ideal .f32 := Named.named κ "mask" 0xF149F2CA#32

/-- The probabilities of the tile on the diagonal. -/
theorem pay23_eq {v12 : FVec Ideal S1x512 .f32} {v27 : FVec Ideal S512x512 .f32}
    (hs : ∀ r c : Fin 512, v27 (ix2 r c) = ((X.s (C + r) (C + c) * (csc * cl2) : ℝ) : EReal)) (hl : IsRow v12 X.l C)
    (r c : Fin 512) :
    k0_pay23 (F := Ideal) v12 v27 k0_pay22 kmask (ix2 r c) = ((X.p (C + r) (C + c) : ℝ) : EReal) := by
  pointwise [k0_pay23, kmask]
  rw [hl 0 c, hs r c, exp2_def]
  by_cases h : (r : ℕ) ≤ c
  · rw [(pay22_eq r c).2 h, ← X.pf_eq (by omega)]
    show Ideal.exp2 (((_ : ℝ) : EReal) - _) = _
    rw [← EReal.coe_sub, Ideal.exp2_coe]
    rfl
  · have h0 : k0_pay22 (ix2 r c) = 0#1 := by
      have := (pay22_eq r c).not.2 h
      generalize k0_pay22 (ix2 r c) = z at *
      revert z; decide
    rw [h0, X.p_zero (by omega), k_mask]
    show Ideal.exp2 ((⊥ : EReal) - _) = _
    rw [EReal.bot_sub, Ideal.exp2_bot]
    rfl

section Diagonal

variable {v8 : FVec Ideal S512x256 .bf16} {v10 : FVec Ideal S512x128 .bf16} {v12 v14 : FVec Ideal S1x512 .f32}
  {v24 : FVec Ideal S512x256 .bf16} {v27 : FVec Ideal S512x512 .f32} {v37 : Vec Ideal S512x128 .bf16}

/-- The score gradient of the tile on the diagonal. -/
theorem pay24_eq (hs : ∀ r c : Fin 512, v27 (ix2 r c) = ((X.s (C + r) (C + c) * (csc * cl2) : ℝ) : EReal))
    (ho : IsBlk v10 X.o C) (hl : IsRow v12 X.l C) (he : IsRow v14 X.e C) (hv : IsBlk v37 X.v C) (r c : Fin 512) :
    k0_pay24 (F := Ideal) v10 v12 v14 v27 k0_pay22 kmask v37 (ix2 r c) = ((X.ds (C + r) (C + c) : ℝ) : EReal) := by
  pointwise [k0_pay24]
  rw [pay23_eq X hs hl r c, k_scale, he 0 c,
    Finset.sum_congr rfl fun d _ => by rw [hv r d, ho c d, ← EReal.coe_mul],
    ← coe_sum, ← EReal.coe_sub, ← EReal.coe_mul, ← EReal.coe_mul]
  rfl

/-- What the tile on the diagonal adds to the query gradient. -/
theorem pay25_eq {v46 : Vec Ideal S512x256 .f32}
    (hs : ∀ r c : Fin 512, v27 (ix2 r c) = ((X.s (C + r) (C + c) * (csc * cl2) : ℝ) : EReal))
    (ho : IsBlk v10 X.o C) (hl : IsRow v12 X.l C) (he : IsRow v14 X.e C) (hv : IsBlk v37 X.v C)
    (hk : IsBlk v24 X.k C) (ha : IsBlk v46 (X.dq C) C) :
    IsBlk (k0_pay25 (F := Ideal) v10 v12 v14 v24 v27 k0_pay22 kmask v37 v46) (X.dq (C + 512)) C := fun a b => by
  pointwise [k0_pay25]
  rw [ha a b, Finset.sum_congr rfl fun r _ => by rw [pay24_eq X hs ho hl he hv r a, hk r b, ← EReal.coe_mul],
    ← coe_sum, ← EReal.coe_add, X.dq_step]

/-- What the tile on the diagonal adds to the key gradient. -/
theorem pay26_eq {v53 : Vec Ideal S512x256 .f32}
    (hs : ∀ r c : Fin 512, v27 (ix2 r c) = ((X.s (C + r) (C + c) * (csc * cl2) : ℝ) : EReal))
    (hq : IsBlk v8 X.q C) (ho : IsBlk v10 X.o C) (hl : IsRow v12 X.l C) (he : IsRow v14 X.e C) (hv : IsBlk v37 X.v C)
    (ha : IsBlk v53 (X.dk C) C) :
    IsBlk (k0_pay26 (F := Ideal) v8 v10 v12 v14 v27 k0_pay22 kmask v37 v53) (X.dk (C + 512)) C := fun a b => by
  pointwise [k0_pay26]
  rw [ha a b, Finset.sum_congr rfl fun c _ => by rw [pay24_eq X hs ho hl he hv a c, hq c b, ← EReal.coe_mul],
    ← coe_sum, ← EReal.coe_add, X.dk_step]

/-- What the tile on the diagonal adds to the value gradient. -/
theorem pay27_eq {v60 : Vec Ideal S512x128 .f32}
    (hs : ∀ r c : Fin 512, v27 (ix2 r c) = ((X.s (C + r) (C + c) * (csc * cl2) : ℝ) : EReal))
    (ho : IsBlk v10 X.o C) (hl : IsRow v12 X.l C) (ha : IsBlk v60 (X.dv C) C) :
    IsBlk (k0_pay27 (F := Ideal) v10 v12 v27 k0_pay22 kmask v60) (X.dv (C + 512)) C := fun a b => by
  pointwise [k0_pay27]
  rw [ha a b, Finset.sum_congr rfl fun c _ => by rw [pay23_eq X hs hl a c, ho c b, ← EReal.coe_mul],
    ← coe_sum, ← EReal.coe_add, X.dv_step]

end Diagonal

/-! ## Blocks as they are loaded, and the zeros a head begins with -/

theorem pay16_blk {v : Vec Ideal S512x256 .bf16} {f : ℕ → ℕ → ℝ} (h : IsBlk v f R) : IsBlk (k0_pay16 (F := Ideal) v) f R := fun a b => by
  pointwise [k0_pay16]; exact h a b
theorem pay17_blk {v : Vec Ideal S512x128 .bf16} {f : ℕ → ℕ → ℝ} (h : IsBlk v f R) : IsBlk (k0_pay17 (F := Ideal) v) f R := fun a b => by
  pointwise [k0_pay17]; exact h a b
theorem pay18_row {v : Vec Ideal S1x512 .f32} {f : ℕ → ℝ} (h : IsRow v f R) : IsRow (k0_pay18 (F := Ideal) v) f R := fun a b => by
  pointwise [k0_pay18]; exact h a b
theorem pay19_row {v : Vec Ideal S1x512 .f32} {f : ℕ → ℝ} (h : IsRow v f R) : IsRow (k0_pay19 (F := Ideal) v) f R := fun a b => by
  pointwise [k0_pay19]; exact h a b
theorem pay20_blk {v : Vec Ideal S512x256 .bf16} {f : ℕ → ℕ → ℝ} (h : IsBlk v f R) : IsBlk (k0_pay20 (F := Ideal) v) f R := fun a b => by
  pointwise [k0_pay20]; exact h a b
theorem pay13_blk : IsBlk (k0_pay13 (F := Ideal)) (X.dk 0) R := fun a b => by
  pointwise [k0_pay13]; rw [X.dk_zero _ (Nat.zero_le _)]; rfl
theorem pay14_blk : IsBlk (k0_pay14 (F := Ideal)) (X.dv 0) R := fun a b => by
  pointwise [k0_pay14]; rw [X.dv_zero _ (Nat.zero_le _)]; rfl
theorem pay15_blk : IsBlk (k0_pay15 (F := Ideal)) (X.dq 0) R := fun a b => by
  pointwise [k0_pay15]; rw [X.dq_nil]; rfl

end Cert.Attn

end
-- ==== Proof.Blocks.lean ====
/- UNTRUSTED — reading and writing whole blocks of rows through a view, over the reals; the grid's second coordinate in
   words. -/
module

public import proofs.«01_k».proof.Proof.Pay
public import Idealize.ShloMosaic.Lib.WritesUnit
public import Idealize.ShloMosaic.Lib.Pipeline.ValueKit.Tiles

@[expose] public section

set_option maxRecDepth 16384

noncomputable section

namespace Cert.Attn

open Idealize.ShloMosaic Cert.KernelIdeal Cert.KernelIdeal.Gen

section Views

variable {sig : RefSig} {κ' : Kind} {sp : Space} {e : EltTy} {N M n : ℕ}

/-- A block of rows loaded through a view, at an index. -/
theorem readAt_rows (v : View sig κ' sp (⟨2, ![N, M]⟩ : Shape) e) {Val : EltTy → Type} (f : v.ty.Contents Val)
    {off : Fin 2 → ℕ} {o : ℕ} (inb : ∀ a : Fin 2, off a + (![n, M] : Fin 2 → ℕ) a ≤ (![N, M] : Fin 2 → ℕ) a)
    (hoff : off = ![o, 0]) (a : Fin n) (b : Fin M) :
    v.readAt Val (Rect.unit (s := ⟨2, ![N, M]⟩) off ![n, M] inb).toLoadRect f (ix2 a b)
      = v.read Val f (ix2 ⟨o + a, by subst hoff; have h : o + n ≤ N := inb 0; have := a.isLt; omega⟩ b) := by
  subst hoff
  rw [View.readAt_eq_ld]
  refine View.ld_unit_apply_of (S := ⟨2, ![N, M]⟩) _ ![o, 0] ![n, M] inb (ix2 a b) (ix2 ⟨o + a, _⟩ b) fun x => ?_
  match x with
  | (0 : Fin 2) => rfl
  | (1 : Fin 2) => exact (Nat.zero_add _).symm

/-- A block of rows loaded from a `bf16` array that holds `g` holds `g` from that row on. -/
theorem blk_readAt_bf16 {v : View sig κ' sp (⟨2, ![N, M]⟩ : Shape) .bf16} {f : v.ty.Contents (Elt Ideal)} {g : ℕ → ℕ → ℝ}
    {off : Fin 2 → ℕ} {o : ℕ} (inb : ∀ a : Fin 2, off a + (![n, M] : Fin 2 → ℕ) a ≤ (![N, M] : Fin 2 → ℕ) a)
    (hoff : off = ![o, 0]) (h : IsBlk (n := N) (m := M) (v.read (Elt Ideal) f) g 0) :
    IsBlk (n := n) (m := M) (v.readAt (Elt Ideal) (Rect.unit (s := ⟨2, ![N, M]⟩) off ![n, M] inb).toLoadRect f) g o :=
  fun a b => (readAt_rows v f inb hoff a b).trans ((h _ b).trans (by rw [Nat.zero_add]))

/-- Rows `[o, o + n)` of a `bf16` array that held `g` overwritten by a block that holds `g'` from row `o` on. -/
theorem blk_writes_bf16 {v : View sig κ' sp (⟨2, ![N, M]⟩ : Shape) .bf16} {f : v.ty.Contents (Elt Ideal)} {g g' g'' : ℕ → ℕ → ℝ}
    {off : Fin 2 → ℕ} {o : ℕ} (inb : ∀ a : Fin 2, off a + (![n, M] : Fin 2 → ℕ) a ≤ (![N, M] : Fin 2 → ℕ) a)
    (hoff : off = ![o, 0]) (w : (⟨2, ![n, M]⟩ : Shape).Idx → Elt Ideal .bf16)
    (h : IsBlk (n := N) (m := M) (v.read (Elt Ideal) f) g 0) (hw : IsBlk (n := n) (m := M) w g' o)
    (h1 : ∀ r b, o ≤ r → r < o + n → g'' r b = g' r b) (h2 : ∀ r b, r < o ∨ o + n ≤ r → g'' r b = g r b) :
    IsBlk (n := N) (m := M) (v.read (Elt Ideal) (v.writes (Elt Ideal) f [⟨Rect.unit (s := ⟨2, ![N, M]⟩) off ![n, M] inb, w⟩])) g'' 0 := by
  intro a b
  rw [Nat.zero_add]
  by_cases hr : o ≤ (a : ℕ) ∧ (a : ℕ) < o + n
  · rw [View.read_writes_cons_rows_of_mem v f inb w [] (ix2 a b) (ix2 ⟨(a : ℕ) - o, by omega⟩ b) hoff
      (by show (a : ℕ) = o + (a - o); omega) rfl, h1 _ _ hr.1 hr.2]
    refine (hw ⟨(a : ℕ) - o, by omega⟩ b).trans ?_
    show ((g' (o + ((a : ℕ) - o)) b : ℝ) : EReal) = _
    rw [Nat.add_sub_cancel' hr.1]
  · have hr' : (a : ℕ) < o ∨ o + n ≤ (a : ℕ) := by omega
    rw [View.read_writes_cons_rows_of_not_mem v f inb w [] (ix2 a b) hoff (W := n) rfl hr', h2 _ _ hr']
    refine (h a b).trans ?_
    rw [Nat.zero_add]

/-- A block of rows loaded from a `f32` array that holds `g` holds `g` from that row on. -/
theorem blk_readAt_f32 {v : View sig κ' sp (⟨2, ![N, M]⟩ : Shape) .f32} {f : v.ty.Contents (Elt Ideal)} {g : ℕ → ℕ → ℝ}
    {off : Fin 2 → ℕ} {o : ℕ} (inb : ∀ a : Fin 2, off a + (![n, M] : Fin 2 → ℕ) a ≤ (![N, M] : Fin 2 → ℕ) a)
    (hoff : off = ![o, 0]) (h : IsBlk (n := N) (m := M) (v.read (Elt Ideal) f) g 0) :
    IsBlk (n := n) (m := M) (v.readAt (Elt Ideal) (Rect.unit (s := ⟨2, ![N, M]⟩) off ![n, M] inb).toLoadRect f) g o :=
  fun a b => (readAt_rows v f inb hoff a b).trans ((h _ b).trans (by rw [Nat.zero_add]))

/-- Rows `[o, o + n)` of a `f32` array that held `g` overwritten by a block that holds `g'` from row `o` on. -/
theorem blk_writes_f32 {v : View sig κ' sp (⟨2, ![N, M]⟩ : Shape) .f32} {f : v.ty.Contents (Elt Ideal)} {g g' g'' : ℕ → ℕ → ℝ}
    {off : Fin 2 → ℕ} {o : ℕ} (inb : ∀ a : Fin 2, off a + (![n, M] : Fin 2 → ℕ) a ≤ (![N, M] : Fin 2 → ℕ) a)
    (hoff : off = ![o, 0]) (w : (⟨2, ![n, M]⟩ : Shape).Idx → Elt Ideal .f32)
    (h : IsBlk (n := N) (m := M) (v.read (Elt Ideal) f) g 0) (hw : IsBlk (n := n) (m := M) w g' o)
    (h1 : ∀ r b, o ≤ r → r < o + n → g'' r b = g' r b) (h2 : ∀ r b, r < o ∨ o + n ≤ r → g'' r b = g r b) :
    IsBlk (n := N) (m := M) (v.read (Elt Ideal) (v.writes (Elt Ideal) f [⟨Rect.unit (s := ⟨2, ![N, M]⟩) off ![n, M] inb, w⟩])) g'' 0 := by
  intro a b
  rw [Nat.zero_add]
  by_cases hr : o ≤ (a : ℕ) ∧ (a : ℕ) < o + n
  · rw [View.read_writes_cons_rows_of_mem v f inb w [] (ix2 a b) (ix2 ⟨(a : ℕ) - o, by omega⟩ b) hoff
      (by show (a : ℕ) = o + (a - o); omega) rfl, h1 _ _ hr.1 hr.2]
    refine (hw ⟨(a : ℕ) - o, by omega⟩ b).trans ?_
    show ((g' (o + ((a : ℕ) - o)) b : ℝ) : EReal) = _
    rw [Nat.add_sub_cancel' hr.1]
  · have hr' : (a : ℕ) < o ∨ o + n ≤ (a : ℕ) := by omega
    rw [View.read_writes_cons_rows_of_not_mem v f inb w [] (ix2 a b) hoff (W := n) rfl hr', h2 _ _ hr']
    refine (h a b).trans ?_
    rw [Nat.zero_add]

/-- The array overwritten whole. -/
theorem blk_writes_all {v : View sig κ' sp (⟨2, ![N, M]⟩ : Shape) .f32} {f : v.ty.Contents (Elt Ideal)} {g : ℕ → ℕ → ℝ} {C : ℕ}
    (inb : ∀ a : Fin 2, (![0, 0] : Fin 2 → ℕ) a + (![N, M] : Fin 2 → ℕ) a ≤ (![N, M] : Fin 2 → ℕ) a)
    (w : (⟨2, ![N, M]⟩ : Shape).Idx → Elt Ideal .f32) (L : List (View.Piece (Elt Ideal) (⟨2, ![N, M]⟩ : Shape) .f32))
    (hw : IsBlk (n := N) (m := M) w g C) :
    IsBlk (n := N) (m := M) (v.read (Elt Ideal) (v.writes (Elt Ideal) f (⟨Rect.unit (s := ⟨2, ![N, M]⟩) ![0, 0] ![N, M] inb, w⟩ :: L))) g C := by
  intro a b
  rw [View.read_writes_cons_rows_of_mem v f inb w L (ix2 a b) (ix2 a b) rfl (Nat.zero_add _).symm rfl]
  exact hw a b

/-- The array read whole after it was overwritten whole. -/
theorem blk_readCov {v : View sig κ' sp (⟨2, ![N, M]⟩ : Shape) .f32} {g : ℕ → ℕ → ℝ} {C : ℕ}
    (inb : ∀ a : Fin 2, (![0, 0] : Fin 2 → ℕ) a + (![N, M] : Fin 2 → ℕ) a ≤ (![N, M] : Fin 2 → ℕ) a)
    (w : (⟨2, ![N, M]⟩ : Shape).Idx → Elt Ideal .f32) (L : List (View.Piece (Elt Ideal) (⟨2, ![N, M]⟩ : Shape) .f32))
    (hw : IsBlk (n := N) (m := M) w g C) :
    IsBlk (n := N) (m := M) (v.readCov (Val := Elt Ideal) (⟨Rect.unit (s := ⟨2, ![N, M]⟩) ![0, 0] ![N, M] inb, w⟩ :: L)
      (Rect.unit (s := ⟨2, ![N, M]⟩) ![0, 0] ![N, M] inb).toLoadRect) g C :=
  fun a b => (readAt_rows v _ inb rfl a b).trans (by
    rw [← blk_writes_all (v := v) (f := v.junk) inb w L hw a b]; congr 2; exact Fin.ext (Nat.zero_add _))

end Views

/-! ## The grid's second coordinate in words -/

theorem words_t1 : ∀ n : Fin 16, (Scf.trips 0#32 (Scalar.addi 0#32 (Scalar.muli (Scalar.divsi (Scalar.subi (BitVec.ofNat 32 n.val) 0#32) 1#32) 1#32)) 1#32) = n.val := by
  decide +kernel
theorem words_iv : ∀ n : Fin 16, (Scalar.indexCast (Scalar.muli (Scf.iv 0#32 1#32 n.val) 512#32)).toNat = 512 * n.val := by
  decide +kernel
theorem words_i : ∀ n : Fin 16, (Scalar.indexCast (Scalar.muli (BitVec.ofNat 32 n.val) 512#32)).toNat = 512 * n.val := by
  decide +kernel

/-- The first loop makes as many trips as there are tiles below the diagonal. -/
theorem trips_t1 (i : grid0.Coords) : (k0_t1_loop i).trips = (i 1).val := words_t1 (i 1)

theorem trip_lt (i : grid0.Coords) (k : Fin (k0_t1_loop i).trips) : k.val < (i 1).val :=
  lt_of_lt_of_eq k.isLt (trips_t1 i)

theorem off1_eq (i : grid0.Coords) (k : Fin (k0_t1_loop i).trips) : k0_off1 i k = ![512 * k.val, 0] := by
  have h : k.val < 16 := (trip_lt i k).trans (i 1).isLt
  have := words_iv ⟨k.val, h⟩
  unfold k0_off1
  exact congrArg (fun x => (![x, 0] : Fin 2 → ℕ)) this
theorem off2_eq (i : grid0.Coords) (k : Fin (k0_t1_loop i).trips) : k0_off2 i k = ![512 * k.val, 0] := by
  have h : k.val < 16 := (trip_lt i k).trans (i 1).isLt
  have := words_iv ⟨k.val, h⟩
  unfold k0_off2
  exact congrArg (fun x => (![x, 0] : Fin 2 → ℕ)) this
theorem off5_eq (i : grid0.Coords) : k0_off5 i = ![512 * (i 1).val, 0] := by
  unfold k0_off5
  exact congrArg (fun x => (![x, 0] : Fin 2 → ℕ)) (words_i (i 1))
theorem off6_eq (i : grid0.Coords) : k0_off6 i = ![512 * (i 1).val, 0] := by
  unfold k0_off6
  exact congrArg (fun x => (![x, 0] : Fin 2 → ℕ)) (words_i (i 1))

theorem words_t2 : ∀ n : Fin 16, (k0_t2_loop (Fin.cons (0 : Fin 8) (Fin.cons n finZeroElim) : grid0.Coords)).trips = 0 := by
  decide +kernel
/-- The second loop, the remainder of the first by one, makes no trip. -/
theorem trips_t2 (i : grid0.Coords) : (k0_t2_loop i).trips = 0 := words_t2 (i 1)

end Cert.Attn

end
-- ==== Proof.Body.lean ====
/- UNTRUSTED — one grid point of the kernel: what the loop over the tiles below the diagonal leaves. -/
module

public import proofs.«01_k».proof.Proof.Blocks
public import proofs.«01_k».proof.Proof.Gen.KernelIdeal.Loops

@[expose] public section

set_option maxRecDepth 16384

noncomputable section

namespace Cert.Attn

open Idealize.ShloMosaic Cert.KernelIdeal Cert.KernelIdeal.Gen

variable (X : Head)

/-- The key gradient while a block of query rows from `C` is worked through, `n` key rows done. -/
def Head.dkAt (C n r b : ℕ) : ℝ := if r < n then X.dk (C + 512) r b else X.dk C r b
/-- The value gradient likewise. -/
def Head.dvAt (C n r b : ℕ) : ℝ := if r < n then X.dv (C + 512) r b else X.dv C r b

theorem Head.dkAt_zero (C : ℕ) : X.dkAt C 0 = X.dk C := funext fun r => funext fun b => if_neg (by omega)
theorem Head.dvAt_zero (C : ℕ) : X.dvAt C 0 = X.dv C := funext fun r => funext fun b => if_neg (by omega)
theorem Head.dkAt_full (C : ℕ) : X.dkAt C (C + 512) = X.dk (C + 512) := funext fun r => funext fun b => by
  unfold Head.dkAt; split_ifs with h
  · rfl
  · rw [X.dk_zero b (by omega), X.dk_zero b (by omega)]
theorem Head.dvAt_full (C : ℕ) : X.dvAt C (C + 512) = X.dv (C + 512) := funext fun r => funext fun b => by
  unfold Head.dvAt; split_ifs with h
  · rfl
  · rw [X.dv_zero b (by omega), X.dv_zero b (by omega)]

section Loop

variable (𝒱 : Variants) (c : Dev nD) (bd : Option 𝒱.V) (i : grid0.Coords) (arg2 : Memref sig .tc .vmem S512x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x256 .f32) (harg8 : arg8.IsWhole) (arg9 : Memref sig .tc .vmem S8192x256 .f32) (harg9 : arg9.IsWhole) (arg10 : Memref sig .tc .vmem S8192x128 .f32) (harg10 : arg10.IsWhole) (arg11 : Memref sig .tc .vmem S512x256 .f32) (harg11 : arg11.IsWhole)
  (v7 : Vec Ideal S512x256 .bf16) (v9 : Vec Ideal S512x128 .bf16) (v11 : Vec Ideal S1x512 .f32) (v13 : Vec Ideal S1x512 .f32)
  (X3 : BufTy.Contents (Elt Ideal) arg3.view.ty) (X4 : BufTy.Contents (Elt Ideal) arg4.view.ty)
  (f9 : BufTy.Contents (Elt Ideal) arg9.view.ty) (f10 : BufTy.Contents (Elt Ideal) arg10.view.ty) (f11 : BufTy.Contents (Elt Ideal) arg11.view.ty)

/-- What the query block, the output's gradient and the saved rows of one grid point, and the head's keys and values hold. -/
structure Ins (C : ℕ) : Prop where
  q : IsBlk (n := 512) (m := 256) v7 X.q C
  o : IsBlk (n := 512) (m := 128) v9 X.o C
  l : IsRow (n := 1) (m := 512) v11 X.l C
  e : IsRow (n := 1) (m := 512) v13 X.e C
  k : IsBlk (n := 8192) (m := 256) (arg3.view.read (Elt Ideal) X3) X.k 0
  v : IsBlk (n := 8192) (m := 128) (arg4.view.read (Elt Ideal) X4) X.v 0

/-- What the three accumulators hold when the first `n` key rows are done. -/
structure Accs (C n : ℕ) : Prop where
  dk : IsBlk (n := 8192) (m := 256) (arg9.view.read (Elt Ideal) f9) (X.dkAt C n) 0
  dv : IsBlk (n := 8192) (m := 128) (arg10.view.read (Elt Ideal) f10) (X.dvAt C n) 0
  dq : IsBlk (n := 512) (m := 256) (arg11.view.read (Elt Ideal) f11) (X.dq n) C

/-- One trip takes the accumulators one tile further. -/
theorem trip_accs (hin : Ins X arg3 arg4 v7 v9 v11 v13 X3 X4 (512 * (i 1).val)) (k : Fin (k0_t1_loop i).trips)
    (ha : Accs X arg9 arg10 arg11 f9 f10 f11 (512 * (i 1).val) (512 * k.val)) :
    Accs X arg9 arg10 arg11 (arg9.view.writes (Elt Ideal) f9 ((trip_k0_t1 (F := Ideal) 𝒱 c bd i arg2 harg2 arg3 harg3 arg4 harg4 arg5 harg5 arg6 harg6 arg7 harg7 arg8 harg8 arg9 harg9 arg10 harg10 arg11 harg11 v7 v9 v11 v13 X3 X4 k).1 f9 f10 f11)) (arg10.view.writes (Elt Ideal) f10 ((trip_k0_t1 (F := Ideal) 𝒱 c bd i arg2 harg2 arg3 harg3 arg4 harg4 arg5 harg5 arg6 harg6 arg7 harg7 arg8 harg8 arg9 harg9 arg10 harg10 arg11 harg11 v7 v9 v11 v13 X3 X4 k).2.1 f9 f10 f11))
      (arg11.view.writes (Elt Ideal) f11 ((trip_k0_t1 (F := Ideal) 𝒱 c bd i arg2 harg2 arg3 harg3 arg4 harg4 arg5 harg5 arg6 harg6 arg7 harg7 arg8 harg8 arg9 harg9 arg10 harg10 arg11 harg11 v7 v9 v11 v13 X3 X4 k).2.2.1 f9 f10 f11)) (512 * (i 1).val) (512 * (k.val + 1)) := by
  have hk := trip_lt i k
  have hRC : 512 * k.val + 512 ≤ 512 * (i 1).val := by omega
  have hK := blk_readAt_bf16 (n := 512) (k0_off1_inb i k) (off1_eq i k) hin.k
  have hV := blk_readAt_bf16 (n := 512) (k0_off2_inb i k) (off2_eq i k) hin.v
  have hDK := blk_readAt_f32 (n := 512) (k0_off1_inb i k) (off1_eq i k) ha.dk
  have hDV := blk_readAt_f32 (n := 512) (k0_off2_inb i k) (off2_eq i k) ha.dv
  have hDQ : IsBlk (n := 512) (m := 256) (arg11.view.readAt (Elt Ideal) (Rect.unit (s := S512x256) ![0, 0] ![512, 256] inb_S512x256_S512x256_0_0).toLoadRect f11) (X.dq (512 * k.val)) (512 * (i 1).val) :=
    fun a b => (readAt_rows arg11.view f11 inb_S512x256_S512x256_0_0 rfl a b).trans (by
      rw [← ha.dq a b]; congr 2; exact Fin.ext (Nat.zero_add _))
  have hDK' : IsBlk (n := 512) (m := 256) (arg9.view.readAt (Elt Ideal) (Rect.unit (s := S8192x256) (k0_off1 i k) ![512, 256] (k0_off1_inb i k)).toLoadRect f9) (X.dk (512 * (i 1).val)) (512 * k.val) :=
    fun a b => (hDK a b).trans (by rw [Head.dkAt, if_neg (by omega)])
  have hDV' : IsBlk (n := 512) (m := 128) (arg10.view.readAt (Elt Ideal) (Rect.unit (s := S8192x128) (k0_off2 i k) ![512, 128] (k0_off2_inb i k)).toLoadRect f10) (X.dv (512 * (i 1).val)) (512 * k.val) :=
    fun a b => (hDV a b).trans (by rw [Head.dvAt, if_neg (by omega)])
  have p5 := pay5_eq X hRC (pay16_blk hin.q) (pay17_blk hin.o) (pay18_row hin.l) (pay19_row hin.e) hK hV hDK'
  have p6 := pay6_eq X hRC (pay16_blk hin.q) (pay17_blk hin.o) (pay18_row hin.l) hK hDV'
  have p4 := pay4_eq X hRC (pay16_blk hin.q) (pay17_blk hin.o) (pay18_row hin.l) (pay19_row hin.e) hK hV hDQ
  refine ⟨?_, ?_, ?_⟩
  · unfold trip_k0_t1
    refine blk_writes_f32 (k0_off1_inb i k) (off1_eq i k) _ ha.dk p5 (fun r b h1 h2 => if_pos (by omega)) fun r b h => ?_
    unfold Head.dkAt
    split_ifs <;> first | rfl | omega
  · unfold trip_k0_t1
    refine blk_writes_f32 (k0_off2_inb i k) (off2_eq i k) _ ha.dv p6 (fun r b h1 h2 => if_pos (by omega)) fun r b h => ?_
    unfold Head.dvAt
    split_ifs <;> first | rfl | omega
  · unfold trip_k0_t1
    exact blk_writes_all inb_S512x256_S512x256_0_0 _ [] p4

/-- The loop's first `n` trips do the first `512 n` key rows. -/
theorem loop_accs (hin : Ins X arg3 arg4 v7 v9 v11 v13 X3 X4 (512 * (i 1).val))
    (ha : Accs X arg9 arg10 arg11 f9 f10 f11 (512 * (i 1).val) 0) (n : ℕ) (hn : n ≤ (k0_t1_loop i).trips) :
    Accs X arg9 arg10 arg11 (arg9.view.writes (Elt Ideal) f9 (pb_k0_t1 (F := Ideal) 𝒱 c bd i arg2 harg2 arg3 harg3 arg4 harg4 arg5 harg5 arg6 harg6 arg7 harg7 arg8 harg8 arg9 harg9 arg10 harg10 arg11 harg11 v7 v9 v11 v13 X3 X4 f9 f10 f11 n).1) (arg10.view.writes (Elt Ideal) f10 (pb_k0_t1 (F := Ideal) 𝒱 c bd i arg2 harg2 arg3 harg3 arg4 harg4 arg5 harg5 arg6 harg6 arg7 harg7 arg8 harg8 arg9 harg9 arg10 harg10 arg11 harg11 v7 v9 v11 v13 X3 X4 f9 f10 f11 n).2.1)
      (arg11.view.writes (Elt Ideal) f11 (pb_k0_t1 (F := Ideal) 𝒱 c bd i arg2 harg2 arg3 harg3 arg4 harg4 arg5 harg5 arg6 harg6 arg7 harg7 arg8 harg8 arg9 harg9 arg10 harg10 arg11 harg11 v7 v9 v11 v13 X3 X4 f9 f10 f11 n).2.2) (512 * (i 1).val) (512 * n) := by
  induction n with
  | zero => exact ha
  | succ n ih =>
    have hs := pb_k0_t1_succ (F := Ideal) 𝒱 c bd i arg2 harg2 arg3 harg3 arg4 harg4 arg5 harg5 arg6 harg6 arg7 harg7 arg8 harg8 arg9 harg9 arg10 harg10 arg11 harg11 v7 v9 v11 v13 X3 X4 f9 f10 f11 ⟨n, hn⟩
    dsimp only at hs
    rw [hs]
    simp only [View.writes_append]
    exact trip_accs X 𝒱 c bd i arg2 harg2 arg3 harg3 arg4 harg4 arg5 harg5 arg6 harg6 arg7 harg7 arg8 harg8 arg9 harg9 arg10 harg10 arg11 harg11 v7 v9 v11 v13 X3 X4 _ _ _ hin ⟨n, hn⟩ (ih (by omega))

end Loop

end Cert.Attn

end
-- ==== Proof.Point.lean ====
/- UNTRUSTED — one grid point of the kernel: the tile on the diagonal after the loop, and so what the point leaves in
   its three output blocks, at the first point of a head (`A`) and at the later ones (`B`). -/
module

public import proofs.«01_k».proof.Proof.Body
public import proofs.«01_k».proof.Proof.Gen.KernelIdeal.Frame

@[expose] public section

set_option maxRecDepth 16384

noncomputable section

namespace Cert.Attn

open Idealize.ShloMosaic Cert.KernelIdeal Cert.KernelIdeal.Gen

variable (X : Head)

section Point

variable (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S8x512 .f32) (harg6 : arg6.IsWhole) (arg7 : Memref sig .tc .vmem S8x512 .f32) (harg7 : arg7.IsWhole) (arg8 : Memref sig .tc .vmem S512x256 .f32) (harg8 : arg8.IsWhole) (arg9 : Memref sig .tc .vmem S8192x256 .f32) (harg9 : arg9.IsWhole) (arg10 : Memref sig .tc .vmem S8192x128 .f32) (harg10 : arg10.IsWhole) (arg11 : Memref sig .tc .vmem S512x256 .f32) (harg11 : arg11.IsWhole)

section Diagonal

variable {arg3 arg4 arg9 arg10 arg11}
  {v7 : Vec Ideal S512x256 .bf16} {v9 : Vec Ideal S512x128 .bf16} {v11 : Vec Ideal S1x512 .f32} {v13 : Vec Ideal S1x512 .f32}
  {X3 : BufTy.Contents (Elt Ideal) arg3.view.ty} {X4 : BufTy.Contents (Elt Ideal) arg4.view.ty}
  {f9 : BufTy.Contents (Elt Ideal) arg9.view.ty} {f10 : BufTy.Contents (Elt Ideal) arg10.view.ty} {f11 : BufTy.Contents (Elt Ideal) arg11.view.ty}

/-- The key block of the tile on the diagonal. -/
abbrev kRd (X3 : BufTy.Contents (Elt Ideal) arg3.view.ty) : Vec Ideal S512x256 .bf16 :=
  arg3.view.readAt (Elt Ideal) (Rect.unit (s := S8192x256) (k0_off5 i) ![512, 256] (k0_off5_inb i)).toLoadRect X3
/-- The value block of the tile on the diagonal. -/
abbrev vRd (X4 : BufTy.Contents (Elt Ideal) arg4.view.ty) : Vec Ideal S512x128 .bf16 :=
  arg4.view.readAt (Elt Ideal) (Rect.unit (s := S8192x128) (k0_off6 i) ![512, 128] (k0_off6_inb i)).toLoadRect X4

variable (hin : Ins X arg3 arg4 v7 v9 v11 v13 X3 X4 (512 * (i 1).val))
  (ha : Accs X arg9 arg10 arg11 f9 f10 f11 (512 * (i 1).val) (512 * (i 1).val))

include hin in
theorem kRd_blk : IsBlk (n := 512) (m := 256) (kRd i X3) X.k (512 * (i 1).val) :=
  blk_readAt_bf16 (n := 512) (k0_off5_inb i) (off5_eq i) hin.k
include hin in
theorem vRd_blk : IsBlk (n := 512) (m := 128) (vRd i X4) X.v (512 * (i 1).val) :=
  blk_readAt_bf16 (n := 512) (k0_off6_inb i) (off6_eq i) hin.v

include hin ha

/-- The query gradient of the point's rows, complete. -/
theorem diag_dq : IsBlk (n := 512) (m := 256) (k0_pay25 (F := Ideal) (k0_pay17 v9) (k0_pay18 v11) (k0_pay19 v13) (k0_pay20 (kRd i X3))
      (k0_pay21 v7 (kRd i X3)) k0_pay22 kmask (vRd i X4)
      (arg11.view.readAt (Elt Ideal) (Rect.unit (s := S512x256) ![0, 0] ![512, 256] inb_S512x256_S512x256_0_0).toLoadRect f11))
    (X.dq (512 * (i 1).val + 512)) (512 * (i 1).val) :=
  pay25_eq X (pay21_eq X hin.q (kRd_blk X i hin)) (pay17_blk hin.o) (pay18_row hin.l) (pay19_row hin.e) (vRd_blk X i hin)
    (pay20_blk (kRd_blk X i hin)) fun a b => (readAt_rows arg11.view f11 inb_S512x256_S512x256_0_0 rfl a b).trans (by
      rw [← ha.dq a b]; congr 2; exact Fin.ext (Nat.zero_add _))

/-- The key gradient with the point's query rows added. -/
theorem diag_dk : IsBlk (n := 8192) (m := 256) (arg9.view.read (Elt Ideal) (arg9.view.writes (Elt Ideal) f9
      [⟨Rect.unit (s := S8192x256) (k0_off5 i) ![512, 256] (k0_off5_inb i),
        k0_pay26 (F := Ideal) (k0_pay16 v7) (k0_pay17 v9) (k0_pay18 v11) (k0_pay19 v13) (k0_pay21 v7 (kRd i X3)) k0_pay22 kmask (vRd i X4)
          (arg9.view.readAt (Elt Ideal) (Rect.unit (s := S8192x256) (k0_off5 i) ![512, 256] (k0_off5_inb i)).toLoadRect f9)⟩]))
    (X.dk (512 * (i 1).val + 512)) 0 := by
  have hD := blk_readAt_f32 (n := 512) (k0_off5_inb i) (off5_eq i) ha.dk
  refine blk_writes_f32 (k0_off5_inb i) (off5_eq i) _ ha.dk
    (pay26_eq X (pay21_eq X hin.q (kRd_blk X i hin)) (pay16_blk hin.q) (pay17_blk hin.o) (pay18_row hin.l) (pay19_row hin.e)
      (vRd_blk X i hin) fun a b => (hD a b).trans (by rw [Head.dkAt, if_neg (by omega)])) (fun r b _ _ => rfl) fun r b h => ?_
  unfold Head.dkAt
  split_ifs
  · rfl
  · rw [X.dk_zero b (by omega), X.dk_zero b (by omega)]

/-- The value gradient with the point's query rows added. -/
theorem diag_dv : IsBlk (n := 8192) (m := 128) (arg10.view.read (Elt Ideal) (arg10.view.writes (Elt Ideal) f10
      [⟨Rect.unit (s := S8192x128) (k0_off6 i) ![512, 128] (k0_off6_inb i),
        k0_pay27 (F := Ideal) (k0_pay17 v9) (k0_pay18 v11) (k0_pay21 v7 (kRd i X3)) k0_pay22 kmask
          (arg10.view.readAt (Elt Ideal) (Rect.unit (s := S8192x128) (k0_off6 i) ![512, 128] (k0_off6_inb i)).toLoadRect f10)⟩]))
    (X.dv (512 * (i 1).val + 512)) 0 := by
  have hD := blk_readAt_f32 (n := 512) (k0_off6_inb i) (off6_eq i) ha.dv
  refine blk_writes_f32 (k0_off6_inb i) (off6_eq i) _ ha.dv
    (pay27_eq X (pay21_eq X hin.q (kRd_blk X i hin)) (pay17_blk hin.o) (pay18_row hin.l)
      fun a b => (hD a b).trans (by rw [Head.dvAt, if_neg (by omega)])) (fun r b _ _ => rfl) fun r b h => ?_
  unfold Head.dvAt
  split_ifs
  · rfl
  · rw [X.dv_zero b (by omega), X.dv_zero b (by omega)]

end Diagonal

variable (x0 : Vec Ideal S512x256 .bf16) (x1 : Vec Ideal S8192x256 .bf16) (x2 : Vec Ideal S8192x128 .bf16) (x3 : Vec Ideal S512x128 .bf16)
  (x4 : Vec Ideal S8x512 .f32) (x5 : Vec Ideal S8x512 .f32) (xo7 : Vec Ideal S8192x256 .f32) (xo8 : Vec Ideal S8192x128 .f32)

/-- What the six input blocks of one grid point hold. -/
structure PointIns (C : ℕ) : Prop where
  q : IsBlk (n := 512) (m := 256) x0 X.q C
  k : IsBlk (n := 8192) (m := 256) x1 X.k 0
  v : IsBlk (n := 8192) (m := 128) x2 X.v 0
  o : IsBlk (n := 512) (m := 128) x3 X.o C
  l : IsRow (n := 8) (m := 512) x4 X.l C
  e : IsRow (n := 8) (m := 512) x5 X.e C

variable {x0 x1 x2 x3 x4 x5 xo7 xo8}

/-- The blocks as the body loads them from whole staging buffers. -/
theorem PointIns.ins (h : PointIns X x0 x1 x2 x3 x4 x5 (512 * (i 1).val)) :
    Ins X arg3 arg4
      (arg2.view.readAt (Elt Ideal) (Rect.unit (s := S512x256) ![0, 0] ![512, 256] inb_S512x256_S512x256_0_0).toLoadRect (harg2.unread x0))
      (arg5.view.readAt (Elt Ideal) (Rect.unit (s := S512x128) ![0, 0] ![512, 128] inb_S512x128_S512x128_0_0).toLoadRect (harg5.unread x3))
      (arg6.view.readAt (Elt Ideal) (Rect.unit (s := S8x512) ![0, 0] ![1, 512] inb_S8x512_S1x512_0_0).toLoadRect (harg6.unread x4))
      (arg7.view.readAt (Elt Ideal) (Rect.unit (s := S8x512) ![0, 0] ![1, 512] inb_S8x512_S1x512_0_0).toLoadRect (harg7.unread x5))
      (harg3.unread x1) (harg4.unread x2) (512 * (i 1).val) where
  q := fun a b => (readAt_rows _ _ inb_S512x256_S512x256_0_0 rfl a b).trans (by
    rw [harg2.read_unread, ← h.q a b]; congr 2; exact Fin.ext (Nat.zero_add _))
  o := fun a b => (readAt_rows _ _ inb_S512x128_S512x128_0_0 rfl a b).trans (by
    rw [harg5.read_unread, ← h.o a b]; congr 2; exact Fin.ext (Nat.zero_add _))
  l := fun a b => (readAt_rows _ _ inb_S8x512_S1x512_0_0 rfl a b).trans (by rw [harg6.read_unread]; exact h.l _ b)
  e := fun a b => (readAt_rows _ _ inb_S8x512_S1x512_0_0 rfl a b).trans (by rw [harg7.read_unread]; exact h.e _ b)
  k := by rw [harg3.read_unread]; exact h.k
  v := by rw [harg4.read_unread]; exact h.v

/-- The query-gradient scratch, zeroed. -/
theorem zero_dq (C : ℕ) : IsBlk (n := 512) (m := 256) (arg11.view.read (Elt Ideal) (arg11.view.writes (Elt Ideal) arg11.view.junk
      [⟨Rect.unit (s := S512x256) ![0, 0] ![512, 256] inb_S512x256_S512x256_0_0, k0_pay15 (F := Ideal)⟩])) (X.dq (512 * 0)) C :=
  blk_writes_all inb_S512x256_S512x256_0_0 _ [] (pay15_blk X)

section B

variable (h : PointIns X x0 x1 x2 x3 x4 x5 (512 * (i 1).val))
  (h7 : IsBlk (n := 8192) (m := 256) xo7 (X.dk (512 * (i 1).val)) 0) (h8 : IsBlk (n := 8192) (m := 128) xo8 (X.dv (512 * (i 1).val)) 0)

include h7 h8 in
theorem accs_B : Accs X arg9 arg10 arg11 (harg9.unread xo7) (harg10.unread xo8) (arg11.view.writes (Elt Ideal) arg11.view.junk
      [⟨Rect.unit (s := S512x256) ![0, 0] ![512, 256] inb_S512x256_S512x256_0_0, k0_pay15 (F := Ideal)⟩]) (512 * (i 1).val) (512 * 0) where
  dk := by rw [harg9.read_unread, Nat.mul_zero, X.dkAt_zero]; exact h7
  dv := by rw [harg10.read_unread, Nat.mul_zero, X.dvAt_zero]; exact h8
  dq := zero_dq X arg11 _

include h h7 h8

/-- Output 0 of a point of case B. -/
theorem out_B_6 (hc0) : IsBlk (n := 512) (m := 256) (out0_B_6 (F := Ideal) c i arg2 harg2 arg3 harg3 arg4 harg4 arg5 harg5 arg6 harg6 arg7 harg7 arg8 harg8 arg9 harg9 arg10 harg10 arg11 harg11 hc0 x0 x1 x2 x3 x4 x5 xo7 xo8) (X.dq (512 * (i 1).val + 512)) (512 * (i 1).val) := by
  have hin := PointIns.ins X i arg2 harg2 arg3 harg3 arg4 harg4 arg5 harg5 arg6 harg6 arg7 harg7 h
  have hl := loop_accs X Variants.none c none i arg2 harg2 arg3 harg3 arg4 harg4 arg5 harg5 arg6 harg6 arg7 harg7 arg8 harg8 arg9 harg9 arg10 harg10 arg11 harg11 _ _ _ _ _ _ _ _ _ hin
    (accs_B X i arg9 harg9 arg10 harg10 arg11 h7 h8) _ (le_refl _)
  rw [trips_t1] at hl
  simp only [← View.writes_append] at hl
  unfold out0_B_6
  unfold kernelRun0_B
  sl_unfold_words
  dsimp only
  rw [show Scf.trips (Scalar.addi 0#32 (Scalar.muli (Scalar.divsi (Scalar.subi (BitVec.ofNat 32 (i 1).val) 0#32) 1#32) 1#32))
    (Scalar.addi 0#32 (Scalar.subi (BitVec.ofNat 32 (i 1).val) 0#32)) 1#32 = 0 from trips_t2 i,
    show Scf.trips 0#32 (Scalar.addi 0#32 (Scalar.muli (Scalar.divsi (Scalar.subi (BitVec.ofNat 32 (i 1).val) 0#32) 1#32) 1#32)) 1#32
      = (i 1).val from trips_t1 i]
  refine blk_writes_all (v := VO0_6) inb_S512x256_S512x256_0_0 _ [] ?_
  exact blk_readCov inb_S512x256_S512x256_0_0 _ _ (diag_dq X i hin hl)

/-- Output 1 of a point of case B. -/
theorem out_B_7 (hc0) : IsBlk (n := 8192) (m := 256) (out0_B_7 (F := Ideal) c i arg2 harg2 arg3 harg3 arg4 harg4 arg5 harg5 arg6 harg6 arg7 harg7 arg8 harg8 arg9 harg9 arg10 harg10 arg11 harg11 hc0 x0 x1 x2 x3 x4 x5 xo7 xo8) (X.dk (512 * (i 1).val + 512)) 0 := by
  have hin := PointIns.ins X i arg2 harg2 arg3 harg3 arg4 harg4 arg5 harg5 arg6 harg6 arg7 harg7 h
  have hl := loop_accs X Variants.none c none i arg2 harg2 arg3 harg3 arg4 harg4 arg5 harg5 arg6 harg6 arg7 harg7 arg8 harg8 arg9 harg9 arg10 harg10 arg11 harg11 _ _ _ _ _ _ _ _ _ hin
    (accs_B X i arg9 harg9 arg10 harg10 arg11 h7 h8) _ (le_refl _)
  rw [trips_t1] at hl
  simp only [← View.writes_append] at hl
  unfold out0_B_7
  unfold kernelRun0_B
  sl_unfold_words
  dsimp only
  rw [show Scf.trips (Scalar.addi 0#32 (Scalar.muli (Scalar.divsi (Scalar.subi (BitVec.ofNat 32 (i 1).val) 0#32) 1#32) 1#32))
    (Scalar.addi 0#32 (Scalar.subi (BitVec.ofNat 32 (i 1).val) 0#32)) 1#32 = 0 from trips_t2 i,
    show Scf.trips 0#32 (Scalar.addi 0#32 (Scalar.muli (Scalar.divsi (Scalar.subi (BitVec.ofNat 32 (i 1).val) 0#32) 1#32) 1#32)) 1#32
      = (i 1).val from trips_t1 i]
  exact diag_dk X i hin hl

/-- Output 2 of a point of case B. -/
theorem out_B_8 (hc0) : IsBlk (n := 8192) (m := 128) (out0_B_8 (F := Ideal) c i arg2 harg2 arg3 harg3 arg4 harg4 arg5 harg5 arg6 harg6 arg7 harg7 arg8 harg8 arg9 harg9 arg10 harg10 arg11 harg11 hc0 x0 x1 x2 x3 x4 x5 xo7 xo8) (X.dv (512 * (i 1).val + 512)) 0 := by
  have hin := PointIns.ins X i arg2 harg2 arg3 harg3 arg4 harg4 arg5 harg5 arg6 harg6 arg7 harg7 h
  have hl := loop_accs X Variants.none c none i arg2 harg2 arg3 harg3 arg4 harg4 arg5 harg5 arg6 harg6 arg7 harg7 arg8 harg8 arg9 harg9 arg10 harg10 arg11 harg11 _ _ _ _ _ _ _ _ _ hin
    (accs_B X i arg9 harg9 arg10 harg10 arg11 h7 h8) _ (le_refl _)
  rw [trips_t1] at hl
  simp only [← View.writes_append] at hl
  unfold out0_B_8
  unfold kernelRun0_B
  sl_unfold_words
  dsimp only
  rw [show Scf.trips (Scalar.addi 0#32 (Scalar.muli (Scalar.divsi (Scalar.subi (BitVec.ofNat 32 (i 1).val) 0#32) 1#32) 1#32))
    (Scalar.addi 0#32 (Scalar.subi (BitVec.ofNat 32 (i 1).val) 0#32)) 1#32 = 0 from trips_t2 i,
    show Scf.trips 0#32 (Scalar.addi 0#32 (Scalar.muli (Scalar.divsi (Scalar.subi (BitVec.ofNat 32 (i 1).val) 0#32) 1#32) 1#32)) 1#32
      = (i 1).val from trips_t1 i]
  exact diag_dv X i hin hl

end B

section A

variable (h : PointIns X x0 x1 x2 x3 x4 x5 (512 * (i 1).val)) (h1 : (i 1).val = 0)

include h1 in
theorem accs_A : Accs X arg9 arg10 arg11
      (arg9.view.writes (Elt Ideal) arg9.view.junk [⟨Rect.unit (s := S8192x256) ![0, 0] ![8192, 256] inb_S8192x256_S8192x256_0_0, k0_pay13 (F := Ideal)⟩])
      (arg10.view.writes (Elt Ideal) arg10.view.junk [⟨Rect.unit (s := S8192x128) ![0, 0] ![8192, 128] inb_S8192x128_S8192x128_0_0, k0_pay14 (F := Ideal)⟩])
      (arg11.view.writes (Elt Ideal) arg11.view.junk [⟨Rect.unit (s := S512x256) ![0, 0] ![512, 256] inb_S512x256_S512x256_0_0, k0_pay15 (F := Ideal)⟩])
      (512 * (i 1).val) (512 * 0) where
  dk := by rw [h1, Nat.mul_zero, X.dkAt_zero]; exact blk_writes_all inb_S8192x256_S8192x256_0_0 _ [] (pay13_blk X)
  dv := by rw [h1, Nat.mul_zero, X.dvAt_zero]; exact blk_writes_all inb_S8192x128_S8192x128_0_0 _ [] (pay14_blk X)
  dq := zero_dq X arg11 _

include h h1

/-- Output 0 of a point of case A. -/
theorem out_A_6 (hc0) : IsBlk (n := 512) (m := 256) (out0_A_6 (F := Ideal) c i arg2 harg2 arg3 harg3 arg4 harg4 arg5 harg5 arg6 harg6 arg7 harg7 arg8 harg8 arg9 harg9 arg10 harg10 arg11 harg11 hc0 x0 x1 x2 x3 x4 x5) (X.dq (512 * (i 1).val + 512)) (512 * (i 1).val) := by
  have hin := PointIns.ins X i arg2 harg2 arg3 harg3 arg4 harg4 arg5 harg5 arg6 harg6 arg7 harg7 h
  have hl := loop_accs X Variants.none c none i arg2 harg2 arg3 harg3 arg4 harg4 arg5 harg5 arg6 harg6 arg7 harg7 arg8 harg8 arg9 harg9 arg10 harg10 arg11 harg11 _ _ _ _ _ _ _ _ _ hin
    (accs_A X i arg9 arg10 arg11 h1) _ (le_refl _)
  rw [trips_t1] at hl
  simp only [← View.writes_append] at hl
  unfold out0_A_6
  unfold kernelRun0_A
  sl_unfold_words
  dsimp only
  rw [show Scf.trips (Scalar.addi 0#32 (Scalar.muli (Scalar.divsi (Scalar.subi (BitVec.ofNat 32 (i 1).val) 0#32) 1#32) 1#32))
    (Scalar.addi 0#32 (Scalar.subi (BitVec.ofNat 32 (i 1).val) 0#32)) 1#32 = 0 from trips_t2 i,
    show Scf.trips 0#32 (Scalar.addi 0#32 (Scalar.muli (Scalar.divsi (Scalar.subi (BitVec.ofNat 32 (i 1).val) 0#32) 1#32) 1#32)) 1#32
      = (i 1).val from trips_t1 i]
  refine blk_writes_all (v := VO0_6) inb_S512x256_S512x256_0_0 _ [] ?_
  exact blk_readCov inb_S512x256_S512x256_0_0 _ _ (diag_dq X i hin hl)

/-- Output 1 of a point of case A. -/
theorem out_A_7 (hc0) : IsBlk (n := 8192) (m := 256) (out0_A_7 (F := Ideal) c i arg2 harg2 arg3 harg3 arg4 harg4 arg5 harg5 arg6 harg6 arg7 harg7 arg8 harg8 arg9 harg9 arg10 harg10 arg11 harg11 hc0 x0 x1 x2 x3 x4 x5) (X.dk (512 * (i 1).val + 512)) 0 := by
  have hin := PointIns.ins X i arg2 harg2 arg3 harg3 arg4 harg4 arg5 harg5 arg6 harg6 arg7 harg7 h
  have hl := loop_accs X Variants.none c none i arg2 harg2 arg3 harg3 arg4 harg4 arg5 harg5 arg6 harg6 arg7 harg7 arg8 harg8 arg9 harg9 arg10 harg10 arg11 harg11 _ _ _ _ _ _ _ _ _ hin
    (accs_A X i arg9 arg10 arg11 h1) _ (le_refl _)
  rw [trips_t1] at hl
  simp only [← View.writes_append] at hl
  rw [show out0_A_7 (F := Ideal) c i arg2 harg2 arg3 harg3 arg4 harg4 arg5 harg5 arg6 harg6 arg7 harg7 arg8 harg8 arg9 harg9 arg10 harg10 arg11 harg11 hc0 x0 x1 x2 x3 x4 x5 = _ from
    (View.read_writes_of_cover arg9.view arg9.view.junk _ _ _ (cover0_A_7 c i arg2 harg2 arg3 harg3 arg4 harg4 arg5 harg5 arg6 harg6 arg7 harg7 arg8 harg8 arg9 harg9 arg10 harg10 arg11 harg11 hc0 x0 x1 x2 x3 x4 x5)).symm]
  unfold kernelRun0_A
  sl_unfold_words
  dsimp only
  rw [show Scf.trips (Scalar.addi 0#32 (Scalar.muli (Scalar.divsi (Scalar.subi (BitVec.ofNat 32 (i 1).val) 0#32) 1#32) 1#32))
    (Scalar.addi 0#32 (Scalar.subi (BitVec.ofNat 32 (i 1).val) 0#32)) 1#32 = 0 from trips_t2 i,
    show Scf.trips 0#32 (Scalar.addi 0#32 (Scalar.muli (Scalar.divsi (Scalar.subi (BitVec.ofNat 32 (i 1).val) 0#32) 1#32) 1#32)) 1#32
      = (i 1).val from trips_t1 i]
  exact diag_dk X i hin hl

/-- Output 2 of a point of case A. -/
theorem out_A_8 (hc0) : IsBlk (n := 8192) (m := 128) (out0_A_8 (F := Ideal) c i arg2 harg2 arg3 harg3 arg4 harg4 arg5 harg5 arg6 harg6 arg7 harg7 arg8 harg8 arg9 harg9 arg10 harg10 arg11 harg11 hc0 x0 x1 x2 x3 x4 x5) (X.dv (512 * (i 1).val + 512)) 0 := by
  have hin := PointIns.ins X i arg2 harg2 arg3 harg3 arg4 harg4 arg5 harg5 arg6 harg6 arg7 harg7 h
  have hl := loop_accs X Variants.none c none i arg2 harg2 arg3 harg3 arg4 harg4 arg5 harg5 arg6 harg6 arg7 harg7 arg8 harg8 arg9 harg9 arg10 harg10 arg11 harg11 _ _ _ _ _ _ _ _ _ hin
    (accs_A X i arg9 arg10 arg11 h1) _ (le_refl _)
  rw [trips_t1] at hl
  simp only [← View.writes_append] at hl
  rw [show out0_A_8 (F := Ideal) c i arg2 harg2 arg3 harg3 arg4 harg4 arg5 harg5 arg6 harg6 arg7 harg7 arg8 harg8 arg9 harg9 arg10 harg10 arg11 harg11 hc0 x0 x1 x2 x3 x4 x5 = _ from
    (View.read_writes_of_cover arg10.view arg10.view.junk _ _ _ (cover0_A_8 c i arg2 harg2 arg3 harg3 arg4 harg4 arg5 harg5 arg6 harg6 arg7 harg7 arg8 harg8 arg9 harg9 arg10 harg10 arg11 harg11 hc0 x0 x1 x2 x3 x4 x5)).symm]
  unfold kernelRun0_A
  sl_unfold_words
  dsimp only
  rw [show Scf.trips (Scalar.addi 0#32 (Scalar.muli (Scalar.divsi (Scalar.subi (BitVec.ofNat 32 (i 1).val) 0#32) 1#32) 1#32))
    (Scalar.addi 0#32 (Scalar.subi (BitVec.ofNat 32 (i 1).val) 0#32)) 1#32 = 0 from trips_t2 i,
    show Scf.trips 0#32 (Scalar.addi 0#32 (Scalar.muli (Scalar.divsi (Scalar.subi (BitVec.ofNat 32 (i 1).val) 0#32) 1#32) 1#32)) 1#32
      = (i 1).val from trips_t1 i]
  exact diag_dv X i hin hl

end A

end Point

end Cert.Attn

end
-- ==== Proof.Idx.lean ====
/- UNTRUSTED — the grid's points in coordinates, and which block of its array each window is on. -/
module

public import proofs.«01_k».proof.Proof.Gen.KernelIdeal.Frame.Runs

@[expose] public section

set_option maxRecDepth 16384

noncomputable section

namespace Cert.Attn

open Idealize.ShloMosaic Idealize.ShloMosaic.TcCoe Cert.KernelIdeal Cert.KernelIdeal.Gen

/-! ## The windows' index maps, in closed form -/

theorem idx0 : ∀ t : Fin grid0.N, win0_0.index t 0 = (t.val % 16) ∧ win0_0.index t 1 = (t.val / 16) := by decide +kernel
theorem idx1 : ∀ t : Fin grid0.N, win0_1.index t 0 = 0 ∧ win0_1.index t 1 = (t.val / 16) := by decide +kernel
theorem idx2 : ∀ t : Fin grid0.N, win0_2.index t 0 = 0 ∧ win0_2.index t 1 = (t.val / 16) := by decide +kernel
theorem idx3 : ∀ t : Fin grid0.N, win0_3.index t 0 = (t.val % 16) ∧ win0_3.index t 1 = (t.val / 16) := by decide +kernel
theorem idx4 : ∀ t : Fin grid0.N, win0_4.index t 0 = (t.val / 16) ∧ win0_4.index t 1 = (t.val % 16) := by decide +kernel
theorem idx5 : ∀ t : Fin grid0.N, win0_5.index t 0 = (t.val / 16) ∧ win0_5.index t 1 = (t.val % 16) := by decide +kernel
theorem idx6 : ∀ t : Fin grid0.N, win0_6.index t 0 = (t.val % 16) ∧ win0_6.index t 1 = (t.val / 16) := by decide +kernel
theorem idx7 : ∀ t : Fin grid0.N, win0_7.index t 0 = 0 ∧ win0_7.index t 1 = (t.val / 16) := by decide +kernel
theorem idx8 : ∀ t : Fin grid0.N, win0_8.index t 0 = 0 ∧ win0_8.index t 1 = (t.val / 16) := by decide +kernel

/-- The point's second coordinate is the block of query rows. -/
theorem coord1 : ∀ t : Fin grid0.N, (grid0.coords t 1).val = t.val % 16 := by decide +kernel

theorem pt_lt (t : Fin cfg0.N) : t.val < 128 := lt_of_lt_of_eq t.isLt N_0

end Cert.Attn

end
-- ==== Proof.OutsAB.lean ====
/- UNTRUSTED — what a grid point leaves, from its input blocks and the point before it. -/
module

public import proofs.«01_k».proof.Proof.Point
public import proofs.«01_k».proof.Proof.Idx

@[expose] public section

set_option maxRecDepth 16384

noncomputable section

namespace Cert.Attn

open Idealize.ShloMosaic Idealize.ShloMosaic.TcCoe Cert.KernelIdeal Cert.KernelIdeal.Gen

variable (m : (ℓ : Loc nD τ sig) → Buf (Elt Ideal) ℓ) (c : Dev nD)

/-- A head's first point, from its input blocks. -/
theorem outs_A (X : Head) (t : Fin cfg0.N) (h0 : t.val % 16 = 0)
    (hP : PointIns X (iblk m c 0 t) (iblk m c 1 t) (iblk m c 2 t) (iblk m c 3 t) (iblk m c 4 t) (iblk m c 5 t) (512 * (grid0.coords t 1).val)) :
    IsBlk (n := 512) (m := 256) (outsAt0 m c t.val t.isLt).1 (X.dq (512 * (grid0.coords t 1).val + 512)) (512 * (grid0.coords t 1).val)
    ∧ IsBlk (n := 8192) (m := 256) (outsAt0 m c t.val t.isLt).2.1 (X.dk (512 * (grid0.coords t 1).val + 512)) 0
    ∧ IsBlk (n := 8192) (m := 128) (outsAt0 m c t.val t.isLt).2.2 (X.dv (512 * (grid0.coords t 1).val + 512)) 0 := by
  have h1 := (coord1 t).trans h0
  rw [outsAt0_A m c t h0]
  dsimp only
  generalize iblk m c 0 t = x0 at hP ⊢
  generalize iblk m c 1 t = x1 at hP ⊢
  generalize iblk m c 2 t = x2 at hP ⊢
  generalize iblk m c 3 t = x3 at hP ⊢
  generalize iblk m c 4 t = x4 at hP ⊢
  generalize iblk m c 5 t = x5 at hP ⊢
  exact ⟨out_A_6 X c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hP h1 _, out_A_7 X c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hP h1 _, out_A_8 X c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hP h1 _⟩

/-- A later point of a head, from its input blocks and what the point before it left. -/
theorem outs_B (X : Head) (t : Fin cfg0.N) (h0 : ¬ t.val % 16 = 0)
    (hP : PointIns X (iblk m c 0 t) (iblk m c 1 t) (iblk m c 2 t) (iblk m c 3 t) (iblk m c 4 t) (iblk m c 5 t) (512 * (grid0.coords t 1).val))
    (h7 : IsBlk (n := 8192) (m := 256) (outsAt0 m c (t.val - 1) (by have := t.isLt; omega)).2.1 (X.dk (512 * (grid0.coords t 1).val)) 0)
    (h8 : IsBlk (n := 8192) (m := 128) (outsAt0 m c (t.val - 1) (by have := t.isLt; omega)).2.2 (X.dv (512 * (grid0.coords t 1).val)) 0) :
    IsBlk (n := 512) (m := 256) (outsAt0 m c t.val t.isLt).1 (X.dq (512 * (grid0.coords t 1).val + 512)) (512 * (grid0.coords t 1).val)
    ∧ IsBlk (n := 8192) (m := 256) (outsAt0 m c t.val t.isLt).2.1 (X.dk (512 * (grid0.coords t 1).val + 512)) 0
    ∧ IsBlk (n := 8192) (m := 128) (outsAt0 m c t.val t.isLt).2.2 (X.dv (512 * (grid0.coords t 1).val + 512)) 0 := by
  rw [outsAt0_B m c t h0]
  dsimp only
  generalize iblk m c 0 t = x0 at hP ⊢
  generalize iblk m c 1 t = x1 at hP ⊢
  generalize iblk m c 2 t = x2 at hP ⊢
  generalize iblk m c 3 t = x3 at hP ⊢
  generalize iblk m c 4 t = x4 at hP ⊢
  generalize iblk m c 5 t = x5 at hP ⊢
  generalize outsAt0 m c (t.val - 1) _ = y at h7 h8 ⊢
  exact ⟨out_B_6 X c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hP h7 h8 _, out_B_7 X c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hP h7 h8 _, out_B_8 X c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) hP h7 h8 _⟩

end Cert.Attn

end
-- ==== Proof.Iblk.lean ====
/- UNTRUSTED — each window's input block as rows and columns of its array. -/
module

public import proofs.«01_k».proof.Proof.Idx
public import Idealize.ShloMosaic.Lib.Pointwise

@[expose] public section

set_option maxRecDepth 16384

noncomputable section

namespace Cert.Attn

open Idealize.ShloMosaic Idealize.ShloMosaic.TcCoe Cert.KernelIdeal Cert.KernelIdeal.Gen

variable (m : (ℓ : Loc nD τ sig) → Buf (Elt Ideal) ℓ) (c : Dev nD)

/-- Window 0's block of any contents of its array, at an index. -/
theorem blk0_eq (A : Vec Ideal S8192x2048 .bf16) (t : Fin cfg0.N) (a : Fin 512) (b : Fin 256) :
    (((cfg0.win 0).blk t).view.read (Elt Ideal) A : Vec Ideal S512x256 .bf16) (ix2 a b) = A (ix2 ⟨(t.val % 16) * 512 + a, by have := pt_lt t; omega⟩ ⟨(t.val / 16) * 256 + b, by have := pt_lt t; omega⟩ : S8192x2048.Idx) := by
  have hi := idx0 t
  rw [View.read_apply]
  refine congrArg A (funext fun x => Fin.ext ?_)
  match x with
  | ⟨0, _⟩ => show win0_0.index t 0 * 512 + 1 * (a : ℕ) = _; rw [hi.1, one_mul]; rfl
  | ⟨1, _⟩ => show win0_0.index t 1 * 256 + 1 * (b : ℕ) = _; rw [hi.2, one_mul]; rfl

/-- Window 0's block at a point, at an index. -/
theorem iblk0_eq (t : Fin cfg0.N) (a : Fin 512) (b : Fin 256) :
    (iblk m c 0 t : Vec Ideal S512x256 .bf16) (ix2 a b) = V m c main_v37 (ix2 ⟨(t.val % 16) * 512 + a, by have := pt_lt t; omega⟩ ⟨(t.val / 16) * 256 + b, by have := pt_lt t; omega⟩ : S8192x2048.Idx) :=
  blk0_eq (V m c main_v37) t a b

/-- Window 1's block of any contents of its array, at an index. -/
theorem blk1_eq (A : Vec Ideal S8192x2048 .bf16) (t : Fin cfg0.N) (a : Fin 8192) (b : Fin 256) :
    (((cfg0.win 1).blk t).view.read (Elt Ideal) A : Vec Ideal S8192x256 .bf16) (ix2 a b) = A (ix2 ⟨0 * 8192 + a, by have := pt_lt t; omega⟩ ⟨(t.val / 16) * 256 + b, by have := pt_lt t; omega⟩ : S8192x2048.Idx) := by
  have hi := idx1 t
  rw [View.read_apply]
  refine congrArg A (funext fun x => Fin.ext ?_)
  match x with
  | ⟨0, _⟩ => show win0_1.index t 0 * 8192 + 1 * (a : ℕ) = _; rw [hi.1, one_mul]; rfl
  | ⟨1, _⟩ => show win0_1.index t 1 * 256 + 1 * (b : ℕ) = _; rw [hi.2, one_mul]; rfl

/-- Window 1's block at a point, at an index. -/
theorem iblk1_eq (t : Fin cfg0.N) (a : Fin 8192) (b : Fin 256) :
    (iblk m c 1 t : Vec Ideal S8192x256 .bf16) (ix2 a b) = V m c main_v40 (ix2 ⟨0 * 8192 + a, by have := pt_lt t; omega⟩ ⟨(t.val / 16) * 256 + b, by have := pt_lt t; omega⟩ : S8192x2048.Idx) :=
  blk1_eq (V m c main_v40) t a b

/-- Window 2's block of any contents of its array, at an index. -/
theorem blk2_eq (A : Vec Ideal S8192x1024 .bf16) (t : Fin cfg0.N) (a : Fin 8192) (b : Fin 128) :
    (((cfg0.win 2).blk t).view.read (Elt Ideal) A : Vec Ideal S8192x128 .bf16) (ix2 a b) = A (ix2 ⟨0 * 8192 + a, by have := pt_lt t; omega⟩ ⟨(t.val / 16) * 128 + b, by have := pt_lt t; omega⟩ : S8192x1024.Idx) := by
  have hi := idx2 t
  rw [View.read_apply]
  refine congrArg A (funext fun x => Fin.ext ?_)
  match x with
  | ⟨0, _⟩ => show win0_2.index t 0 * 8192 + 1 * (a : ℕ) = _; rw [hi.1, one_mul]; rfl
  | ⟨1, _⟩ => show win0_2.index t 1 * 128 + 1 * (b : ℕ) = _; rw [hi.2, one_mul]; rfl

/-- Window 2's block at a point, at an index. -/
theorem iblk2_eq (t : Fin cfg0.N) (a : Fin 8192) (b : Fin 128) :
    (iblk m c 2 t : Vec Ideal S8192x128 .bf16) (ix2 a b) = V m c main_v42 (ix2 ⟨0 * 8192 + a, by have := pt_lt t; omega⟩ ⟨(t.val / 16) * 128 + b, by have := pt_lt t; omega⟩ : S8192x1024.Idx) :=
  blk2_eq (V m c main_v42) t a b

/-- Window 3's block of any contents of its array, at an index. -/
theorem blk3_eq (A : Vec Ideal S8192x2048 .bf16) (t : Fin cfg0.N) (a : Fin 512) (b : Fin 128) :
    (((cfg0.win 3).blk t).view.read (Elt Ideal) A : Vec Ideal S512x128 .bf16) (ix2 a b) = A (ix2 ⟨(t.val % 16) * 512 + a, by have := pt_lt t; omega⟩ ⟨(t.val / 16) * 128 + b, by have := pt_lt t; omega⟩ : S8192x2048.Idx) := by
  have hi := idx3 t
  rw [View.read_apply]
  refine congrArg A (funext fun x => Fin.ext ?_)
  match x with
  | ⟨0, _⟩ => show win0_3.index t 0 * 512 + 1 * (a : ℕ) = _; rw [hi.1, one_mul]; rfl
  | ⟨1, _⟩ => show win0_3.index t 1 * 128 + 1 * (b : ℕ) = _; rw [hi.2, one_mul]; rfl

/-- Window 3's block at a point, at an index. -/
theorem iblk3_eq (t : Fin cfg0.N) (a : Fin 512) (b : Fin 128) :
    (iblk m c 3 t : Vec Ideal S512x128 .bf16) (ix2 a b) = V m c main_v43 (ix2 ⟨(t.val % 16) * 512 + a, by have := pt_lt t; omega⟩ ⟨(t.val / 16) * 128 + b, by have := pt_lt t; omega⟩ : S8192x2048.Idx) :=
  blk3_eq (V m c main_v43) t a b

/-- Window 4's block of any contents of its array, at an index. -/
theorem blk4_eq (A : Vec Ideal S64x8192 .f32) (t : Fin cfg0.N) (a : Fin 8) (b : Fin 512) :
    (((cfg0.win 4).blk t).view.read (Elt Ideal) A : Vec Ideal S8x512 .f32) (ix2 a b) = A (ix2 ⟨(t.val / 16) * 8 + a, by have := pt_lt t; omega⟩ ⟨(t.val % 16) * 512 + b, by have := pt_lt t; omega⟩ : S64x8192.Idx) := by
  have hi := idx4 t
  rw [View.read_apply]
  refine congrArg A (funext fun x => Fin.ext ?_)
  match x with
  | ⟨0, _⟩ => show win0_4.index t 0 * 8 + 1 * (a : ℕ) = _; rw [hi.1, one_mul]; rfl
  | ⟨1, _⟩ => show win0_4.index t 1 * 512 + 1 * (b : ℕ) = _; rw [hi.2, one_mul]; rfl

/-- Window 4's block at a point, at an index. -/
theorem iblk4_eq (t : Fin cfg0.N) (a : Fin 8) (b : Fin 512) :
    (iblk m c 4 t : Vec Ideal S8x512 .f32) (ix2 a b) = V m c main_v46 (ix2 ⟨(t.val / 16) * 8 + a, by have := pt_lt t; omega⟩ ⟨(t.val % 16) * 512 + b, by have := pt_lt t; omega⟩ : S64x8192.Idx) :=
  blk4_eq (V m c main_v46) t a b

/-- Window 5's block of any contents of its array, at an index. -/
theorem blk5_eq (A : Vec Ideal S64x8192 .f32) (t : Fin cfg0.N) (a : Fin 8) (b : Fin 512) :
    (((cfg0.win 5).blk t).view.read (Elt Ideal) A : Vec Ideal S8x512 .f32) (ix2 a b) = A (ix2 ⟨(t.val / 16) * 8 + a, by have := pt_lt t; omega⟩ ⟨(t.val % 16) * 512 + b, by have := pt_lt t; omega⟩ : S64x8192.Idx) := by
  have hi := idx5 t
  rw [View.read_apply]
  refine congrArg A (funext fun x => Fin.ext ?_)
  match x with
  | ⟨0, _⟩ => show win0_5.index t 0 * 8 + 1 * (a : ℕ) = _; rw [hi.1, one_mul]; rfl
  | ⟨1, _⟩ => show win0_5.index t 1 * 512 + 1 * (b : ℕ) = _; rw [hi.2, one_mul]; rfl

/-- Window 5's block at a point, at an index. -/
theorem iblk5_eq (t : Fin cfg0.N) (a : Fin 8) (b : Fin 512) :
    (iblk m c 5 t : Vec Ideal S8x512 .f32) (ix2 a b) = V m c main_v49 (ix2 ⟨(t.val / 16) * 8 + a, by have := pt_lt t; omega⟩ ⟨(t.val % 16) * 512 + b, by have := pt_lt t; omega⟩ : S64x8192.Idx) :=
  blk5_eq (V m c main_v49) t a b

end Cert.Attn

end
-- ==== Proof.Outs.lean ====
/- UNTRUSTED — every grid point's output blocks, by induction over the points of a head. -/
module

public import proofs.«01_k».proof.Proof.OutsAB
public import proofs.«01_k».proof.Proof.Iblk

@[expose] public section

set_option maxRecDepth 16384

noncomputable section

namespace Cert.Attn

open Idealize.ShloMosaic Idealize.ShloMosaic.TcCoe Cert.KernelIdeal Cert.KernelIdeal.Gen

variable (m : (ℓ : Loc nD τ sig) → Buf (Elt Ideal) ℓ) (c : Dev nD)

/-! ## What the heads hold -/

/-- The kernel's operands, as the region finds them, hold head `h`. -/
structure HeadIns (X : Head) (h : ℕ) (hh : h < 8) : Prop where
  q : ∀ (r : Fin 8192) (d : Fin 256), V m c main_v37 (ix2 r ⟨h * 256 + d, by omega⟩ : S8192x2048.Idx) = ((X.q r d : ℝ) : EReal)
  k : ∀ (r : Fin 8192) (d : Fin 256), V m c main_v40 (ix2 r ⟨h * 256 + d, by omega⟩ : S8192x2048.Idx) = ((X.k r d : ℝ) : EReal)
  v : ∀ (r : Fin 8192) (d : Fin 128), V m c main_v42 (ix2 r ⟨h * 128 + d, by omega⟩ : S8192x1024.Idx) = ((X.v r d : ℝ) : EReal)
  o : ∀ (r : Fin 8192) (d : Fin 128), V m c main_v43 (ix2 r ⟨h * 128 + d, by omega⟩ : S8192x2048.Idx) = ((X.o r d : ℝ) : EReal)
  l : ∀ (a : Fin 8) (r : Fin 8192), V m c main_v46 (ix2 ⟨h * 8 + a, by omega⟩ r : S64x8192.Idx) = ((X.l r : ℝ) : EReal)
  e : ∀ (a : Fin 8) (r : Fin 8192), V m c main_v49 (ix2 ⟨h * 8 + a, by omega⟩ r : S64x8192.Idx) = ((X.e r : ℝ) : EReal)

variable (Y : ℕ → Head) (hY : ∀ h (hh : h < 8), HeadIns m c (Y h) h hh)

include hY

/-- Each point's input blocks hold its head's blocks. -/
theorem point_ins (t : Fin cfg0.N) : PointIns (Y (t.val / 16)) (iblk m c 0 t) (iblk m c 1 t) (iblk m c 2 t) (iblk m c 3 t) (iblk m c 4 t) (iblk m c 5 t)
    (512 * (grid0.coords t 1).val) := by
  have hh : t.val / 16 < 8 := by have := pt_lt t; omega
  have H := hY _ hh
  rw [coord1]
  refine ⟨fun a b => ?_, fun a b => ?_, fun a b => ?_, fun a b => ?_, fun a b => ?_, fun a b => ?_⟩
  · exact (iblk0_eq m c t a b).trans ((H.q _ b).trans (by simp only [Nat.mul_comm]))
  · exact (iblk1_eq m c t a b).trans ((H.k _ b).trans (by simp only [Nat.zero_mul]))
  · exact (iblk2_eq m c t a b).trans ((H.v _ b).trans (by simp only [Nat.zero_mul]))
  · exact (iblk3_eq m c t a b).trans ((H.o _ b).trans (by simp only [Nat.mul_comm]))
  · exact (iblk4_eq m c t a b).trans ((H.l a _).trans (by simp only [Nat.mul_comm]))
  · exact (iblk5_eq m c t a b).trans ((H.e a _).trans (by simp only [Nat.mul_comm]))

/-- What each point leaves: the query gradient of its rows, and the key and value gradients summed over the query
    rows so far. -/
theorem outs_eq (n : ℕ) (hn : n < cfg0.N) :
    IsBlk (n := 512) (m := 256) (outsAt0 m c n hn).1 ((Y (n / 16)).dq (512 * (n % 16) + 512)) (512 * (n % 16))
    ∧ IsBlk (n := 8192) (m := 256) (outsAt0 m c n hn).2.1 ((Y (n / 16)).dk (512 * (n % 16) + 512)) 0
    ∧ IsBlk (n := 8192) (m := 128) (outsAt0 m c n hn).2.2 ((Y (n / 16)).dv (512 * (n % 16) + 512)) 0 := by
  induction n using Nat.strongRecOn with
  | ind n ih =>
    have hP := point_ins m c Y hY ⟨n, hn⟩
    have hc : (grid0.coords (⟨n, hn⟩ : Fin cfg0.N) 1).val = n % 16 := coord1 ⟨n, hn⟩
    rw [← hc]
    by_cases h0 : n % 16 = 0
    · exact outs_A m c _ ⟨n, hn⟩ h0 hP
    · obtain ⟨-, i7, i8⟩ := ih (n - 1) (by omega) (by omega)
      rw [show (n - 1) / 16 = n / 16 by omega, show 512 * ((n - 1) % 16) + 512 = 512 * (grid0.coords (⟨n, hn⟩ : Fin cfg0.N) 1).val by rw [hc]; omega] at i7 i8
      exact outs_B m c _ ⟨n, hn⟩ h0 hP i7 i8

end Cert.Attn

end
-- ==== Proof.HostK.lean ====
/- UNTRUSTED — the kernel's operands, as the host prepares them, over the reals. -/
module

public import proofs.«01_k».proof.Proof.Soft
public import proofs.«01_k».proof.Proof.Outs
public import Idealize.ShloMosaic.Lib.StableHlo.RunRead
public import Idealize.ShloMosaic.Lib.Claim

@[expose] public section

set_option maxRecDepth 16384

noncomputable section

namespace Cert.Attn

open Idealize.ShloMosaic Idealize.ShloMosaic.TcCoe Cert.KernelIdeal Cert.KernelIdeal.Gen

/-! ## The operands' terms, by name -/

/-- A head's 192 columns padded to 256 with zeros, the heads side by side. -/
def padK (x : FVec Ideal S8192x8x192 .f32) : FVec Ideal S8192x2048 .bf16 :=
  truncf .bf16 (shapeCast S8192x2048 (pad S8192x8x256 ![0, 0, 0] ![0, 0, 64] ![0, 0, 0] x (sitofp .f32 (constantI S_ 32 0#32) : FVec Ideal S_ .f32) pads_S8192x8x192_S8192x8x256_000_000_0640 h_S_ : FVec Ideal S8192x8x256 .f32) shapeCasts_S8192x8x256_S8192x2048) bitsLt_bf16_f32

/-- The values, the heads side by side. -/
def valK (v : FVec Ideal S8192x8x128 .f32) : FVec Ideal S8192x1024 .bf16 :=
  truncf .bf16 (shapeCast S8192x1024 v shapeCasts_S8192x8x128_S8192x1024 : FVec Ideal S8192x1024 .f32) bitsLt_bf16_f32

/-- A row of numbers per head, eight copies of it one below the other. -/
def rowK (L : FVec Ideal S8x8192 .f32) : FVec Ideal S64x8192 .f32 :=
  shapeCast S64x8192 (broadcastInDim S8x8x8192 ![0, 1, 2] bcast_S8x1x8192_S8x8x8192_0_1_2 (broadcastInDim S8x1x8192 ![0, 2] bcast_S8x8192_S8x1x8192_0_2 L)) shapeCasts_S8x8x8192_S64x8192

/-- The log-sum-exp, in base two, from the largest scores and the sums of exponentials. -/
def lseK (M L : FVec Ideal S8x8192 .f32) : FVec Ideal S8x8192 .f32 :=
  Host.divf (shapeCast S8x8192 (addf (broadcastInDim S8x8192x1 ![0, 1] bcast_S8x8192_S8x8192x1_0_1 M) (Host.log (broadcastInDim S8x8192x1 ![0, 1] bcast_S8x8192_S8x8192x1_0_1 L))) shapeCasts_S8x8192x1_S8x8192)
    (broadcastInDim S8x8192 ![] bcast_S_S8x8192 (id (Host.log (constant S_ .f32 0x40000000#32))))

/-- The attention's output against its gradient, row by row. -/
def delK (v : FVec Ideal S8192x8x128 .f32) (g : FVec Ideal S8192x2048 .f32) (P : FVec Ideal S8x8192x8192 .f32) : FVec Ideal S8x8192 .f32 :=
  transpose S8x8192 [1, 0] (Host.reduceAdd (mulf (shapeCast S8192x8x128 (extractStridedSlice S8192x1024 ![0, 0] g slices_S8192x2048_S8192x1024_0_0) shapeCasts_S8192x1024_S8192x8x128)
    (transpose S8192x8x128 [2, 0, 1] (Host.dotGeneral dot_S8192x8x128_S8x8192x8192_S8x128x8192_0_2_2_1_1_0 none v P : FVec Ideal S8x128x8192 .f32) transposes_S8x128x8192_S8192x8x128_2_0_1)) (constant S_ .f32 0x00000000#32) reducesTo_S8192x8x128_S8192x8_d2 h_S_ : FVec Ideal S8192x8 .f32) transposes_S8192x8_S8x8192_1_0

section Reads

variable (m : (ℓ : Loc nD τ sig) → Buf (Elt Ideal) ℓ) (c : Dev nD)

/-- An argument of the kernel. -/
abbrev kq : FVec Ideal S8192x8x192 .f32 := m ((c.tc : Thread nD τ).loc main_arg0)
abbrev kk : FVec Ideal S8192x8x192 .f32 := m ((c.tc : Thread nD τ).loc main_arg1)
abbrev kv : FVec Ideal S8192x8x128 .f32 := m ((c.tc : Thread nD τ).loc main_arg2)
abbrev kg : FVec Ideal S8192x2048 .f32 := m ((c.tc : Thread nD τ).loc main_arg3)

theorem V_q : V m c main_v37 = padK (kq m c) := by
  unfold V
  unfold_abbrev_sides
  simp only [List.flatten_cons, List.flatten_nil, List.append_nil]
  after_reads_simp
  rfl

theorem V_k : V m c main_v40 = padK (kk m c) := by
  unfold V
  unfold_abbrev_sides
  simp only [List.flatten_cons, List.flatten_nil, List.append_nil]
  after_reads_simp
  rfl

theorem V_v : V m c main_v42 = valK (kv m c) := by
  unfold V
  unfold_abbrev_sides
  simp only [List.flatten_cons, List.flatten_nil, List.append_nil]
  after_reads_simp
  rfl

theorem V_g : V m c main_v43 = (truncf .bf16 (kg m c) bitsLt_bf16_f32 : FVec Ideal S8192x2048 .bf16) := by
  unfold V
  unfold_abbrev_sides
  simp only [List.flatten_cons, List.flatten_nil, List.append_nil]
  after_reads_simp

theorem V_l : V m c main_v46 = rowK (lseK (mxA (kq m c) (kk m c)) (smA (kq m c) (kk m c))) := by
  unfold V
  unfold_abbrev_sides
  simp only [List.flatten_cons, List.flatten_nil, List.append_nil]
  after_reads_simp
  rfl

theorem V_e : V m c main_v49 = rowK (delK (kv m c) (kg m c) (prA (kq m c) (kk m c))) := by
  unfold V
  unfold_abbrev_sides
  simp only [List.flatten_cons, List.flatten_nil, List.append_nil]
  after_reads_simp
  rfl

end Reads

/-! ## The same over the reals -/

theorem log_two : ((id (Host.log (constant S_ .f32 0x40000000#32)) : FVec Ideal S_ .f32) ix0) = ((Real.log 2 : ℝ) : EReal) := by
  show Ideal.log (Ideal.ofBits .f32 0x40000000#32) = _
  rw [ofBits_two, Ideal.log_coe, if_neg (by norm_num)]

theorem log2_pos : 0 < Real.log 2 := Real.log_pos (by norm_num)

section Stages

variable {q : FVec Ideal S8192x8x192 .f32} {v : FVec Ideal S8192x8x128 .f32} {g : FVec Ideal S8192x2048 .f32} {fq fv : ℕ → ℕ → ℕ → ℝ} {fg : ℕ → ℕ → ℝ}
  {P : FVec Ideal S8x8192x8192 .f32} {M L : FVec Ideal S8x8192 .f32} {p : ℕ → ℕ → ℕ → ℝ} {fM l : ℕ → ℕ → ℝ}

theorem padK_real (hq : IsR3 (n := 8192) (k := 8) (d := 192) q fq) (hz : ∀ r h d, 192 ≤ d → fq r h d = 0) (r : Fin 8192) (h : Fin 8) (d : Fin 256) :
    padK q (ix2 r ⟨h.val * 256 + d.val, by omega⟩) = ((fq r h d : ℝ) : EReal) := by
  unfold padK
  pointwise
  split_ifs with hd
  · exact hq r h ⟨d.val, hd⟩
  · rw [hz r h d (by omega)]
    show (((0#32 : BitVec 32).toInt : ℝ) : EReal) = _
    norm_num

theorem valK_real (hv : IsR3 (n := 8192) (k := 8) (d := 128) v fv) (r : Fin 8192) (h : Fin 8) (d : Fin 128) :
    valK v (ix2 r ⟨h.val * 128 + d.val, by omega⟩) = ((fv r h d : ℝ) : EReal) := by
  unfold valK
  pointwise
  exact hv r h d

theorem rowK_at (L : FVec Ideal S8x8192 .f32) (h a : Fin 8) (r : Fin 8192) :
    rowK L (ix2 ⟨h.val * 8 + a.val, by omega⟩ r) = L (ix2 h r) := by
  unfold rowK
  pointwise

theorem lseK_real (hM : IsR2 (n := 8) (k := 8192) M fM) (hL : IsR2 (n := 8) (k := 8192) L l) (hl : ∀ h c, 0 < l h c) :
    IsR2 (n := 8) (k := 8192) (lseK M L) fun h c => (fM h c + Real.log (l h c)) / Real.log 2 := by
  intro h c
  unfold lseK
  pointwise
  rw [hM, hL, log_two, Ideal.log_coe, if_neg (not_le.mpr (hl h c)), ← EReal.coe_add, div_real log2_pos.ne']

theorem delK_real (hv : IsR3 (n := 8192) (k := 8) (d := 128) v fv)
    (hg : ∀ (c : Fin 8192) (b : ℕ) (hb : b < 1024), g (ix2 c ⟨b, by omega⟩) = ((fg c b : ℝ) : EReal)) (hP : IsR3 (n := 8) (k := 8192) (d := 8192) P p) :
    IsR2 (n := 8) (k := 8192) (delK v g P) fun h c => ∑ d : Fin 128, fg c (h * 128 + d) * ∑ r : Fin 8192, fv r h d * p h c r := by
  intro h c
  unfold delK
  pointwise
  have h1 (x : Fin 128) : g (ix2 c ⟨h.val * 128 + x.val, by omega⟩) = ((fg c (h * 128 + x) : ℝ) : EReal) := hg c _ (by omega)
  simp only [h1, hv _ _ _, hP _ _ _, ← EReal.coe_mul, ← coe_sum]

end Stages

end Cert.Attn

end
-- ==== Proof.Ref.lean ====
/- UNTRUSTED — the reference's three results over the reals. -/
module

public import proofs.«01_k».proof.Proof.Soft
public import proofs.«01_k».proof.Proof.Gen.ReferenceIdeal.Run

@[expose] public section

set_option maxRecDepth 16384

noncomputable section

namespace Cert.Attn

open Idealize.ShloMosaic Idealize.ShloMosaic.TcCoe Cert.ReferenceIdeal Cert.ReferenceIdeal.Gen

/-! ## The reference's terms, by name -/

/-- The largest scores, once more against −∞. -/
def mxR (q k : FVec Ideal S8192x8x192 .f32) : FVec Ideal S8x8192 .f32 :=
  maximumf (broadcastInDim S8x8192 ![] bcast_S_S8x8192 (constant S_ .f32 0xFF800000#32)) (mxA q k)

theorem max_neg_inf (L : FVec Ideal S8x8192 .f32) :
    (maximumf (broadcastInDim S8x8192 ![] bcast_S_S8x8192 (constant S_ .f32 0xFF800000#32)) L : FVec Ideal S8x8192 .f32) = L := by
  funext j
  idx_vars j
  pointwise
  rw [ofBits_neg_inf, max_eq_right bot_le]

theorem mxR_eq (q k : FVec Ideal S8192x8x192 .f32) : mxR q k = mxA q k := max_neg_inf (mxA q k)

/-- The exponentials, as the reference takes them. -/
def exR (q k : FVec Ideal S8192x8x192 .f32) : FVec Ideal S8x8192x8192 .f32 := Host.exp (subf (msA q k) (rowsA (mxR q k)))

theorem exR_eq (q k : FVec Ideal S8192x8x192 .f32) : exR q k = exA q k := by
  unfold exR
  rw [mxR_eq]
  rfl

/-- The output's gradient, head by head. -/
def goA (g : FVec Ideal S8192x2048 .f32) : FVec Ideal S8x128x8192 .f32 :=
  transpose S8x128x8192 [1, 2, 0] (shapeCast S8192x8x128 (extractStridedSlice S8192x1024 ![0, 0] g slices_S8192x2048_S8192x1024_0_0) shapeCasts_S8192x1024_S8192x8x128) transposes_S8192x8x128_S8x128x8192_1_2_0

/-- The probabilities' gradient. -/
def dpA (v : FVec Ideal S8192x8x128 .f32) (g : FVec Ideal S8192x2048 .f32) : FVec Ideal S8x8192x8192 .f32 :=
  Host.dotGeneral dot_S8x128x8192_S8192x8x128_S8x8192x8192_1_2_2_0_0_1 none (goA g) v

/-- One column from a row of numbers. -/
def colA (L : FVec Ideal S8x8192 .f32) : FVec Ideal S8x8192x1 .f32 := broadcastInDim S8x8192x1 ![0, 1] bcast_S8x8192_S8x8192x1_0_1 L

/-- What the row's normalisation takes off each gradient. -/
def rcA (D E : FVec Ideal S8x8192x8192 .f32) (L : FVec Ideal S8x8192 .f32) : FVec Ideal S8x8192 .f32 :=
  Host.reduceAdd (Host.negf (shapeCast S8x8192x1 (Host.reduceAdd (mulf (mulf D (broadcastInDim S8x8192x8192 ![0, 1, 2] bcast_S8x8192x1_S8x8192x8192_0_1_2 (Host.divf (broadcastInDim S8x8192x1 ![] bcast_S_S8x8192x1 (constant S_ .f32 0x3F800000#32)) (mulf (colA L) (colA L))))) E) (constant S_ .f32 0x00000000#32) reducesTo_S8x8192x8192_S8x8192_d2 h_S_) shapeCasts_S8x8192_S8x8192x1)) (constant S_ .f32 0x00000000#32) reducesTo_S8x8192x1_S8x8192_d2 h_S_

/-- The scores' gradient. -/
def dsA (D E : FVec Ideal S8x8192x8192 .f32) (L : FVec Ideal S8x8192 .f32) : FVec Ideal S8x8192x8192 .f32 :=
  Host.divf (select msk (mulf (addf (Host.divf D (rowsA L)) (broadcastInDim S8x8192x8192 ![0, 1] bcast_S8x8192_S8x8192x8192_0_1 (rcA D E L))) E) (broadcastInDim S8x8192x8192 ![] bcast_S_S8x8192x8192 (constant S_ .f32 0x00000000#32))) (broadcastInDim S8x8192x8192 ![] bcast_S_S8x8192x8192 (id (Host.sqrt (constant S_ .f32 0x43400000#32))))

/-- The value gradient. -/
def dvA (P : FVec Ideal S8x8192x8192 .f32) (g : FVec Ideal S8192x2048 .f32) : FVec Ideal S8192x8x128 .f32 :=
  transpose S8192x8x128 [2, 0, 1] (Host.dotGeneral dot_S8x128x8192_S8x8192x8192_S8x128x8192_2_1_1_2_0_0 none (goA g) P : FVec Ideal S8x128x8192 .f32) transposes_S8x128x8192_S8192x8x128_2_0_1

/-- The key gradient. -/
def dkA (D : FVec Ideal S8x8192x8192 .f32) (q : FVec Ideal S8192x8x192 .f32) : FVec Ideal S8192x8x192 .f32 :=
  transpose S8192x8x192 [1, 0, 2] (Host.dotGeneral dot_S8x8192x8192_S8192x8x192_S8x8192x192_1_0_2_2_0_1 none D q : FVec Ideal S8x8192x192 .f32) transposes_S8x8192x192_S8192x8x192_1_0_2

/-- The query gradient. -/
def dqA (D : FVec Ideal S8x8192x8192 .f32) (k : FVec Ideal S8192x8x192 .f32) : FVec Ideal S8192x8x192 .f32 :=
  transpose S8192x8x192 [1, 0, 2] (Host.dotGeneral dot_S8x8192x8192_S8192x8x192_S8x8192x192_2_0_1_2_0_1 none D k : FVec Ideal S8x8192x192 .f32) transposes_S8x8192x192_S8192x8x192_1_0_2

/-! ## The same over the reals -/

section Reals

variable (fg : ℕ → ℕ → ℝ) (fv : ℕ → ℕ → ℕ → ℝ) (e : ℕ → ℕ → ℕ → ℝ) (l : ℕ → ℕ → ℝ)

/-- The gradient of a probability. -/
def dpR (h c r : ℕ) : ℝ := ∑ d : Fin 128, fg c (h * 128 + d) * fv r h d

/-- The gradient of a score, from the probabilities' gradient `D`, the exponentials `e` and their row sums `l`. -/
def dsR (D : ℕ → ℕ → ℕ → ℝ) (h c r : ℕ) : ℝ :=
  (if r ≤ c then (D h c r / l h c + -∑ s : Fin 8192, D h c s * (1 / (l h c * l h c)) * e h c s) * e h c r else 0) / Real.sqrt 192

end Reals

section Stages

variable {q k : FVec Ideal S8192x8x192 .f32} {v : FVec Ideal S8192x8x128 .f32} {g : FVec Ideal S8192x2048 .f32} {fq fk fv : ℕ → ℕ → ℕ → ℝ} {fg : ℕ → ℕ → ℝ}
  {D E P : FVec Ideal S8x8192x8192 .f32} {L : FVec Ideal S8x8192 .f32} {fD e p : ℕ → ℕ → ℕ → ℝ} {l : ℕ → ℕ → ℝ}

/-- The columns of the output's gradient that are the attention's hold real numbers. -/
def IsGo (g : FVec Ideal S8192x2048 .f32) (fg : ℕ → ℕ → ℝ) : Prop :=
  ∀ (c : Fin 8192) (b : ℕ) (hb : b < 1024), g (ix2 c ⟨b, by omega⟩) = ((fg c b : ℝ) : EReal)

theorem goA_real (hg : IsGo g fg) : IsR3 (n := 8) (k := 128) (d := 8192) (goA g) fun h d c => fg c (h * 128 + d) := by
  intro h d c
  unfold goA
  pointwise
  exact hg c _ (by omega)

theorem dpA_real (hg : IsGo g fg) (hv : IsR3 (n := 8192) (k := 8) (d := 128) v fv) :
    IsR3 (n := 8) (k := 8192) (d := 8192) (dpA v g) (dpR fg fv) := by
  intro h c r
  unfold dpA dpR
  pointwise
  simp only [goA_real hg _ _ _, hv _ _ _, ← EReal.coe_mul, ← coe_sum]

theorem rcA_real (hD : IsR3 (n := 8) (k := 8192) (d := 8192) D fD) (hE : IsR3 (n := 8) (k := 8192) (d := 8192) E e) (hL : IsR2 (n := 8) (k := 8192) L l)
    (hl : ∀ h c, l h c ≠ 0) : IsR2 (n := 8) (k := 8192) (rcA D E L) fun h c => -∑ s : Fin 8192, fD h c s * (1 / (l h c * l h c)) * e h c s := by
  intro h c
  have hc (z : Fin 1) : (colA L) (ix3 h c z) = ((l h c : ℝ) : EReal) := by
    unfold colA
    pointwise
    exact hL h c
  unfold rcA
  pointwise
  simp only [hc, hD _ _ _, hE _ _ _, Ideal.ofBits_one_f32, ← EReal.coe_one, ← EReal.coe_mul, div_real (mul_ne_zero (hl h c) (hl h c)), ← coe_sum, ← EReal.coe_neg, Finset.sum_const, Finset.card_univ, Fintype.card_fin, one_smul]

theorem dsA_real (hD : IsR3 (n := 8) (k := 8192) (d := 8192) D fD) (hE : IsR3 (n := 8) (k := 8192) (d := 8192) E e) (hL : IsR2 (n := 8) (k := 8192) L l)
    (hl : ∀ h c, l h c ≠ 0) : IsR3 (n := 8) (k := 8192) (d := 8192) (dsA D E L) (dsR e l fD) := by
  intro h c r
  unfold dsA dsR
  pointwise
  rw [root192, msk_at, rowsA_at, hD, hE, hL, rcA_real hD hE hL hl, div_real (hl h c), ← EReal.coe_add, ← EReal.coe_mul]
  split_ifs
  · exact div_real sqrt192_pos.ne' _
  · exact div_real sqrt192_pos.ne' _

theorem dvA_real (hg : IsGo g fg) (hP : IsR3 (n := 8) (k := 8192) (d := 8192) P p) :
    IsR3 (n := 8192) (k := 8) (d := 128) (dvA P g) fun r h b => ∑ c : Fin 8192, fg c (h * 128 + b) * p h c r := by
  intro r h b
  unfold dvA
  pointwise
  simp only [goA_real hg _ _ _, hP _ _ _, ← EReal.coe_mul, ← coe_sum]

theorem dkA_real (hD : IsR3 (n := 8) (k := 8192) (d := 8192) D fD) (hq : IsR3 (n := 8192) (k := 8) (d := 192) q fq) :
    IsR3 (n := 8192) (k := 8) (d := 192) (dkA D q) fun r h b => ∑ c : Fin 8192, fD h c r * fq c h b := by
  intro r h b
  unfold dkA
  pointwise
  simp only [hD _ _ _, hq _ _ _, ← EReal.coe_mul, ← coe_sum]

theorem dqA_real (hD : IsR3 (n := 8) (k := 8192) (d := 8192) D fD) (hk : IsR3 (n := 8192) (k := 8) (d := 192) k fk) :
    IsR3 (n := 8192) (k := 8) (d := 192) (dqA D k) fun c h b => ∑ r : Fin 8192, fD h c r * fk r h b := by
  intro c h b
  unfold dqA
  pointwise
  simp only [hD _ _ _, hk _ _ _, ← EReal.coe_mul, ← coe_sum]

end Stages

/-! ## The reference's results are these terms -/

section Results

variable (m : (ℓ : Loc nD τ sig) → Buf (Elt Ideal) ℓ) (c : Dev nD)

/-- An argument of the reference. -/
abbrev rq : FVec Ideal S8192x8x192 .f32 := m ((c.tc : Thread nD τ).loc main_arg0)
abbrev rk : FVec Ideal S8192x8x192 .f32 := m ((c.tc : Thread nD τ).loc main_arg1)
abbrev rv : FVec Ideal S8192x8x128 .f32 := m ((c.tc : Thread nD τ).loc main_arg2)
abbrev rg : FVec Ideal S8192x2048 .f32 := m ((c.tc : Thread nD τ).loc main_arg3)

theorem res2_eq : Value.res_out2 m c = dvA (Host.divf (exR (rq m c) (rk m c)) (rowsA (Host.reduceAdd (exR (rq m c) (rk m c)) (constant S_ .f32 0x00000000#32) reducesTo_S8x8192x8192_S8x8192_d2 h_S_))) (rg m c) := rfl

theorem res1_eq : Value.res_out1 m c = dkA (dsA (dpA (rv m c) (rg m c)) (exR (rq m c) (rk m c)) (Host.reduceAdd (exR (rq m c) (rk m c)) (constant S_ .f32 0x00000000#32) reducesTo_S8x8192x8192_S8x8192_d2 h_S_)) (rq m c) := rfl

theorem res0_eq : Value.res_out0 m c = dqA (dsA (dpA (rv m c) (rg m c)) (exR (rq m c) (rk m c)) (Host.reduceAdd (exR (rq m c) (rk m c)) (constant S_ .f32 0x00000000#32) reducesTo_S8x8192x8192_S8x8192_d2 h_S_)) (rk m c) := rfl

end Results

end Cert.Attn

end
-- ==== Proof.Same.lean ====
/- UNTRUSTED — the kernel's gradients and the reference's are the same real numbers. -/
module

public import proofs.«01_k».proof.Proof.HostK
public import proofs.«01_k».proof.Proof.Ref

@[expose] public section

set_option maxRecDepth 16384

noncomputable section

namespace Cert.Attn

open Idealize.ShloMosaic

variable (fq fk fv : ℕ → ℕ → ℕ → ℝ) (fg M : ℕ → ℕ → ℝ)

/-- A row's inner product of the attention's output with its gradient. -/
def delR (h c : ℕ) : ℝ := ∑ d : Fin 128, fg c (h * 128 + d) * ∑ r : Fin 8192, fv r h d * pR fq fk M h c r

/-- What the kernel's gradient of head `h` reads. -/
def headR (h : ℕ) : Head where
  q r d := fq r h d
  k r d := fk r h d
  v r d := fv r h d
  o r d := fg r (h * 128 + d)
  l c := (M h c + Real.log (lR fq fk M h c)) / Real.log 2
  e c := delR fq fk fv fg M h c

/-- The kernel's score over 256 columns is the one over 192: the others are zero. -/
theorem headR_s (hz : ∀ r h d, 192 ≤ d → fq r h d = 0) (h r c : ℕ) :
    (headR fq fk fv fg M h).s r c * csc = sR fq fk h c r := by
  unfold Head.s sR headR csc
  rw [Fin.sum_univ_add (a := 192) (b := 64) fun d : Fin 256 => fk r h d * fq c h d, Finset.sum_eq_zero (s := (Finset.univ : Finset (Fin 64))), add_zero, div_eq_mul_inv]
  · simp only [Fin.val_castAdd, mul_comm]
  · intro d _
    rw [hz c h _ (by simp), mul_zero]

theorem headR_p (hz : ∀ r h d, 192 ≤ d → fq r h d = 0) (h r c : ℕ) : (headR fq fk fv fg M h).p r c = pR fq fk M h c r := by
  unfold Head.p pR eR
  split_ifs
  · have h2 := log2_pos.ne'
    unfold Head.pf
    rw [← mul_assoc, headR_s fq fk fv fg M hz]
    show (2 : ℝ) ^ (sR fq fk h c r * cl2 - (M h c + Real.log (lR fq fk M h c)) / Real.log 2) = _
    rw [Real.rpow_def_of_pos (by norm_num), show Real.log 2 * (sR fq fk h c r * cl2 - (M h c + Real.log (lR fq fk M h c)) / Real.log 2)
      = (sR fq fk h c r - M h c) - Real.log (lR fq fk M h c) by unfold cl2; field_simp; ring, Real.exp_sub, Real.exp_log (lR_pos fq fk M h c)]
  · rw [zero_div]

theorem headR_dp (h r c : ℕ) : (headR fq fk fv fg M h).dp r c = dpR fg fv h c r :=
  Finset.sum_congr rfl fun _ _ => mul_comm _ _

/-- The inner product of output and gradient is the probabilities' against theirs. -/
theorem delR_eq (h c : ℕ) : delR fq fk fv fg M h c = ∑ s : Fin 8192, dpR fg fv h c s * pR fq fk M h c s := by
  unfold delR dpR
  simp only [Finset.mul_sum, Finset.sum_mul]
  rw [Finset.sum_comm]
  exact Finset.sum_congr rfl fun _ _ => Finset.sum_congr rfl fun _ _ => (mul_assoc _ _ _).symm

theorem headR_ds (hz : ∀ r h d, 192 ≤ d → fq r h d = 0) (h r c : ℕ) :
    (headR fq fk fv fg M h).ds r c = dsR (eR fq fk M) (lR fq fk M) (dpR fg fv) h c r := by
  have hl := (lR_pos fq fk M h c).ne'
  unfold Head.ds dsR
  rw [headR_p fq fk fv fg M hz, headR_dp, csc, div_eq_mul_inv]
  congr 1
  split_ifs with hrc
  · show pR fq fk M h c r * (dpR fg fv h c r - delR fq fk fv fg M h c) = _
    rw [delR_eq, show ∑ s : Fin 8192, dpR fg fv h c s * (1 / (lR fq fk M h c * lR fq fk M h c)) * eR fq fk M h c s
        = (∑ s : Fin 8192, dpR fg fv h c s * pR fq fk M h c s) / lR fq fk M h c from ?_]
    · unfold pR
      field_simp
      ring
    · rw [Finset.sum_div]
      refine Finset.sum_congr rfl fun s _ => ?_
      unfold pR
      field_simp
  · unfold pR eR
    rw [if_neg hrc, zero_div, zero_mul]

theorem dv_same (hz : ∀ r h d, 192 ≤ d → fq r h d = 0) (h r b : ℕ) :
    ∑ c : Fin 8192, fg c (h * 128 + b) * pR fq fk M h c r = (headR fq fk fv fg M h).dv 8192 r b := by
  unfold Head.dv
  rw [Finset.sum_range]
  exact Finset.sum_congr rfl fun c _ => by rw [headR_p fq fk fv fg M hz, mul_comm]; rfl

theorem dk_same (hz : ∀ r h d, 192 ≤ d → fq r h d = 0) (h r b : ℕ) :
    ∑ c : Fin 8192, dsR (eR fq fk M) (lR fq fk M) (dpR fg fv) h c r * fq c h b = (headR fq fk fv fg M h).dk 8192 r b := by
  unfold Head.dk
  rw [Finset.sum_range]
  exact Finset.sum_congr rfl fun c _ => by rw [headR_ds fq fk fv fg M hz]; rfl

theorem dq_same (hz : ∀ r h d, 192 ≤ d → fq r h d = 0) (h c b : ℕ) :
    ∑ r : Fin 8192, dsR (eR fq fk M) (lR fq fk M) (dpR fg fv) h c r * fk r h b = (headR fq fk fv fg M h).dq 8192 c b := by
  unfold Head.dq
  rw [Finset.sum_range]
  exact Finset.sum_congr rfl fun c _ => by rw [headR_ds fq fk fv fg M hz]; rfl

end Cert.Attn

end
-- ==== Proof.Final.lean ====
/- UNTRUSTED — the three gradient arrays the grid leaves. -/
module

public import proofs.«01_k».proof.Proof.Outs

@[expose] public section

set_option maxRecDepth 16384

noncomputable section

namespace Cert.Attn

open Idealize.ShloMosaic Idealize.ShloMosaic.TcCoe Cert.KernelIdeal Cert.KernelIdeal.Gen

variable (m : (ℓ : Loc nD τ sig) → Buf (Elt Ideal) ℓ) (c : Dev nD)

/-- A gradient of every head, side by side: `w` columns a head. -/
def sideBySide {n k : ℕ} (w : ℕ) (f : ℕ → ℕ → ℕ → ℝ) : (⟨2, ![n, k]⟩ : Shape).Idx → EReal :=
  fun j => ((f ((j 1).val / w) (j 0).val ((j 1).val % w) : ℝ) : EReal)

theorem sideBySide_ix2 {n k : ℕ} (w : ℕ) (f : ℕ → ℕ → ℕ → ℝ) (a : Fin n) (b : Fin k) :
    (sideBySide w f : (⟨2, ![n, k]⟩ : Shape).Idx → EReal) (ix2 a b) = ((f (b.val / w) a.val (b.val % w) : ℝ) : EReal) := rfl

/-- Window 6's block of any contents of its array, at an index. -/
theorem blk6_eq (A : Vec Ideal S8192x2048 .f32) (t : Fin cfg0.N) (a : Fin 512) (b : Fin 256) :
    (((cfg0.win 6).blk t).view.read (Elt Ideal) A : Vec Ideal S512x256 .f32) (ix2 a b) = A (ix2 ⟨(t.val % 16) * 512 + a, by have := pt_lt t; omega⟩ ⟨(t.val / 16) * 256 + b, by have := pt_lt t; omega⟩ : S8192x2048.Idx) := by
  have hi := idx6 t
  rw [View.read_apply]
  refine congrArg A (funext fun x => Fin.ext ?_)
  match x with
  | ⟨0, _⟩ => show win0_6.index t 0 * 512 + 1 * (a : ℕ) = _; rw [hi.1, one_mul]; rfl
  | ⟨1, _⟩ => show win0_6.index t 1 * 256 + 1 * (b : ℕ) = _; rw [hi.2, one_mul]; rfl

/-- Window 7's block of any contents of its array, at an index. -/
theorem blk7_eq (A : Vec Ideal S8192x2048 .f32) (t : Fin cfg0.N) (a : Fin 8192) (b : Fin 256) :
    (((cfg0.win 7).blk t).view.read (Elt Ideal) A : Vec Ideal S8192x256 .f32) (ix2 a b) = A (ix2 ⟨0 * 8192 + a, by have := pt_lt t; omega⟩ ⟨(t.val / 16) * 256 + b, by have := pt_lt t; omega⟩ : S8192x2048.Idx) := by
  have hi := idx7 t
  rw [View.read_apply]
  refine congrArg A (funext fun x => Fin.ext ?_)
  match x with
  | ⟨0, _⟩ => show win0_7.index t 0 * 8192 + 1 * (a : ℕ) = _; rw [hi.1, one_mul]; rfl
  | ⟨1, _⟩ => show win0_7.index t 1 * 256 + 1 * (b : ℕ) = _; rw [hi.2, one_mul]; rfl

/-- Window 8's block of any contents of its array, at an index. -/
theorem blk8_eq (A : Vec Ideal S8192x1024 .f32) (t : Fin cfg0.N) (a : Fin 8192) (b : Fin 128) :
    (((cfg0.win 8).blk t).view.read (Elt Ideal) A : Vec Ideal S8192x128 .f32) (ix2 a b) = A (ix2 ⟨0 * 8192 + a, by have := pt_lt t; omega⟩ ⟨(t.val / 16) * 128 + b, by have := pt_lt t; omega⟩ : S8192x1024.Idx) := by
  have hi := idx8 t
  rw [View.read_apply]
  refine congrArg A (funext fun x => Fin.ext ?_)
  match x with
  | ⟨0, _⟩ => show win0_8.index t 0 * 8192 + 1 * (a : ℕ) = _; rw [hi.1, one_mul]; rfl
  | ⟨1, _⟩ => show win0_8.index t 1 * 128 + 1 * (b : ℕ) = _; rw [hi.2, one_mul]; rfl

variable (Y : ℕ → Head) (hY : ∀ h (hh : h < 8), HeadIns m c (Y h) h hh)

include hY in
/-- What window 6 writes back is its block of the heads' gradients. -/
theorem flushed6 (t : Fin cfg0.N) (hf : (cfg0.win 6).flush t = true) :
    (dats m 0 c).flushed 6 t = ((cfg0.win 6).blk t).view.read (Elt Ideal) (sideBySide 256 fun h => (Y h).dq 8192 : Vec Ideal S8192x2048 .f32) := by
  have hlt := pt_lt t
  have ho := (outs_eq m c Y hY t.val t.isLt).1
  show (cfg0.win 6).cut (grid0.coords t) ((dats m 0 c).after 6 t) = _
  rw [after0_6]
  generalize (outsAt0 m c t.val t.isLt).1 = y at ho ⊢
  funext (j : S512x256.Idx)
  idx_vars j
  refine Eq.trans ?_ (blk6_eq _ t j0 j1).symm
  refine Eq.trans (ho j0 j1) ?_
  rw [sideBySide_ix2]
  generalize j0 = a
  generalize j1 = b
  dsimp only
  rw [show (t.val / 16 * 256 + (b : ℕ)) / 256 = t.val / 16 by omega, show (t.val / 16 * 256 + (b : ℕ)) % 256 = b by omega, Nat.mul_comm (t.val % 16)]
  exact congrArg _ (Head.dq_full _ 8192 b (by omega) (by omega)).symm

include hY in
/-- The array of window 6 ends holding every head's gradient. -/
theorem final6 : (dats m 0 c).arrAt 6 cfg0.N = (sideBySide 256 fun h => (Y h).dq 8192 : Vec Ideal S8192x2048 .f32) :=
  (dats m 0 c).arrAt_eq_of_cover 6 _ (flushed6 m c Y hY) fun i => by
    have h0 : (i 0 : Nat) < 8192 := (i 0).isLt
    have h1 : (i 1 : Nat) < 2048 := (i 1).isLt
    refine ⟨⟨(i 1).val / 256 * 16 + (i 0).val / 512, lt_of_lt_of_eq (by omega) N_0.symm⟩, flush0_6 _, ?_⟩
    generalize ht : (⟨_, _⟩ : Fin cfg0.N) = t
    have hv : t.val = _ := congrArg Fin.val ht.symm
    have hi := idx6 t
    show i ∈ ((View.whole main_v50_0).slice (win0_6.rect t)).set
    rw [View.set_slice_whole, Rect.mem_set_unit]
    intro x
    match x with
    | ⟨0, _⟩ => show win0_6.index t 0 * 512 ≤ (i 0 : Nat) ∧ (i 0 : Nat) < win0_6.index t 0 * 512 + 512
                rw [hi.1]; dsimp only at hv; omega
    | ⟨1, _⟩ => show win0_6.index t 1 * 256 ≤ (i 1 : Nat) ∧ (i 1 : Nat) < win0_6.index t 1 * 256 + 256
                rw [hi.2]; dsimp only at hv; omega

include hY in
/-- What window 7 writes back is its block of the heads' gradients. -/
theorem flushed7 (t : Fin cfg0.N) (hf : (cfg0.win 7).flush t = true) :
    (dats m 0 c).flushed 7 t = ((cfg0.win 7).blk t).view.read (Elt Ideal) (sideBySide 256 fun h => (Y h).dk 8192 : Vec Ideal S8192x2048 .f32) := by
  have h15 : t.val % 16 = 15 := (flush0_7 t).mp hf
  have hlt := pt_lt t
  have ho := (outs_eq m c Y hY t.val t.isLt).2.1
  show (cfg0.win 7).cut (grid0.coords t) ((dats m 0 c).after 7 t) = _
  rw [after0_7]
  generalize (outsAt0 m c t.val t.isLt).2.1 = y at ho ⊢
  funext (j : S8192x256.Idx)
  idx_vars j
  refine Eq.trans ?_ (blk7_eq _ t j0 j1).symm
  refine Eq.trans (ho j0 j1) ?_
  rw [sideBySide_ix2]
  generalize j0 = a
  generalize j1 = b
  dsimp only
  rw [show (t.val / 16 * 256 + (b : ℕ)) / 256 = t.val / 16 by omega, show (t.val / 16 * 256 + (b : ℕ)) % 256 = b by omega, h15, Nat.zero_mul]

include hY in
/-- The array of window 7 ends holding every head's gradient. -/
theorem final7 : (dats m 0 c).arrAt 7 cfg0.N = (sideBySide 256 fun h => (Y h).dk 8192 : Vec Ideal S8192x2048 .f32) :=
  (dats m 0 c).arrAt_eq_of_cover 7 _ (flushed7 m c Y hY) fun i => by
    have h0 : (i 0 : Nat) < 8192 := (i 0).isLt
    have h1 : (i 1 : Nat) < 2048 := (i 1).isLt
    refine ⟨⟨(i 1).val / 256 * 16 + 15, lt_of_lt_of_eq (by omega) N_0.symm⟩, (flush0_7 _).mpr (by show ((i 1).val / 256 * 16 + 15) % 16 = 15; omega), ?_⟩
    generalize ht : (⟨_, _⟩ : Fin cfg0.N) = t
    have hv : t.val = _ := congrArg Fin.val ht.symm
    have hi := idx7 t
    show i ∈ ((View.whole main_v50_1).slice (win0_7.rect t)).set
    rw [View.set_slice_whole, Rect.mem_set_unit]
    intro x
    match x with
    | ⟨0, _⟩ => show win0_7.index t 0 * 8192 ≤ (i 0 : Nat) ∧ (i 0 : Nat) < win0_7.index t 0 * 8192 + 8192
                rw [hi.1]; dsimp only at hv; omega
    | ⟨1, _⟩ => show win0_7.index t 1 * 256 ≤ (i 1 : Nat) ∧ (i 1 : Nat) < win0_7.index t 1 * 256 + 256
                rw [hi.2]; dsimp only at hv; omega

include hY in
/-- What window 8 writes back is its block of the heads' gradients. -/
theorem flushed8 (t : Fin cfg0.N) (hf : (cfg0.win 8).flush t = true) :
    (dats m 0 c).flushed 8 t = ((cfg0.win 8).blk t).view.read (Elt Ideal) (sideBySide 128 fun h => (Y h).dv 8192 : Vec Ideal S8192x1024 .f32) := by
  have h15 : t.val % 16 = 15 := (flush0_8 t).mp hf
  have hlt := pt_lt t
  have ho := (outs_eq m c Y hY t.val t.isLt).2.2
  show (cfg0.win 8).cut (grid0.coords t) ((dats m 0 c).after 8 t) = _
  rw [after0_8]
  generalize (outsAt0 m c t.val t.isLt).2.2 = y at ho ⊢
  funext (j : S8192x128.Idx)
  idx_vars j
  refine Eq.trans ?_ (blk8_eq _ t j0 j1).symm
  refine Eq.trans (ho j0 j1) ?_
  rw [sideBySide_ix2]
  generalize j0 = a
  generalize j1 = b
  dsimp only
  rw [show (t.val / 16 * 128 + (b : ℕ)) / 128 = t.val / 16 by omega, show (t.val / 16 * 128 + (b : ℕ)) % 128 = b by omega, h15, Nat.zero_mul]

include hY in
/-- The array of window 8 ends holding every head's gradient. -/
theorem final8 : (dats m 0 c).arrAt 8 cfg0.N = (sideBySide 128 fun h => (Y h).dv 8192 : Vec Ideal S8192x1024 .f32) :=
  (dats m 0 c).arrAt_eq_of_cover 8 _ (flushed8 m c Y hY) fun i => by
    have h0 : (i 0 : Nat) < 8192 := (i 0).isLt
    have h1 : (i 1 : Nat) < 1024 := (i 1).isLt
    refine ⟨⟨(i 1).val / 128 * 16 + 15, lt_of_lt_of_eq (by omega) N_0.symm⟩, (flush0_8 _).mpr (by show ((i 1).val / 128 * 16 + 15) % 16 = 15; omega), ?_⟩
    generalize ht : (⟨_, _⟩ : Fin cfg0.N) = t
    have hv : t.val = _ := congrArg Fin.val ht.symm
    have hi := idx8 t
    show i ∈ ((View.whole main_v50_2).slice (win0_8.rect t)).set
    rw [View.set_slice_whole, Rect.mem_set_unit]
    intro x
    match x with
    | ⟨0, _⟩ => show win0_8.index t 0 * 8192 ≤ (i 0 : Nat) ∧ (i 0 : Nat) < win0_8.index t 0 * 8192 + 8192
                rw [hi.1]; dsimp only at hv; omega
    | ⟨1, _⟩ => show win0_8.index t 1 * 128 ≤ (i 1 : Nat) ∧ (i 1 : Nat) < win0_8.index t 1 * 128 + 128
                rw [hi.2]; dsimp only at hv; omega

end Cert.Attn

end
-- ==== Proof.Tail.lean ====
/- UNTRUSTED — the host's lines after the grid: the three results. -/
module

public import proofs.«01_k».proof.Proof.Final
public import Idealize.ShloMosaic.Lib.StableHlo.RunRead

@[expose] public section

set_option maxRecDepth 16384

noncomputable section

namespace Cert.Attn

open Idealize.ShloMosaic Idealize.ShloMosaic.TcCoe Cert.KernelIdeal Cert.KernelIdeal.Gen

variable (m : (ℓ : Loc nD τ sig) → Buf (Elt Ideal) ℓ) (c : Dev nD)

/-- Columns `256 h + d` of a two-dimensional array, cut into heads of 256 columns, of which the first 192 are kept. -/
theorem heads_cut (A : Vec Ideal S8192x2048 .f32) (r : Fin 8192) (h : Fin 8) (d : Fin 192) :
    (extractStridedSlice S8192x8x192 ![0, 0, 0] (shapeCast S8192x8x256 A shapeCasts_S8192x2048_S8192x8x256) slices_S8192x8x256_S8192x8x192_0_0_0
      : Vec Ideal S8192x8x192 .f32) (ix3 r h d) = A (ix2 r ⟨h.val * 256 + d.val, by omega⟩) := by
  pointwise

/-- Columns `128 h + d` of a two-dimensional array, cut into heads of 128 columns. -/
theorem heads_whole (A : Vec Ideal S8192x1024 .f32) (r : Fin 8192) (h : Fin 8) (d : Fin 128) :
    (shapeCast S8192x8x128 A shapeCasts_S8192x1024_S8192x8x128
      : Vec Ideal S8192x8x128 .f32) (ix3 r h d) = A (ix2 r ⟨h.val * 128 + d.val, by omega⟩) := by
  pointwise

/-- The first result: the first array of the grid, cut into heads. -/
theorem tail_0 : Pipeline.afterTail₀ cfgs (dats m) 0 (V0 m) [hostOps1] c main_v52
    = (extractStridedSlice S8192x8x192 ![0, 0, 0] (shapeCast S8192x8x256 ((dats m 0 c).arrAt 6 cfg0.N : Vec Ideal S8192x2048 .f32) shapeCasts_S8192x2048_S8192x8x256) slices_S8192x8x256_S8192x8x192_0_0_0
      : Vec Ideal S8192x8x192 .f32) := by
  unfold Pipeline.afterTail₀
  simp only [List.flatten_cons, List.flatten_nil, List.append_nil]
  generalize (dats m 0 c).arrAt = A
  generalize V0 m c = W
  after_results
  rw [show Pipeline.withArrays (cfgs 0).spec c W (fun w => A w (cfgs 0).N) (Proc.devRef .tc main_v50_0) = A 6 cfg0.N from
    Pipeline.withArrays_arr spec0 (by decide) c W _ 6]
  rfl

/-- The second result: the second array of the grid, cut into heads. -/
theorem tail_1 : Pipeline.afterTail₀ cfgs (dats m) 0 (V0 m) [hostOps1] c main_v54
    = (extractStridedSlice S8192x8x192 ![0, 0, 0] (shapeCast S8192x8x256 ((dats m 0 c).arrAt 7 cfg0.N : Vec Ideal S8192x2048 .f32) shapeCasts_S8192x2048_S8192x8x256) slices_S8192x8x256_S8192x8x192_0_0_0
      : Vec Ideal S8192x8x192 .f32) := by
  unfold Pipeline.afterTail₀
  simp only [List.flatten_cons, List.flatten_nil, List.append_nil]
  generalize (dats m 0 c).arrAt = A
  generalize V0 m c = W
  after_results
  rw [show Pipeline.withArrays (cfgs 0).spec c W (fun w => A w (cfgs 0).N) (Proc.devRef .tc main_v50_1) = A 7 cfg0.N from
    Pipeline.withArrays_arr spec0 (by decide) c W _ 7]
  rfl

/-- The third result: the third array of the grid, cut into heads. -/
theorem tail_2 : Pipeline.afterTail₀ cfgs (dats m) 0 (V0 m) [hostOps1] c main_v55
    = (shapeCast S8192x8x128 ((dats m 0 c).arrAt 8 cfg0.N : Vec Ideal S8192x1024 .f32) shapeCasts_S8192x1024_S8192x8x128 : Vec Ideal S8192x8x128 .f32) := by
  unfold Pipeline.afterTail₀
  simp only [List.flatten_cons, List.flatten_nil, List.append_nil]
  generalize (dats m 0 c).arrAt = A
  generalize V0 m c = W
  after_results
  rw [show Pipeline.withArrays (cfgs 0).spec c W (fun w => A w (cfgs 0).N) (Proc.devRef .tc main_v50_2) = A 8 cfg0.N from
    Pipeline.withArrays_arr spec0 (by decide) c W _ 8]
  rfl

/-- A gradient of every head as the three-dimensional result: position, head, column. -/
def byHead {n k d : ℕ} (f : ℕ → ℕ → ℕ → ℝ) : (⟨3, ![n, k, d]⟩ : Shape).Idx → EReal :=
  fun j => ((f (j 1).val (j 0).val (j 2).val : ℝ) : EReal)

theorem byHead_ix3 {n k d : ℕ} (f : ℕ → ℕ → ℕ → ℝ) (a : Fin n) (b : Fin k) (e : Fin d) :
    (byHead f : (⟨3, ![n, k, d]⟩ : Shape).Idx → EReal) (ix3 a b e) = ((f b.val a.val e.val : ℝ) : EReal) := rfl

theorem heads_cut_sideBySide (f : ℕ → ℕ → ℕ → ℝ) :
    (extractStridedSlice S8192x8x192 ![0, 0, 0] (shapeCast S8192x8x256 (sideBySide 256 f : Vec Ideal S8192x2048 .f32) shapeCasts_S8192x2048_S8192x8x256) slices_S8192x8x256_S8192x8x192_0_0_0
      : Vec Ideal S8192x8x192 .f32) = byHead f := by
  funext j
  idx_vars j
  rw [heads_cut, sideBySide_ix2, byHead_ix3]
  dsimp only
  rw [show ((j1 : ℕ) * 256 + j2) / 256 = j1 by omega, show ((j1 : ℕ) * 256 + j2) % 256 = j2 by omega]

theorem heads_whole_sideBySide (f : ℕ → ℕ → ℕ → ℝ) :
    (shapeCast S8192x8x128 (sideBySide 128 f : Vec Ideal S8192x1024 .f32) shapeCasts_S8192x1024_S8192x8x128
      : Vec Ideal S8192x8x128 .f32) = byHead f := by
  funext j
  idx_vars j
  rw [heads_whole, sideBySide_ix2, byHead_ix3]
  dsimp only
  rw [show ((j1 : ℕ) * 128 + j2) / 128 = j1 by omega, show ((j1 : ℕ) * 128 + j2) % 128 = j2 by omega]

/-- The kernel's run: its three results are the heads' gradients, and its arguments are unchanged. -/
theorem kernel_run (ρ : Dev nD → PrngReg) (Y : Dev nD → ℕ → Head) (hY : ∀ c h (hh : h < 8), HeadIns m c (Y c h) h hh) :
    θ_run defs (onTc (τ := τ) (main (F := Ideal))) ⟨m, fun _ => 0, ρ⟩ fun r => ∀ c : Dev nD,
      r.2.mem ((c.tc : Thread nD τ).loc main_v52) = (byHead fun h => (Y c h).dq 8192 : Vec Ideal S8192x8x192 .f32)
      ∧ r.2.mem ((c.tc : Thread nD τ).loc main_v54) = (byHead fun h => (Y c h).dk 8192 : Vec Ideal S8192x8x192 .f32)
      ∧ r.2.mem ((c.tc : Thread nD τ).loc main_v55) = (byHead fun h => (Y c h).dv 8192 : Vec Ideal S8192x8x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v52 (Pipeline.mem_restRefs_of main_v52 (by decide) (by decide))).trans
        ((tail_0 m c).trans (by rw [final6 m c (Y c) (hY c)]; exact heads_cut_sideBySide _)),
     ((h c).2 main_v54 (Pipeline.mem_restRefs_of main_v54 (by decide) (by decide))).trans
        ((tail_1 m c).trans (by rw [final7 m c (Y c) (hY c)]; exact heads_cut_sideBySide _)),
     ((h c).2 main_v55 (Pipeline.mem_restRefs_of main_v55 (by decide) (by decide))).trans
        ((tail_2 m c).trans (by rw [final8 m c (Y c) (hY c)]; exact heads_whole_sideBySide _)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.Attn

end
-- ==== Proof.Pre.lean ====
/- UNTRUSTED — the precondition: the attention's arguments hold real numbers. -/
module

public import proofs.«01_k».proof.Proof.Ref
public import proofs.«01_k».proof.Defs

@[expose] public section

set_option maxRecDepth 16384

noncomputable section

namespace Cert.Attn

open Idealize.ShloMosaic

/-- The predicate's own side conditions. -/
theorem preFacts : Cert.Pre_finite.Facts where
  bcast_S_S8192x8x192 := by decide
  bcast_S_S8192x8x128 := by decide
  slices_S8192x2048_S8192x1024_0_0 := by decide
  bcast_S_S8192x1024 := by decide

theorem finite_of {x : EReal} (h : Ideal.cmp .olt (max x (-x)) (Ideal.ofBits .f32 0x7F800000#32) = 1#1) : ((x.toReal : ℝ) : EReal) = x := by
  have ht : Ideal.ofBits .f32 0x7F800000#32 = (⊤ : EReal) := by simp [Ideal.ofBits, Ideal.ieee]
  rw [ht] at h
  have hlt : max x (-x) < ⊤ := by
    by_contra hn
    simp [Ideal.cmp, hn] at h
  refine EReal.coe_toReal (fun hx => ?_) (fun hx => ?_)
  · subst hx; simp at hlt
  · subst hx; simp at hlt

/-- The real array a three-dimensional array holds, zero outside it. -/
def at3 {n k d : ℕ} (A : (⟨3, ![n, k, d]⟩ : Shape).Idx → EReal) (a b e : ℕ) : ℝ :=
  if h : a < n ∧ b < k ∧ e < d then (A (ix3 ⟨a, h.1⟩ ⟨b, h.2.1⟩ ⟨e, h.2.2⟩)).toReal else 0

/-- The real array a two-dimensional array holds, zero outside it. -/
def at2 {n k : ℕ} (A : (⟨2, ![n, k]⟩ : Shape).Idx → EReal) (a b : ℕ) : ℝ :=
  if h : a < n ∧ b < k then (A (ix2 ⟨a, h.1⟩ ⟨b, h.2⟩)).toReal else 0

theorem at3_zero {n k d : ℕ} (A : (⟨3, ![n, k, d]⟩ : Shape).Idx → EReal) (a b e : ℕ) (h : d ≤ e) : at3 A a b e = 0 := dif_neg (by omega)

theorem at3_real {n k d : ℕ} {A : (⟨3, ![n, k, d]⟩ : Shape).Idx → EReal} (h : ∀ i, (((A i).toReal : ℝ) : EReal) = A i) : IsR3 A (at3 A) := fun a b e => by
  unfold at3
  rw [dif_pos ⟨a.isLt, b.isLt, e.isLt⟩]
  exact (h _).symm

section

variable (x0 x1 : FVec Ideal Cert.Pre_finite.S8192x8x192 .f32) (x2 : FVec Ideal Cert.Pre_finite.S8192x8x128 .f32) (x3 : FVec Ideal Cert.Pre_finite.S8192x2048 .f32)

theorem pre0 [Cert.Pre_finite.Facts] (h : (Cert.Pre_finite.fn (F := Ideal) x0 x1 x2 x3).1 = fun _ => 1#1) : IsR3 (n := 8192) (k := 8) (d := 192) x0 (at3 (n := 8192) (k := 8) (d := 192) x0) := by
  refine at3_real fun i => finite_of ?_
  have := congrFun h i
  exact this

theorem pre1 [Cert.Pre_finite.Facts] (h : (Cert.Pre_finite.fn (F := Ideal) x0 x1 x2 x3).2.1 = fun _ => 1#1) : IsR3 (n := 8192) (k := 8) (d := 192) x1 (at3 (n := 8192) (k := 8) (d := 192) x1) := by
  refine at3_real fun i => finite_of ?_
  have := congrFun h i
  exact this

theorem pre2 [Cert.Pre_finite.Facts] (h : (Cert.Pre_finite.fn (F := Ideal) x0 x1 x2 x3).2.2.1 = fun _ => 1#1) : IsR3 (n := 8192) (k := 8) (d := 128) x2 (at3 (n := 8192) (k := 8) (d := 128) x2) := by
  refine at3_real fun i => finite_of ?_
  have := congrFun h i
  exact this

theorem pre3 [Cert.Pre_finite.Facts] (h : (Cert.Pre_finite.fn (F := Ideal) x0 x1 x2 x3).2.2.2 = fun _ => 1#1) : IsGo x3 (at2 (n := 8192) (k := 2048) x3) := by
  intro c b hb
  unfold at2
  rw [dif_pos ⟨c.isLt, by omega⟩]
  refine (finite_of ?_).symm
  have := congrFun h (ix2 c ⟨b, hb⟩)
  unfold Cert.Pre_finite.fn at this
  dsimp only at this
  revert this
  pointwise
  exact id

end

end Cert.Attn

end
-- ==== Proof.Algebraic.lean ====
/- UNTRUSTED — the value claim: kernel and reference compute the same three gradients, as real numbers. -/
module

public import proofs.«01_k».proof.Proof.Same
public import proofs.«01_k».proof.Proof.Tail
public import proofs.«01_k».proof.Proof.Pre
public import proofs.«01_k».proof.Defs

@[expose] public section

set_option maxRecDepth 16384

noncomputable section

namespace Cert.Attn

open Idealize.ShloMosaic Idealize.ShloMosaic.TcCoe

/-! ## The reference's results -/

section Reference

variable {q k : FVec Ideal Cert.ReferenceIdeal.S8192x8x192 .f32} {v : FVec Ideal Cert.ReferenceIdeal.S8192x8x128 .f32} {g : FVec Ideal Cert.ReferenceIdeal.S8192x2048 .f32}
  {fq fk fv : ℕ → ℕ → ℕ → ℝ} {fg M : ℕ → ℕ → ℝ}
  (hq : IsR3 (n := 8192) (k := 8) (d := 192) q fq) (hk : IsR3 (n := 8192) (k := 8) (d := 192) k fk) (hv : IsR3 (n := 8192) (k := 8) (d := 128) v fv) (hg : IsGo g fg)
  (hz : ∀ r h d, 192 ≤ d → fq r h d = 0) (hM : IsR2 (n := 8) (k := 8192) (mxA q k) M)

include hq hk hg hz hM

theorem ref_dv : dvA (prA q k) g = byHead fun h => (headR fq fk fv fg M h).dv 8192 := by
  funext j
  idx_vars j
  rw [dvA_real hg (prA_real hq hk hM), byHead_ix3]
  dsimp only
  rw [dv_same fq fk fv fg M hz]

include hv

theorem ref_ds : IsR3 (n := 8) (k := 8192) (d := 8192) (dsA (dpA v g) (exA q k) (smA q k)) (dsR (eR fq fk M) (lR fq fk M) (dpR fg fv)) :=
  dsA_real (dpA_real hg hv) (exA_real hq hk hM) (smA_real hq hk hM) fun h c => (lR_pos fq fk M h c).ne'

theorem ref_dk : dkA (dsA (dpA v g) (exA q k) (smA q k)) q = byHead fun h => (headR fq fk fv fg M h).dk 8192 := by
  funext j
  idx_vars j
  rw [dkA_real (ref_ds hq hk hv hg hz hM) hq, byHead_ix3]
  dsimp only
  rw [dk_same fq fk fv fg M hz]

theorem ref_dq : dqA (dsA (dpA v g) (exA q k) (smA q k)) k = byHead fun h => (headR fq fk fv fg M h).dq 8192 := by
  funext j
  idx_vars j
  rw [dqA_real (ref_ds hq hk hv hg hz hM) hk, byHead_ix3]
  dsimp only
  rw [dq_same fq fk fv fg M hz]

end Reference

/-! ## The kernel's operands -/

section Kernel

open Cert.KernelIdeal Cert.KernelIdeal.Gen

variable {m : (ℓ : Loc nD τ sig) → Buf (Elt Ideal) ℓ} {c : Dev nD} {fq fk fv : ℕ → ℕ → ℕ → ℝ} {fg M : ℕ → ℕ → ℝ}

theorem head_ins (hq : IsR3 (n := 8192) (k := 8) (d := 192) (kq m c) fq) (hk : IsR3 (n := 8192) (k := 8) (d := 192) (kk m c) fk) (hv : IsR3 (n := 8192) (k := 8) (d := 128) (kv m c) fv)
    (hg : IsGo (kg m c) fg) (hz : ∀ r h d, 192 ≤ d → fq r h d = 0) (hz' : ∀ r h d, 192 ≤ d → fk r h d = 0) (hM : IsR2 (n := 8) (k := 8192) (mxA (kq m c) (kk m c)) M)
    (h : ℕ) (hh : h < 8) : HeadIns m c (headR fq fk fv fg M h) h hh where
  q r d := by rw [V_q]; exact padK_real hq hz r ⟨h, hh⟩ d
  k r d := by rw [V_k]; exact padK_real hk hz' r ⟨h, hh⟩ d
  v r d := by rw [V_v]; exact valK_real hv r ⟨h, hh⟩ d
  o r d := by rw [V_g]; exact hg r (h * 128 + d) (by omega)
  l a r := by rw [V_l]; exact (rowK_at _ ⟨h, hh⟩ a r).trans (lseK_real hM (smA_real hq hk hM) (lR_pos fq fk M) ⟨h, hh⟩ r)
  e a r := by rw [V_e]; exact (rowK_at _ ⟨h, hh⟩ a r).trans (delK_real hv hg (prA_real hq hk hM) ⟨h, hh⟩ r)

end Kernel

/-- Some row of real numbers that the largest scores are. -/
def topR (q k : FVec Ideal Cert.ReferenceIdeal.S8192x8x192 .f32) (h c : ℕ) : ℝ :=
  if hb : h < 8 ∧ c < 8192 then (mxA q k (ix2 ⟨h, hb.1⟩ ⟨c, hb.2⟩)).toReal else 0

/-- The kernel's results are the reference's. -/
theorem algebraic [hPre : Cert.Pre_finite.Facts] :
    @Cert.algebraic_KernelIdeal_ReferenceIdeal_pre_finite Cert.KernelIdeal.Gen.facts Cert.ReferenceIdeal.Gen.facts hPre := by
  intro m g m' g' hpre hagree
  have hq c := pre0 _ _ _ _ (hpre c).1
  have hk c := pre1 _ _ _ _ (hpre c).2.1
  have hv c := pre2 _ _ _ _ (hpre c).2.2.1
  have hg c := pre3 _ _ _ _ (hpre c).2.2.2
  have hM c := mxA_real (hq c) (hk c)
  have hzq c (r h d : ℕ) (hd : 192 ≤ d) := at3_zero (n := 8192) (k := 8) (d := 192) (kq m c) r h d hd
  have hzk c (r h d : ℕ) (hd : 192 ≤ d) := at3_zero (n := 8192) (k := 8) (d := 192) (kk m c) r h d hd
  refine ⟨_, _, _, kernel_run m g _ fun c h hh => head_ins (hq c) (hk c) (hv c) (hg c) (hzq c) (hzk c) (hM c) h hh, ?_⟩
  refine (θ_run Cert.ReferenceIdeal.defs _ _).mono (fun r hr c => ?_) (Cert.ReferenceIdeal.Value.run m' g')
  obtain ⟨h0, h1, h2, h3⟩ := hr c
  obtain ⟨a0, a1, a2, a3⟩ := hagree c
  have e0 : rq m' c = kq m c := a0
  have e1 : rk m' c = kk m c := a1
  have e2 : rv m' c = kv m c := a2
  have e3 : rg m' c = kg m c := a3
  refine ⟨?_, ?_, ?_, h3⟩
  · refine h0.trans ((res0_eq m' c).trans ?_)
    rw [exR_eq, e0, e1, e2, e3]
    exact ref_dq (hq c) (hk c) (hv c) (hg c) (hzq c) (hM c)
  · refine h1.trans ((res1_eq m' c).trans ?_)
    rw [exR_eq, e0, e1, e2, e3]
    exact ref_dk (hq c) (hk c) (hv c) (hg c) (hzq c) (hM c)
  · refine h2.trans ((res2_eq m' c).trans ?_)
    rw [exR_eq, e0, e1, e3]
    exact ref_dv (hq c) (hk c) (hg c) (hzq c) (hM c)

end Cert.Attn

end
-- ==== Proof.Prod.lean ====
/- UNTRUSTED — a sum taken in parts over consecutive grid points; arrays read at natural numbers; blocks written and read
   whole. -/
module

public import Idealize.ShloMosaic.Lib.Pointwise
public import Idealize.ShloMosaic.Lib.WritesUnit
public import Idealize.ShloMosaic.Lib.Pipeline.ValueKit.Tiles

@[expose] public section

set_option maxRecDepth 16384

noncomputable section

namespace Cert.Prod

open Idealize.ShloMosaic

/-- An array read at a row and a column given as natural numbers (0 outside). -/
def at2 {N M : ℕ} (A : (⟨2, ![N, M]⟩ : Shape).Idx → EReal) (r k : ℕ) : EReal :=
  if h : r < N ∧ k < M then A (ix2 ⟨r, h.1⟩ ⟨k, h.2⟩) else 0

theorem at2_ix {N M : ℕ} (A : (⟨2, ![N, M]⟩ : Shape).Idx → EReal) (r : Fin N) (k : Fin M) : at2 A r k = A (ix2 r k) :=
  dif_pos (show (r : ℕ) < N ∧ (k : ℕ) < M from ⟨r.isLt, k.isLt⟩)

theorem at2_of {N M : ℕ} (A : (⟨2, ![N, M]⟩ : Shape).Idx → EReal) (r k : ℕ) (hr : r < N) (hk : k < M) :
    A (ix2 ⟨r, hr⟩ ⟨k, hk⟩) = at2 A r k := by
  unfold at2
  rw [dif_pos ⟨hr, hk⟩]

/-- A sum taken `tk` terms a point, started afresh every `nk` points. -/
theorem run_sum (N nk tk : ℕ) (hk : 0 < nk) (f : ℕ → ℕ → EReal) (s : ∀ n, n < N → EReal)
    (h0 : ∀ n h, n % nk = 0 → s n h = ∑ x : Fin tk, f (n / nk) (n % nk * tk + x))
    (h1 : ∀ n h, (n + 1) % nk ≠ 0 → s (n + 1) h = s n (by omega) + ∑ x : Fin tk, f ((n + 1) / nk) ((n + 1) % nk * tk + x)) :
    ∀ n h, s n h = ∑ x ∈ Finset.range ((n % nk + 1) * tk), f (n / nk) x := by
  intro n
  induction n with
  | zero =>
    intro h
    rw [h0 0 h (Nat.zero_mod _), Nat.zero_mod, Nat.zero_add, Nat.one_mul, Finset.sum_range]
    simp only [Nat.zero_mul, Nat.zero_add]
  | succ n ih =>
    intro h
    by_cases hm : (n + 1) % nk = 0
    · rw [h0 _ h hm, hm, Nat.zero_add, Nat.one_mul, Finset.sum_range]
      simp only [Nat.zero_mul, Nat.zero_add]
    · have hd : (n + 1) / nk = n / nk := by
        rw [Nat.succ_div, if_neg (fun hdvd => hm (Nat.mod_eq_zero_of_dvd hdvd)), Nat.add_zero]
      have hr : (n + 1) % nk = n % nk + 1 := by
        have e1 := Nat.div_add_mod (n + 1) nk
        have e2 := Nat.div_add_mod n nk
        rw [hd] at e1
        omega
      rw [h1 n h hm, ih _, hd, hr, Nat.add_mul (n % nk + 1) 1 tk, Nat.one_mul, Finset.sum_range_add,
        Finset.sum_range (n := tk)]

/-- A sum taken `tk` terms a point in a scratch that every `nk` points start afresh and put out at the last of them. -/
theorem run_out (N nk tk : ℕ) (hk : 1 < nk) (f : ℕ → ℕ → EReal) (o s : ∀ n, n < N → EReal)
    (hA : ∀ n h, n % nk = 0 → s n h = ∑ x : Fin tk, f (n / nk) (n % nk * tk + x))
    (hB : ∀ n h h', (n + 1) % nk ≠ 0 → (n + 1) % nk ≠ nk - 1 →
      s (n + 1) h = s n h' + ∑ x : Fin tk, f ((n + 1) / nk) ((n + 1) % nk * tk + x))
    (hC : ∀ n h h', (n + 1) % nk = nk - 1 →
      o (n + 1) h = s n h' + ∑ x : Fin tk, f ((n + 1) / nk) ((n + 1) % nk * tk + x))
    (n : ℕ) (h : n < N) (hn : n % nk = nk - 1) : o n h = ∑ x : Fin (nk * tk), f (n / nk) x := by
  have e := run_sum N nk tk (by omega) f (fun n h => if n % nk = nk - 1 then o n h else s n h)
    (fun n h h0 => by
      show (if n % nk = nk - 1 then o n h else s n h) = _
      rw [if_neg (by omega)]; exact hA n h h0)
    (fun n h h0 => by
      have hm : n % nk ≠ nk - 1 := fun hm => h0 (by
        rw [Nat.add_mod, hm, Nat.mod_eq_of_lt hk, Nat.sub_add_cancel (by omega), Nat.mod_self])
      have hs : (if n % nk = nk - 1 then o n (by omega) else s n (by omega)) = s n (by omega) := if_neg hm
      show (if (n + 1) % nk = nk - 1 then o (n + 1) h else s (n + 1) h) = (if n % nk = nk - 1 then o n (by omega) else s n (by omega)) + _
      rw [hs]
      split_ifs with h2
      · exact hC n h (by omega) h2
      · exact hB n h (by omega) h0 h2) n h
  have e' : (if n % nk = nk - 1 then o n h else s n h) = ∑ x ∈ Finset.range ((n % nk + 1) * tk), f (n / nk) x := e
  rw [if_pos hn, hn, Nat.sub_add_cancel (by omega), Finset.sum_range] at e'
  exact e'

/-- An index of two coordinates is the pair of them. -/
theorem exists_ix2 {N M : ℕ} (j : (⟨2, ![N, M]⟩ : Shape).Idx) : ∃ (a : Fin N) (b : Fin M), j = ix2 a b :=
  ⟨j 0, j 1, funext fun x => match x with | (0 : Fin 2) => rfl | (1 : Fin 2) => rfl⟩

/-- Two indices with the same coordinates are the same. -/
theorem ext2 {N M : ℕ} {i j : (⟨2, ![N, M]⟩ : Shape).Idx} (h0 : i 0 = j 0) (h1 : i 1 = j 1) : i = j :=
  funext fun x => match x with | (0 : Fin 2) => h0 | (1 : Fin 2) => h1

/-- A block's element read at its place in the array, the block's number given. -/
theorem at_blk {N M : ℕ} (A : (⟨2, ![N, M]⟩ : Shape).Idx → EReal) (j : (⟨2, ![N, M]⟩ : Shape).Idx) (P Q a b : ℕ) {i k i' k' : ℕ}
    (h0 : (j 0).val = i * P + 1 * a) (h1 : (j 1).val = k * Q + 1 * b) (h : i = i' ∧ k = k') :
    A j = at2 A (i' * P + a) (k' * Q + b) := by
  obtain ⟨rfl, rfl⟩ := h
  obtain ⟨r, l, rfl⟩ := exists_ix2 j
  exact (at2_ix A r l).symm.trans (congrArg₂ (at2 A) (h0.trans (by rw [Nat.one_mul])) (h1.trans (by rw [Nat.one_mul])))

/-- An array whose blocks of `P` rows and `Q` columns, numbered row by row, hold `f`, holds `f`. -/
theorem grid {N M : ℕ} (T J P Q : ℕ) (hN : N = T * P) (hM : M = J * Q) (f : ℕ → ℕ → EReal) (A : (⟨2, ![N, M]⟩ : Shape).Idx → EReal)
    (h : ∀ t, t < T * J → ∀ (a : Fin P) (b : Fin Q), at2 A (t / J * P + a) (t % J * Q + b) = f (t / J * P + a) (t % J * Q + b))
    (r : Fin N) (l : Fin M) : A (ix2 r l) = f r l := by
  have hr : (r : ℕ) < T * P := hN ▸ r.isLt
  have hl : (l : ℕ) < J * Q := hM ▸ l.isLt
  have hP : 0 < P := Nat.pos_of_ne_zero fun h => by rw [h] at hr; omega
  have hQ : 0 < Q := Nat.pos_of_ne_zero fun h => by rw [h] at hl; omega
  have hi : (r : ℕ) / P < T := Nat.div_lt_of_lt_mul (by rw [Nat.mul_comm]; exact hr)
  have hk : (l : ℕ) / Q < J := Nat.div_lt_of_lt_mul (by rw [Nat.mul_comm]; exact hl)
  have hJ : 0 < J := (Nat.zero_le _).trans_lt hk
  have ht : J * (r / P) + l / Q < T * J :=
    (Nat.add_lt_add_left hk _).trans_le ((Nat.mul_succ J _).symm.le.trans ((Nat.mul_le_mul_left J hi).trans (Nat.mul_comm J T).le))
  have e := h (J * (r / P) + l / Q) ht ⟨r % P, Nat.mod_lt _ hP⟩ ⟨l % Q, Nat.mod_lt _ hQ⟩
  dsimp only at e
  rw [Nat.mul_add_div hJ, Nat.div_eq_of_lt hk, Nat.add_zero, Nat.mul_add_mod, Nat.mod_eq_of_lt hk,
    Nat.mul_comm _ P, Nat.mul_comm _ Q, Nat.div_add_mod, Nat.div_add_mod, at2_ix] at e
  exact e

/-- A blocked product: every run of `nk` grid points sums one block's elements, `tk` terms a point, in a scratch, and puts
    them out at the last; block after block, row by row. `f r l x` is term `x` of the element at row `r`, column `l`. -/
theorem acc (N nk tk J P Q : ℕ) (hk : 1 < nk) (f : ℕ → ℕ → ℕ → EReal) (o s : ∀ n, n < N → (⟨2, ![P, Q]⟩ : Shape).Idx → EReal)
    (hA : ∀ n h, n % nk = 0 → ∀ (a : Fin P) (b : Fin Q),
      s n h (ix2 a b) = ∑ x : Fin tk, f (n / nk / J * P + a) (n / nk % J * Q + b) (n % nk * tk + x))
    (hB : ∀ n h h', (n + 1) % nk ≠ 0 → (n + 1) % nk ≠ nk - 1 → ∀ (a : Fin P) (b : Fin Q),
      s (n + 1) h (ix2 a b) = s n h' (ix2 a b) + ∑ x : Fin tk, f ((n + 1) / nk / J * P + a) ((n + 1) / nk % J * Q + b) ((n + 1) % nk * tk + x))
    (hC : ∀ n h h', (n + 1) % nk = nk - 1 → ∀ (a : Fin P) (b : Fin Q),
      o (n + 1) h (ix2 a b) = s n h' (ix2 a b) + ∑ x : Fin tk, f ((n + 1) / nk / J * P + a) ((n + 1) / nk % J * Q + b) ((n + 1) % nk * tk + x))
    (r l : ℕ) (hP : 0 < P) (hQ : 0 < Q) (hl : l / Q < J) (n : ℕ) (hn : n = nk * (J * (r / P) + l / Q) + (nk - 1)) (h : n < N) :
    o n h (ix2 ⟨r % P, Nat.mod_lt _ hP⟩ ⟨l % Q, Nat.mod_lt _ hQ⟩) = ∑ x : Fin (nk * tk), f r l x := by
  have hm : n % nk = nk - 1 := by rw [hn, Nat.mul_add_mod, Nat.mod_eq_of_lt (by omega)]
  have hd : n / nk = J * (r / P) + l / Q := by
    rw [hn, Nat.mul_add_div (by omega), Nat.div_eq_of_lt (show nk - 1 < nk by omega), Nat.add_zero]
  have e := run_out N nk tk hk (fun g x => f (g / J * P + r % P) (g % J * Q + l % Q) x)
    (fun n h => o n h (ix2 ⟨r % P, Nat.mod_lt _ hP⟩ ⟨l % Q, Nat.mod_lt _ hQ⟩)) (fun n h => s n h (ix2 ⟨r % P, Nat.mod_lt _ hP⟩ ⟨l % Q, Nat.mod_lt _ hQ⟩))
    (fun n h h0 => hA n h h0 _ _) (fun n h h' h0 h1 => hB n h h' h0 h1 _ _) (fun n h h' h1 => hC n h h' h1 _ _) n h hm
  refine e.trans (Finset.sum_congr rfl fun x _ => ?_)
  rw [hd, Nat.mul_add_div ((Nat.zero_le _).trans_lt hl), Nat.div_eq_of_lt hl, Nat.add_zero, Nat.mul_add_mod, Nat.mod_eq_of_lt hl,
    Nat.mul_comm _ P, Nat.mul_comm _ Q, Nat.div_add_mod, Nat.div_add_mod]

section Views

variable {sig : RefSig} {κ' : Kind} {sp : Space} {e : EltTy} {N M : ℕ} {Val : EltTy → Type} [∀ e, Nonempty (Val e)]

/-- A block overwritten whole holds what was written. -/
theorem read_writes_all (v : View sig κ' sp (⟨2, ![N, M]⟩ : Shape) e) (f : v.ty.Contents Val)
    (inb : ∀ a : Fin 2, (![0, 0] : Fin 2 → ℕ) a + (![N, M] : Fin 2 → ℕ) a ≤ (![N, M] : Fin 2 → ℕ) a)
    (w : (⟨2, ![N, M]⟩ : Shape).Idx → Val e) (L : List (View.Piece Val (⟨2, ![N, M]⟩ : Shape) e)) :
    v.read Val (v.writes Val f (⟨Rect.unit (s := ⟨2, ![N, M]⟩) ![0, 0] ![N, M] inb, w⟩ :: L)) = w := by
  funext j
  obtain ⟨a, b, rfl⟩ := exists_ix2 j
  exact View.read_writes_cons_rows_of_mem v f inb w L (ix2 a b) (ix2 a b) rfl (Nat.zero_add _).symm rfl

/-- A block loaded whole. -/
theorem readAt_all (v : View sig κ' sp (⟨2, ![N, M]⟩ : Shape) e) (f : v.ty.Contents Val)
    (inb : ∀ a : Fin 2, (![0, 0] : Fin 2 → ℕ) a + (![N, M] : Fin 2 → ℕ) a ≤ (![N, M] : Fin 2 → ℕ) a) :
    v.readAt Val (Rect.unit (s := ⟨2, ![N, M]⟩) ![0, 0] ![N, M] inb).toLoadRect f = v.read Val f := by
  funext j
  obtain ⟨a, b, rfl⟩ := exists_ix2 j
  rw [View.readAt_eq_ld]
  refine View.ld_unit_apply_of (S := ⟨2, ![N, M]⟩) _ ![0, 0] ![N, M] inb (ix2 a b) (ix2 a b) fun x => ?_
  match x with
  | (0 : Fin 2) => exact (Nat.zero_add _).symm
  | (1 : Fin 2) => exact (Nat.zero_add _).symm

/-- A block loaded whole from its contents. -/
theorem ld_all (f : (⟨2, ![N, M]⟩ : Shape).Idx → Val e)
    (inb : ∀ a : Fin 2, (![0, 0] : Fin 2 → ℕ) a + (![N, M] : Fin 2 → ℕ) a ≤ (![N, M] : Fin 2 → ℕ) a) :
    View.ld f (Rect.unit (s := ⟨2, ![N, M]⟩) ![0, 0] ![N, M] inb) = f := by
  funext j
  obtain ⟨a, b, rfl⟩ := exists_ix2 j
  refine View.ld_unit_apply_of (S := ⟨2, ![N, M]⟩) _ ![0, 0] ![N, M] inb (ix2 a b) (ix2 a b) fun x => ?_
  match x with
  | (0 : Fin 2) => exact (Nat.zero_add _).symm
  | (1 : Fin 2) => exact (Nat.zero_add _).symm

/-- A block stored whole. -/
theorem canon_all (w : (⟨2, ![N, M]⟩ : Shape).Idx → Val e) (L : List (View.Piece Val (⟨2, ![N, M]⟩ : Shape) e))
    (inb : ∀ a : Fin 2, (![0, 0] : Fin 2 → ℕ) a + (![N, M] : Fin 2 → ℕ) a ≤ (![N, M] : Fin 2 → ℕ) a) :
    View.canon (⟨Rect.unit (s := ⟨2, ![N, M]⟩) ![0, 0] ![N, M] inb, w⟩ :: L) = w :=
  View.canon_cons_unit_zero (S := ⟨2, ![N, M]⟩) (off := ![0, 0]) (funext fun x : Fin 2 => match x with | (0 : Fin 2) => rfl | (1 : Fin 2) => rfl) inb w L

end Views

end Cert.Prod

end
-- ==== Proof.P2.lean ====
/- UNTRUSTED — the gradient of the feed-forward's gate. -/
module

public import proofs.«01_k».proof.Proof.Prod
public import proofs.«01_k».proof.Proof.Pre
public import proofs.«01_k».proof.Proof.Gen.Kernel2
public import proofs.«01_k».proof.Proof.Gen.Kernel2Ideal.Value
public import proofs.«01_k».proof.Proof.Gen.Reference2Ideal.Run
public import proofs.«01_k».proof.Defs
public import Idealize.ShloMosaic.Lib.StableHlo.RunRead
public import Idealize.ShloMosaic.Lib.Claim

@[expose] public section

set_option maxRecDepth 16384

noncomputable section

namespace Cert.P2

open Idealize.ShloMosaic Idealize.ShloMosaic.TcCoe Cert.Kernel2Ideal Cert.Kernel2Ideal.Gen

/-- The logistic function, as the programs take it. -/
def sg (g : EReal) : EReal := Ideal.div 1 (1 + Ideal.exp (0 - g))

theorem sg_real (x : ℝ) : ∃ s : ℝ, sg x = s := by
  have e : sg x = Ideal.div 1 ((1 + Real.exp (-x) : ℝ) : EReal) := by
    unfold sg
    rw [zero_sub, ← EReal.coe_neg, Ideal.exp_coe, EReal.coe_add, EReal.coe_one]
  refine ⟨1 / (1 + Real.exp (-x)), e.trans ?_⟩
  rw [Ideal.div_coe (by positivity), one_mul]

section Block

variable (x0 x1 : Vec Ideal S128x5632 .f32) (x2 : Vec Ideal S128x5632 .bf16)

theorem out_right (a : Fin 128) (b : Fin 5632) : out0_3 (F := Ideal) x0 x1 x2 (ix2 a ⟨5632 + b, by omega⟩) = k0_pay6 x0 x2 (ix2 a b) := by
  have e : (ix2 a ⟨5632 + b, by omega⟩ : S128x11264.Idx) = r0_2.emb (ix2 a b) := Prod.ext2 (Fin.ext (by show (a : ℕ) = 0 + 1 * a; omega)) (Fin.ext (by show 5632 + (b : ℕ) = 5632 + 1 * b; omega))
  unfold out0_3
  rw [e, View.canon_cons_emb, Prod.ld_all, Prod.ld_all]

theorem left_not_mem (a : Fin 128) (b : Fin 5632) : (ix2 a ⟨b, by omega⟩ : S128x11264.Idx) ∉ r0_2.set := fun h => by
  have h2 : 5632 ≤ (b : ℕ) := ((Rect.mem_set_unit.mp h) 1).1
  omega

theorem out_left (a : Fin 128) (b : Fin 5632) : out0_3 (F := Ideal) x0 x1 x2 (ix2 a ⟨b, by omega⟩) = k0_pay5 x0 x2 x1 (ix2 a b) := by
  have e : (ix2 a ⟨b, by omega⟩ : S128x11264.Idx) = r0_1.emb (ix2 a b) := Prod.ext2 (Fin.ext (by show (a : ℕ) = 0 + 1 * a; omega)) (Fin.ext (by show (b : ℕ) = 0 + 1 * b; omega))
  unfold out0_3
  rw [View.canon_cons_of_not_mem]
  swap
  · intro h
    exact left_not_mem a b h
  rw [e, View.canon_cons_emb, Prod.ld_all, Prod.ld_all, Prod.ld_all]

theorem pay5_at (a : Fin 128) (b : Fin 5632) : k0_pay5 x0 x2 x1 (ix2 a b)
    = x2 (ix2 a b) * x1 (ix2 a b) * (sg (x0 (ix2 a b)) + x0 (ix2 a b) * sg (x0 (ix2 a b)) * (1 - sg (x0 (ix2 a b)))) := by
  unfold sg
  pointwise [k0_pay5, k0_pay4, k0_pay3, k0_pay2, k0_pay1]
theorem pay6_at (a : Fin 128) (b : Fin 5632) : k0_pay6 x0 x2 (ix2 a b) = x2 (ix2 a b) * (x0 (ix2 a b) * sg (x0 (ix2 a b))) := by
  unfold sg
  pointwise [k0_pay6, k0_pay4, k0_pay3, k0_pay2, k0_pay1]

end Block

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel

theorem pt_lt (t : Fin cfg0.N) : t.val < 64 := lt_of_lt_of_eq t.isLt N_0

variable (m : (ℓ : Loc nD τ sig) → Buf (Elt Ideal) ℓ) (c : Dev nD)

/-- The program's arguments. -/
abbrev k0 : FVec Ideal S8192x2048 .f32 := m ((c.tc : Thread nD τ).loc main_arg0)
abbrev k1 : FVec Ideal S2048x11264 .f32 := m ((c.tc : Thread nD τ).loc main_arg1)
abbrev k2 : FVec Ideal S5632x2048 .f32 := m ((c.tc : Thread nD τ).loc main_arg2)
abbrev k3 : FVec Ideal S8192x2048 .f32 := m ((c.tc : Thread nD τ).loc main_arg3)

/-- The forward product, gate and up side by side, and the activation's gradient. -/
def gu (A : FVec Ideal S8192x2048 .f32) (B : FVec Ideal S2048x11264 .f32) : FVec Ideal S8192x11264 .f32 :=
  Host.dotGeneral dot_S8192x2048_S2048x11264_S8192x11264_1_0_0_1_n_n none A B
def da (A : FVec Ideal S8192x2048 .f32) (B : FVec Ideal S5632x2048 .f32) : FVec Ideal S8192x5632 .f32 :=
  Host.dotGeneral dot_S8192x2048_S2048x5632_S8192x5632_1_0_0_1_n_n none A (transpose S2048x5632 [1, 0] B transposes_S5632x2048_S2048x5632_1_0)

theorem gu_at (A : FVec Ideal S8192x2048 .f32) (B : FVec Ideal S2048x11264 .f32) (r : Fin 8192) (l : Fin 11264) :
    gu A B (ix2 r l) = ∑ x : Fin 2048, A (ix2 r x) * B (ix2 x l) := by
  pointwise [gu]
theorem da_at (A : FVec Ideal S8192x2048 .f32) (B : FVec Ideal S5632x2048 .f32) (r : Fin 8192) (l : Fin 5632) :
    da A B (ix2 r l) = ∑ x : Fin 2048, A (ix2 r x) * B (ix2 l x) := by
  pointwise [da]

/-- A sum of products of real numbers is a real number. -/
theorem sum_real {n : ℕ} (f g : Fin n → EReal) (hf : ∀ x, (((f x).toReal : ℝ) : EReal) = f x) (hg : ∀ x, (((g x).toReal : ℝ) : EReal) = g x) :
    ∃ s : ℝ, ∑ x, f x * g x = s := by
  refine ⟨∑ x, (f x).toReal * (g x).toReal, ?_⟩
  rw [Attn.coe_sum]
  exact Finset.sum_congr rfl fun x _ => by rw [EReal.coe_mul, hf, hg]

theorem V_1 : V m c main_v1 = extractStridedSlice S8192x5632 ![0, 0] (gu (k0 m c) (k1 m c)) slices_S8192x11264_S8192x5632_0_0 := by
  unfold V
  unfold_abbrev_sides
  after_reads_simp
  rfl
theorem V_2 : V m c main_v2 = extractStridedSlice S8192x5632 ![0, 5632] (gu (k0 m c) (k1 m c)) slices_S8192x11264_S8192x5632_0_5632 := by
  unfold V
  unfold_abbrev_sides
  after_reads_simp
  rfl
theorem V_5 : V m c main_v5 = truncf .bf16 (da (k3 m c) (k2 m c)) bitsLt_bf16_f32 := by
  unfold V
  unfold_abbrev_sides
  after_reads_simp
  rfl

theorem V1_at (r : Fin 8192) (l : Fin 5632) : (V m c main_v1 : FVec Ideal S8192x5632 .f32) (ix2 r l) = gu (k0 m c) (k1 m c) (ix2 r ⟨l, by omega⟩) := by
  rw [V_1]
  generalize gu (k0 m c) (k1 m c) = G
  pointwise
theorem V2_at (r : Fin 8192) (l : Fin 5632) : (V m c main_v2 : FVec Ideal S8192x5632 .f32) (ix2 r l) = gu (k0 m c) (k1 m c) (ix2 r ⟨5632 + l, by omega⟩) := by
  rw [V_2]
  generalize gu (k0 m c) (k1 m c) = G
  pointwise

theorem blk0_eq (A : Vec Ideal S8192x5632 .f32) (t : Fin cfg0.N) (a : Fin 128) (b : Fin 5632) :
    (((cfg0.win 0).blk t).view.read (Elt Ideal) A : Vec Ideal S128x5632 .f32) (ix2 a b) = A (ix2 ⟨t.val * 128 + a, by have := pt_lt t; omega⟩ b) := by
  have hi := idx0 t
  rw [View.read_apply]
  refine congrArg A (funext fun x => Fin.ext ?_)
  match x with
  | ⟨0, _⟩ => show win0_0.index t 0 * 128 + 1 * (a : ℕ) = _; rw [hi.1, one_mul]; rfl
  | ⟨1, _⟩ => show win0_0.index t 1 * 5632 + 1 * (b : ℕ) = _; rw [hi.2, one_mul, Nat.zero_mul, Nat.zero_add]; rfl

theorem blk1_eq (A : Vec Ideal S8192x5632 .f32) (t : Fin cfg0.N) (a : Fin 128) (b : Fin 5632) :
    (((cfg0.win 1).blk t).view.read (Elt Ideal) A : Vec Ideal S128x5632 .f32) (ix2 a b) = A (ix2 ⟨t.val * 128 + a, by have := pt_lt t; omega⟩ b) := by
  have hi := idx1 t
  rw [View.read_apply]
  refine congrArg A (funext fun x => Fin.ext ?_)
  match x with
  | ⟨0, _⟩ => show win0_1.index t 0 * 128 + 1 * (a : ℕ) = _; rw [hi.1, one_mul]; rfl
  | ⟨1, _⟩ => show win0_1.index t 1 * 5632 + 1 * (b : ℕ) = _; rw [hi.2, one_mul, Nat.zero_mul, Nat.zero_add]; rfl

theorem blk2_eq (A : Vec Ideal S8192x5632 .bf16) (t : Fin cfg0.N) (a : Fin 128) (b : Fin 5632) :
    (((cfg0.win 2).blk t).view.read (Elt Ideal) A : Vec Ideal S128x5632 .bf16) (ix2 a b) = A (ix2 ⟨t.val * 128 + a, by have := pt_lt t; omega⟩ b) := by
  have hi := idx2 t
  rw [View.read_apply]
  refine congrArg A (funext fun x => Fin.ext ?_)
  match x with
  | ⟨0, _⟩ => show win0_2.index t 0 * 128 + 1 * (a : ℕ) = _; rw [hi.1, one_mul]; rfl
  | ⟨1, _⟩ => show win0_2.index t 1 * 5632 + 1 * (b : ℕ) = _; rw [hi.2, one_mul, Nat.zero_mul, Nat.zero_add]; rfl

theorem blk3_eq (A : Vec Ideal S8192x11264 .bf16) (t : Fin cfg0.N) (a : Fin 128) (b : Fin 11264) :
    (((cfg0.win 3).blk t).view.read (Elt Ideal) A : Vec Ideal S128x11264 .bf16) (ix2 a b) = A (ix2 ⟨t.val * 128 + a, by have := pt_lt t; omega⟩ b) := by
  have hi := idx3 t
  rw [View.read_apply]
  refine congrArg A (funext fun x => Fin.ext ?_)
  match x with
  | ⟨0, _⟩ => show win0_3.index t 0 * 128 + 1 * (a : ℕ) = _; rw [hi.1, one_mul]; rfl
  | ⟨1, _⟩ => show win0_3.index t 1 * 11264 + 1 * (b : ℕ) = _; rw [hi.2, one_mul, Nat.zero_mul, Nat.zero_add]; rfl

/-- A window's input block. -/
abbrev b0 (t : Fin cfg0.N) : Vec Ideal S128x5632 .f32 := iblk m c 0 t
abbrev b1 (t : Fin cfg0.N) : Vec Ideal S128x5632 .f32 := iblk m c 1 t
abbrev b2 (t : Fin cfg0.N) : Vec Ideal S128x5632 .bf16 := iblk m c 2 t

section Row

variable (t : Fin cfg0.N) (a : Fin 128) (r : Fin 8192) (hr : (r : ℕ) = t.val * 128 + a) (b : Fin 5632)
include hr

theorem b0_at : b0 m c t (ix2 a b) = gu (k0 m c) (k1 m c) (ix2 r ⟨b, by omega⟩) := by
  refine (blk0_eq (V m c main_v1) t a b).trans ?_
  rw [show (⟨t.val * 128 + a, by have := pt_lt t; omega⟩ : Fin 8192) = r from Fin.ext hr.symm]
  exact V1_at m c r b
theorem b1_at : b1 m c t (ix2 a b) = gu (k0 m c) (k1 m c) (ix2 r ⟨5632 + b, by omega⟩) := by
  refine (blk1_eq (V m c main_v2) t a b).trans ?_
  rw [show (⟨t.val * 128 + a, by have := pt_lt t; omega⟩ : Fin 8192) = r from Fin.ext hr.symm]
  exact V2_at m c r b
theorem b2_at : b2 m c t (ix2 a b) = da (k3 m c) (k2 m c) (ix2 r b) := by
  refine (blk2_eq (V m c main_v5) t a b).trans ?_
  rw [show (⟨t.val * 128 + a, by have := pt_lt t; omega⟩ : Fin 8192) = r from Fin.ext hr.symm, V_5]
  rfl

end Row

/-- The kernel's result. -/
abbrev out : Vec Ideal S8192x11264 .bf16 := (dats m 0 c).arrAt 3 cfg0.N

theorem out_at (t : Fin cfg0.N) (a : Fin 128) (b : Fin 11264) (r : Fin 8192) (hr : (r : ℕ) = t.val * 128 + a) :
    out m c (ix2 r b) = out0_3 (b0 m c t) (b1 m c t) (b2 m c t) (ix2 a b) := by
  have e : (((cfg0.win 3).blk t).view.read (Elt Ideal) (out m c) : Vec Ideal S128x11264 .bf16) (ix2 a b) = out0_3 (b0 m c t) (b1 m c t) (b2 m c t) (ix2 a b) :=
    congrFun ((Value.blocks3 m c t (flush0_3 t)).trans (Value.flushed3 m c t)) (ix2 a b)
  rw [blk3_eq, show (⟨t.val * 128 + a, by have := pt_lt t; omega⟩ : Fin 8192) = r from Fin.ext hr.symm] at e
  exact e

/-- The point and the row within its block that a row lies at. -/
theorem exists_pt (r : Fin 8192) : ∃ (t : Fin cfg0.N) (a : Fin 128), (r : ℕ) = t.val * 128 + a :=
  ⟨⟨r.val / 128, lt_of_lt_of_eq (by omega) N_0.symm⟩, ⟨r.val % 128, Nat.mod_lt _ (by decide)⟩, by dsimp only; omega⟩

theorem out_l (r : Fin 8192) (l : Fin 5632) : out m c (ix2 r ⟨l, by omega⟩)
    = da (k3 m c) (k2 m c) (ix2 r l) * gu (k0 m c) (k1 m c) (ix2 r ⟨5632 + l, by omega⟩)
      * (sg (gu (k0 m c) (k1 m c) (ix2 r ⟨l, by omega⟩)) + gu (k0 m c) (k1 m c) (ix2 r ⟨l, by omega⟩) * sg (gu (k0 m c) (k1 m c) (ix2 r ⟨l, by omega⟩))
        * (1 - sg (gu (k0 m c) (k1 m c) (ix2 r ⟨l, by omega⟩)))) := by
  obtain ⟨t, a, hr⟩ := exists_pt r
  rw [out_at m c t a _ r hr, out_left, pay5_at, b0_at m c t a r hr, b1_at m c t a r hr, b2_at m c t a r hr]

theorem out_r (r : Fin 8192) (l : Fin 5632) : out m c (ix2 r ⟨5632 + l, by omega⟩)
    = da (k3 m c) (k2 m c) (ix2 r l) * (gu (k0 m c) (k1 m c) (ix2 r ⟨l, by omega⟩) * sg (gu (k0 m c) (k1 m c) (ix2 r ⟨l, by omega⟩))) := by
  obtain ⟨t, a, hr⟩ := exists_pt r
  rw [out_at m c t a _ r hr, out_right, pay6_at, b0_at m c t a r hr, b2_at m c t a r hr]

section Ref

variable (G : FVec Ideal S8192x11264 .f32) (D : FVec Ideal S8192x5632 .f32)

/-- The reference's result, from the product and the activation's gradient. -/
abbrev gate : FVec Ideal S8192x5632 .f32 := extractStridedSlice S8192x5632 ![0, 0] G Cert.Reference2Ideal.Gen.facts.slices_S8192x11264_S8192x5632_0_0
abbrev up : FVec Ideal S8192x5632 .f32 := extractStridedSlice S8192x5632 ![0, 5632] G Cert.Reference2Ideal.Gen.facts.slices_S8192x11264_S8192x5632_0_5632
abbrev one : FVec Ideal S8192x5632 .f32 := broadcastInDim S8192x5632 ![] Cert.Reference2Ideal.Gen.facts.bcast_S_S8192x5632 (constant Cert.Reference2Ideal.S_ .f32 0x3F800000#32)
abbrev sgm : FVec Ideal S8192x5632 .f32 := Host.divf one (addf one (Host.exp (Host.negf (gate G))))
abbrev ref : FVec Ideal S8192x11264 .bf16 :=
  truncf .bf16 (concatenate S8192x11264 1 [⟨S8192x5632, addf (mulf (mulf D (up G)) (sgm G)) (mulf (mulf (gate G) (mulf D (up G))) (mulf (sgm G) (subf one (sgm G))))⟩,
    ⟨S8192x5632, mulf (mulf (gate G) (sgm G)) D⟩] Cert.Reference2Ideal.Gen.facts.concatenates_S8192x5632_S8192x5632_S8192x11264_d1) bitsLt_bf16_f32

theorem ref_l (r : Fin 8192) (l : Fin 5632) : ref G D (ix2 r ⟨l, by omega⟩)
    = D (ix2 r l) * G (ix2 r ⟨5632 + l, by omega⟩) * sg (G (ix2 r ⟨l, by omega⟩))
      + G (ix2 r ⟨l, by omega⟩) * (D (ix2 r l) * G (ix2 r ⟨5632 + l, by omega⟩)) * (sg (G (ix2 r ⟨l, by omega⟩)) * (1 - sg (G (ix2 r ⟨l, by omega⟩)))) := by
  have hl : (l : ℕ) < 5632 := l.isLt
  unfold sg
  pointwise
  simp only [zero_sub]
theorem ref_r (r : Fin 8192) (l : Fin 5632) : ref G D (ix2 r ⟨5632 + l, by omega⟩)
    = G (ix2 r ⟨l, by omega⟩) * sg (G (ix2 r ⟨l, by omega⟩)) * D (ix2 r l) := by
  unfold sg
  pointwise
  simp only [zero_sub]

end Ref

/-- Over the reals the product's gradient may be spread over the sum. -/
theorem spread {g u d : EReal} (hg : ∃ s : ℝ, g = s) (hu : ∃ s : ℝ, u = s) (hd : ∃ s : ℝ, d = s) :
    d * u * sg g + g * (d * u) * (sg g * (1 - sg g)) = d * u * (sg g + g * sg g * (1 - sg g)) := by
  obtain ⟨g, rfl⟩ := hg
  obtain ⟨u, rfl⟩ := hu
  obtain ⟨d, rfl⟩ := hd
  obtain ⟨s, hs⟩ := sg_real g
  rw [hs]
  norm_cast
  ring

/-- The predicate's own side conditions. -/
theorem preFacts : Cert.Pre_finite2.Facts where
  bcast_S_S8192x2048 := by decide
  bcast_S_S2048x11264 := by decide
  bcast_S_S5632x2048 := by decide

/-- Every entry is a real number. -/
def Real2 {s : Shape} (A : s.Idx → EReal) : Prop := ∀ i, (((A i).toReal : ℝ) : EReal) = A i

theorem pre0 [Cert.Pre_finite2.Facts] {x0 x1 x2 x3} (h : (Cert.Pre_finite2.fn (F := Ideal) x0 x1 x2 x3).1 = fun _ => 1#1) : Real2 x0 :=
  fun i => Attn.finite_of (congrFun h i)
theorem pre1 [Cert.Pre_finite2.Facts] {x0 x1 x2 x3} (h : (Cert.Pre_finite2.fn (F := Ideal) x0 x1 x2 x3).2.1 = fun _ => 1#1) : Real2 x1 :=
  fun i => Attn.finite_of (congrFun h i)
theorem pre2 [Cert.Pre_finite2.Facts] {x0 x1 x2 x3} (h : (Cert.Pre_finite2.fn (F := Ideal) x0 x1 x2 x3).2.2.1 = fun _ => 1#1) : Real2 x2 :=
  fun i => Attn.finite_of (congrFun h i)
theorem pre3 [Cert.Pre_finite2.Facts] {x0 x1 x2 x3} (h : (Cert.Pre_finite2.fn (F := Ideal) x0 x1 x2 x3).2.2.2 = fun _ => 1#1) : Real2 x3 :=
  fun i => Attn.finite_of (congrFun h i)

theorem gu_real {A : FVec Ideal S8192x2048 .f32} {B : FVec Ideal S2048x11264 .f32} (hA : Real2 A) (hB : Real2 B) (r : Fin 8192) (l : Fin 11264) :
    ∃ s : ℝ, gu A B (ix2 r l) = s := by
  rw [gu_at]
  exact sum_real _ _ (fun _ => hA _) fun _ => hB _
theorem da_real {A : FVec Ideal S8192x2048 .f32} {B : FVec Ideal S5632x2048 .f32} (hA : Real2 A) (hB : Real2 B) (r : Fin 8192) (l : Fin 5632) :
    ∃ s : ℝ, da A B (ix2 r l) = s := by
  rw [da_at]
  exact sum_real _ _ (fun _ => hA _) fun _ => hB _

theorem ref_eq (h0 : Real2 (k0 m c)) (h1 : Real2 (k1 m c)) (h2 : Real2 (k2 m c)) (h3 : Real2 (k3 m c)) (r : Fin 8192) (l : Fin 11264) :
    ref (gu (k0 m c) (k1 m c)) (da (k3 m c) (k2 m c)) (ix2 r l) = out m c (ix2 r l) := by
  by_cases hl : (l : ℕ) < 5632
  · obtain ⟨l', e⟩ : ∃ l' : Fin 5632, l = ⟨l', by omega⟩ := ⟨⟨l, hl⟩, rfl⟩
    rw [e, ref_l, out_l]
    exact spread (gu_real h0 h1 _ _) (gu_real h0 h1 _ _) (da_real h3 h2 _ _)
  · obtain ⟨l', e⟩ : ∃ l' : Fin 5632, l = ⟨5632 + l', by omega⟩ := ⟨⟨l - 5632, by omega⟩, Fin.ext (by dsimp only; omega)⟩
    rw [e, ref_r, out_r]
    exact mul_comm _ _

theorem algebraic [hPre : Cert.Pre_finite2.Facts] : @Cert.algebraic_Kernel2Ideal_Reference2Ideal_pre_finite2 Cert.Kernel2Ideal.Gen.facts Cert.Reference2Ideal.Gen.facts hPre := by
  intro m g m' g' hpre hagree
  refine ⟨_, Value.run_blocks m g, (θ_run Cert.Reference2Ideal.defs _ _).mono (fun r hr c => ?_) (Cert.Reference2Ideal.Value.run m' g')⟩
  obtain ⟨a0, a1, a2, a3⟩ := hagree c
  refine ⟨(hr c).1.trans ?_, (hr c).2⟩
  clear hr
  rw [a0, a1, a2, a3]
  have e : ref (gu (k0 m c) (k1 m c)) (da (k3 m c) (k2 m c)) = out m c := funext fun j => by
    obtain ⟨r, l, rfl⟩ := Prod.exists_ix2 j
    have := ref_eq m c (pre0 (hpre c).1) (pre1 (hpre c).2.1) (pre2 (hpre c).2.2.1) (pre3 (hpre c).2.2.2) r l
    exact this
  refine Eq.trans ?_ e
  rfl

/-- The two programs are one text, over any floats. -/
theorem defs0_eq : @Cert.Kernel2.defs₀ Bits _ Cert.Kernel2.Gen.facts = @Cert.Kernel2Ideal.defs₀ Bits _ Cert.Kernel2Ideal.Gen.facts :=
  congrArg (Defs.onTc (nD := 1) (τ := Cert.Kernel2Ideal.τ)) (funext fun ℓ => match ℓ with
    | (0 : Fin 1) => rfl)
theorem defs_eq : @Cert.Kernel2.defs Bits _ Cert.Kernel2.Gen.facts = @Cert.Kernel2Ideal.defs Bits _ Cert.Kernel2Ideal.Gen.facts :=
  congrArg (Pipeline.defs (Cert.Kernel2Ideal.pcfgs (F := Bits))) defs0_eq

theorem frame : @Cert.quiescent_Kernel2 Cert.Kernel2.Gen.facts := fun m ρ _ => by
  rw [defs_eq]
  exact Cert.Kernel2Ideal.Gen.frame (F := Bits) m ρ
theorem frameI : @Cert.quiescent_Kernel2Ideal Cert.Kernel2Ideal.Gen.facts := fun m ρ _ => Cert.Kernel2Ideal.Gen.frame m ρ
theorem frameR : @Cert.quiescent_Reference2Ideal Cert.Reference2Ideal.Gen.facts := fun m ρ _ =>
  (θ_run Cert.Reference2Ideal.defs _ _).mono (fun r h => ⟨fun c => (h c).2, sem_eq_zero_of_no_sems (by decide) r.2⟩)
    (Cert.Reference2Ideal.Value.run m ρ)

end Cert.P2

end
-- ==== Proof.P3.lean ====
/- UNTRUSTED — the gradient of the feed-forward's second weight: the blocked product is the product. -/
module

public import proofs.«01_k».proof.Proof.Prod
public import proofs.«01_k».proof.Proof.Gen.Kernel3
public import proofs.«01_k».proof.Proof.Gen.Kernel3Ideal.Value
public import proofs.«01_k».proof.Proof.Gen.Reference3Ideal.Run
public import proofs.«01_k».proof.Defs
public import Idealize.ShloMosaic.Lib.StableHlo.RunRead
public import Idealize.ShloMosaic.Lib.Claim

@[expose] public section

set_option maxRecDepth 16384

noncomputable section

namespace Cert.P3

open Idealize.ShloMosaic Idealize.ShloMosaic.TcCoe Cert.Kernel3Ideal Cert.Kernel3Ideal.Gen

section Point

variable (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .f32) (harg5 : arg5.IsWhole) (arg6 : Memref sig .tc .vmem S1408x1024 .f32) (harg6 : arg6.IsWhole)
  (x0 : Vec Ideal S2048x1408 .bf16) (x1 : Vec Ideal S2048x1024 .bf16) (xs : Vec Ideal S1408x1024 .f32)

theorem sout_A (hc0 hc1 hc2) : sout0_A_0 (F := Ideal) c i arg3 harg3 arg4 harg4 arg5 harg5 arg6 harg6 hc0 hc1 hc2 x0 x1 = k0_pay2 x0 x1 := by
  unfold sout0_A_0
  unfold kernelRun0_A
  sl_unfold_words
  dsimp only
  rw [Prod.read_writes_all, Prod.readAt_all, Prod.readAt_all, harg3.read_unread, harg4.read_unread]

theorem sout_B (hc0 hc1 hc2) : sout0_B_0 (F := Ideal) c i arg3 harg3 arg4 harg4 arg5 harg5 arg6 harg6 hc0 hc1 hc2 x0 x1 xs = k0_pay3 x0 x1 xs := by
  unfold sout0_B_0
  unfold kernelRun0_B
  sl_unfold_words
  dsimp only
  rw [Prod.read_writes_all, Prod.readAt_all, Prod.readAt_all, Prod.readAt_all, harg3.read_unread, harg4.read_unread, harg6.read_unread]

theorem out_C (hc0 hc1 hc2) : out0_C_2 (F := Ideal) c i arg3 harg3 arg4 harg4 arg5 harg5 arg6 harg6 hc0 hc1 hc2 x0 x1 xs = k0_pay4 x0 x1 xs := by
  unfold out0_C_2
  unfold kernelRun0_C
  sl_unfold_words
  dsimp only
  rw [Prod.read_writes_all, Prod.readAt_all, Prod.readAt_all, Prod.readAt_all, harg3.read_unread, harg4.read_unread, harg6.read_unread]

theorem pay1_at (a : Fin 1408) (b : Fin 1024) : k0_pay1 x0 x1 (ix2 a b) = ∑ x : Fin 2048, x0 (ix2 x a) * x1 (ix2 x b) := by
  pointwise [k0_pay1]
theorem pay2_at (a : Fin 1408) (b : Fin 1024) : k0_pay2 x0 x1 (ix2 a b) = ∑ x : Fin 2048, x0 (ix2 x a) * x1 (ix2 x b) :=
  (by pointwise [k0_pay2] : k0_pay2 x0 x1 (ix2 a b) = k0_pay1 x0 x1 (ix2 a b)).trans (pay1_at x0 x1 a b)
theorem pay3_at (a : Fin 1408) (b : Fin 1024) : k0_pay3 x0 x1 xs (ix2 a b) = xs (ix2 a b) + ∑ x : Fin 2048, x0 (ix2 x a) * x1 (ix2 x b) :=
  (by pointwise [k0_pay3] : k0_pay3 x0 x1 xs (ix2 a b) = xs (ix2 a b) + k0_pay1 x0 x1 (ix2 a b)).trans (by rw [pay1_at])
theorem pay4_at (a : Fin 1408) (b : Fin 1024) : k0_pay4 x0 x1 xs (ix2 a b) = xs (ix2 a b) + ∑ x : Fin 2048, x0 (ix2 x a) * x1 (ix2 x b) :=
  (by pointwise [k0_pay4] : k0_pay4 x0 x1 xs (ix2 a b) = xs (ix2 a b) + k0_pay1 x0 x1 (ix2 a b)).trans (by rw [pay1_at])

end Point

theorem idx0 : ∀ t : Fin grid0.N, win0_0.index t 0 = t.val % 4 ∧ win0_0.index t 1 = t.val / 4 / 2 := by decide +kernel
theorem idx1 : ∀ t : Fin grid0.N, win0_1.index t 0 = t.val % 4 ∧ win0_1.index t 1 = t.val / 4 % 2 := by decide +kernel

theorem pt_lt (t : Fin cfg0.N) : t.val < 32 := lt_of_lt_of_eq t.isLt N_0

variable (m : (ℓ : Loc nD τ sig) → Buf (Elt Ideal) ℓ) (c : Dev nD)

/-- An argument of the kernel. -/
abbrev k0 : FVec Ideal S8192x5632 .f32 := m ((c.tc : Thread nD τ).loc main_arg0)
abbrev k1 : FVec Ideal S8192x2048 .f32 := m ((c.tc : Thread nD τ).loc main_arg1)

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

theorem blk0_eq (A : Vec Ideal S8192x5632 .bf16) (t : Fin cfg0.N) (a : Fin 2048) (b : Fin 1408) :
    (((cfg0.win 0).blk t).view.read (Elt Ideal) A : Vec Ideal S2048x1408 .bf16) (ix2 a b) = Prod.at2 A (t.val % 4 * 2048 + a) (t.val / 4 / 2 * 1408 + b) := by
  have hi := idx0 t
  have ht := pt_lt t
  rw [← Prod.at2_of A _ _ (by omega) (by omega), View.read_apply]
  refine congrArg A (funext fun x => Fin.ext ?_)
  match x with
  | ⟨0, _⟩ => show win0_0.index t 0 * 2048 + 1 * (a : ℕ) = _; rw [hi.1, one_mul]; rfl
  | ⟨1, _⟩ => show win0_0.index t 1 * 1408 + 1 * (b : ℕ) = _; rw [hi.2, one_mul]; rfl

theorem blk1_eq (A : Vec Ideal S8192x2048 .bf16) (t : Fin cfg0.N) (a : Fin 2048) (b : Fin 1024) :
    (((cfg0.win 1).blk t).view.read (Elt Ideal) A : Vec Ideal S2048x1024 .bf16) (ix2 a b) = Prod.at2 A (t.val % 4 * 2048 + a) (t.val / 4 % 2 * 1024 + b) := by
  have hi := idx1 t
  have ht := pt_lt t
  rw [← Prod.at2_of A _ _ (by omega) (by omega), View.read_apply]
  refine congrArg A (funext fun x => Fin.ext ?_)
  match x with
  | ⟨0, _⟩ => show win0_1.index t 0 * 2048 + 1 * (a : ℕ) = _; rw [hi.1, one_mul]; rfl
  | ⟨1, _⟩ => show win0_1.index t 1 * 1024 + 1 * (b : ℕ) = _; rw [hi.2, one_mul]; rfl

/-- A window's input block. -/
abbrev b0 (t : Fin cfg0.N) : Vec Ideal S2048x1408 .bf16 := iblk m c 0 t
abbrev b1 (t : Fin cfg0.N) : Vec Ideal S2048x1024 .bf16 := iblk m c 1 t

theorem iblk0_eq (t : Fin cfg0.N) (a : Fin 2048) (b : Fin 1408) :
    b0 m c t (ix2 a b) = Prod.at2 (k0 m c) (t.val % 4 * 2048 + a) (t.val / 4 / 2 * 1408 + b) :=
  (blk0_eq (V m c main_v0) t a b).trans (by rw [V_0]; rfl)
theorem iblk1_eq (t : Fin cfg0.N) (a : Fin 2048) (b : Fin 1024) :
    b1 m c t (ix2 a b) = Prod.at2 (k1 m c) (t.val % 4 * 2048 + a) (t.val / 4 % 2 * 1024 + b) :=
  (blk1_eq (V m c main_v1) t a b).trans (by rw [V_1]; rfl)

/-- The products a block's element sums, block by block. -/
def term (a b run x : ℕ) : EReal := Prod.at2 (k0 m c) x (run / 2 * 1408 + a) * Prod.at2 (k1 m c) x (run % 2 * 1024 + b)

/-- What a grid point adds to a block's element. -/
theorem dot_eq (t : Fin cfg0.N) (a : Fin 1408) (b : Fin 1024) :
    ∑ x : Fin 2048, b0 m c t (ix2 x a) * b1 m c t (ix2 x b)
      = ∑ x : Fin 2048, term m c a b (t.val / 4) (t.val % 4 * 2048 + x) :=
  Finset.sum_congr rfl fun x _ => by rw [iblk0_eq, iblk1_eq]; rfl

theorem first (a : Fin 1408) (b : Fin 1024) (n : ℕ) (h : n < cfg0.N) (h0 : n % 4 = 0) :
    (outsAt0 m c n h).2 (ix2 a b) = ∑ x : Fin 2048, term m c a b (n / 4) (n % 4 * 2048 + x) := by
  refine (congrFun (congrArg _root_.Prod.snd (outsAt0_A m c ⟨n, h⟩ h0 (by simp only; omega) (by simp only; omega))) (ix2 a b)).trans ?_
  dsimp only
  rw [sout_A, pay2_at]
  exact dot_eq m c ⟨n, h⟩ a b

theorem next (a : Fin 1408) (b : Fin 1024) (n : ℕ) (h : n + 1 < cfg0.N) (h' : n < cfg0.N) (h0 : (n + 1) % 4 ≠ 0) (h2 : (n + 1) % 4 ≠ 3) :
    (outsAt0 m c (n + 1) h).2 (ix2 a b) = (outsAt0 m c n h').2 (ix2 a b) + ∑ x : Fin 2048, term m c a b ((n + 1) / 4) ((n + 1) % 4 * 2048 + x) := by
  refine (congrFun (congrArg _root_.Prod.snd (outsAt0_B m c ⟨n + 1, h⟩ h0 (by simp only; omega) h2)) (ix2 a b)).trans ?_
  dsimp only
  rw [sout_B, pay3_at]
  exact congrArg _ (dot_eq m c ⟨n + 1, h⟩ a b)

theorem last (a : Fin 1408) (b : Fin 1024) (n : ℕ) (h : n + 1 < cfg0.N) (h' : n < cfg0.N) (h2 : (n + 1) % 4 = 3) :
    (outsAt0 m c (n + 1) h).1 (ix2 a b) = (outsAt0 m c n h').2 (ix2 a b) + ∑ x : Fin 2048, term m c a b ((n + 1) / 4) ((n + 1) % 4 * 2048 + x) := by
  refine (congrFun (congrArg _root_.Prod.fst (outsAt0_C m c ⟨n + 1, h⟩ (by simp only; omega) (by simp only; omega) h2)) (ix2 a b)).trans ?_
  dsimp only
  rw [out_C, pay4_at]
  exact congrArg _ (dot_eq m c ⟨n + 1, h⟩ a b)

/-- The kernel's result. -/
theorem G2_eq (r : Fin 5632) (l : Fin 2048) :
    (Value.G2 m c : Vec Ideal S5632x2048 .f32) (ix2 r l) = ∑ x : Fin 8192, k0 m c (ix2 x r) * k1 m c (ix2 x l) := by
  have hp : Value.pt2Of (ix2 r l) = 4 * (2 * (r.val / 1408) + l.val / 1024) + 3 := by
    show 4 * (2 * (r.val / 1408 - 0) + 1 * (l.val / 1024 - 0)) + 3 = _; omega
  have hN : Value.pt2Of (ix2 r l) < cfg0.N := lt_of_lt_of_eq (by omega) N_0.symm
  have e := Prod.run_out cfg0.N 4 2048 (by decide) (term m c (r.val % 1408) (l.val % 1024))
    (fun n h => (outsAt0 m c n h).1 (ix2 ⟨r.val % 1408, Nat.mod_lt _ (by decide)⟩ ⟨l.val % 1024, Nat.mod_lt _ (by decide)⟩)) _
    (first m c _ _) (next m c _ _) (last m c _ _)
    (Value.pt2Of (ix2 r l)) hN (by omega)
  unfold Value.G2
  rw [dif_pos hN, ← Value.outsAt0_sweep m c _ hN,
    show Value.loc2Of (ix2 r l) = ix2 ⟨r.val % 1408, Nat.mod_lt _ (by decide)⟩ ⟨l.val % 1024, Nat.mod_lt _ (by decide)⟩ from Prod.ext2 rfl rfl]
  refine e.trans (Finset.sum_congr rfl fun x _ => ?_)
  rw [hp]
  unfold term
  rw [show (4 * (2 * (r.val / 1408) + l.val / 1024) + 3) / 4 / 2 * 1408 + r.val % 1408 = r.val by omega,
    show (4 * (2 * (r.val / 1408) + l.val / 1024) + 3) / 4 % 2 * 1024 + l.val % 1024 = l.val by omega]
  exact congrArg₂ (· * ·) (Prod.at2_ix (k0 m c) x r) (Prod.at2_ix (k1 m c) x l)

/-- The reference's result. -/
theorem ref_eq (A : FVec Ideal S8192x5632 .f32) (B : FVec Ideal S8192x2048 .f32) (r : Fin 5632) (l : Fin 2048) :
    (transpose Cert.Reference3Ideal.S5632x2048 [1, 0] (Host.dotGeneral Cert.Reference3Ideal.dot_S8192x2048_S8192x5632_S2048x5632_0_0_1_1_n_n none B A : FVec Ideal Cert.Reference3Ideal.S2048x5632 .f32) Cert.Reference3Ideal.Gen.transposes_S2048x5632_S5632x2048_1_0 : FVec Ideal S5632x2048 .f32) (ix2 r l)
      = ∑ x : Fin 8192, A (ix2 x r) * B (ix2 x l) := by
  pointwise
  exact Finset.sum_congr rfl fun x _ => mul_comm _ _

theorem algebraic : @Cert.algebraic_Kernel3Ideal_Reference3Ideal Cert.Kernel3Ideal.Gen.facts Cert.Reference3Ideal.Gen.facts := by
  intro m g m' g' _ hagree
  refine ⟨_, Value.run m g, (θ_run Cert.Reference3Ideal.defs _ _).mono (fun r hr c => ?_) (Cert.Reference3Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (G2_eq m c r l).symm

/-- The two programs are one text, over any floats. -/
theorem defs0_eq : @Cert.Kernel3.defs₀ Bits _ Cert.Kernel3.Gen.facts = @Cert.Kernel3Ideal.defs₀ Bits _ Cert.Kernel3Ideal.Gen.facts :=
  congrArg (Defs.onTc (nD := 1) (τ := Cert.Kernel3Ideal.τ)) (funext fun ℓ => match ℓ with
    | (0 : Fin 1) => rfl)
theorem defs_eq : @Cert.Kernel3.defs Bits _ Cert.Kernel3.Gen.facts = @Cert.Kernel3Ideal.defs Bits _ Cert.Kernel3Ideal.Gen.facts :=
  congrArg (Pipeline.defs (Cert.Kernel3Ideal.pcfgs (F := Bits))) defs0_eq

theorem frame : @Cert.quiescent_Kernel3 Cert.Kernel3.Gen.facts := fun m ρ _ => by
  rw [defs_eq]
  exact Cert.Kernel3Ideal.Gen.frame (F := Bits) m ρ
theorem frameI : @Cert.quiescent_Kernel3Ideal Cert.Kernel3Ideal.Gen.facts := fun m ρ _ => Cert.Kernel3Ideal.Gen.frame m ρ
theorem frameR : @Cert.quiescent_Reference3Ideal Cert.Reference3Ideal.Gen.facts := fun m ρ _ =>
  (θ_run Cert.Reference3Ideal.defs _ _).mono (fun r h => ⟨fun c => (h c).2, sem_eq_zero_of_no_sems (by decide) r.2⟩)
    (Cert.Reference3Ideal.Value.run m ρ)

end Cert.P3

end
-- ==== Proof.P4.lean ====
/- UNTRUSTED — the gradient of the feed-forward's first weight: the blocked product is the product. -/
module

public import proofs.«01_k».proof.Proof.Prod
public import proofs.«01_k».proof.Proof.Gen.Kernel4
public import proofs.«01_k».proof.Proof.Gen.Kernel4Ideal.Value
public import proofs.«01_k».proof.Proof.Gen.Reference4Ideal.Run
public import proofs.«01_k».proof.Defs
public import Idealize.ShloMosaic.Lib.StableHlo.RunRead
public import Idealize.ShloMosaic.Lib.Claim

@[expose] public section

set_option maxRecDepth 16384

noncomputable section

namespace Cert.P4

open Idealize.ShloMosaic Idealize.ShloMosaic.TcCoe Cert.Kernel4Ideal Cert.Kernel4Ideal.Gen

section Point

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32)

theorem sout_A (hc0 hc1 hc2) : sout0_A_0 (F := Ideal) c i arg3 harg3 arg4 harg4 arg5 harg5 arg6 harg6 hc0 hc1 hc2 x0 x1 = k0_pay2 x0 x1 := by
  unfold sout0_A_0
  unfold kernelRun0_A
  sl_unfold_words
  dsimp only
  rw [Prod.read_writes_all, Prod.readAt_all, Prod.readAt_all, harg3.read_unread, harg4.read_unread]

theorem sout_B (hc0 hc1 hc2) : sout0_B_0 (F := Ideal) c i arg3 harg3 arg4 harg4 arg5 harg5 arg6 harg6 hc0 hc1 hc2 x0 x1 xs = k0_pay3 x0 x1 xs := by
  unfold sout0_B_0
  unfold kernelRun0_B
  sl_unfold_words
  dsimp only
  rw [Prod.read_writes_all, Prod.readAt_all, Prod.readAt_all, Prod.readAt_all, harg3.read_unread, harg4.read_unread, harg6.read_unread]

theorem out_C (hc0 hc1 hc2) : out0_C_2 (F := Ideal) c i arg3 harg3 arg4 harg4 arg5 harg5 arg6 harg6 hc0 hc1 hc2 x0 x1 xs = k0_pay4 x0 x1 xs := by
  unfold out0_C_2
  unfold kernelRun0_C
  sl_unfold_words
  dsimp only
  rw [Prod.read_writes_all, Prod.readAt_all, Prod.readAt_all, Prod.readAt_all, harg3.read_unread, harg4.read_unread, harg6.read_unread]

theorem pay1_at (a : Fin 1024) (b : Fin 1024) : k0_pay1 x0 x1 (ix2 a b) = ∑ x : Fin 2048, x0 (ix2 x a) * x1 (ix2 x b) := by
  pointwise [k0_pay1]
theorem pay2_at (a : Fin 1024) (b : Fin 1024) : k0_pay2 x0 x1 (ix2 a b) = ∑ x : Fin 2048, x0 (ix2 x a) * x1 (ix2 x b) :=
  (by pointwise [k0_pay2] : k0_pay2 x0 x1 (ix2 a b) = k0_pay1 x0 x1 (ix2 a b)).trans (pay1_at x0 x1 a b)
theorem pay3_at (a : Fin 1024) (b : Fin 1024) : k0_pay3 x0 x1 xs (ix2 a b) = xs (ix2 a b) + ∑ x : Fin 2048, x0 (ix2 x a) * x1 (ix2 x b) :=
  (by pointwise [k0_pay3] : k0_pay3 x0 x1 xs (ix2 a b) = xs (ix2 a b) + k0_pay1 x0 x1 (ix2 a b)).trans (by rw [pay1_at])
theorem pay4_at (a : Fin 1024) (b : Fin 1024) : k0_pay4 x0 x1 xs (ix2 a b) = xs (ix2 a b) + ∑ x : Fin 2048, x0 (ix2 x a) * x1 (ix2 x b) :=
  (by pointwise [k0_pay4] : k0_pay4 x0 x1 xs (ix2 a b) = xs (ix2 a b) + k0_pay1 x0 x1 (ix2 a b)).trans (by rw [pay1_at])

end Point

theorem idx0 : ∀ t : Fin grid0.N, win0_0.index t 0 = t.val % 4 ∧ win0_0.index t 1 = t.val / 4 / 2 := by decide +kernel
theorem idx1 : ∀ t : Fin grid0.N, win0_1.index t 0 = t.val % 4 ∧ win0_1.index t 1 = t.val / 4 % 2 := by decide +kernel

theorem pt_lt (t : Fin cfg0.N) : t.val < 88 := lt_of_lt_of_eq t.isLt N_0

variable (m : (ℓ : Loc nD τ sig) → Buf (Elt Ideal) ℓ) (c : Dev nD)

/-- An argument of the kernel. -/
abbrev k0 : FVec Ideal S8192x11264 .f32 := m ((c.tc : Thread nD τ).loc main_arg1)
abbrev k1 : FVec Ideal S8192x2048 .f32 := m ((c.tc : Thread nD τ).loc main_arg0)

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

theorem blk0_eq (A : Vec Ideal S8192x11264 .bf16) (t : Fin cfg0.N) (a : Fin 2048) (b : Fin 1024) :
    (((cfg0.win 0).blk t).view.read (Elt Ideal) A : Vec Ideal S2048x1024 .bf16) (ix2 a b) = Prod.at2 A (t.val % 4 * 2048 + a) (t.val / 4 / 2 * 1024 + b) := by
  have hi := idx0 t
  have ht := pt_lt t
  rw [← Prod.at2_of A _ _ (by omega) (by omega), View.read_apply]
  refine congrArg A (funext fun x => Fin.ext ?_)
  match x with
  | ⟨0, _⟩ => show win0_0.index t 0 * 2048 + 1 * (a : ℕ) = _; rw [hi.1, one_mul]; rfl
  | ⟨1, _⟩ => show win0_0.index t 1 * 1024 + 1 * (b : ℕ) = _; rw [hi.2, one_mul]; rfl

theorem blk1_eq (A : Vec Ideal S8192x2048 .bf16) (t : Fin cfg0.N) (a : Fin 2048) (b : Fin 1024) :
    (((cfg0.win 1).blk t).view.read (Elt Ideal) A : Vec Ideal S2048x1024 .bf16) (ix2 a b) = Prod.at2 A (t.val % 4 * 2048 + a) (t.val / 4 % 2 * 1024 + b) := by
  have hi := idx1 t
  have ht := pt_lt t
  rw [← Prod.at2_of A _ _ (by omega) (by omega), View.read_apply]
  refine congrArg A (funext fun x => Fin.ext ?_)
  match x with
  | ⟨0, _⟩ => show win0_1.index t 0 * 2048 + 1 * (a : ℕ) = _; rw [hi.1, one_mul]; rfl
  | ⟨1, _⟩ => show win0_1.index t 1 * 1024 + 1 * (b : ℕ) = _; rw [hi.2, one_mul]; rfl

/-- A window's input block. -/
abbrev b0 (t : Fin cfg0.N) : Vec Ideal S2048x1024 .bf16 := iblk m c 0 t
abbrev b1 (t : Fin cfg0.N) : Vec Ideal S2048x1024 .bf16 := iblk m c 1 t

theorem iblk0_eq (t : Fin cfg0.N) (a : Fin 2048) (b : Fin 1024) :
    b0 m c t (ix2 a b) = Prod.at2 (k0 m c) (t.val % 4 * 2048 + a) (t.val / 4 / 2 * 1024 + b) :=
  (blk0_eq (V m c main_v0) t a b).trans (by rw [V_0]; rfl)
theorem iblk1_eq (t : Fin cfg0.N) (a : Fin 2048) (b : Fin 1024) :
    b1 m c t (ix2 a b) = Prod.at2 (k1 m c) (t.val % 4 * 2048 + a) (t.val / 4 % 2 * 1024 + b) :=
  (blk1_eq (V m c main_v1) t a b).trans (by rw [V_1]; rfl)

/-- The products a block's element sums, block by block. -/
def term (a b run x : ℕ) : EReal := Prod.at2 (k0 m c) x (run / 2 * 1024 + a) * Prod.at2 (k1 m c) x (run % 2 * 1024 + b)

/-- What a grid point adds to a block's element. -/
theorem dot_eq (t : Fin cfg0.N) (a : Fin 1024) (b : Fin 1024) :
    ∑ x : Fin 2048, b0 m c t (ix2 x a) * b1 m c t (ix2 x b)
      = ∑ x : Fin 2048, term m c a b (t.val / 4) (t.val % 4 * 2048 + x) :=
  Finset.sum_congr rfl fun x _ => by rw [iblk0_eq, iblk1_eq]; rfl

theorem first (a : Fin 1024) (b : Fin 1024) (n : ℕ) (h : n < cfg0.N) (h0 : n % 4 = 0) :
    (outsAt0 m c n h).2 (ix2 a b) = ∑ x : Fin 2048, term m c a b (n / 4) (n % 4 * 2048 + x) := by
  refine (congrFun (congrArg _root_.Prod.snd (outsAt0_A m c ⟨n, h⟩ h0 (by simp only; omega) (by simp only; omega))) (ix2 a b)).trans ?_
  dsimp only
  rw [sout_A, pay2_at]
  exact dot_eq m c ⟨n, h⟩ a b

theorem next (a : Fin 1024) (b : Fin 1024) (n : ℕ) (h : n + 1 < cfg0.N) (h' : n < cfg0.N) (h0 : (n + 1) % 4 ≠ 0) (h2 : (n + 1) % 4 ≠ 3) :
    (outsAt0 m c (n + 1) h).2 (ix2 a b) = (outsAt0 m c n h').2 (ix2 a b) + ∑ x : Fin 2048, term m c a b ((n + 1) / 4) ((n + 1) % 4 * 2048 + x) := by
  refine (congrFun (congrArg _root_.Prod.snd (outsAt0_B m c ⟨n + 1, h⟩ h0 (by simp only; omega) h2)) (ix2 a b)).trans ?_
  dsimp only
  rw [sout_B, pay3_at]
  exact congrArg _ (dot_eq m c ⟨n + 1, h⟩ a b)

theorem last (a : Fin 1024) (b : Fin 1024) (n : ℕ) (h : n + 1 < cfg0.N) (h' : n < cfg0.N) (h2 : (n + 1) % 4 = 3) :
    (outsAt0 m c (n + 1) h).1 (ix2 a b) = (outsAt0 m c n h').2 (ix2 a b) + ∑ x : Fin 2048, term m c a b ((n + 1) / 4) ((n + 1) % 4 * 2048 + x) := by
  refine (congrFun (congrArg _root_.Prod.fst (outsAt0_C m c ⟨n + 1, h⟩ (by simp only; omega) (by simp only; omega) h2)) (ix2 a b)).trans ?_
  dsimp only
  rw [out_C, pay4_at]
  exact congrArg _ (dot_eq m c ⟨n + 1, h⟩ a b)

/-- The kernel's result. -/
theorem G2_eq (r : Fin 11264) (l : Fin 2048) :
    (Value.G2 m c : Vec Ideal S11264x2048 .f32) (ix2 r l) = ∑ x : Fin 8192, k0 m c (ix2 x r) * k1 m c (ix2 x l) := by
  have hp : Value.pt2Of (ix2 r l) = 4 * (2 * (r.val / 1024) + l.val / 1024) + 3 := by
    show 4 * (2 * (r.val / 1024 - 0) + 1 * (l.val / 1024 - 0)) + 3 = _; omega
  have hN : Value.pt2Of (ix2 r l) < cfg0.N := lt_of_lt_of_eq (by omega) N_0.symm
  have e := Prod.run_out cfg0.N 4 2048 (by decide) (term m c (r.val % 1024) (l.val % 1024))
    (fun n h => (outsAt0 m c n h).1 (ix2 ⟨r.val % 1024, Nat.mod_lt _ (by decide)⟩ ⟨l.val % 1024, Nat.mod_lt _ (by decide)⟩)) _
    (first m c _ _) (next m c _ _) (last m c _ _)
    (Value.pt2Of (ix2 r l)) hN (by omega)
  unfold Value.G2
  rw [dif_pos hN, ← Value.outsAt0_sweep m c _ hN,
    show Value.loc2Of (ix2 r l) = ix2 ⟨r.val % 1024, Nat.mod_lt _ (by decide)⟩ ⟨l.val % 1024, Nat.mod_lt _ (by decide)⟩ from Prod.ext2 rfl rfl]
  refine e.trans (Finset.sum_congr rfl fun x _ => ?_)
  rw [hp]
  unfold term
  rw [show (4 * (2 * (r.val / 1024) + l.val / 1024) + 3) / 4 / 2 * 1024 + r.val % 1024 = r.val by omega,
    show (4 * (2 * (r.val / 1024) + l.val / 1024) + 3) / 4 % 2 * 1024 + l.val % 1024 = l.val by omega]
  exact congrArg₂ (· * ·) (Prod.at2_ix (k0 m c) x r) (Prod.at2_ix (k1 m c) x l)

/-- The reference's result. -/
theorem ref_eq (A : FVec Ideal S8192x11264 .f32) (B : FVec Ideal S8192x2048 .f32) (r : Fin 11264) (l : Fin 2048) :
    (transpose Cert.Reference4Ideal.S11264x2048 [1, 0] (transpose Cert.Reference4Ideal.S2048x11264 [1, 0] (Host.dotGeneral Cert.Reference4Ideal.dot_S8192x11264_S8192x2048_S11264x2048_0_0_1_1_n_n none A B : FVec Ideal Cert.Reference4Ideal.S11264x2048 .f32) Cert.Reference4Ideal.Gen.transposes_S11264x2048_S2048x11264_1_0) Cert.Reference4Ideal.Gen.transposes_S2048x11264_S11264x2048_1_0 : FVec Ideal S11264x2048 .f32) (ix2 r l)
      = ∑ x : Fin 8192, A (ix2 x r) * B (ix2 x l) := by
  pointwise

theorem algebraic : @Cert.algebraic_Kernel4Ideal_Reference4Ideal Cert.Kernel4Ideal.Gen.facts Cert.Reference4Ideal.Gen.facts := by
  intro m g m' g' _ hagree
  refine ⟨_, Value.run m g, (θ_run Cert.Reference4Ideal.defs _ _).mono (fun r hr c => ?_) (Cert.Reference4Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (G2_eq m c r l).symm

/-- The two programs are one text, over any floats. -/
theorem defs0_eq : @Cert.Kernel4.defs₀ Bits _ Cert.Kernel4.Gen.facts = @Cert.Kernel4Ideal.defs₀ Bits _ Cert.Kernel4Ideal.Gen.facts :=
  congrArg (Defs.onTc (nD := 1) (τ := Cert.Kernel4Ideal.τ)) (funext fun ℓ => match ℓ with
    | (0 : Fin 1) => rfl)
theorem defs_eq : @Cert.Kernel4.defs Bits _ Cert.Kernel4.Gen.facts = @Cert.Kernel4Ideal.defs Bits _ Cert.Kernel4Ideal.Gen.facts :=
  congrArg (Pipeline.defs (Cert.Kernel4Ideal.pcfgs (F := Bits))) defs0_eq

theorem frame : @Cert.quiescent_Kernel4 Cert.Kernel4.Gen.facts := fun m ρ _ => by
  rw [defs_eq]
  exact Cert.Kernel4Ideal.Gen.frame (F := Bits) m ρ
theorem frameI : @Cert.quiescent_Kernel4Ideal Cert.Kernel4Ideal.Gen.facts := fun m ρ _ => Cert.Kernel4Ideal.Gen.frame m ρ
theorem frameR : @Cert.quiescent_Reference4Ideal Cert.Reference4Ideal.Gen.facts := fun m ρ _ =>
  (θ_run Cert.Reference4Ideal.defs _ _).mono (fun r h => ⟨fun c => (h c).2, sem_eq_zero_of_no_sems (by decide) r.2⟩)
    (Cert.Reference4Ideal.Value.run m ρ)

end Cert.P4

end
-- ==== Proof.P5.lean ====
/- UNTRUSTED — the gradient of the feed-forward's input: the blocked product is the product. -/
module

public import proofs.«01_k».proof.Proof.Prod
public import proofs.«01_k».proof.Proof.Gen.Kernel5
public import proofs.«01_k».proof.Proof.Gen.Kernel5Ideal.Value
public import proofs.«01_k».proof.Proof.Gen.Reference5Ideal.Run
public import proofs.«01_k».proof.Defs
public import Idealize.ShloMosaic.Lib.StableHlo.RunRead
public import Idealize.ShloMosaic.Lib.Claim

@[expose] public section

set_option maxRecDepth 16384

noncomputable section

namespace Cert.P5

open Idealize.ShloMosaic Idealize.ShloMosaic.TcCoe Cert.Kernel5Ideal Cert.Kernel5Ideal.Gen

section Point

variable (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x2816 .bf16) (x1 : Vec Ideal S2816x1024 .bf16) (xs : Vec Ideal S1024x1024 .f32)

theorem sout_A (hc0 hc1 hc2) : sout0_A_0 (F := Ideal) c i arg3 harg3 arg4 harg4 arg5 harg5 arg6 harg6 hc0 hc1 hc2 x0 x1 = k0_pay2 x0 x1 := by
  unfold sout0_A_0
  unfold kernelRun0_A
  sl_unfold_words
  dsimp only
  rw [Prod.read_writes_all, Prod.readAt_all, Prod.readAt_all, harg3.read_unread, harg4.read_unread]

theorem sout_B (hc0 hc1 hc2) : sout0_B_0 (F := Ideal) c i arg3 harg3 arg4 harg4 arg5 harg5 arg6 harg6 hc0 hc1 hc2 x0 x1 xs = k0_pay3 x0 x1 xs := by
  unfold sout0_B_0
  unfold kernelRun0_B
  sl_unfold_words
  dsimp only
  rw [Prod.read_writes_all, Prod.readAt_all, Prod.readAt_all, Prod.readAt_all, harg3.read_unread, harg4.read_unread, harg6.read_unread]

theorem out_C (hc0 hc1 hc2) : out0_C_2 (F := Ideal) c i arg3 harg3 arg4 harg4 arg5 harg5 arg6 harg6 hc0 hc1 hc2 x0 x1 xs = k0_pay4 x0 x1 xs := by
  unfold out0_C_2
  unfold kernelRun0_C
  sl_unfold_words
  dsimp only
  rw [Prod.read_writes_all, Prod.readAt_all, Prod.readAt_all, Prod.readAt_all, harg3.read_unread, harg4.read_unread, harg6.read_unread]

theorem pay1_at (a : Fin 1024) (b : Fin 1024) : k0_pay1 x0 x1 (ix2 a b) = ∑ x : Fin 2816, x0 (ix2 a x) * x1 (ix2 x b) := by
  pointwise [k0_pay1]
theorem pay2_at (a : Fin 1024) (b : Fin 1024) : k0_pay2 x0 x1 (ix2 a b) = ∑ x : Fin 2816, x0 (ix2 a x) * x1 (ix2 x b) :=
  (by pointwise [k0_pay2] : k0_pay2 x0 x1 (ix2 a b) = k0_pay1 x0 x1 (ix2 a b)).trans (pay1_at x0 x1 a b)
theorem pay3_at (a : Fin 1024) (b : Fin 1024) : k0_pay3 x0 x1 xs (ix2 a b) = xs (ix2 a b) + ∑ x : Fin 2816, x0 (ix2 a x) * x1 (ix2 x b) :=
  (by pointwise [k0_pay3] : k0_pay3 x0 x1 xs (ix2 a b) = xs (ix2 a b) + k0_pay1 x0 x1 (ix2 a b)).trans (by rw [pay1_at])
theorem pay4_at (a : Fin 1024) (b : Fin 1024) : k0_pay4 x0 x1 xs (ix2 a b) = xs (ix2 a b) + ∑ x : Fin 2816, x0 (ix2 a x) * x1 (ix2 x b) :=
  (by pointwise [k0_pay4] : k0_pay4 x0 x1 xs (ix2 a b) = xs (ix2 a b) + k0_pay1 x0 x1 (ix2 a b)).trans (by rw [pay1_at])

end Point

theorem idx0 : ∀ t : Fin grid0.N, win0_0.index t 0 = t.val / 4 / 2 ∧ win0_0.index t 1 = t.val % 4 := by decide +kernel
theorem idx1 : ∀ t : Fin grid0.N, win0_1.index t 0 = t.val % 4 ∧ win0_1.index t 1 = t.val / 4 % 2 := by decide +kernel

theorem pt_lt (t : Fin cfg0.N) : t.val < 64 := lt_of_lt_of_eq t.isLt N_0

variable (m : (ℓ : Loc nD τ sig) → Buf (Elt Ideal) ℓ) (c : Dev nD)

/-- The output's gradient, and the weight transposed. -/
abbrev k0 : FVec Ideal S8192x11264 .f32 := m ((c.tc : Thread nD τ).loc main_arg1)
abbrev k1 : FVec Ideal S2048x11264 .f32 := m ((c.tc : Thread nD τ).loc main_arg0)
abbrev k1t : FVec Ideal S11264x2048 .f32 := transpose S11264x2048 [1, 0] (k1 m c) transposes_S2048x11264_S11264x2048_1_0

theorem V_0 : V m c main_v0 = truncf .bf16 (k0 m c) bitsLt_bf16_f32 := by
  unfold V
  unfold_abbrev_sides
  after_reads_simp
theorem V_1 : V m c main_v2 = truncf .bf16 (k1t m c) bitsLt_bf16_f32 := by
  unfold V
  unfold_abbrev_sides
  after_reads_simp

theorem blk0_eq (A : Vec Ideal S8192x11264 .bf16) (t : Fin cfg0.N) (a : Fin 1024) (b : Fin 2816) :
    (((cfg0.win 0).blk t).view.read (Elt Ideal) A : Vec Ideal S1024x2816 .bf16) (ix2 a b) = Prod.at2 A (t.val / 4 / 2 * 1024 + a) (t.val % 4 * 2816 + b) := by
  have hi := idx0 t
  have ht := pt_lt t
  rw [← Prod.at2_of A _ _ (by omega) (by omega), View.read_apply]
  refine congrArg A (funext fun x => Fin.ext ?_)
  match x with
  | ⟨0, _⟩ => show win0_0.index t 0 * 1024 + 1 * (a : ℕ) = _; rw [hi.1, one_mul]; rfl
  | ⟨1, _⟩ => show win0_0.index t 1 * 2816 + 1 * (b : ℕ) = _; rw [hi.2, one_mul]; rfl

theorem blk1_eq (A : Vec Ideal S11264x2048 .bf16) (t : Fin cfg0.N) (a : Fin 2816) (b : Fin 1024) :
    (((cfg0.win 1).blk t).view.read (Elt Ideal) A : Vec Ideal S2816x1024 .bf16) (ix2 a b) = Prod.at2 A (t.val % 4 * 2816 + a) (t.val / 4 % 2 * 1024 + b) := by
  have hi := idx1 t
  have ht := pt_lt t
  rw [← Prod.at2_of A _ _ (by omega) (by omega), View.read_apply]
  refine congrArg A (funext fun x => Fin.ext ?_)
  match x with
  | ⟨0, _⟩ => show win0_1.index t 0 * 2816 + 1 * (a : ℕ) = _; rw [hi.1, one_mul]; rfl
  | ⟨1, _⟩ => show win0_1.index t 1 * 1024 + 1 * (b : ℕ) = _; rw [hi.2, one_mul]; rfl

/-- A window's input block. -/
abbrev b0 (t : Fin cfg0.N) : Vec Ideal S1024x2816 .bf16 := iblk m c 0 t
abbrev b1 (t : Fin cfg0.N) : Vec Ideal S2816x1024 .bf16 := iblk m c 1 t

theorem iblk0_eq (t : Fin cfg0.N) (a : Fin 1024) (b : Fin 2816) :
    b0 m c t (ix2 a b) = Prod.at2 (k0 m c) (t.val / 4 / 2 * 1024 + a) (t.val % 4 * 2816 + b) :=
  (blk0_eq (V m c main_v0) t a b).trans (by rw [V_0]; rfl)
theorem iblk1_eq (t : Fin cfg0.N) (a : Fin 2816) (b : Fin 1024) :
    b1 m c t (ix2 a b) = Prod.at2 (k1t m c) (t.val % 4 * 2816 + a) (t.val / 4 % 2 * 1024 + b) :=
  (blk1_eq (V m c main_v2) t a b).trans (by rw [V_1]; rfl)

/-- The products a block's element sums, block by block. -/
def term (a b run x : ℕ) : EReal := Prod.at2 (k0 m c) (run / 2 * 1024 + a) x * Prod.at2 (k1t m c) x (run % 2 * 1024 + b)

/-- What a grid point adds to a block's element. -/
theorem dot_eq (t : Fin cfg0.N) (a : Fin 1024) (b : Fin 1024) :
    ∑ x : Fin 2816, b0 m c t (ix2 a x) * b1 m c t (ix2 x b)
      = ∑ x : Fin 2816, term m c a b (t.val / 4) (t.val % 4 * 2816 + x) :=
  Finset.sum_congr rfl fun x _ => by rw [iblk0_eq, iblk1_eq]; rfl

theorem first (a : Fin 1024) (b : Fin 1024) (n : ℕ) (h : n < cfg0.N) (h0 : n % 4 = 0) :
    (outsAt0 m c n h).2 (ix2 a b) = ∑ x : Fin 2816, term m c a b (n / 4) (n % 4 * 2816 + x) := by
  refine (congrFun (congrArg _root_.Prod.snd (outsAt0_A m c ⟨n, h⟩ h0 (by simp only; omega) (by simp only; omega))) (ix2 a b)).trans ?_
  dsimp only
  rw [sout_A, pay2_at]
  exact dot_eq m c ⟨n, h⟩ a b

theorem next (a : Fin 1024) (b : Fin 1024) (n : ℕ) (h : n + 1 < cfg0.N) (h' : n < cfg0.N) (h0 : (n + 1) % 4 ≠ 0) (h2 : (n + 1) % 4 ≠ 3) :
    (outsAt0 m c (n + 1) h).2 (ix2 a b) = (outsAt0 m c n h').2 (ix2 a b) + ∑ x : Fin 2816, term m c a b ((n + 1) / 4) ((n + 1) % 4 * 2816 + x) := by
  refine (congrFun (congrArg _root_.Prod.snd (outsAt0_B m c ⟨n + 1, h⟩ h0 (by simp only; omega) h2)) (ix2 a b)).trans ?_
  dsimp only
  rw [sout_B, pay3_at]
  exact congrArg _ (dot_eq m c ⟨n + 1, h⟩ a b)

theorem last (a : Fin 1024) (b : Fin 1024) (n : ℕ) (h : n + 1 < cfg0.N) (h' : n < cfg0.N) (h2 : (n + 1) % 4 = 3) :
    (outsAt0 m c (n + 1) h).1 (ix2 a b) = (outsAt0 m c n h').2 (ix2 a b) + ∑ x : Fin 2816, term m c a b ((n + 1) / 4) ((n + 1) % 4 * 2816 + x) := by
  refine (congrFun (congrArg _root_.Prod.fst (outsAt0_C m c ⟨n + 1, h⟩ (by simp only; omega) (by simp only; omega) h2)) (ix2 a b)).trans ?_
  dsimp only
  rw [out_C, pay4_at]
  exact congrArg _ (dot_eq m c ⟨n + 1, h⟩ a b)

/-- The kernel's result. -/
theorem G2_eq (r : Fin 8192) (l : Fin 2048) :
    (Value.G2 m c : Vec Ideal S8192x2048 .f32) (ix2 r l) = ∑ x : Fin 11264, k0 m c (ix2 r x) * k1 m c (ix2 l x) := by
  have hp : Value.pt2Of (ix2 r l) = 4 * (2 * (r.val / 1024) + l.val / 1024) + 3 := by
    show 4 * (2 * (r.val / 1024 - 0) + 1 * (l.val / 1024 - 0)) + 3 = _; omega
  have hN : Value.pt2Of (ix2 r l) < cfg0.N := lt_of_lt_of_eq (by omega) N_0.symm
  have e := Prod.run_out cfg0.N 4 2816 (by decide) (term m c (r.val % 1024) (l.val % 1024))
    (fun n h => (outsAt0 m c n h).1 (ix2 ⟨r.val % 1024, Nat.mod_lt _ (by decide)⟩ ⟨l.val % 1024, Nat.mod_lt _ (by decide)⟩)) _
    (first m c _ _) (next m c _ _) (last m c _ _)
    (Value.pt2Of (ix2 r l)) hN (by omega)
  unfold Value.G2
  rw [dif_pos hN, ← Value.outsAt0_sweep m c _ hN,
    show Value.loc2Of (ix2 r l) = ix2 ⟨r.val % 1024, Nat.mod_lt _ (by decide)⟩ ⟨l.val % 1024, Nat.mod_lt _ (by decide)⟩ from Prod.ext2 rfl rfl]
  refine e.trans (Finset.sum_congr rfl fun x _ => ?_)
  rw [hp]
  unfold term
  rw [show (4 * (2 * (r.val / 1024) + l.val / 1024) + 3) / 4 / 2 * 1024 + r.val % 1024 = r.val by omega,
    show (4 * (2 * (r.val / 1024) + l.val / 1024) + 3) / 4 % 2 * 1024 + l.val % 1024 = l.val by omega]
  exact congrArg₂ (· * ·) (Prod.at2_ix (k0 m c) r x) ((Prod.at2_ix (k1t m c) x l).trans (by pointwise))

/-- The reference's result. -/
theorem ref_eq (A : FVec Ideal S8192x11264 .f32) (B : FVec Ideal S2048x11264 .f32) (r : Fin 8192) (l : Fin 2048) :
    (Host.dotGeneral Cert.Reference5Ideal.dot_S8192x11264_S2048x11264_S8192x2048_1_1_0_0_n_n none A B : FVec Ideal S8192x2048 .f32) (ix2 r l)
      = ∑ x : Fin 11264, A (ix2 r x) * B (ix2 l x) := by
  pointwise

theorem algebraic : @Cert.algebraic_Kernel5Ideal_Reference5Ideal Cert.Kernel5Ideal.Gen.facts Cert.Reference5Ideal.Gen.facts := by
  intro m g m' g' _ hagree
  refine ⟨_, Value.run m g, (θ_run Cert.Reference5Ideal.defs _ _).mono (fun r hr c => ?_) (Cert.Reference5Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (G2_eq m c r l).symm

/-- The two programs are one text, over any floats. -/
theorem defs0_eq : @Cert.Kernel5.defs₀ Bits _ Cert.Kernel5.Gen.facts = @Cert.Kernel5Ideal.defs₀ Bits _ Cert.Kernel5Ideal.Gen.facts :=
  congrArg (Defs.onTc (nD := 1) (τ := Cert.Kernel5Ideal.τ)) (funext fun ℓ => match ℓ with
    | (0 : Fin 1) => rfl)
theorem defs_eq : @Cert.Kernel5.defs Bits _ Cert.Kernel5.Gen.facts = @Cert.Kernel5Ideal.defs Bits _ Cert.Kernel5Ideal.Gen.facts :=
  congrArg (Pipeline.defs (Cert.Kernel5Ideal.pcfgs (F := Bits))) defs0_eq

theorem frame : @Cert.quiescent_Kernel5 Cert.Kernel5.Gen.facts := fun m ρ _ => by
  rw [defs_eq]
  exact Cert.Kernel5Ideal.Gen.frame (F := Bits) m ρ
theorem frameI : @Cert.quiescent_Kernel5Ideal Cert.Kernel5Ideal.Gen.facts := fun m ρ _ => Cert.Kernel5Ideal.Gen.frame m ρ
theorem frameR : @Cert.quiescent_Reference5Ideal Cert.Reference5Ideal.Gen.facts := fun m ρ _ =>
  (θ_run Cert.Reference5Ideal.defs _ _).mono (fun r h => ⟨fun c => (h c).2, sem_eq_zero_of_no_sems (by decide) r.2⟩)
    (Cert.Reference5Ideal.Value.run m ρ)

end Cert.P5

end
-- ==== Proof.P6.lean ====
/- UNTRUSTED — the gradient of the feed-forward's activation: the blocked product is the product. -/
module

public import proofs.«01_k».proof.Proof.Prod
public import proofs.«01_k».proof.Proof.Gen.Kernel6
public import proofs.«01_k».proof.Proof.Gen.Kernel6Ideal.Value
public import proofs.«01_k».proof.Proof.Gen.Reference6Ideal.Run
public import proofs.«01_k».proof.Defs
public import Idealize.ShloMosaic.Lib.StableHlo.RunRead
public import Idealize.ShloMosaic.Lib.Claim

@[expose] public section

set_option maxRecDepth 16384

noncomputable section

namespace Cert.P6

open Idealize.ShloMosaic Idealize.ShloMosaic.TcCoe Cert.Kernel6Ideal Cert.Kernel6Ideal.Gen

theorem out_block (x0 : Vec Ideal S1024x2048 .bf16) (x1 : Vec Ideal S1408x2048 .bf16) : out0_2 (F := Ideal) x0 x1 = k0_pay1 x0 x1 := by
  unfold out0_2
  rw [Prod.canon_all, Prod.ld_all, Prod.ld_all]

theorem pay1_at (x0 : Vec Ideal S1024x2048 .bf16) (x1 : Vec Ideal S1408x2048 .bf16) (a : Fin 1024) (b : Fin 1408) :
    k0_pay1 x0 x1 (ix2 a b) = ∑ x : Fin 2048, x0 (ix2 a x) * x1 (ix2 b x) := by
  pointwise [k0_pay1]

theorem idx0 : ∀ t : Fin grid0.N, win0_0.index t 0 = t.val / 4 ∧ win0_0.index t 1 = 0 := by decide +kernel
theorem idx1 : ∀ t : Fin grid0.N, win0_1.index t 0 = t.val % 4 ∧ win0_1.index t 1 = 0 := by decide +kernel
theorem idx2 : ∀ t : Fin grid0.N, win0_2.index t 0 = t.val / 4 ∧ win0_2.index t 1 = t.val % 4 := by decide +kernel

theorem pt_lt (t : Fin cfg0.N) : t.val < 32 := lt_of_lt_of_eq t.isLt N_0

variable (m : (ℓ : Loc nD τ sig) → Buf (Elt Ideal) ℓ) (c : Dev nD)

/-- The output's gradient, and the weight. -/
abbrev k0 : FVec Ideal S8192x2048 .f32 := m ((c.tc : Thread nD τ).loc main_arg1)
abbrev k1 : FVec Ideal S5632x2048 .f32 := m ((c.tc : Thread nD τ).loc main_arg0)

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

theorem blk0_eq (A : Vec Ideal S8192x2048 .bf16) (t : Fin cfg0.N) (a : Fin 1024) (b : Fin 2048) :
    (((cfg0.win 0).blk t).view.read (Elt Ideal) A : Vec Ideal S1024x2048 .bf16) (ix2 a b) = Prod.at2 A (t.val / 4 * 1024 + a) (0 * 2048 + b) := by
  have hi := idx0 t
  have ht := pt_lt t
  rw [← Prod.at2_of A _ _ (by omega) (by omega), View.read_apply]
  refine congrArg A (funext fun x => Fin.ext ?_)
  match x with
  | ⟨0, _⟩ => show win0_0.index t 0 * 1024 + 1 * (a : ℕ) = _; rw [hi.1, one_mul]; rfl
  | ⟨1, _⟩ => show win0_0.index t 1 * 2048 + 1 * (b : ℕ) = _; rw [hi.2, one_mul]; rfl

theorem blk1_eq (A : Vec Ideal S5632x2048 .bf16) (t : Fin cfg0.N) (a : Fin 1408) (b : Fin 2048) :
    (((cfg0.win 1).blk t).view.read (Elt Ideal) A : Vec Ideal S1408x2048 .bf16) (ix2 a b) = Prod.at2 A (t.val % 4 * 1408 + a) (0 * 2048 + b) := by
  have hi := idx1 t
  have ht := pt_lt t
  rw [← Prod.at2_of A _ _ (by omega) (by omega), View.read_apply]
  refine congrArg A (funext fun x => Fin.ext ?_)
  match x with
  | ⟨0, _⟩ => show win0_1.index t 0 * 1408 + 1 * (a : ℕ) = _; rw [hi.1, one_mul]; rfl
  | ⟨1, _⟩ => show win0_1.index t 1 * 2048 + 1 * (b : ℕ) = _; rw [hi.2, one_mul]; rfl

theorem blk2_eq (A : Vec Ideal S8192x5632 .bf16) (t : Fin cfg0.N) (a : Fin 1024) (b : Fin 1408) :
    (((cfg0.win 2).blk t).view.read (Elt Ideal) A : Vec Ideal S1024x1408 .bf16) (ix2 a b) = Prod.at2 A (t.val / 4 * 1024 + a) (t.val % 4 * 1408 + b) := by
  have hi := idx2 t
  have ht := pt_lt t
  rw [← Prod.at2_of A _ _ (by omega) (by omega), View.read_apply]
  refine congrArg A (funext fun x => Fin.ext ?_)
  match x with
  | ⟨0, _⟩ => show win0_2.index t 0 * 1024 + 1 * (a : ℕ) = _; rw [hi.1, one_mul]; rfl
  | ⟨1, _⟩ => show win0_2.index t 1 * 1408 + 1 * (b : ℕ) = _; rw [hi.2, one_mul]; rfl

/-- A window's input block. -/
abbrev b0 (t : Fin cfg0.N) : Vec Ideal S1024x2048 .bf16 := iblk m c 0 t
abbrev b1 (t : Fin cfg0.N) : Vec Ideal S1408x2048 .bf16 := iblk m c 1 t

theorem iblk0_eq (t : Fin cfg0.N) (a : Fin 1024) (b : Fin 2048) :
    b0 m c t (ix2 a b) = Prod.at2 (k0 m c) (t.val / 4 * 1024 + a) (0 * 2048 + b) :=
  (blk0_eq (V m c main_v0) t a b).trans (by rw [V_0]; rfl)
theorem iblk1_eq (t : Fin cfg0.N) (a : Fin 1408) (b : Fin 2048) :
    b1 m c t (ix2 a b) = Prod.at2 (k1 m c) (t.val % 4 * 1408 + a) (0 * 2048 + b) :=
  (blk1_eq (V m c main_v1) t a b).trans (by rw [V_1]; rfl)

/-- The kernel's result. -/
abbrev out : Vec Ideal S8192x5632 .bf16 := (dats m 0 c).arrAt 2 cfg0.N

theorem out_at (t : Fin cfg0.N) (a : Fin 1024) (b : Fin 1408) :
    Prod.at2 (out m c) (t.val / 4 * 1024 + a) (t.val % 4 * 1408 + b) = ∑ x : Fin 2048, b0 m c t (ix2 a x) * b1 m c t (ix2 b x) := by
  have e : (((cfg0.win 2).blk t).view.read (Elt Ideal) (out m c) : Vec Ideal S1024x1408 .bf16) (ix2 a b) = out0_2 (b0 m c t) (b1 m c t) (ix2 a b) :=
    congrFun ((Value.blocks2 m c t (flush0_2 t)).trans (Value.flushed2 m c t)) (ix2 a b)
  rw [blk2_eq, out_block, pay1_at] at e
  exact e

theorem out_eq (r : Fin 8192) (l : Fin 5632) : out m c (ix2 r l) = ∑ x : Fin 2048, k0 m c (ix2 r x) * k1 m c (ix2 l x) := by
  have hN : 4 * (r.val / 1024) + l.val / 1408 < cfg0.N := lt_of_lt_of_eq (by omega) N_0.symm
  have e := out_at m c ⟨_, hN⟩ ⟨r.val % 1024, Nat.mod_lt _ (by decide)⟩ ⟨l.val % 1408, Nat.mod_lt _ (by decide)⟩
  dsimp only at e
  rw [show (4 * (r.val / 1024) + l.val / 1408) / 4 * 1024 + r.val % 1024 = r.val by omega,
    show (4 * (r.val / 1024) + l.val / 1408) % 4 * 1408 + l.val % 1408 = l.val by omega] at e
  refine (Prod.at2_ix (out m c) r l).symm.trans (e.trans (Finset.sum_congr rfl fun x _ => ?_))
  rw [iblk0_eq, iblk1_eq]
  dsimp only
  rw [show (4 * (r.val / 1024) + l.val / 1408) / 4 * 1024 + r.val % 1024 = r.val by omega,
    show (4 * (r.val / 1024) + l.val / 1408) % 4 * 1408 + l.val % 1408 = l.val by omega, Nat.zero_mul, Nat.zero_add]
  exact congrArg₂ (· * ·) (Prod.at2_ix (k0 m c) r x) (Prod.at2_ix (k1 m c) l x)

/-- The reference's result. -/
theorem ref_eq (A : FVec Ideal S8192x2048 .f32) (B : FVec Ideal S5632x2048 .f32) (r : Fin 8192) (l : Fin 5632) :
    (truncf .bf16 (Host.dotGeneral Cert.Reference6Ideal.dot_S8192x2048_S5632x2048_S8192x5632_1_1_0_0_n_n none A B : FVec Ideal S8192x5632 .f32) bitsLt_bf16_f32 : FVec Ideal S8192x5632 .bf16) (ix2 r l)
      = ∑ x : Fin 2048, A (ix2 r x) * B (ix2 l x) := by
  pointwise

theorem algebraic : @Cert.algebraic_Kernel6Ideal_Reference6Ideal Cert.Kernel6Ideal.Gen.facts Cert.Reference6Ideal.Gen.facts := by
  intro m g m' g' _ hagree
  refine ⟨_, Value.run_blocks m g, (θ_run Cert.Reference6Ideal.defs _ _).mono (fun r hr c => ?_) (Cert.Reference6Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (out_eq m c r l).symm

/-- The two programs are one text, over any floats. -/
theorem defs0_eq : @Cert.Kernel6.defs₀ Bits _ Cert.Kernel6.Gen.facts = @Cert.Kernel6Ideal.defs₀ Bits _ Cert.Kernel6Ideal.Gen.facts :=
  congrArg (Defs.onTc (nD := 1) (τ := Cert.Kernel6Ideal.τ)) (funext fun ℓ => match ℓ with
    | (0 : Fin 1) => rfl)
theorem defs_eq : @Cert.Kernel6.defs Bits _ Cert.Kernel6.Gen.facts = @Cert.Kernel6Ideal.defs Bits _ Cert.Kernel6Ideal.Gen.facts :=
  congrArg (Pipeline.defs (Cert.Kernel6Ideal.pcfgs (F := Bits))) defs0_eq

theorem frame : @Cert.quiescent_Kernel6 Cert.Kernel6.Gen.facts := fun m ρ _ => by
  rw [defs_eq]
  exact Cert.Kernel6Ideal.Gen.frame (F := Bits) m ρ
theorem frameI : @Cert.quiescent_Kernel6Ideal Cert.Kernel6Ideal.Gen.facts := fun m ρ _ => Cert.Kernel6Ideal.Gen.frame m ρ
theorem frameR : @Cert.quiescent_Reference6Ideal Cert.Reference6Ideal.Gen.facts := fun m ρ _ =>
  (θ_run Cert.Reference6Ideal.defs _ _).mono (fun r h => ⟨fun c => (h c).2, sem_eq_zero_of_no_sems (by decide) r.2⟩)
    (Cert.Reference6Ideal.Value.run m ρ)

end Cert.P6

end
-- ==== Proof.P7.lean ====
/- UNTRUSTED — the feed-forward's first product and its gate, forward: the blocked products are the product's two halves. -/
module

public import proofs.«01_k».proof.Proof.Prod
public import proofs.«01_k».proof.Proof.Gen.Kernel7
public import proofs.«01_k».proof.Proof.Gen.Kernel7Ideal.Value
public import proofs.«01_k».proof.Proof.Gen.Reference7Ideal.Run
public import proofs.«01_k».proof.Defs
public import Idealize.ShloMosaic.Lib.StableHlo.RunRead
public import Idealize.ShloMosaic.Lib.Claim

@[expose] public section

set_option maxRecDepth 16384

noncomputable section

namespace Cert.P7

open Idealize.ShloMosaic Idealize.ShloMosaic.TcCoe Cert.Kernel7Ideal Cert.Kernel7Ideal.Gen

/-- The gated product. -/
def act (g u : EReal) : EReal := g * Ideal.div 1 (1 + Ideal.exp (0 - g)) * u

section Block

variable (x0 : Vec Ideal S1024x2048 .bf16) (x1 x2 : Vec Ideal S512x2048 .bf16) (a : Fin 1024) (b : Fin 512)

theorem pay2_at : k0_pay2 x0 x1 (ix2 a b) = ∑ x : Fin 2048, x0 (ix2 a x) * x1 (ix2 b x) := by
  pointwise [k0_pay2, k0_pay1]
theorem pay3_at : k0_pay3 x0 x2 (ix2 a b) = ∑ x : Fin 2048, x0 (ix2 a x) * x2 (ix2 b x) := by
  pointwise [k0_pay3, k0_pay1]
theorem pay4_at : k0_pay4 x0 x1 x2 (ix2 a b) = act (k0_pay2 x0 x1 (ix2 a b)) (k0_pay3 x0 x2 (ix2 a b)) := by
  unfold act k0_pay4
  generalize k0_pay2 x0 x1 = p
  generalize k0_pay3 x0 x2 = q
  pointwise

theorem out_gate : out0_3 (F := Ideal) x0 x1 x2 (ix2 a b) = ∑ x : Fin 2048, x0 (ix2 a x) * x1 (ix2 b x) := by
  unfold out0_3
  rw [Prod.canon_all, Prod.ld_all, Prod.ld_all, pay2_at]
theorem out_up : out0_4 (F := Ideal) x0 x1 x2 (ix2 a b) = ∑ x : Fin 2048, x0 (ix2 a x) * x2 (ix2 b x) := by
  unfold out0_4
  rw [Prod.canon_all, Prod.ld_all, Prod.ld_all, pay3_at]
theorem out_act : out0_5 (F := Ideal) x0 x1 x2 (ix2 a b)
    = act (∑ x : Fin 2048, x0 (ix2 a x) * x1 (ix2 b x)) (∑ x : Fin 2048, x0 (ix2 a x) * x2 (ix2 b x)) := by
  unfold out0_5
  rw [Prod.canon_all, Prod.ld_all, Prod.ld_all, Prod.ld_all, pay4_at, pay2_at, pay3_at]

end Block

theorem idx0 : ∀ t : Fin grid0.N, win0_0.index t 0 = t.val / 11 ∧ win0_0.index t 1 = 0 := by decide +kernel
theorem idx1 : ∀ t : Fin grid0.N, win0_1.index t 0 = t.val % 11 ∧ win0_1.index t 1 = 0 := by decide +kernel
theorem idx2 : ∀ t : Fin grid0.N, win0_2.index t 0 = 11 + t.val % 11 ∧ win0_2.index t 1 = 0 := by decide +kernel
theorem idx3 : ∀ t : Fin grid0.N, win0_3.index t 0 = t.val / 11 ∧ win0_3.index t 1 = t.val % 11 := by decide +kernel
theorem idx4 : ∀ t : Fin grid0.N, win0_4.index t 0 = t.val / 11 ∧ win0_4.index t 1 = t.val % 11 := by decide +kernel
theorem idx5 : ∀ t : Fin grid0.N, win0_5.index t 0 = t.val / 11 ∧ win0_5.index t 1 = t.val % 11 := by decide +kernel

variable (m : (ℓ : Loc nD τ sig) → Buf (Elt Ideal) ℓ) (c : Dev nD)

/-- The rows, and the weight, and the weight transposed. -/
abbrev k0 : FVec Ideal S8192x2048 .f32 := m ((c.tc : Thread nD τ).loc main_arg0)
abbrev k1 : FVec Ideal S2048x11264 .f32 := m ((c.tc : Thread nD τ).loc main_arg1)
abbrev k1t : FVec Ideal S11264x2048 .f32 := transpose S11264x2048 [1, 0] (k1 m c) transposes_S2048x11264_S11264x2048_1_0

theorem V_0 : V m c main_v0 = truncf .bf16 (k0 m c) bitsLt_bf16_f32 := by
  unfold V
  unfold_abbrev_sides
  after_reads_simp
theorem V_1 : V m c main_v2 = truncf .bf16 (k1t m c) bitsLt_bf16_f32 := by
  unfold V
  unfold_abbrev_sides
  after_reads_simp

/-- A window's input block. -/
abbrev b0 (t : Fin cfg0.N) : Vec Ideal S1024x2048 .bf16 := iblk m c 0 t
abbrev b1 (t : Fin cfg0.N) : Vec Ideal S512x2048 .bf16 := iblk m c 1 t
abbrev b2 (t : Fin cfg0.N) : Vec Ideal S512x2048 .bf16 := iblk m c 2 t

theorem b0_at (t : Fin cfg0.N) (a : Fin 1024) (b : Fin 2048) :
    b0 m c t (ix2 a b) = Prod.at2 (k0 m c) (t.val / 11 * 1024 + a) (0 * 2048 + b) :=
  (Prod.at_blk (V m c main_v0) (((cfg0.win 0).blk t).view.emb (ix2 a b)) 1024 2048 a b rfl rfl (idx0 t)).trans (by rw [V_0]; rfl)
theorem b1_at (t : Fin cfg0.N) (a : Fin 512) (b : Fin 2048) :
    b1 m c t (ix2 a b) = Prod.at2 (k1t m c) (t.val % 11 * 512 + a) (0 * 2048 + b) :=
  (Prod.at_blk (V m c main_v2) (((cfg0.win 1).blk t).view.emb (ix2 a b)) 512 2048 a b rfl rfl (idx1 t)).trans (by rw [V_1]; rfl)
theorem b2_at (t : Fin cfg0.N) (a : Fin 512) (b : Fin 2048) :
    b2 m c t (ix2 a b) = Prod.at2 (k1t m c) (5632 + (t.val % 11 * 512 + a)) (0 * 2048 + b) :=
  (Prod.at_blk (V m c main_v2) (((cfg0.win 2).blk t).view.emb (ix2 a b)) 512 2048 a b rfl rfl (idx2 t)).trans (by
    rw [V_1, show (11 + t.val % 11) * 512 + (a : ℕ) = 5632 + (t.val % 11 * 512 + a) by omega]; rfl)

/-- An element of the product, gate and up side by side. -/
def gu (r l : ℕ) : EReal := ∑ x : Fin 2048, Prod.at2 (k0 m c) r x * Prod.at2 (k1t m c) l x

theorem gate_eq (t : Fin cfg0.N) (a : Fin 1024) (b : Fin 512) :
    ∑ x : Fin 2048, b0 m c t (ix2 a x) * b1 m c t (ix2 b x) = gu m c (t.val / 11 * 1024 + a) (t.val % 11 * 512 + b) := by
  simp only [gu, b0_at, b1_at, Nat.zero_mul, Nat.zero_add]
theorem up_eq (t : Fin cfg0.N) (a : Fin 1024) (b : Fin 512) :
    ∑ x : Fin 2048, b0 m c t (ix2 a x) * b2 m c t (ix2 b x) = gu m c (t.val / 11 * 1024 + a) (5632 + (t.val % 11 * 512 + b)) := by
  simp only [gu, b0_at, b2_at, Nat.zero_mul, Nat.zero_add]

/-- The kernel's results. -/
abbrev o3 : Vec Ideal S8192x5632 .f32 := (dats m 0 c).arrAt 3 cfg0.N
abbrev o4 : Vec Ideal S8192x5632 .f32 := (dats m 0 c).arrAt 4 cfg0.N
abbrev o5 : Vec Ideal S8192x5632 .bf16 := (dats m 0 c).arrAt 5 cfg0.N

theorem o3_at (t : Fin cfg0.N) (a : Fin 1024) (b : Fin 512) :
    Prod.at2 (o3 m c) (t.val / 11 * 1024 + a) (t.val % 11 * 512 + b) = gu m c (t.val / 11 * 1024 + a) (t.val % 11 * 512 + b) :=
  (Prod.at_blk (o3 m c) (((cfg0.win 3).blk t).view.emb (ix2 a b)) 1024 512 a b rfl rfl (idx3 t)).symm.trans
    (((congrFun ((Value.blocks3 m c t (flush0_3 t)).trans (Value.flushed3 m c t)) (ix2 a b)).trans (out_gate (b0 m c t) (b1 m c t) (b2 m c t) a b)).trans
      (gate_eq m c t a b))
theorem o4_at (t : Fin cfg0.N) (a : Fin 1024) (b : Fin 512) :
    Prod.at2 (o4 m c) (t.val / 11 * 1024 + a) (t.val % 11 * 512 + b) = gu m c (t.val / 11 * 1024 + a) (5632 + (t.val % 11 * 512 + b)) :=
  (Prod.at_blk (o4 m c) (((cfg0.win 4).blk t).view.emb (ix2 a b)) 1024 512 a b rfl rfl (idx4 t)).symm.trans
    (((congrFun ((Value.blocks4 m c t (flush0_4 t)).trans (Value.flushed4 m c t)) (ix2 a b)).trans (out_up (b0 m c t) (b1 m c t) (b2 m c t) a b)).trans
      (up_eq m c t a b))
theorem o5_at (t : Fin cfg0.N) (a : Fin 1024) (b : Fin 512) :
    Prod.at2 (o5 m c) (t.val / 11 * 1024 + a) (t.val % 11 * 512 + b)
      = act (gu m c (t.val / 11 * 1024 + a) (t.val % 11 * 512 + b)) (gu m c (t.val / 11 * 1024 + a) (5632 + (t.val % 11 * 512 + b))) :=
  (Prod.at_blk (o5 m c) (((cfg0.win 5).blk t).view.emb (ix2 a b)) 1024 512 a b rfl rfl (idx5 t)).symm.trans
    (((congrFun ((Value.blocks5 m c t (flush0_5 t)).trans (Value.flushed5 m c t)) (ix2 a b)).trans (out_act (b0 m c t) (b1 m c t) (b2 m c t) a b)).trans
      (congrArg₂ act (gate_eq m c t a b) (up_eq m c t a b)))

theorem o3_eq (r : Fin 8192) (l : Fin 5632) : o3 m c (ix2 r l) = gu m c r l :=
  Prod.grid 8 11 1024 512 rfl rfl (gu m c) (o3 m c) (fun t ht a b => o3_at m c ⟨t, lt_of_lt_of_eq ht N_0.symm⟩ a b) r l
theorem o4_eq (r : Fin 8192) (l : Fin 5632) : o4 m c (ix2 r l) = gu m c r (5632 + l) :=
  Prod.grid 8 11 1024 512 rfl rfl (fun r l => gu m c r (5632 + l)) (o4 m c) (fun t ht a b => o4_at m c ⟨t, lt_of_lt_of_eq ht N_0.symm⟩ a b) r l
theorem o5_eq (r : Fin 8192) (l : Fin 5632) : o5 m c (ix2 r l) = act (gu m c r l) (gu m c r (5632 + l)) :=
  Prod.grid 8 11 1024 512 rfl rfl (fun r l => act (gu m c r l) (gu m c r (5632 + l))) (o5 m c) (fun t ht a b => o5_at m c ⟨t, lt_of_lt_of_eq ht N_0.symm⟩ a b) r l

/-- The reference's product. -/
def full (A : FVec Ideal S8192x2048 .f32) (B : FVec Ideal S2048x11264 .f32) : FVec Ideal Cert.Reference7Ideal.S8192x11264 .f32 :=
  Host.dotGeneral Cert.Reference7Ideal.dot_S8192x2048_S2048x11264_S8192x11264_1_0_0_1_n_n none A B

theorem full_at (r : Fin 8192) (l : Fin 11264) : full (k0 m c) (k1 m c) (ix2 r l) = gu m c r l := by
  have e : full (k0 m c) (k1 m c) (ix2 r l) = ∑ x : Fin 2048, k0 m c (ix2 r x) * k1 m c (ix2 x l) := by pointwise [full]
  rw [e]
  unfold gu
  refine Finset.sum_congr rfl fun x _ => ?_
  rw [Prod.at2_ix, Prod.at2_ix]
  exact congrArg _ (by pointwise)

/-- The reference's results. -/
def gate (G : FVec Ideal Cert.Reference7Ideal.S8192x11264 .f32) : FVec Ideal S8192x5632 .f32 :=
  extractStridedSlice Cert.Reference7Ideal.S8192x5632 ![0, 0] G Cert.Reference7Ideal.Gen.slices_S8192x11264_S8192x5632_0_0
def up (G : FVec Ideal Cert.Reference7Ideal.S8192x11264 .f32) : FVec Ideal S8192x5632 .f32 :=
  extractStridedSlice Cert.Reference7Ideal.S8192x5632 ![0, 5632] G Cert.Reference7Ideal.Gen.slices_S8192x11264_S8192x5632_0_5632
def actv (g u : FVec Ideal Cert.Reference7Ideal.S8192x5632 .f32) : FVec Ideal S8192x5632 .bf16 :=
  truncf .bf16 (mulf (mulf g (Host.divf (broadcastInDim Cert.Reference7Ideal.S8192x5632 ![] Cert.Reference7Ideal.Gen.bcast_S_S8192x5632 (constant Cert.Reference7Ideal.S_ .f32 0x3F800000#32)) (addf (broadcastInDim Cert.Reference7Ideal.S8192x5632 ![] Cert.Reference7Ideal.Gen.bcast_S_S8192x5632 (constant Cert.Reference7Ideal.S_ .f32 0x3F800000#32)) (Host.exp (Host.negf g))))) u) Cert.Reference7Ideal.Gen.bitsLt_bf16_f32

theorem gate_at (G : FVec Ideal Cert.Reference7Ideal.S8192x11264 .f32) (r : Fin 8192) (l : Fin 5632) : gate G (ix2 r l) = G (ix2 r ⟨l, by omega⟩) := by
  pointwise [gate]
theorem up_at (G : FVec Ideal Cert.Reference7Ideal.S8192x11264 .f32) (r : Fin 8192) (l : Fin 5632) : up G (ix2 r l) = G (ix2 r ⟨5632 + l, by omega⟩) := by
  pointwise [up]
theorem actv_at (g u : FVec Ideal Cert.Reference7Ideal.S8192x5632 .f32) (r : Fin 8192) (l : Fin 5632) :
    actv g u (ix2 r l) = act (g (ix2 r l)) (u (ix2 r l)) := by
  unfold act
  simp only [zero_sub]
  pointwise [actv]

theorem gate_gu (r : Fin 8192) (l : Fin 5632) : gate (full (k0 m c) (k1 m c)) (ix2 r l) = gu m c r l := by
  rw [gate_at, full_at]
theorem up_gu (r : Fin 8192) (l : Fin 5632) : up (full (k0 m c) (k1 m c)) (ix2 r l) = gu m c r (5632 + l) := by
  rw [up_at, full_at]

theorem gate_out : gate (full (k0 m c) (k1 m c)) = o3 m c := by
  funext j
  obtain ⟨r, l, rfl⟩ := Prod.exists_ix2 j
  rw [gate_gu, o3_eq]
theorem up_out : up (full (k0 m c) (k1 m c)) = o4 m c := by
  funext j
  obtain ⟨r, l, rfl⟩ := Prod.exists_ix2 j
  rw [up_gu, o4_eq]
theorem act_out : actv (gate (full (k0 m c) (k1 m c))) (up (full (k0 m c) (k1 m c))) = o5 m c := by
  funext j
  obtain ⟨r, l, rfl⟩ := Prod.exists_ix2 j
  rw [actv_at, gate_gu, up_gu, o5_eq]

theorem algebraic : @Cert.algebraic_Kernel7Ideal_Reference7Ideal Cert.Kernel7Ideal.Gen.facts Cert.Reference7Ideal.Gen.facts := by
  intro m g m' g' _ hagree
  refine ⟨_, _, _, Value.run_blocks m g, (θ_run Cert.Reference7Ideal.defs _ _).mono (fun r hr c => ?_) (Cert.Reference7Ideal.Value.run m' g')⟩
  obtain ⟨a0, a1⟩ := hagree c
  obtain ⟨h0, h1, h2, h3⟩ := hr c
  rw [a0, a1] at h0 h1 h2
  exact ⟨h0.trans (gate_out m c), h1.trans (up_out m c), h2.trans (act_out m c), h3⟩

/-- The two programs are one text, over any floats. -/
theorem defs0_eq : @Cert.Kernel7.defs₀ Bits _ Cert.Kernel7.Gen.facts = @Cert.Kernel7Ideal.defs₀ Bits _ Cert.Kernel7Ideal.Gen.facts :=
  congrArg (Defs.onTc (nD := 1) (τ := Cert.Kernel7Ideal.τ)) (funext fun ℓ => match ℓ with
    | (0 : Fin 1) => rfl)
theorem defs_eq : @Cert.Kernel7.defs Bits _ Cert.Kernel7.Gen.facts = @Cert.Kernel7Ideal.defs Bits _ Cert.Kernel7Ideal.Gen.facts :=
  congrArg (Pipeline.defs (Cert.Kernel7Ideal.pcfgs (F := Bits))) defs0_eq

theorem frame : @Cert.quiescent_Kernel7 Cert.Kernel7.Gen.facts := fun m ρ _ => by
  rw [defs_eq]
  exact Cert.Kernel7Ideal.Gen.frame (F := Bits) m ρ
theorem frameI : @Cert.quiescent_Kernel7Ideal Cert.Kernel7Ideal.Gen.facts := fun m ρ _ => Cert.Kernel7Ideal.Gen.frame m ρ
theorem frameR : @Cert.quiescent_Reference7Ideal Cert.Reference7Ideal.Gen.facts := fun m ρ _ =>
  (θ_run Cert.Reference7Ideal.defs _ _).mono (fun r h => ⟨fun c => (h c).2.2.2, sem_eq_zero_of_no_sems (by decide) r.2⟩)
    (Cert.Reference7Ideal.Value.run m ρ)

end Cert.P7

end
-- ==== Proof.P8.lean ====
/- UNTRUSTED — the feed-forward's second product, forward: the blocked product is the product. -/
module

public import proofs.«01_k».proof.Proof.Prod
public import proofs.«01_k».proof.Proof.Gen.Kernel8
public import proofs.«01_k».proof.Proof.Gen.Kernel8Ideal.Value
public import proofs.«01_k».proof.Proof.Gen.Reference8Ideal.Run
public import proofs.«01_k».proof.Defs
public import Idealize.ShloMosaic.Lib.StableHlo.RunRead
public import Idealize.ShloMosaic.Lib.Claim

@[expose] public section

set_option maxRecDepth 16384

noncomputable section

namespace Cert.P8

open Idealize.ShloMosaic Idealize.ShloMosaic.TcCoe Cert.Kernel8Ideal Cert.Kernel8Ideal.Gen

section Point

variable (c : Dev nD) (i : grid0.Coords) (arg3 : Memref sig .tc .vmem S1024x2816 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x2816 .bf16) (x1 : Vec Ideal S2816x1024 .bf16) (xs : Vec Ideal S1024x1024 .f32) (a : Fin 1024) (b : Fin 1024)

theorem sout_A (hc0 hc1 hc2) : sout0_A_0 (F := Ideal) c i arg3 harg3 arg4 harg4 arg5 harg5 arg6 harg6 hc0 hc1 hc2 x0 x1 (ix2 a b) = ∑ x : Fin 2816, x0 (ix2 a x) * x1 (ix2 x b) := by
  unfold sout0_A_0
  unfold kernelRun0_A
  sl_unfold_words
  dsimp only
  rw [Prod.read_writes_all, Prod.readAt_all, Prod.readAt_all, harg3.read_unread, harg4.read_unread]
  pointwise [k0_pay2, k0_pay1]

theorem out_B (hc0 hc1 hc2) : out0_B_2 (F := Ideal) c i arg3 harg3 arg4 harg4 arg5 harg5 arg6 harg6 hc0 hc1 hc2 x0 x1 xs (ix2 a b) = xs (ix2 a b) + ∑ x : Fin 2816, x0 (ix2 a x) * x1 (ix2 x b) := by
  unfold out0_B_2
  unfold kernelRun0_B
  sl_unfold_words
  dsimp only
  rw [Prod.read_writes_all, Prod.readAt_all, Prod.readAt_all, Prod.readAt_all, harg3.read_unread, harg4.read_unread, harg6.read_unread]
  pointwise [k0_pay4, k0_pay1]

end Point

theorem idx0 : ∀ t : Fin grid0.N, win0_0.index t 0 = t.val / 2 / 2 ∧ win0_0.index t 1 = t.val % 2 := by decide +kernel
theorem idx1 : ∀ t : Fin grid0.N, win0_1.index t 0 = t.val % 2 ∧ win0_1.index t 1 = t.val / 2 % 2 := by decide +kernel

variable (m : (ℓ : Loc nD τ sig) → Buf (Elt Ideal) ℓ) (c : Dev nD)

/-- The activations, and the weight. -/
abbrev k0 : FVec Ideal S8192x5632 .f32 := m ((c.tc : Thread nD τ).loc main_arg0)
abbrev k1 : FVec Ideal S5632x2048 .f32 := m ((c.tc : Thread nD τ).loc main_arg1)

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

/-- A window's input block. -/
abbrev b0 (t : Fin cfg0.N) : Vec Ideal S1024x2816 .bf16 := iblk m c 0 t
abbrev b1 (t : Fin cfg0.N) : Vec Ideal S2816x1024 .bf16 := iblk m c 1 t

theorem b0_at (t : Fin cfg0.N) (a : Fin 1024) (b : Fin 2816) :
    b0 m c t (ix2 a b) = Prod.at2 (k0 m c) (t.val / 2 / 2 * 1024 + a) (t.val % 2 * 2816 + b) :=
  (Prod.at_blk (V m c main_v0) (((cfg0.win 0).blk t).view.emb (ix2 a b)) 1024 2816 a b rfl rfl (idx0 t)).trans (by rw [V_0]; rfl)
theorem b1_at (t : Fin cfg0.N) (a : Fin 2816) (b : Fin 1024) :
    b1 m c t (ix2 a b) = Prod.at2 (k1 m c) (t.val % 2 * 2816 + a) (t.val / 2 % 2 * 1024 + b) :=
  (Prod.at_blk (V m c main_v1) (((cfg0.win 1).blk t).view.emb (ix2 a b)) 2816 1024 a b rfl rfl (idx1 t)).trans (by rw [V_1]; rfl)

/-- The products an element sums. -/
def term (r l x : ℕ) : EReal := Prod.at2 (k0 m c) r x * Prod.at2 (k1 m c) x l

/-- What a grid point adds to a block's element. -/
theorem dot_eq (t : Fin cfg0.N) (a : Fin 1024) (b : Fin 1024) :
    ∑ x : Fin 2816, b0 m c t (ix2 a x) * b1 m c t (ix2 x b)
      = ∑ x : Fin 2816, term m c (t.val / 2 / 2 * 1024 + a) (t.val / 2 % 2 * 1024 + b) (t.val % 2 * 2816 + x) :=
  Finset.sum_congr rfl fun x _ => by rw [b0_at, b1_at]; rfl

/-- The kernel's result. -/
theorem G2_eq (r : Fin 8192) (l : Fin 2048) :
    (Value.G2 m c : Vec Ideal S8192x2048 .f32) (ix2 r l) = ∑ x : Fin 5632, k0 m c (ix2 r x) * k1 m c (ix2 x l) := by
  have hp : Value.pt2Of (ix2 r l) = 2 * (2 * (r.val / 1024) + l.val / 1024) + 1 := by
    show 2 * (2 * (r.val / 1024 - 0) + 1 * (l.val / 1024 - 0)) + 1 = _; omega
  have hN : Value.pt2Of (ix2 r l) < cfg0.N := lt_of_lt_of_eq (by omega) N_0.symm
  unfold Value.G2
  rw [dif_pos hN, ← Value.outsAt0_sweep m c _ hN,
    show Value.loc2Of (ix2 r l) = ix2 ⟨r.val % 1024, Nat.mod_lt _ (by decide)⟩ ⟨l.val % 1024, Nat.mod_lt _ (by decide)⟩ from Prod.ext2 rfl rfl]
  refine (Prod.acc cfg0.N 2 2816 2 1024 1024 (by decide) (term m c) (fun n h => (outsAt0 m c n h).1) (fun n h => (outsAt0 m c n h).2)
    (fun n h h0 a b => ?_) (fun n h h' h0 h2 a b => absurd h2 (by omega)) (fun n h h' h2 a b => ?_)
    r l (by decide) (by decide) (by omega) _ hp hN).trans ?_
  · refine (congrFun (congrArg _root_.Prod.snd (outsAt0_A m c ⟨n, h⟩ h0 (by simp only; omega))) (ix2 a b)).trans ?_
    dsimp only
    rw [sout_A]
    exact dot_eq m c ⟨n, h⟩ a b
  · refine (congrFun (congrArg _root_.Prod.fst (outsAt0_B m c ⟨n + 1, h⟩ (by simp only; omega) h2)) (ix2 a b)).trans ?_
    dsimp only
    rw [out_B]
    exact congrArg _ (dot_eq m c ⟨n + 1, h⟩ a b)
  · simp only [term, Prod.at2_ix]

/-- The reference's result. -/
theorem ref_eq (A : FVec Ideal S8192x5632 .f32) (B : FVec Ideal S5632x2048 .f32) (r : Fin 8192) (l : Fin 2048) :
    (Host.dotGeneral Cert.Reference8Ideal.dot_S8192x5632_S5632x2048_S8192x2048_1_0_0_1_n_n none A B : FVec Ideal S8192x2048 .f32) (ix2 r l)
      = ∑ x : Fin 5632, A (ix2 r x) * B (ix2 x l) := by
  pointwise

theorem algebraic : @Cert.algebraic_Kernel8Ideal_Reference8Ideal Cert.Kernel8Ideal.Gen.facts Cert.Reference8Ideal.Gen.facts := by
  intro m g m' g' _ hagree
  refine ⟨_, Value.run m g, (θ_run Cert.Reference8Ideal.defs _ _).mono (fun r hr c => ?_) (Cert.Reference8Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (G2_eq m c r l).symm

/-- The two programs are one text, over any floats. -/
theorem defs0_eq : @Cert.Kernel8.defs₀ Bits _ Cert.Kernel8.Gen.facts = @Cert.Kernel8Ideal.defs₀ Bits _ Cert.Kernel8Ideal.Gen.facts :=
  congrArg (Defs.onTc (nD := 1) (τ := Cert.Kernel8Ideal.τ)) (funext fun ℓ => match ℓ with
    | (0 : Fin 1) => rfl)
theorem defs_eq : @Cert.Kernel8.defs Bits _ Cert.Kernel8.Gen.facts = @Cert.Kernel8Ideal.defs Bits _ Cert.Kernel8Ideal.Gen.facts :=
  congrArg (Pipeline.defs (Cert.Kernel8Ideal.pcfgs (F := Bits))) defs0_eq

theorem frame : @Cert.quiescent_Kernel8 Cert.Kernel8.Gen.facts := fun m ρ _ => by
  rw [defs_eq]
  exact Cert.Kernel8Ideal.Gen.frame (F := Bits) m ρ
theorem frameI : @Cert.quiescent_Kernel8Ideal Cert.Kernel8Ideal.Gen.facts := fun m ρ _ => Cert.Kernel8Ideal.Gen.frame m ρ
theorem frameR : @Cert.quiescent_Reference8Ideal Cert.Reference8Ideal.Gen.facts := fun m ρ _ =>
  (θ_run Cert.Reference8Ideal.defs _ _).mono (fun r h => ⟨fun c => (h c).2, sem_eq_zero_of_no_sems (by decide) r.2⟩)
    (Cert.Reference8Ideal.Value.run m ρ)

end Cert.P8

end
-- ==== Proof.P9.lean ====
/- UNTRUSTED — the gradient of the weight of the recurrence's gated product: the blocked product is the product. -/
module

public import proofs.«01_k».proof.Proof.Prod
public import proofs.«01_k».proof.Proof.Gen.Kernel9
public import proofs.«01_k».proof.Proof.Gen.Kernel9Ideal.Value
public import proofs.«01_k».proof.Proof.Gen.Reference9Ideal.Run
public import proofs.«01_k».proof.Defs
public import Idealize.ShloMosaic.Lib.StableHlo.RunRead
public import Idealize.ShloMosaic.Lib.Claim

@[expose] public section

set_option maxRecDepth 16384

noncomputable section

namespace Cert.P9

open Idealize.ShloMosaic Idealize.ShloMosaic.TcCoe Cert.Kernel9Ideal Cert.Kernel9Ideal.Gen

section Point

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32) (a : Fin 1024) (b : Fin 1024)

theorem sout_A (hc0 hc1 hc2) : sout0_A_0 (F := Ideal) c i arg3 harg3 arg4 harg4 arg5 harg5 arg6 harg6 hc0 hc1 hc2 x0 x1 (ix2 a b) = ∑ x : Fin 2048, x0 (ix2 x a) * x1 (ix2 x b) := by
  unfold sout0_A_0
  unfold kernelRun0_A
  sl_unfold_words
  dsimp only
  rw [Prod.read_writes_all, Prod.readAt_all, Prod.readAt_all, harg3.read_unread, harg4.read_unread]
  pointwise [k0_pay2, k0_pay1]

theorem sout_B (hc0 hc1 hc2) : sout0_B_0 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold sout0_B_0
  unfold kernelRun0_B
  sl_unfold_words
  dsimp only
  rw [Prod.read_writes_all, Prod.readAt_all, Prod.readAt_all, Prod.readAt_all, harg3.read_unread, harg4.read_unread, harg6.read_unread]
  pointwise [k0_pay3, k0_pay1]

theorem out_C (hc0 hc1 hc2) : out0_C_2 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold out0_C_2
  unfold kernelRun0_C
  sl_unfold_words
  dsimp only
  rw [Prod.read_writes_all, Prod.readAt_all, Prod.readAt_all, Prod.readAt_all, harg3.read_unread, harg4.read_unread, harg6.read_unread]
  pointwise [k0_pay4, k0_pay1]

end Point

theorem idx0 : ∀ t : Fin grid0.N, win0_0.index t 0 = t.val % 4 ∧ win0_0.index t 1 = t.val / 4 / 2 := by decide +kernel
theorem idx1 : ∀ t : Fin grid0.N, win0_1.index t 0 = t.val % 4 ∧ win0_1.index t 1 = t.val / 4 % 2 := by decide +kernel

variable (m : (ℓ : Loc nD τ sig) → Buf (Elt Ideal) ℓ) (c : Dev nD)

/-- The output's gradient, and the rows. -/
abbrev k0 : FVec Ideal S8192x4096 .f32 := m ((c.tc : Thread nD τ).loc main_arg1)
abbrev k1 : FVec Ideal S8192x2048 .f32 := m ((c.tc : Thread nD τ).loc main_arg0)

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

/-- A window's input block. -/
abbrev b0 (t : Fin cfg0.N) : Vec Ideal S2048x1024 .bf16 := iblk m c 0 t
abbrev b1 (t : Fin cfg0.N) : Vec Ideal S2048x1024 .bf16 := iblk m c 1 t

theorem b0_at (t : Fin cfg0.N) (a : Fin 2048) (b : Fin 1024) :
    b0 m c t (ix2 a b) = Prod.at2 (k0 m c) (t.val % 4 * 2048 + a) (t.val / 4 / 2 * 1024 + b) :=
  (Prod.at_blk (V m c main_v0) (((cfg0.win 0).blk t).view.emb (ix2 a b)) 2048 1024 a b rfl rfl (idx0 t)).trans (by rw [V_0]; rfl)
theorem b1_at (t : Fin cfg0.N) (a : Fin 2048) (b : Fin 1024) :
    b1 m c t (ix2 a b) = Prod.at2 (k1 m c) (t.val % 4 * 2048 + a) (t.val / 4 % 2 * 1024 + b) :=
  (Prod.at_blk (V m c main_v1) (((cfg0.win 1).blk t).view.emb (ix2 a b)) 2048 1024 a b rfl rfl (idx1 t)).trans (by rw [V_1]; rfl)

/-- The products an element sums. -/
def term (r l x : ℕ) : EReal := Prod.at2 (k0 m c) x r * Prod.at2 (k1 m c) x l

/-- What a grid point adds to a block's element. -/
theorem dot_eq (t : Fin cfg0.N) (a : Fin 1024) (b : Fin 1024) :
    ∑ x : Fin 2048, b0 m c t (ix2 x a) * b1 m c t (ix2 x b)
      = ∑ x : Fin 2048, term m c (t.val / 4 / 2 * 1024 + a) (t.val / 4 % 2 * 1024 + b) (t.val % 4 * 2048 + x) :=
  Finset.sum_congr rfl fun x _ => by rw [b0_at, b1_at]; rfl

/-- The kernel's result. -/
theorem G2_eq (r : Fin 4096) (l : Fin 2048) :
    (Value.G2 m c : Vec Ideal S4096x2048 .f32) (ix2 r l) = ∑ x : Fin 8192, k0 m c (ix2 x r) * k1 m c (ix2 x l) := by
  have hp : Value.pt2Of (ix2 r l) = 4 * (2 * (r.val / 1024) + l.val / 1024) + 3 := by
    show 4 * (2 * (r.val / 1024 - 0) + 1 * (l.val / 1024 - 0)) + 3 = _; omega
  have hN : Value.pt2Of (ix2 r l) < cfg0.N := lt_of_lt_of_eq (by omega) N_0.symm
  unfold Value.G2
  rw [dif_pos hN, ← Value.outsAt0_sweep m c _ hN,
    show Value.loc2Of (ix2 r l) = ix2 ⟨r.val % 1024, Nat.mod_lt _ (by decide)⟩ ⟨l.val % 1024, Nat.mod_lt _ (by decide)⟩ from Prod.ext2 rfl rfl]
  refine (Prod.acc cfg0.N 4 2048 2 1024 1024 (by decide) (term m c) (fun n h => (outsAt0 m c n h).1) (fun n h => (outsAt0 m c n h).2)
    (fun n h h0 a b => ?_) (fun n h h' h0 h2 a b => ?_) (fun n h h' h2 a b => ?_)
    r l (by decide) (by decide) (by omega) _ hp hN).trans ?_
  · refine (congrFun (congrArg _root_.Prod.snd (outsAt0_A m c ⟨n, h⟩ h0 (by simp only; omega) (by simp only; omega))) (ix2 a b)).trans ?_
    dsimp only
    rw [sout_A]
    exact dot_eq m c ⟨n, h⟩ a b
  · refine (congrFun (congrArg _root_.Prod.snd (outsAt0_B m c ⟨n + 1, h⟩ h0 (by simp only; omega) h2)) (ix2 a b)).trans ?_
    dsimp only
    rw [sout_B]
    exact congrArg _ (dot_eq m c ⟨n + 1, h⟩ a b)
  · refine (congrFun (congrArg _root_.Prod.fst (outsAt0_C m c ⟨n + 1, h⟩ (by simp only; omega) (by simp only; omega) h2)) (ix2 a b)).trans ?_
    dsimp only
    rw [out_C]
    exact congrArg _ (dot_eq m c ⟨n + 1, h⟩ a b)
  · simp only [term, Prod.at2_ix]

/-- The reference's result. -/
theorem ref_eq (A : FVec Ideal S8192x4096 .f32) (B : FVec Ideal S8192x2048 .f32) (r : Fin 4096) (l : Fin 2048) :
    (transpose Cert.Reference9Ideal.S4096x2048 [1, 0] (transpose Cert.Reference9Ideal.S2048x4096 [1, 0] (Host.dotGeneral Cert.Reference9Ideal.dot_S8192x4096_S8192x2048_S4096x2048_0_0_1_1_n_n none A B : FVec Ideal Cert.Reference9Ideal.S4096x2048 .f32) Cert.Reference9Ideal.Gen.transposes_S4096x2048_S2048x4096_1_0) Cert.Reference9Ideal.Gen.transposes_S2048x4096_S4096x2048_1_0 : FVec Ideal S4096x2048 .f32) (ix2 r l)
      = ∑ x : Fin 8192, A (ix2 x r) * B (ix2 x l) := by
  pointwise

theorem algebraic : @Cert.algebraic_Kernel9Ideal_Reference9Ideal Cert.Kernel9Ideal.Gen.facts Cert.Reference9Ideal.Gen.facts := by
  intro m g m' g' _ hagree
  refine ⟨_, Value.run m g, (θ_run Cert.Reference9Ideal.defs _ _).mono (fun r hr c => ?_) (Cert.Reference9Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (G2_eq m c r l).symm

/-- The two programs are one text, over any floats. -/
theorem defs0_eq : @Cert.Kernel9.defs₀ Bits _ Cert.Kernel9.Gen.facts = @Cert.Kernel9Ideal.defs₀ Bits _ Cert.Kernel9Ideal.Gen.facts :=
  congrArg (Defs.onTc (nD := 1) (τ := Cert.Kernel9Ideal.τ)) (funext fun ℓ => match ℓ with
    | (0 : Fin 1) => rfl)
theorem defs_eq : @Cert.Kernel9.defs Bits _ Cert.Kernel9.Gen.facts = @Cert.Kernel9Ideal.defs Bits _ Cert.Kernel9Ideal.Gen.facts :=
  congrArg (Pipeline.defs (Cert.Kernel9Ideal.pcfgs (F := Bits))) defs0_eq

theorem frame : @Cert.quiescent_Kernel9 Cert.Kernel9.Gen.facts := fun m ρ _ => by
  rw [defs_eq]
  exact Cert.Kernel9Ideal.Gen.frame (F := Bits) m ρ
theorem frameI : @Cert.quiescent_Kernel9Ideal Cert.Kernel9Ideal.Gen.facts := fun m ρ _ => Cert.Kernel9Ideal.Gen.frame m ρ
theorem frameR : @Cert.quiescent_Reference9Ideal Cert.Reference9Ideal.Gen.facts := fun m ρ _ =>
  (θ_run Cert.Reference9Ideal.defs _ _).mono (fun r h => ⟨fun c => (h c).2, sem_eq_zero_of_no_sems (by decide) r.2⟩)
    (Cert.Reference9Ideal.Value.run m ρ)

end Cert.P9

end
-- ==== Proof.P10.lean ====
/- UNTRUSTED — the gradient through the recurrence's gated product: the blocked product is the product. -/
module

public import proofs.«01_k».proof.Proof.Prod
public import proofs.«01_k».proof.Proof.Gen.Kernel10
public import proofs.«01_k».proof.Proof.Gen.Kernel10Ideal.Value
public import proofs.«01_k».proof.Proof.Gen.Reference10Ideal.Run
public import proofs.«01_k».proof.Defs
public import Idealize.ShloMosaic.Lib.StableHlo.RunRead
public import Idealize.ShloMosaic.Lib.Claim

@[expose] public section

set_option maxRecDepth 16384

noncomputable section

namespace Cert.P10

open Idealize.ShloMosaic Idealize.ShloMosaic.TcCoe Cert.Kernel10Ideal Cert.Kernel10Ideal.Gen

section Point

variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x2048 .bf16) (x1 : Vec Ideal S2048x1024 .bf16) (xs : Vec Ideal S1024x1024 .f32) (a : Fin 1024) (b : Fin 1024)

theorem sout_A (hc0 hc1 hc2) : sout0_A_0 (F := Ideal) c i arg3 harg3 arg4 harg4 arg5 harg5 arg6 harg6 hc0 hc1 hc2 x0 x1 (ix2 a b) = ∑ x : Fin 2048, x0 (ix2 a x) * x1 (ix2 x b) := by
  unfold sout0_A_0
  unfold kernelRun0_A
  sl_unfold_words
  dsimp only
  rw [Prod.read_writes_all, Prod.readAt_all, Prod.readAt_all, harg3.read_unread, harg4.read_unread]
  pointwise [k0_pay2, k0_pay1]

theorem out_B (hc0 hc1 hc2) : out0_B_2 (F := Ideal) c i arg3 harg3 arg4 harg4 arg5 harg5 arg6 harg6 hc0 hc1 hc2 x0 x1 xs (ix2 a b) = xs (ix2 a b) + ∑ x : Fin 2048, x0 (ix2 a x) * x1 (ix2 x b) := by
  unfold out0_B_2
  unfold kernelRun0_B
  sl_unfold_words
  dsimp only
  rw [Prod.read_writes_all, Prod.readAt_all, Prod.readAt_all, Prod.readAt_all, harg3.read_unread, harg4.read_unread, harg6.read_unread]
  pointwise [k0_pay4, k0_pay1]

end Point

theorem idx0 : ∀ t : Fin grid0.N, win0_0.index t 0 = t.val / 2 / 2 ∧ win0_0.index t 1 = t.val % 2 := by decide +kernel
theorem idx1 : ∀ t : Fin grid0.N, win0_1.index t 0 = t.val % 2 ∧ win0_1.index t 1 = t.val / 2 % 2 := by decide +kernel

variable (m : (ℓ : Loc nD τ sig) → Buf (Elt Ideal) ℓ) (c : Dev nD)

/-- The output's gradient, and the weight, and the weight transposed. -/
abbrev k0 : FVec Ideal S8192x4096 .f32 := m ((c.tc : Thread nD τ).loc main_arg1)
abbrev k1 : FVec Ideal S2048x4096 .f32 := m ((c.tc : Thread nD τ).loc main_arg0)
abbrev k1t : FVec Ideal S4096x2048 .f32 := transpose S4096x2048 [1, 0] (k1 m c) transposes_S2048x4096_S4096x2048_1_0

theorem V_0 : V m c main_v0 = truncf .bf16 (k0 m c) bitsLt_bf16_f32 := by
  unfold V
  unfold_abbrev_sides
  after_reads_simp
theorem V_1 : V m c main_v2 = truncf .bf16 (k1t m c) bitsLt_bf16_f32 := by
  unfold V
  unfold_abbrev_sides
  after_reads_simp

/-- A window's input block. -/
abbrev b0 (t : Fin cfg0.N) : Vec Ideal S1024x2048 .bf16 := iblk m c 0 t
abbrev b1 (t : Fin cfg0.N) : Vec Ideal S2048x1024 .bf16 := iblk m c 1 t

theorem b0_at (t : Fin cfg0.N) (a : Fin 1024) (b : Fin 2048) :
    b0 m c t (ix2 a b) = Prod.at2 (k0 m c) (t.val / 2 / 2 * 1024 + a) (t.val % 2 * 2048 + b) :=
  (Prod.at_blk (V m c main_v0) (((cfg0.win 0).blk t).view.emb (ix2 a b)) 1024 2048 a b rfl rfl (idx0 t)).trans (by rw [V_0]; rfl)
theorem b1_at (t : Fin cfg0.N) (a : Fin 2048) (b : Fin 1024) :
    b1 m c t (ix2 a b) = Prod.at2 (k1t m c) (t.val % 2 * 2048 + a) (t.val / 2 % 2 * 1024 + b) :=
  (Prod.at_blk (V m c main_v2) (((cfg0.win 1).blk t).view.emb (ix2 a b)) 2048 1024 a b rfl rfl (idx1 t)).trans (by rw [V_1]; rfl)

/-- The products an element sums. -/
def term (r l x : ℕ) : EReal := Prod.at2 (k0 m c) r x * Prod.at2 (k1t m c) x l

/-- What a grid point adds to a block's element. -/
theorem dot_eq (t : Fin cfg0.N) (a : Fin 1024) (b : Fin 1024) :
    ∑ x : Fin 2048, b0 m c t (ix2 a x) * b1 m c t (ix2 x b)
      = ∑ x : Fin 2048, term m c (t.val / 2 / 2 * 1024 + a) (t.val / 2 % 2 * 1024 + b) (t.val % 2 * 2048 + x) :=
  Finset.sum_congr rfl fun x _ => by rw [b0_at, b1_at]; rfl

theorem k1t_at (x : Fin 4096) (l : Fin 2048) : k1t m c (ix2 x l) = k1 m c (ix2 l x) := by pointwise

/-- The kernel's result. -/
theorem G2_eq (r : Fin 8192) (l : Fin 2048) :
    (Value.G2 m c : Vec Ideal S8192x2048 .f32) (ix2 r l) = ∑ x : Fin 4096, k0 m c (ix2 r x) * k1 m c (ix2 l x) := by
  have hp : Value.pt2Of (ix2 r l) = 2 * (2 * (r.val / 1024) + l.val / 1024) + 1 := by
    show 2 * (2 * (r.val / 1024 - 0) + 1 * (l.val / 1024 - 0)) + 1 = _; omega
  have hN : Value.pt2Of (ix2 r l) < cfg0.N := lt_of_lt_of_eq (by omega) N_0.symm
  unfold Value.G2
  rw [dif_pos hN, ← Value.outsAt0_sweep m c _ hN,
    show Value.loc2Of (ix2 r l) = ix2 ⟨r.val % 1024, Nat.mod_lt _ (by decide)⟩ ⟨l.val % 1024, Nat.mod_lt _ (by decide)⟩ from Prod.ext2 rfl rfl]
  refine (Prod.acc cfg0.N 2 2048 2 1024 1024 (by decide) (term m c) (fun n h => (outsAt0 m c n h).1) (fun n h => (outsAt0 m c n h).2)
    (fun n h h0 a b => ?_) (fun n h h' h0 h2 a b => absurd h2 (by omega)) (fun n h h' h2 a b => ?_)
    r l (by decide) (by decide) (by omega) _ hp hN).trans ?_
  · refine (congrFun (congrArg _root_.Prod.snd (outsAt0_A m c ⟨n, h⟩ h0 (by simp only; omega))) (ix2 a b)).trans ?_
    dsimp only
    rw [sout_A]
    exact dot_eq m c ⟨n, h⟩ a b
  · refine (congrFun (congrArg _root_.Prod.fst (outsAt0_B m c ⟨n + 1, h⟩ (by simp only; omega) h2)) (ix2 a b)).trans ?_
    dsimp only
    rw [out_B]
    exact congrArg _ (dot_eq m c ⟨n + 1, h⟩ a b)
  · simp only [term, Prod.at2_ix, k1t_at]

/-- The reference's result. -/
theorem ref_eq (A : FVec Ideal S8192x4096 .f32) (B : FVec Ideal S2048x4096 .f32) (r : Fin 8192) (l : Fin 2048) :
    (Host.dotGeneral Cert.Reference10Ideal.dot_S8192x4096_S2048x4096_S8192x2048_1_1_0_0_n_n none A B : FVec Ideal S8192x2048 .f32) (ix2 r l)
      = ∑ x : Fin 4096, A (ix2 r x) * B (ix2 l x) := by
  pointwise

theorem algebraic : @Cert.algebraic_Kernel10Ideal_Reference10Ideal Cert.Kernel10Ideal.Gen.facts Cert.Reference10Ideal.Gen.facts := by
  intro m g m' g' _ hagree
  refine ⟨_, Value.run m g, (θ_run Cert.Reference10Ideal.defs _ _).mono (fun r hr c => ?_) (Cert.Reference10Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (G2_eq m c r l).symm

/-- The two programs are one text, over any floats. -/
theorem defs0_eq : @Cert.Kernel10.defs₀ Bits _ Cert.Kernel10.Gen.facts = @Cert.Kernel10Ideal.defs₀ Bits _ Cert.Kernel10Ideal.Gen.facts :=
  congrArg (Defs.onTc (nD := 1) (τ := Cert.Kernel10Ideal.τ)) (funext fun ℓ => match ℓ with
    | (0 : Fin 1) => rfl)
theorem defs_eq : @Cert.Kernel10.defs Bits _ Cert.Kernel10.Gen.facts = @Cert.Kernel10Ideal.defs Bits _ Cert.Kernel10Ideal.Gen.facts :=
  congrArg (Pipeline.defs (Cert.Kernel10Ideal.pcfgs (F := Bits))) defs0_eq

theorem frame : @Cert.quiescent_Kernel10 Cert.Kernel10.Gen.facts := fun m ρ _ => by
  rw [defs_eq]
  exact Cert.Kernel10Ideal.Gen.frame (F := Bits) m ρ
theorem frameI : @Cert.quiescent_Kernel10Ideal Cert.Kernel10Ideal.Gen.facts := fun m ρ _ => Cert.Kernel10Ideal.Gen.frame m ρ
theorem frameR : @Cert.quiescent_Reference10Ideal Cert.Reference10Ideal.Gen.facts := fun m ρ _ =>
  (θ_run Cert.Reference10Ideal.defs _ _).mono (fun r h => ⟨fun c => (h c).2, sem_eq_zero_of_no_sems (by decide) r.2⟩)
    (Cert.Reference10Ideal.Value.run m ρ)

end Cert.P10

end
-- ==== Proof.P11.lean ====
/- UNTRUSTED — the recurrence's gated product, forward: the blocked product is the product. -/
module

public import proofs.«01_k».proof.Proof.Prod
public import proofs.«01_k».proof.Proof.Gen.Kernel11
public import proofs.«01_k».proof.Proof.Gen.Kernel11Ideal.Value
public import proofs.«01_k».proof.Proof.Gen.Reference11Ideal.Run
public import proofs.«01_k».proof.Defs
public import Idealize.ShloMosaic.Lib.StableHlo.RunRead
public import Idealize.ShloMosaic.Lib.Claim

@[expose] public section

set_option maxRecDepth 16384

noncomputable section

namespace Cert.P11

open Idealize.ShloMosaic Idealize.ShloMosaic.TcCoe Cert.Kernel11Ideal Cert.Kernel11Ideal.Gen

theorem out_block (x0 : Vec Ideal S1024x2048 .bf16) (x1 : Vec Ideal S1024x2048 .bf16) (a : Fin 1024) (b : Fin 1024) :
    out0_2 (F := Ideal) x0 x1 (ix2 a b) = ∑ x : Fin 2048, x0 (ix2 a x) * x1 (ix2 b x) := by
  unfold out0_2
  rw [Prod.canon_all, Prod.ld_all, Prod.ld_all]
  pointwise [k0_pay1]

theorem idx0 : ∀ t : Fin grid0.N, win0_0.index t 0 = t.val / 4 ∧ win0_0.index t 1 = 0 := by decide +kernel
theorem idx1 : ∀ t : Fin grid0.N, win0_1.index t 0 = t.val % 4 ∧ win0_1.index t 1 = 0 := by decide +kernel
theorem idx2 : ∀ t : Fin grid0.N, win0_2.index t 0 = t.val / 4 ∧ win0_2.index t 1 = t.val % 4 := by decide +kernel

variable (m : (ℓ : Loc nD τ sig) → Buf (Elt Ideal) ℓ) (c : Dev nD)

/-- The rows, and the weight, and the weight transposed. -/
abbrev k0 : FVec Ideal S8192x2048 .f32 := m ((c.tc : Thread nD τ).loc main_arg0)
abbrev k1 : FVec Ideal S2048x4096 .f32 := m ((c.tc : Thread nD τ).loc main_arg1)
abbrev k1t : FVec Ideal S4096x2048 .f32 := transpose S4096x2048 [1, 0] (k1 m c) transposes_S2048x4096_S4096x2048_1_0

theorem V_0 : V m c main_v0 = truncf .bf16 (k0 m c) bitsLt_bf16_f32 := by
  unfold V
  unfold_abbrev_sides
  after_reads_simp
theorem V_1 : V m c main_v2 = truncf .bf16 (k1t m c) bitsLt_bf16_f32 := by
  unfold V
  unfold_abbrev_sides
  after_reads_simp

/-- A window's input block. -/
abbrev b0 (t : Fin cfg0.N) : Vec Ideal S1024x2048 .bf16 := iblk m c 0 t
abbrev b1 (t : Fin cfg0.N) : Vec Ideal S1024x2048 .bf16 := iblk m c 1 t

theorem b0_at (t : Fin cfg0.N) (a : Fin 1024) (b : Fin 2048) :
    b0 m c t (ix2 a b) = Prod.at2 (k0 m c) (t.val / 4 * 1024 + a) (0 * 2048 + b) :=
  (Prod.at_blk (V m c main_v0) (((cfg0.win 0).blk t).view.emb (ix2 a b)) 1024 2048 a b rfl rfl (idx0 t)).trans (by rw [V_0]; rfl)
theorem b1_at (t : Fin cfg0.N) (a : Fin 1024) (b : Fin 2048) :
    b1 m c t (ix2 a b) = Prod.at2 (k1t m c) (t.val % 4 * 1024 + a) (0 * 2048 + b) :=
  (Prod.at_blk (V m c main_v2) (((cfg0.win 1).blk t).view.emb (ix2 a b)) 1024 2048 a b rfl rfl (idx1 t)).trans (by rw [V_1]; rfl)

/-- The kernel's result. -/
abbrev out : Vec Ideal S8192x4096 .f32 := (dats m 0 c).arrAt 2 cfg0.N

theorem out_at (t : Fin cfg0.N) (a : Fin 1024) (b : Fin 1024) :
    Prod.at2 (out m c) (t.val / 4 * 1024 + a) (t.val % 4 * 1024 + b) = ∑ x : Fin 2048, b0 m c t (ix2 a x) * b1 m c t (ix2 b x) :=
  (Prod.at_blk (out m c) (((cfg0.win 2).blk t).view.emb (ix2 a b)) 1024 1024 a b rfl rfl (idx2 t)).symm.trans
    ((congrFun ((Value.blocks2 m c t (flush0_2 t)).trans (Value.flushed2 m c t)) (ix2 a b)).trans (out_block (b0 m c t) (b1 m c t) a b))

theorem k1t_at (l : Fin 4096) (x : Fin 2048) : k1t m c (ix2 l x) = k1 m c (ix2 x l) := by pointwise

theorem out_eq (r : Fin 8192) (l : Fin 4096) : out m c (ix2 r l) = ∑ x : Fin 2048, k0 m c (ix2 r x) * k1 m c (ix2 x l) := by
  refine (Prod.grid 8 4 1024 1024 rfl rfl (fun r l => ∑ x : Fin 2048, Prod.at2 (k0 m c) r x * Prod.at2 (k1t m c) l x) (out m c) (fun t ht a b => ?_) r l).trans ?_
  · refine (out_at m c ⟨t, lt_of_lt_of_eq ht N_0.symm⟩ a b).trans ?_
    simp only [b0_at, b1_at, Nat.zero_mul, Nat.zero_add]
  · simp only [Prod.at2_ix, k1t_at]

/-- The reference's result. -/
theorem ref_eq (A : FVec Ideal S8192x2048 .f32) (B : FVec Ideal S2048x4096 .f32) (r : Fin 8192) (l : Fin 4096) :
    (Host.dotGeneral Cert.Reference11Ideal.dot_S8192x2048_S2048x4096_S8192x4096_1_0_0_1_n_n none A B : FVec Ideal S8192x4096 .f32) (ix2 r l)
      = ∑ x : Fin 2048, A (ix2 r x) * B (ix2 x l) := by
  pointwise

theorem algebraic : @Cert.algebraic_Kernel11Ideal_Reference11Ideal Cert.Kernel11Ideal.Gen.facts Cert.Reference11Ideal.Gen.facts := by
  intro m g m' g' _ hagree
  refine ⟨_, Value.run_blocks m g, (θ_run Cert.Reference11Ideal.defs _ _).mono (fun r hr c => ?_) (Cert.Reference11Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (out_eq m c r l).symm

/-- The two programs are one text, over any floats. -/
theorem defs0_eq : @Cert.Kernel11.defs₀ Bits _ Cert.Kernel11.Gen.facts = @Cert.Kernel11Ideal.defs₀ Bits _ Cert.Kernel11Ideal.Gen.facts :=
  congrArg (Defs.onTc (nD := 1) (τ := Cert.Kernel11Ideal.τ)) (funext fun ℓ => match ℓ with
    | (0 : Fin 1) => rfl)
theorem defs_eq : @Cert.Kernel11.defs Bits _ Cert.Kernel11.Gen.facts = @Cert.Kernel11Ideal.defs Bits _ Cert.Kernel11Ideal.Gen.facts :=
  congrArg (Pipeline.defs (Cert.Kernel11Ideal.pcfgs (F := Bits))) defs0_eq

theorem frame : @Cert.quiescent_Kernel11 Cert.Kernel11.Gen.facts := fun m ρ _ => by
  rw [defs_eq]
  exact Cert.Kernel11Ideal.Gen.frame (F := Bits) m ρ
theorem frameI : @Cert.quiescent_Kernel11Ideal Cert.Kernel11Ideal.Gen.facts := fun m ρ _ => Cert.Kernel11Ideal.Gen.frame m ρ
theorem frameR : @Cert.quiescent_Reference11Ideal Cert.Reference11Ideal.Gen.facts := fun m ρ _ =>
  (θ_run Cert.Reference11Ideal.defs _ _).mono (fun r h => ⟨fun c => (h c).2, sem_eq_zero_of_no_sems (by decide) r.2⟩)
    (Cert.Reference11Ideal.Value.run m ρ)

end Cert.P11

end
-- ==== Proof.P12.lean ====
/- UNTRUSTED — the gradient of the weight of the attention's output: the blocked product is the product. -/
module

public import proofs.«01_k».proof.Proof.Prod
public import proofs.«01_k».proof.Proof.Gen.Kernel12
public import proofs.«01_k».proof.Proof.Gen.Kernel12Ideal.Value
public import proofs.«01_k».proof.Proof.Gen.Reference12Ideal.Run
public import proofs.«01_k».proof.Defs
public import Idealize.ShloMosaic.Lib.StableHlo.RunRead
public import Idealize.ShloMosaic.Lib.Claim

@[expose] public section

set_option maxRecDepth 16384

noncomputable section

namespace Cert.P12

open Idealize.ShloMosaic Idealize.ShloMosaic.TcCoe Cert.Kernel12Ideal Cert.Kernel12Ideal.Gen

section Point

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32) (a : Fin 1024) (b : Fin 1024)

theorem sout_A (hc0 hc1 hc2) : sout0_A_0 (F := Ideal) c i arg3 harg3 arg4 harg4 arg5 harg5 arg6 harg6 hc0 hc1 hc2 x0 x1 (ix2 a b) = ∑ x : Fin 2048, x0 (ix2 x a) * x1 (ix2 x b) := by
  unfold sout0_A_0
  unfold kernelRun0_A
  sl_unfold_words
  dsimp only
  rw [Prod.read_writes_all, Prod.readAt_all, Prod.readAt_all, harg3.read_unread, harg4.read_unread]
  pointwise [k0_pay2, k0_pay1]

theorem sout_B (hc0 hc1 hc2) : sout0_B_0 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold sout0_B_0
  unfold kernelRun0_B
  sl_unfold_words
  dsimp only
  rw [Prod.read_writes_all, Prod.readAt_all, Prod.readAt_all, Prod.readAt_all, harg3.read_unread, harg4.read_unread, harg6.read_unread]
  pointwise [k0_pay3, k0_pay1]

theorem out_C (hc0 hc1 hc2) : out0_C_2 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold out0_C_2
  unfold kernelRun0_C
  sl_unfold_words
  dsimp only
  rw [Prod.read_writes_all, Prod.readAt_all, Prod.readAt_all, Prod.readAt_all, harg3.read_unread, harg4.read_unread, harg6.read_unread]
  pointwise [k0_pay4, k0_pay1]

end Point

theorem idx0 : ∀ t : Fin grid0.N, win0_0.index t 0 = t.val % 4 ∧ win0_0.index t 1 = t.val / 4 / 2 := by decide +kernel
theorem idx1 : ∀ t : Fin grid0.N, win0_1.index t 0 = t.val % 4 ∧ win0_1.index t 1 = t.val / 4 % 2 := by decide +kernel

variable (m : (ℓ : Loc nD τ sig) → Buf (Elt Ideal) ℓ) (c : Dev nD)

/-- The rows, and the output's gradient. -/
abbrev k0 : FVec Ideal S8192x2048 .f32 := m ((c.tc : Thread nD τ).loc main_arg0)
abbrev k1 : FVec Ideal S8192x2048 .f32 := m ((c.tc : Thread nD τ).loc main_arg1)

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

/-- A window's input block. -/
abbrev b0 (t : Fin cfg0.N) : Vec Ideal S2048x1024 .bf16 := iblk m c 0 t
abbrev b1 (t : Fin cfg0.N) : Vec Ideal S2048x1024 .bf16 := iblk m c 1 t

theorem b0_at (t : Fin cfg0.N) (a : Fin 2048) (b : Fin 1024) :
    b0 m c t (ix2 a b) = Prod.at2 (k0 m c) (t.val % 4 * 2048 + a) (t.val / 4 / 2 * 1024 + b) :=
  (Prod.at_blk (V m c main_v0) (((cfg0.win 0).blk t).view.emb (ix2 a b)) 2048 1024 a b rfl rfl (idx0 t)).trans (by rw [V_0]; rfl)
theorem b1_at (t : Fin cfg0.N) (a : Fin 2048) (b : Fin 1024) :
    b1 m c t (ix2 a b) = Prod.at2 (k1 m c) (t.val % 4 * 2048 + a) (t.val / 4 % 2 * 1024 + b) :=
  (Prod.at_blk (V m c main_v1) (((cfg0.win 1).blk t).view.emb (ix2 a b)) 2048 1024 a b rfl rfl (idx1 t)).trans (by rw [V_1]; rfl)

/-- The products an element sums. -/
def term (r l x : ℕ) : EReal := Prod.at2 (k0 m c) x r * Prod.at2 (k1 m c) x l

/-- What a grid point adds to a block's element. -/
theorem dot_eq (t : Fin cfg0.N) (a : Fin 1024) (b : Fin 1024) :
    ∑ x : Fin 2048, b0 m c t (ix2 x a) * b1 m c t (ix2 x b)
      = ∑ x : Fin 2048, term m c (t.val / 4 / 2 * 1024 + a) (t.val / 4 % 2 * 1024 + b) (t.val % 4 * 2048 + x) :=
  Finset.sum_congr rfl fun x _ => by rw [b0_at, b1_at]; rfl

/-- The kernel's result. -/
theorem G2_eq (r : Fin 2048) (l : Fin 2048) :
    (Value.G2 m c : Vec Ideal S2048x2048 .f32) (ix2 r l) = ∑ x : Fin 8192, k0 m c (ix2 x r) * k1 m c (ix2 x l) := by
  have hp : Value.pt2Of (ix2 r l) = 4 * (2 * (r.val / 1024) + l.val / 1024) + 3 := by
    show 4 * (2 * (r.val / 1024 - 0) + 1 * (l.val / 1024 - 0)) + 3 = _; omega
  have hN : Value.pt2Of (ix2 r l) < cfg0.N := lt_of_lt_of_eq (by omega) N_0.symm
  unfold Value.G2
  rw [dif_pos hN, ← Value.outsAt0_sweep m c _ hN,
    show Value.loc2Of (ix2 r l) = ix2 ⟨r.val % 1024, Nat.mod_lt _ (by decide)⟩ ⟨l.val % 1024, Nat.mod_lt _ (by decide)⟩ from Prod.ext2 rfl rfl]
  refine (Prod.acc cfg0.N 4 2048 2 1024 1024 (by decide) (term m c) (fun n h => (outsAt0 m c n h).1) (fun n h => (outsAt0 m c n h).2)
    (fun n h h0 a b => ?_) (fun n h h' h0 h2 a b => ?_) (fun n h h' h2 a b => ?_)
    r l (by decide) (by decide) (by omega) _ hp hN).trans ?_
  · refine (congrFun (congrArg _root_.Prod.snd (outsAt0_A m c ⟨n, h⟩ h0 (by simp only; omega) (by simp only; omega))) (ix2 a b)).trans ?_
    dsimp only
    rw [sout_A]
    exact dot_eq m c ⟨n, h⟩ a b
  · refine (congrFun (congrArg _root_.Prod.snd (outsAt0_B m c ⟨n + 1, h⟩ h0 (by simp only; omega) h2)) (ix2 a b)).trans ?_
    dsimp only
    rw [sout_B]
    exact congrArg _ (dot_eq m c ⟨n + 1, h⟩ a b)
  · refine (congrFun (congrArg _root_.Prod.fst (outsAt0_C m c ⟨n + 1, h⟩ (by simp only; omega) (by simp only; omega) h2)) (ix2 a b)).trans ?_
    dsimp only
    rw [out_C]
    exact congrArg _ (dot_eq m c ⟨n + 1, h⟩ a b)
  · simp only [term, Prod.at2_ix]

/-- The reference's result. -/
theorem ref_eq (A : FVec Ideal S8192x2048 .f32) (B : FVec Ideal S8192x2048 .f32) (r : Fin 2048) (l : Fin 2048) :
    (transpose Cert.Reference12Ideal.S2048x2048 [1, 0] (Host.dotGeneral Cert.Reference12Ideal.dot_S8192x2048_S8192x2048_S2048x2048_0_0_1_1_n_n none B A : FVec Ideal Cert.Reference12Ideal.S2048x2048 .f32) Cert.Reference12Ideal.Gen.transposes_S2048x2048_S2048x2048_1_0 : FVec Ideal S2048x2048 .f32) (ix2 r l)
      = ∑ x : Fin 8192, A (ix2 x r) * B (ix2 x l) := by
  refine Eq.trans (b := ∑ x : Fin 8192, B (ix2 x l) * A (ix2 x r)) ?_ (Finset.sum_congr rfl fun x _ => mul_comm _ _)
  pointwise

theorem algebraic : @Cert.algebraic_Kernel12Ideal_Reference12Ideal Cert.Kernel12Ideal.Gen.facts Cert.Reference12Ideal.Gen.facts := by
  intro m g m' g' _ hagree
  refine ⟨_, Value.run m g, (θ_run Cert.Reference12Ideal.defs _ _).mono (fun r hr c => ?_) (Cert.Reference12Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (G2_eq m c r l).symm

/-- The two programs are one text, over any floats. -/
theorem defs0_eq : @Cert.Kernel12.defs₀ Bits _ Cert.Kernel12.Gen.facts = @Cert.Kernel12Ideal.defs₀ Bits _ Cert.Kernel12Ideal.Gen.facts :=
  congrArg (Defs.onTc (nD := 1) (τ := Cert.Kernel12Ideal.τ)) (funext fun ℓ => match ℓ with
    | (0 : Fin 1) => rfl)
theorem defs_eq : @Cert.Kernel12.defs Bits _ Cert.Kernel12.Gen.facts = @Cert.Kernel12Ideal.defs Bits _ Cert.Kernel12Ideal.Gen.facts :=
  congrArg (Pipeline.defs (Cert.Kernel12Ideal.pcfgs (F := Bits))) defs0_eq

theorem frame : @Cert.quiescent_Kernel12 Cert.Kernel12.Gen.facts := fun m ρ _ => by
  rw [defs_eq]
  exact Cert.Kernel12Ideal.Gen.frame (F := Bits) m ρ
theorem frameI : @Cert.quiescent_Kernel12Ideal Cert.Kernel12Ideal.Gen.facts := fun m ρ _ => Cert.Kernel12Ideal.Gen.frame m ρ
theorem frameR : @Cert.quiescent_Reference12Ideal Cert.Reference12Ideal.Gen.facts := fun m ρ _ =>
  (θ_run Cert.Reference12Ideal.defs _ _).mono (fun r h => ⟨fun c => (h c).2, sem_eq_zero_of_no_sems (by decide) r.2⟩)
    (Cert.Reference12Ideal.Value.run m ρ)

end Cert.P12

end
-- ==== Proof.P13.lean ====
/- UNTRUSTED — the gradient of the attention's heads, all of them side by side: the blocked product is the product. -/
module

public import proofs.«01_k».proof.Proof.Prod
public import proofs.«01_k».proof.Proof.Gen.Kernel13
public import proofs.«01_k».proof.Proof.Gen.Kernel13Ideal.Value
public import proofs.«01_k».proof.Proof.Gen.Reference13Ideal.Run
public import proofs.«01_k».proof.Defs
public import Idealize.ShloMosaic.Lib.StableHlo.RunRead
public import Idealize.ShloMosaic.Lib.Claim

@[expose] public section

set_option maxRecDepth 16384

noncomputable section

namespace Cert.P13

open Idealize.ShloMosaic Idealize.ShloMosaic.TcCoe Cert.Kernel13Ideal Cert.Kernel13Ideal.Gen

theorem out_block (x0 : Vec Ideal S1024x2048 .bf16) (x1 : Vec Ideal S1024x2048 .bf16) (a : Fin 1024) (b : Fin 1024) :
    out0_2 (F := Ideal) x0 x1 (ix2 a b) = ∑ x : Fin 2048, x0 (ix2 a x) * x1 (ix2 b x) := by
  unfold out0_2
  rw [Prod.canon_all, Prod.ld_all, Prod.ld_all]
  pointwise [k0_pay1]

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel

variable (m : (ℓ : Loc nD τ sig) → Buf (Elt Ideal) ℓ) (c : Dev nD)

/-- The output's gradient, and the weight. -/
abbrev k0 : FVec Ideal S8192x2048 .f32 := m ((c.tc : Thread nD τ).loc main_arg1)
abbrev k1 : FVec Ideal S2048x2048 .f32 := m ((c.tc : Thread nD τ).loc main_arg0)

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

/-- A window's input block. -/
abbrev b0 (t : Fin cfg0.N) : Vec Ideal S1024x2048 .bf16 := iblk m c 0 t
abbrev b1 (t : Fin cfg0.N) : Vec Ideal S1024x2048 .bf16 := iblk m c 1 t

theorem b0_at (t : Fin cfg0.N) (a : Fin 1024) (b : Fin 2048) :
    b0 m c t (ix2 a b) = Prod.at2 (k0 m c) (t.val / 2 * 1024 + a) (0 * 2048 + b) :=
  (Prod.at_blk (V m c main_v0) (((cfg0.win 0).blk t).view.emb (ix2 a b)) 1024 2048 a b rfl rfl (idx0 t)).trans (by rw [V_0]; rfl)
theorem b1_at (t : Fin cfg0.N) (a : Fin 1024) (b : Fin 2048) :
    b1 m c t (ix2 a b) = Prod.at2 (k1 m c) (t.val % 2 * 1024 + a) (0 * 2048 + b) :=
  (Prod.at_blk (V m c main_v1) (((cfg0.win 1).blk t).view.emb (ix2 a b)) 1024 2048 a b rfl rfl (idx1 t)).trans (by rw [V_1]; rfl)

/-- The kernel's result. -/
abbrev out : Vec Ideal S8192x2048 .f32 := (dats m 0 c).arrAt 2 cfg0.N

theorem out_at (t : Fin cfg0.N) (a : Fin 1024) (b : Fin 1024) :
    Prod.at2 (out m c) (t.val / 2 * 1024 + a) (t.val % 2 * 1024 + b) = ∑ x : Fin 2048, b0 m c t (ix2 a x) * b1 m c t (ix2 b x) :=
  (Prod.at_blk (out m c) (((cfg0.win 2).blk t).view.emb (ix2 a b)) 1024 1024 a b rfl rfl (idx2 t)).symm.trans
    ((congrFun ((Value.blocks2 m c t (flush0_2 t)).trans (Value.flushed2 m c t)) (ix2 a b)).trans (out_block (b0 m c t) (b1 m c t) a b))

theorem out_eq (r : Fin 8192) (l : Fin 2048) : out m c (ix2 r l) = ∑ x : Fin 2048, k0 m c (ix2 r x) * k1 m c (ix2 l x) := by
  refine (Prod.grid 8 2 1024 1024 rfl rfl (fun r l => ∑ x : Fin 2048, Prod.at2 (k0 m c) r x * Prod.at2 (k1 m c) l x) (out m c) (fun t ht a b => ?_) r l).trans ?_
  · refine (out_at m c ⟨t, lt_of_lt_of_eq ht N_0.symm⟩ a b).trans ?_
    simp only [b0_at, b1_at, Nat.zero_mul, Nat.zero_add]
  · simp only [Prod.at2_ix]

/-- The reference's result. -/
theorem ref_eq (A : FVec Ideal S8192x2048 .f32) (B : FVec Ideal S2048x2048 .f32) (r : Fin 8192) (l : Fin 2048) :
    (Host.dotGeneral Cert.Reference13Ideal.dot_S8192x2048_S2048x2048_S8192x2048_1_1_0_0_n_n none A B : FVec Ideal S8192x2048 .f32) (ix2 r l)
      = ∑ x : Fin 2048, A (ix2 r x) * B (ix2 l x) := by
  pointwise

theorem algebraic : @Cert.algebraic_Kernel13Ideal_Reference13Ideal Cert.Kernel13Ideal.Gen.facts Cert.Reference13Ideal.Gen.facts := by
  intro m g m' g' _ hagree
  refine ⟨_, Value.run_blocks m g, (θ_run Cert.Reference13Ideal.defs _ _).mono (fun r hr c => ?_) (Cert.Reference13Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (out_eq m c r l).symm

/-- The two programs are one text, over any floats. -/
theorem defs0_eq : @Cert.Kernel13.defs₀ Bits _ Cert.Kernel13.Gen.facts = @Cert.Kernel13Ideal.defs₀ Bits _ Cert.Kernel13Ideal.Gen.facts :=
  congrArg (Defs.onTc (nD := 1) (τ := Cert.Kernel13Ideal.τ)) (funext fun ℓ => match ℓ with
    | (0 : Fin 1) => rfl)
theorem defs_eq : @Cert.Kernel13.defs Bits _ Cert.Kernel13.Gen.facts = @Cert.Kernel13Ideal.defs Bits _ Cert.Kernel13Ideal.Gen.facts :=
  congrArg (Pipeline.defs (Cert.Kernel13Ideal.pcfgs (F := Bits))) defs0_eq

theorem frame : @Cert.quiescent_Kernel13 Cert.Kernel13.Gen.facts := fun m ρ _ => by
  rw [defs_eq]
  exact Cert.Kernel13Ideal.Gen.frame (F := Bits) m ρ
theorem frameI : @Cert.quiescent_Kernel13Ideal Cert.Kernel13Ideal.Gen.facts := fun m ρ _ => Cert.Kernel13Ideal.Gen.frame m ρ
theorem frameR : @Cert.quiescent_Reference13Ideal Cert.Reference13Ideal.Gen.facts := fun m ρ _ =>
  (θ_run Cert.Reference13Ideal.defs _ _).mono (fun r h => ⟨fun c => (h c).2, sem_eq_zero_of_no_sems (by decide) r.2⟩)
    (Cert.Reference13Ideal.Value.run m ρ)

end Cert.P13

end
-- ==== Proof.P14.lean ====
/- UNTRUSTED — a product of the rows with a square weight, forward (the attention's output, the per-layer gate): the blocked
   product is the product. -/
module

public import proofs.«01_k».proof.Proof.Prod
public import proofs.«01_k».proof.Proof.Gen.Kernel14
public import proofs.«01_k».proof.Proof.Gen.Kernel14Ideal.Value
public import proofs.«01_k».proof.Proof.Gen.Reference14Ideal.Run
public import proofs.«01_k».proof.Defs
public import Idealize.ShloMosaic.Lib.StableHlo.RunRead
public import Idealize.ShloMosaic.Lib.Claim

@[expose] public section

set_option maxRecDepth 16384

noncomputable section

namespace Cert.P14

open Idealize.ShloMosaic Idealize.ShloMosaic.TcCoe Cert.Kernel14Ideal Cert.Kernel14Ideal.Gen

theorem out_block (x0 : Vec Ideal S1024x2048 .bf16) (x1 : Vec Ideal S2048x1024 .bf16) (a : Fin 1024) (b : Fin 1024) :
    out0_2 (F := Ideal) x0 x1 (ix2 a b) = ∑ x : Fin 2048, x0 (ix2 a x) * x1 (ix2 x b) := by
  unfold out0_2
  rw [Prod.canon_all, Prod.ld_all, Prod.ld_all]
  pointwise [k0_pay1]

theorem idx0 : ∀ t : Fin grid0.N, win0_0.index t 0 = t.val / 2 ∧ win0_0.index t 1 = 0 := by decide +kernel
theorem idx1 : ∀ t : Fin grid0.N, win0_1.index t 0 = 0 ∧ win0_1.index t 1 = t.val % 2 := by decide +kernel
theorem idx2 : ∀ t : Fin grid0.N, win0_2.index t 0 = t.val / 2 ∧ win0_2.index t 1 = t.val % 2 := by decide +kernel

variable (m : (ℓ : Loc nD τ sig) → Buf (Elt Ideal) ℓ) (c : Dev nD)

/-- The rows, and the weight. -/
abbrev k0 : FVec Ideal S8192x2048 .f32 := m ((c.tc : Thread nD τ).loc main_arg0)
abbrev k1 : FVec Ideal S2048x2048 .f32 := m ((c.tc : Thread nD τ).loc main_arg1)

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

/-- A window's input block. -/
abbrev b0 (t : Fin cfg0.N) : Vec Ideal S1024x2048 .bf16 := iblk m c 0 t
abbrev b1 (t : Fin cfg0.N) : Vec Ideal S2048x1024 .bf16 := iblk m c 1 t

theorem b0_at (t : Fin cfg0.N) (a : Fin 1024) (b : Fin 2048) :
    b0 m c t (ix2 a b) = Prod.at2 (k0 m c) (t.val / 2 * 1024 + a) (0 * 2048 + b) :=
  (Prod.at_blk (V m c main_v0) (((cfg0.win 0).blk t).view.emb (ix2 a b)) 1024 2048 a b rfl rfl (idx0 t)).trans (by rw [V_0]; rfl)
theorem b1_at (t : Fin cfg0.N) (a : Fin 2048) (b : Fin 1024) :
    b1 m c t (ix2 a b) = Prod.at2 (k1 m c) (0 * 2048 + a) (t.val % 2 * 1024 + b) :=
  (Prod.at_blk (V m c main_v1) (((cfg0.win 1).blk t).view.emb (ix2 a b)) 2048 1024 a b rfl rfl (idx1 t)).trans (by rw [V_1]; rfl)

/-- The kernel's result. -/
abbrev out : Vec Ideal S8192x2048 .f32 := (dats m 0 c).arrAt 2 cfg0.N

theorem out_at (t : Fin cfg0.N) (a : Fin 1024) (b : Fin 1024) :
    Prod.at2 (out m c) (t.val / 2 * 1024 + a) (t.val % 2 * 1024 + b) = ∑ x : Fin 2048, b0 m c t (ix2 a x) * b1 m c t (ix2 x b) :=
  (Prod.at_blk (out m c) (((cfg0.win 2).blk t).view.emb (ix2 a b)) 1024 1024 a b rfl rfl (idx2 t)).symm.trans
    ((congrFun ((Value.blocks2 m c t (flush0_2 t)).trans (Value.flushed2 m c t)) (ix2 a b)).trans (out_block (b0 m c t) (b1 m c t) a b))

theorem out_eq (r : Fin 8192) (l : Fin 2048) : out m c (ix2 r l) = ∑ x : Fin 2048, k0 m c (ix2 r x) * k1 m c (ix2 x l) := by
  refine (Prod.grid 8 2 1024 1024 rfl rfl (fun r l => ∑ x : Fin 2048, Prod.at2 (k0 m c) r x * Prod.at2 (k1 m c) x l) (out m c) (fun t ht a b => ?_) r l).trans ?_
  · refine (out_at m c ⟨t, lt_of_lt_of_eq ht N_0.symm⟩ a b).trans ?_
    simp only [b0_at, b1_at, Nat.zero_mul, Nat.zero_add]
  · simp only [Prod.at2_ix]

/-- The reference's result. -/
theorem ref_eq (A : FVec Ideal S8192x2048 .f32) (B : FVec Ideal S2048x2048 .f32) (r : Fin 8192) (l : Fin 2048) :
    (Host.dotGeneral Cert.Reference14Ideal.dot_S8192x2048_S2048x2048_S8192x2048_1_0_0_1_n_n none A B : FVec Ideal S8192x2048 .f32) (ix2 r l)
      = ∑ x : Fin 2048, A (ix2 r x) * B (ix2 x l) := by
  pointwise

theorem algebraic : @Cert.algebraic_Kernel14Ideal_Reference14Ideal Cert.Kernel14Ideal.Gen.facts Cert.Reference14Ideal.Gen.facts := by
  intro m g m' g' _ hagree
  refine ⟨_, Value.run_blocks m g, (θ_run Cert.Reference14Ideal.defs _ _).mono (fun r hr c => ?_) (Cert.Reference14Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (out_eq m c r l).symm

/-- The two programs are one text, over any floats. -/
theorem defs0_eq : @Cert.Kernel14.defs₀ Bits _ Cert.Kernel14.Gen.facts = @Cert.Kernel14Ideal.defs₀ Bits _ Cert.Kernel14Ideal.Gen.facts :=
  congrArg (Defs.onTc (nD := 1) (τ := Cert.Kernel14Ideal.τ)) (funext fun ℓ => match ℓ with
    | (0 : Fin 1) => rfl)
theorem defs_eq : @Cert.Kernel14.defs Bits _ Cert.Kernel14.Gen.facts = @Cert.Kernel14Ideal.defs Bits _ Cert.Kernel14Ideal.Gen.facts :=
  congrArg (Pipeline.defs (Cert.Kernel14Ideal.pcfgs (F := Bits))) defs0_eq

theorem frame : @Cert.quiescent_Kernel14 Cert.Kernel14.Gen.facts := fun m ρ _ => by
  rw [defs_eq]
  exact Cert.Kernel14Ideal.Gen.frame (F := Bits) m ρ
theorem frameI : @Cert.quiescent_Kernel14Ideal Cert.Kernel14Ideal.Gen.facts := fun m ρ _ => Cert.Kernel14Ideal.Gen.frame m ρ
theorem frameR : @Cert.quiescent_Reference14Ideal Cert.Reference14Ideal.Gen.facts := fun m ρ _ =>
  (θ_run Cert.Reference14Ideal.defs _ _).mono (fun r h => ⟨fun c => (h c).2, sem_eq_zero_of_no_sems (by decide) r.2⟩)
    (Cert.Reference14Ideal.Value.run m ρ)

end Cert.P14

end
-- ==== Proof.P15.lean ====
/- UNTRUSTED — the gradient of the per-layer gate's weight: the blocked product is the product. -/
module

public import proofs.«01_k».proof.Proof.Prod
public import proofs.«01_k».proof.Proof.Gen.Kernel15
public import proofs.«01_k».proof.Proof.Gen.Kernel15Ideal.Value
public import proofs.«01_k».proof.Proof.Gen.Reference15Ideal.Run
public import proofs.«01_k».proof.Defs
public import Idealize.ShloMosaic.Lib.StableHlo.RunRead
public import Idealize.ShloMosaic.Lib.Claim

@[expose] public section

set_option maxRecDepth 16384

noncomputable section

namespace Cert.P15

open Idealize.ShloMosaic Idealize.ShloMosaic.TcCoe Cert.Kernel15Ideal Cert.Kernel15Ideal.Gen

section Point

variable (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S2048x1024 .bf16) (x1 : Vec Ideal S2048x1024 .bf16) (xs : Vec Ideal S1024x1024 .f32) (a : Fin 1024) (b : Fin 1024)

theorem sout_A (hc0 hc1 hc2) : sout0_A_0 (F := Ideal) c i arg3 harg3 arg4 harg4 arg5 harg5 arg6 harg6 hc0 hc1 hc2 x0 x1 (ix2 a b) = ∑ x : Fin 2048, x0 (ix2 x a) * x1 (ix2 x b) := by
  unfold sout0_A_0
  unfold kernelRun0_A
  sl_unfold_words
  dsimp only
  rw [Prod.read_writes_all, Prod.readAt_all, Prod.readAt_all, harg3.read_unread, harg4.read_unread]
  pointwise [k0_pay2, k0_pay1]

theorem sout_B (hc0 hc1 hc2) : sout0_B_0 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold sout0_B_0
  unfold kernelRun0_B
  sl_unfold_words
  dsimp only
  rw [Prod.read_writes_all, Prod.readAt_all, Prod.readAt_all, Prod.readAt_all, harg3.read_unread, harg4.read_unread, harg6.read_unread]
  pointwise [k0_pay3, k0_pay1]

theorem out_C (hc0 hc1 hc2) : out0_C_2 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold out0_C_2
  unfold kernelRun0_C
  sl_unfold_words
  dsimp only
  rw [Prod.read_writes_all, Prod.readAt_all, Prod.readAt_all, Prod.readAt_all, harg3.read_unread, harg4.read_unread, harg6.read_unread]
  pointwise [k0_pay4, k0_pay1]

end Point

theorem idx0 : ∀ t : Fin grid0.N, win0_0.index t 0 = t.val % 4 ∧ win0_0.index t 1 = t.val / 4 / 2 := by decide +kernel
theorem idx1 : ∀ t : Fin grid0.N, win0_1.index t 0 = t.val % 4 ∧ win0_1.index t 1 = 2 + t.val / 4 % 2 := by decide +kernel

variable (m : (ℓ : Loc nD τ sig) → Buf (Elt Ideal) ℓ) (c : Dev nD)

/-- The rows, and two gradients side by side, the second of them the output's. -/
abbrev k0 : FVec Ideal S8192x2048 .f32 := m ((c.tc : Thread nD τ).loc main_arg0)
abbrev k1 : FVec Ideal S8192x4096 .f32 := m ((c.tc : Thread nD τ).loc main_arg1)
abbrev k1s : FVec Ideal S8192x2048 .f32 := extractStridedSlice S8192x2048 ![0, 2048] (k1 m c) Cert.Reference15Ideal.Gen.slices_S8192x4096_S8192x2048_0_2048

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

/-- A window's input block. -/
abbrev b0 (t : Fin cfg0.N) : Vec Ideal S2048x1024 .bf16 := iblk m c 0 t
abbrev b1 (t : Fin cfg0.N) : Vec Ideal S2048x1024 .bf16 := iblk m c 1 t

theorem b0_at (t : Fin cfg0.N) (a : Fin 2048) (b : Fin 1024) :
    b0 m c t (ix2 a b) = Prod.at2 (k0 m c) (t.val % 4 * 2048 + a) (t.val / 4 / 2 * 1024 + b) :=
  (Prod.at_blk (V m c main_v0) (((cfg0.win 0).blk t).view.emb (ix2 a b)) 2048 1024 a b rfl rfl (idx0 t)).trans (by rw [V_0]; rfl)
theorem b1_at (t : Fin cfg0.N) (a : Fin 2048) (b : Fin 1024) :
    b1 m c t (ix2 a b) = Prod.at2 (k1 m c) (t.val % 4 * 2048 + a) (2048 + (t.val / 4 % 2 * 1024 + b)) :=
  (Prod.at_blk (V m c main_v1) (((cfg0.win 1).blk t).view.emb (ix2 a b)) 2048 1024 a b rfl rfl (idx1 t)).trans (by
    rw [V_1, show (2 + t.val / 4 % 2) * 1024 + (b : ℕ) = 2048 + (t.val / 4 % 2 * 1024 + b) by omega]; rfl)

/-- The products an element sums. -/
def term (r l x : ℕ) : EReal := Prod.at2 (k0 m c) x r * Prod.at2 (k1 m c) x (2048 + l)

/-- What a grid point adds to a block's element. -/
theorem dot_eq (t : Fin cfg0.N) (a : Fin 1024) (b : Fin 1024) :
    ∑ x : Fin 2048, b0 m c t (ix2 x a) * b1 m c t (ix2 x b)
      = ∑ x : Fin 2048, term m c (t.val / 4 / 2 * 1024 + a) (t.val / 4 % 2 * 1024 + b) (t.val % 4 * 2048 + x) :=
  Finset.sum_congr rfl fun x _ => by rw [b0_at, b1_at]; rfl

theorem k1s_at (x : Fin 8192) (l : Fin 2048) : k1s m c (ix2 x l) = Prod.at2 (k1 m c) x (2048 + l) := by
  refine Eq.trans ?_ (Prod.at2_ix (k1 m c) x ⟨2048 + l, by omega⟩).symm
  pointwise

/-- The kernel's result. -/
theorem G2_eq (r : Fin 2048) (l : Fin 2048) :
    (Value.G2 m c : Vec Ideal S2048x2048 .f32) (ix2 r l) = ∑ x : Fin 8192, k0 m c (ix2 x r) * k1s m c (ix2 x l) := by
  have hp : Value.pt2Of (ix2 r l) = 4 * (2 * (r.val / 1024) + l.val / 1024) + 3 := by
    show 4 * (2 * (r.val / 1024 - 0) + 1 * (l.val / 1024 - 0)) + 3 = _; omega
  have hN : Value.pt2Of (ix2 r l) < cfg0.N := lt_of_lt_of_eq (by omega) N_0.symm
  unfold Value.G2
  rw [dif_pos hN, ← Value.outsAt0_sweep m c _ hN,
    show Value.loc2Of (ix2 r l) = ix2 ⟨r.val % 1024, Nat.mod_lt _ (by decide)⟩ ⟨l.val % 1024, Nat.mod_lt _ (by decide)⟩ from Prod.ext2 rfl rfl]
  refine (Prod.acc cfg0.N 4 2048 2 1024 1024 (by decide) (term m c) (fun n h => (outsAt0 m c n h).1) (fun n h => (outsAt0 m c n h).2)
    (fun n h h0 a b => ?_) (fun n h h' h0 h2 a b => ?_) (fun n h h' h2 a b => ?_)
    r l (by decide) (by decide) (by omega) _ hp hN).trans ?_
  · refine (congrFun (congrArg _root_.Prod.snd (outsAt0_A m c ⟨n, h⟩ h0 (by simp only; omega) (by simp only; omega))) (ix2 a b)).trans ?_
    dsimp only
    rw [sout_A]
    exact dot_eq m c ⟨n, h⟩ a b
  · refine (congrFun (congrArg _root_.Prod.snd (outsAt0_B m c ⟨n + 1, h⟩ h0 (by simp only; omega) h2)) (ix2 a b)).trans ?_
    dsimp only
    rw [sout_B]
    exact congrArg _ (dot_eq m c ⟨n + 1, h⟩ a b)
  · refine (congrFun (congrArg _root_.Prod.fst (outsAt0_C m c ⟨n + 1, h⟩ (by simp only; omega) (by simp only; omega) h2)) (ix2 a b)).trans ?_
    dsimp only
    rw [out_C]
    exact congrArg _ (dot_eq m c ⟨n + 1, h⟩ a b)
  · simp only [term, k1s_at, Prod.at2_ix]

/-- The reference's result. -/
theorem ref_eq (A : FVec Ideal S8192x2048 .f32) (B : FVec Ideal S8192x2048 .f32) (r : Fin 2048) (l : Fin 2048) :
    (transpose Cert.Reference15Ideal.S2048x2048 [1, 0] (Host.dotGeneral Cert.Reference15Ideal.dot_S8192x2048_S8192x2048_S2048x2048_0_0_1_1_n_n none B A : FVec Ideal Cert.Reference15Ideal.S2048x2048 .f32) Cert.Reference15Ideal.Gen.transposes_S2048x2048_S2048x2048_1_0 : FVec Ideal S2048x2048 .f32) (ix2 r l)
      = ∑ x : Fin 8192, A (ix2 x r) * B (ix2 x l) := by
  refine Eq.trans (b := ∑ x : Fin 8192, B (ix2 x l) * A (ix2 x r)) ?_ (Finset.sum_congr rfl fun x _ => mul_comm _ _)
  pointwise

theorem algebraic : @Cert.algebraic_Kernel15Ideal_Reference15Ideal Cert.Kernel15Ideal.Gen.facts Cert.Reference15Ideal.Gen.facts := by
  intro m g m' g' _ hagree
  refine ⟨_, Value.run m g, (θ_run Cert.Reference15Ideal.defs _ _).mono (fun r hr c => ?_) (Cert.Reference15Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1s m c) r l).trans (G2_eq m c r l).symm

/-- The two programs are one text, over any floats. -/
theorem defs0_eq : @Cert.Kernel15.defs₀ Bits _ Cert.Kernel15.Gen.facts = @Cert.Kernel15Ideal.defs₀ Bits _ Cert.Kernel15Ideal.Gen.facts :=
  congrArg (Defs.onTc (nD := 1) (τ := Cert.Kernel15Ideal.τ)) (funext fun ℓ => match ℓ with
    | (0 : Fin 1) => rfl)
theorem defs_eq : @Cert.Kernel15.defs Bits _ Cert.Kernel15.Gen.facts = @Cert.Kernel15Ideal.defs Bits _ Cert.Kernel15Ideal.Gen.facts :=
  congrArg (Pipeline.defs (Cert.Kernel15Ideal.pcfgs (F := Bits))) defs0_eq

theorem frame : @Cert.quiescent_Kernel15 Cert.Kernel15.Gen.facts := fun m ρ _ => by
  rw [defs_eq]
  exact Cert.Kernel15Ideal.Gen.frame (F := Bits) m ρ
theorem frameI : @Cert.quiescent_Kernel15Ideal Cert.Kernel15Ideal.Gen.facts := fun m ρ _ => Cert.Kernel15Ideal.Gen.frame m ρ
theorem frameR : @Cert.quiescent_Reference15Ideal Cert.Reference15Ideal.Gen.facts := fun m ρ _ =>
  (θ_run Cert.Reference15Ideal.defs _ _).mono (fun r h => ⟨fun c => (h c).2, sem_eq_zero_of_no_sems (by decide) r.2⟩)
    (Cert.Reference15Ideal.Value.run m ρ)

end Cert.P15

end
-- ==== Proof.P16.lean ====
/- UNTRUSTED — the gradient through the per-layer gate's product: the blocked product is the product. -/
module

public import proofs.«01_k».proof.Proof.Prod
public import proofs.«01_k».proof.Proof.Gen.Kernel16
public import proofs.«01_k».proof.Proof.Gen.Kernel16Ideal.Value
public import proofs.«01_k».proof.Proof.Gen.Reference16Ideal.Run
public import proofs.«01_k».proof.Defs
public import Idealize.ShloMosaic.Lib.StableHlo.RunRead
public import Idealize.ShloMosaic.Lib.Claim

@[expose] public section

set_option maxRecDepth 16384

noncomputable section

namespace Cert.P16

open Idealize.ShloMosaic Idealize.ShloMosaic.TcCoe Cert.Kernel16Ideal Cert.Kernel16Ideal.Gen

theorem out_block (x0 : Vec Ideal S1024x2048 .bf16) (x1 : Vec Ideal S1024x2048 .bf16) (a : Fin 1024) (b : Fin 1024) :
    out0_2 (F := Ideal) x0 x1 (ix2 a b) = ∑ x : Fin 2048, x0 (ix2 a x) * x1 (ix2 b x) := by
  unfold out0_2
  rw [Prod.canon_all, Prod.ld_all, Prod.ld_all]
  pointwise [k0_pay1]

theorem idx0 : ∀ t : Fin grid0.N, win0_0.index t 0 = t.val / 2 ∧ win0_0.index t 1 = 1 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel

variable (m : (ℓ : Loc nD τ sig) → Buf (Elt Ideal) ℓ) (c : Dev nD)

/-- Two gradients side by side, the second of them the output's, and the weight. -/
abbrev k0 : FVec Ideal S8192x4096 .f32 := m ((c.tc : Thread nD τ).loc main_arg1)
abbrev k1 : FVec Ideal S2048x2048 .f32 := m ((c.tc : Thread nD τ).loc main_arg0)
abbrev k0s : FVec Ideal S8192x2048 .f32 := extractStridedSlice S8192x2048 ![0, 2048] (k0 m c) Cert.Reference16Ideal.Gen.slices_S8192x4096_S8192x2048_0_2048

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

/-- A window's input block. -/
abbrev b0 (t : Fin cfg0.N) : Vec Ideal S1024x2048 .bf16 := iblk m c 0 t
abbrev b1 (t : Fin cfg0.N) : Vec Ideal S1024x2048 .bf16 := iblk m c 1 t

theorem b0_at (t : Fin cfg0.N) (a : Fin 1024) (b : Fin 2048) :
    b0 m c t (ix2 a b) = Prod.at2 (k0 m c) (t.val / 2 * 1024 + a) (1 * 2048 + b) :=
  (Prod.at_blk (V m c main_v0) (((cfg0.win 0).blk t).view.emb (ix2 a b)) 1024 2048 a b rfl rfl (idx0 t)).trans (by rw [V_0]; rfl)
theorem b1_at (t : Fin cfg0.N) (a : Fin 1024) (b : Fin 2048) :
    b1 m c t (ix2 a b) = Prod.at2 (k1 m c) (t.val % 2 * 1024 + a) (0 * 2048 + b) :=
  (Prod.at_blk (V m c main_v1) (((cfg0.win 1).blk t).view.emb (ix2 a b)) 1024 2048 a b rfl rfl (idx1 t)).trans (by rw [V_1]; rfl)

/-- The kernel's result. -/
abbrev out : Vec Ideal S8192x2048 .f32 := (dats m 0 c).arrAt 2 cfg0.N

theorem out_at (t : Fin cfg0.N) (a : Fin 1024) (b : Fin 1024) :
    Prod.at2 (out m c) (t.val / 2 * 1024 + a) (t.val % 2 * 1024 + b) = ∑ x : Fin 2048, b0 m c t (ix2 a x) * b1 m c t (ix2 b x) :=
  (Prod.at_blk (out m c) (((cfg0.win 2).blk t).view.emb (ix2 a b)) 1024 1024 a b rfl rfl (idx2 t)).symm.trans
    ((congrFun ((Value.blocks2 m c t (flush0_2 t)).trans (Value.flushed2 m c t)) (ix2 a b)).trans (out_block (b0 m c t) (b1 m c t) a b))

theorem k0s_at (r : Fin 8192) (x : Fin 2048) : k0s m c (ix2 r x) = Prod.at2 (k0 m c) r (1 * 2048 + x) := by
  refine Eq.trans ?_ (Prod.at2_ix (k0 m c) r ⟨1 * 2048 + x, by omega⟩).symm
  pointwise

theorem out_eq (r : Fin 8192) (l : Fin 2048) : out m c (ix2 r l) = ∑ x : Fin 2048, k0s m c (ix2 r x) * k1 m c (ix2 l x) := by
  refine (Prod.grid 8 2 1024 1024 rfl rfl (fun r l => ∑ x : Fin 2048, Prod.at2 (k0 m c) r (1 * 2048 + x) * Prod.at2 (k1 m c) l x) (out m c) (fun t ht a b => ?_) r l).trans ?_
  · refine (out_at m c ⟨t, lt_of_lt_of_eq ht N_0.symm⟩ a b).trans ?_
    simp only [b0_at, b1_at, Nat.zero_mul, Nat.zero_add]
  · simp only [k0s_at, Prod.at2_ix]

/-- The reference's result. -/
theorem ref_eq (A : FVec Ideal S8192x2048 .f32) (B : FVec Ideal S2048x2048 .f32) (r : Fin 8192) (l : Fin 2048) :
    (Host.dotGeneral Cert.Reference16Ideal.dot_S8192x2048_S2048x2048_S8192x2048_1_1_0_0_n_n none A B : FVec Ideal S8192x2048 .f32) (ix2 r l)
      = ∑ x : Fin 2048, A (ix2 r x) * B (ix2 l x) := by
  pointwise

theorem algebraic : @Cert.algebraic_Kernel16Ideal_Reference16Ideal Cert.Kernel16Ideal.Gen.facts Cert.Reference16Ideal.Gen.facts := by
  intro m g m' g' _ hagree
  refine ⟨_, Value.run_blocks m g, (θ_run Cert.Reference16Ideal.defs _ _).mono (fun r hr c => ?_) (Cert.Reference16Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0s m c) (k1 m c) r l).trans (out_eq m c r l).symm

/-- The two programs are one text, over any floats. -/
theorem defs0_eq : @Cert.Kernel16.defs₀ Bits _ Cert.Kernel16.Gen.facts = @Cert.Kernel16Ideal.defs₀ Bits _ Cert.Kernel16Ideal.Gen.facts :=
  congrArg (Defs.onTc (nD := 1) (τ := Cert.Kernel16Ideal.τ)) (funext fun ℓ => match ℓ with
    | (0 : Fin 1) => rfl)
theorem defs_eq : @Cert.Kernel16.defs Bits _ Cert.Kernel16.Gen.facts = @Cert.Kernel16Ideal.defs Bits _ Cert.Kernel16Ideal.Gen.facts :=
  congrArg (Pipeline.defs (Cert.Kernel16Ideal.pcfgs (F := Bits))) defs0_eq

theorem frame : @Cert.quiescent_Kernel16 Cert.Kernel16.Gen.facts := fun m ρ _ => by
  rw [defs_eq]
  exact Cert.Kernel16Ideal.Gen.frame (F := Bits) m ρ
theorem frameI : @Cert.quiescent_Kernel16Ideal Cert.Kernel16Ideal.Gen.facts := fun m ρ _ => Cert.Kernel16Ideal.Gen.frame m ρ
theorem frameR : @Cert.quiescent_Reference16Ideal Cert.Reference16Ideal.Gen.facts := fun m ρ _ =>
  (θ_run Cert.Reference16Ideal.defs _ _).mono (fun r h => ⟨fun c => (h c).2, sem_eq_zero_of_no_sems (by decide) r.2⟩)
    (Cert.Reference16Ideal.Value.run m ρ)

end Cert.P16

end
-- ==== Proof.P17.lean ====
/- UNTRUSTED — the projection into the attention, forward: the blocked product is the product. -/
module

public import proofs.«01_k».proof.Proof.Prod
public import proofs.«01_k».proof.Proof.Gen.Kernel17
public import proofs.«01_k».proof.Proof.Gen.Kernel17Ideal.Value
public import proofs.«01_k».proof.Proof.Gen.Reference17Ideal.Run
public import proofs.«01_k».proof.Defs
public import Idealize.ShloMosaic.Lib.StableHlo.RunRead
public import Idealize.ShloMosaic.Lib.Claim

@[expose] public section

set_option maxRecDepth 16384

noncomputable section

namespace Cert.P17

open Idealize.ShloMosaic Idealize.ShloMosaic.TcCoe Cert.Kernel17Ideal Cert.Kernel17Ideal.Gen

theorem out_block (x0 : Vec Ideal S1024x2048 .bf16) (x1 : Vec Ideal S1408x2048 .bf16) (a : Fin 1024) (b : Fin 1408) :
    out0_2 (F := Ideal) x0 x1 (ix2 a b) = ∑ x : Fin 2048, x0 (ix2 a x) * x1 (ix2 b x) := by
  unfold out0_2
  rw [Prod.canon_all, Prod.ld_all, Prod.ld_all]
  pointwise [k0_pay1]

theorem idx0 : ∀ t : Fin grid0.N, win0_0.index t 0 = t.val / 3 ∧ win0_0.index t 1 = 0 := by decide +kernel
theorem idx1 : ∀ t : Fin grid0.N, win0_1.index t 0 = t.val % 3 ∧ win0_1.index t 1 = 0 := by decide +kernel
theorem idx2 : ∀ t : Fin grid0.N, win0_2.index t 0 = t.val / 3 ∧ win0_2.index t 1 = t.val % 3 := by decide +kernel

variable (m : (ℓ : Loc nD τ sig) → Buf (Elt Ideal) ℓ) (c : Dev nD)

/-- The rows, and the weight, and the weight transposed. -/
abbrev k0 : FVec Ideal S8192x2048 .f32 := m ((c.tc : Thread nD τ).loc main_arg0)
abbrev k1 : FVec Ideal S2048x4224 .f32 := m ((c.tc : Thread nD τ).loc main_arg1)
abbrev k1t : FVec Ideal S4224x2048 .f32 := transpose S4224x2048 [1, 0] (k1 m c) transposes_S2048x4224_S4224x2048_1_0

theorem V_0 : V m c main_v0 = truncf .bf16 (k0 m c) bitsLt_bf16_f32 := by
  unfold V
  unfold_abbrev_sides
  after_reads_simp
theorem V_1 : V m c main_v2 = truncf .bf16 (k1t m c) bitsLt_bf16_f32 := by
  unfold V
  unfold_abbrev_sides
  after_reads_simp

/-- A window's input block. -/
abbrev b0 (t : Fin cfg0.N) : Vec Ideal S1024x2048 .bf16 := iblk m c 0 t
abbrev b1 (t : Fin cfg0.N) : Vec Ideal S1408x2048 .bf16 := iblk m c 1 t

theorem b0_at (t : Fin cfg0.N) (a : Fin 1024) (b : Fin 2048) :
    b0 m c t (ix2 a b) = Prod.at2 (k0 m c) (t.val / 3 * 1024 + a) (0 * 2048 + b) :=
  (Prod.at_blk (V m c main_v0) (((cfg0.win 0).blk t).view.emb (ix2 a b)) 1024 2048 a b rfl rfl (idx0 t)).trans (by rw [V_0]; rfl)
theorem b1_at (t : Fin cfg0.N) (a : Fin 1408) (b : Fin 2048) :
    b1 m c t (ix2 a b) = Prod.at2 (k1t m c) (t.val % 3 * 1408 + a) (0 * 2048 + b) :=
  (Prod.at_blk (V m c main_v2) (((cfg0.win 1).blk t).view.emb (ix2 a b)) 1408 2048 a b rfl rfl (idx1 t)).trans (by rw [V_1]; rfl)

/-- The kernel's result. -/
abbrev out : Vec Ideal S8192x4224 .f32 := (dats m 0 c).arrAt 2 cfg0.N

theorem out_at (t : Fin cfg0.N) (a : Fin 1024) (b : Fin 1408) :
    Prod.at2 (out m c) (t.val / 3 * 1024 + a) (t.val % 3 * 1408 + b) = ∑ x : Fin 2048, b0 m c t (ix2 a x) * b1 m c t (ix2 b x) :=
  (Prod.at_blk (out m c) (((cfg0.win 2).blk t).view.emb (ix2 a b)) 1024 1408 a b rfl rfl (idx2 t)).symm.trans
    ((congrFun ((Value.blocks2 m c t (flush0_2 t)).trans (Value.flushed2 m c t)) (ix2 a b)).trans (out_block (b0 m c t) (b1 m c t) a b))

theorem k1t_at (l : Fin 4224) (x : Fin 2048) : k1t m c (ix2 l x) = k1 m c (ix2 x l) := by pointwise

theorem out_eq (r : Fin 8192) (l : Fin 4224) : out m c (ix2 r l) = ∑ x : Fin 2048, k0 m c (ix2 r x) * k1 m c (ix2 x l) := by
  refine (Prod.grid 8 3 1024 1408 rfl rfl (fun r l => ∑ x : Fin 2048, Prod.at2 (k0 m c) r x * Prod.at2 (k1t m c) l x) (out m c) (fun t ht a b => ?_) r l).trans ?_
  · refine (out_at m c ⟨t, lt_of_lt_of_eq ht N_0.symm⟩ a b).trans ?_
    simp only [b0_at, b1_at, Nat.zero_mul, Nat.zero_add]
  · simp only [Prod.at2_ix, k1t_at]

/-- The reference's result. -/
theorem ref_eq (A : FVec Ideal S8192x2048 .f32) (B : FVec Ideal S2048x4224 .f32) (r : Fin 8192) (l : Fin 4224) :
    (Host.dotGeneral Cert.Reference17Ideal.dot_S8192x2048_S2048x4224_S8192x4224_1_0_0_1_n_n none A B : FVec Ideal S8192x4224 .f32) (ix2 r l)
      = ∑ x : Fin 2048, A (ix2 r x) * B (ix2 x l) := by
  pointwise

theorem algebraic : @Cert.algebraic_Kernel17Ideal_Reference17Ideal Cert.Kernel17Ideal.Gen.facts Cert.Reference17Ideal.Gen.facts := by
  intro m g m' g' _ hagree
  refine ⟨_, Value.run_blocks m g, (θ_run Cert.Reference17Ideal.defs _ _).mono (fun r hr c => ?_) (Cert.Reference17Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (out_eq m c r l).symm

/-- The two programs are one text, over any floats. -/
theorem defs0_eq : @Cert.Kernel17.defs₀ Bits _ Cert.Kernel17.Gen.facts = @Cert.Kernel17Ideal.defs₀ Bits _ Cert.Kernel17Ideal.Gen.facts :=
  congrArg (Defs.onTc (nD := 1) (τ := Cert.Kernel17Ideal.τ)) (funext fun ℓ => match ℓ with
    | (0 : Fin 1) => rfl)
theorem defs_eq : @Cert.Kernel17.defs Bits _ Cert.Kernel17.Gen.facts = @Cert.Kernel17Ideal.defs Bits _ Cert.Kernel17Ideal.Gen.facts :=
  congrArg (Pipeline.defs (Cert.Kernel17Ideal.pcfgs (F := Bits))) defs0_eq

theorem frame : @Cert.quiescent_Kernel17 Cert.Kernel17.Gen.facts := fun m ρ _ => by
  rw [defs_eq]
  exact Cert.Kernel17Ideal.Gen.frame (F := Bits) m ρ
theorem frameI : @Cert.quiescent_Kernel17Ideal Cert.Kernel17Ideal.Gen.facts := fun m ρ _ => Cert.Kernel17Ideal.Gen.frame m ρ
theorem frameR : @Cert.quiescent_Reference17Ideal Cert.Reference17Ideal.Gen.facts := fun m ρ _ =>
  (θ_run Cert.Reference17Ideal.defs _ _).mono (fun r h => ⟨fun c => (h c).2, sem_eq_zero_of_no_sems (by decide) r.2⟩)
    (Cert.Reference17Ideal.Value.run m ρ)

end Cert.P17

end
-- ==== Proof.P18.lean ====
/- UNTRUSTED — the gradient of the weight of the projection into the attention: the blocked product is the product. -/
module

public import proofs.«01_k».proof.Proof.Prod
public import proofs.«01_k».proof.Proof.Gen.Kernel18
public import proofs.«01_k».proof.Proof.Gen.Kernel18Ideal.Value
public import proofs.«01_k».proof.Proof.Gen.Reference18Ideal.Run
public import proofs.«01_k».proof.Defs
public import Idealize.ShloMosaic.Lib.StableHlo.RunRead
public import Idealize.ShloMosaic.Lib.Claim

@[expose] public section

set_option maxRecDepth 16384

noncomputable section

namespace Cert.P18

open Idealize.ShloMosaic Idealize.ShloMosaic.TcCoe Cert.Kernel18Ideal Cert.Kernel18Ideal.Gen

section Point

variable (c : Dev nD) (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .f32) (harg5 : arg5.IsWhole) (arg6 : Memref sig .tc .vmem S1408x1024 .f32) (harg6 : arg6.IsWhole)
  (x0 : Vec Ideal S2048x1408 .bf16) (x1 : Vec Ideal S2048x1024 .bf16) (xs : Vec Ideal S1408x1024 .f32) (a : Fin 1408) (b : Fin 1024)

theorem sout_A (hc0 hc1 hc2) : sout0_A_0 (F := Ideal) c i arg3 harg3 arg4 harg4 arg5 harg5 arg6 harg6 hc0 hc1 hc2 x0 x1 (ix2 a b) = ∑ x : Fin 2048, x0 (ix2 x a) * x1 (ix2 x b) := by
  unfold sout0_A_0
  unfold kernelRun0_A
  sl_unfold_words
  dsimp only
  rw [Prod.read_writes_all, Prod.readAt_all, Prod.readAt_all, harg3.read_unread, harg4.read_unread]
  pointwise [k0_pay2, k0_pay1]

theorem sout_B (hc0 hc1 hc2) : sout0_B_0 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold sout0_B_0
  unfold kernelRun0_B
  sl_unfold_words
  dsimp only
  rw [Prod.read_writes_all, Prod.readAt_all, Prod.readAt_all, Prod.readAt_all, harg3.read_unread, harg4.read_unread, harg6.read_unread]
  pointwise [k0_pay3, k0_pay1]

theorem out_C (hc0 hc1 hc2) : out0_C_2 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold out0_C_2
  unfold kernelRun0_C
  sl_unfold_words
  dsimp only
  rw [Prod.read_writes_all, Prod.readAt_all, Prod.readAt_all, Prod.readAt_all, harg3.read_unread, harg4.read_unread, harg6.read_unread]
  pointwise [k0_pay4, k0_pay1]

end Point

theorem idx0 : ∀ t : Fin grid0.N, win0_0.index t 0 = t.val % 4 ∧ win0_0.index t 1 = t.val / 4 / 2 := by decide +kernel
theorem idx1 : ∀ t : Fin grid0.N, win0_1.index t 0 = t.val % 4 ∧ win0_1.index t 1 = t.val / 4 % 2 := by decide +kernel

variable (m : (ℓ : Loc nD τ sig) → Buf (Elt Ideal) ℓ) (c : Dev nD)

/-- The output's gradient, and the rows. -/
abbrev k0 : FVec Ideal S8192x4224 .f32 := m ((c.tc : Thread nD τ).loc main_arg1)
abbrev k1 : FVec Ideal S8192x2048 .f32 := m ((c.tc : Thread nD τ).loc main_arg0)

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

/-- A window's input block. -/
abbrev b0 (t : Fin cfg0.N) : Vec Ideal S2048x1408 .bf16 := iblk m c 0 t
abbrev b1 (t : Fin cfg0.N) : Vec Ideal S2048x1024 .bf16 := iblk m c 1 t

theorem b0_at (t : Fin cfg0.N) (a : Fin 2048) (b : Fin 1408) :
    b0 m c t (ix2 a b) = Prod.at2 (k0 m c) (t.val % 4 * 2048 + a) (t.val / 4 / 2 * 1408 + b) :=
  (Prod.at_blk (V m c main_v0) (((cfg0.win 0).blk t).view.emb (ix2 a b)) 2048 1408 a b rfl rfl (idx0 t)).trans (by rw [V_0]; rfl)
theorem b1_at (t : Fin cfg0.N) (a : Fin 2048) (b : Fin 1024) :
    b1 m c t (ix2 a b) = Prod.at2 (k1 m c) (t.val % 4 * 2048 + a) (t.val / 4 % 2 * 1024 + b) :=
  (Prod.at_blk (V m c main_v1) (((cfg0.win 1).blk t).view.emb (ix2 a b)) 2048 1024 a b rfl rfl (idx1 t)).trans (by rw [V_1]; rfl)

/-- The products an element sums. -/
def term (r l x : ℕ) : EReal := Prod.at2 (k0 m c) x r * Prod.at2 (k1 m c) x l

/-- What a grid point adds to a block's element. -/
theorem dot_eq (t : Fin cfg0.N) (a : Fin 1408) (b : Fin 1024) :
    ∑ x : Fin 2048, b0 m c t (ix2 x a) * b1 m c t (ix2 x b)
      = ∑ x : Fin 2048, term m c (t.val / 4 / 2 * 1408 + a) (t.val / 4 % 2 * 1024 + b) (t.val % 4 * 2048 + x) :=
  Finset.sum_congr rfl fun x _ => by rw [b0_at, b1_at]; rfl

/-- The kernel's result. -/
theorem G2_eq (r : Fin 4224) (l : Fin 2048) :
    (Value.G2 m c : Vec Ideal S4224x2048 .f32) (ix2 r l) = ∑ x : Fin 8192, k0 m c (ix2 x r) * k1 m c (ix2 x l) := by
  have hp : Value.pt2Of (ix2 r l) = 4 * (2 * (r.val / 1408) + l.val / 1024) + 3 := by
    show 4 * (2 * (r.val / 1408 - 0) + 1 * (l.val / 1024 - 0)) + 3 = _; omega
  have hN : Value.pt2Of (ix2 r l) < cfg0.N := lt_of_lt_of_eq (by omega) N_0.symm
  unfold Value.G2
  rw [dif_pos hN, ← Value.outsAt0_sweep m c _ hN,
    show Value.loc2Of (ix2 r l) = ix2 ⟨r.val % 1408, Nat.mod_lt _ (by decide)⟩ ⟨l.val % 1024, Nat.mod_lt _ (by decide)⟩ from Prod.ext2 rfl rfl]
  refine (Prod.acc cfg0.N 4 2048 2 1408 1024 (by decide) (term m c) (fun n h => (outsAt0 m c n h).1) (fun n h => (outsAt0 m c n h).2)
    (fun n h h0 a b => ?_) (fun n h h' h0 h2 a b => ?_) (fun n h h' h2 a b => ?_)
    r l (by decide) (by decide) (by omega) _ hp hN).trans ?_
  · refine (congrFun (congrArg _root_.Prod.snd (outsAt0_A m c ⟨n, h⟩ h0 (by simp only; omega) (by simp only; omega))) (ix2 a b)).trans ?_
    dsimp only
    rw [sout_A]
    exact dot_eq m c ⟨n, h⟩ a b
  · refine (congrFun (congrArg _root_.Prod.snd (outsAt0_B m c ⟨n + 1, h⟩ h0 (by simp only; omega) h2)) (ix2 a b)).trans ?_
    dsimp only
    rw [sout_B]
    exact congrArg _ (dot_eq m c ⟨n + 1, h⟩ a b)
  · refine (congrFun (congrArg _root_.Prod.fst (outsAt0_C m c ⟨n + 1, h⟩ (by simp only; omega) (by simp only; omega) h2)) (ix2 a b)).trans ?_
    dsimp only
    rw [out_C]
    exact congrArg _ (dot_eq m c ⟨n + 1, h⟩ a b)
  · simp only [term, Prod.at2_ix]

/-- The reference's result. -/
theorem ref_eq (A : FVec Ideal S8192x4224 .f32) (B : FVec Ideal S8192x2048 .f32) (r : Fin 4224) (l : Fin 2048) :
    (transpose Cert.Reference18Ideal.S4224x2048 [1, 0] (transpose Cert.Reference18Ideal.S2048x4224 [1, 0] (Host.dotGeneral Cert.Reference18Ideal.dot_S8192x4224_S8192x2048_S4224x2048_0_0_1_1_n_n none A B : FVec Ideal Cert.Reference18Ideal.S4224x2048 .f32) Cert.Reference18Ideal.Gen.transposes_S4224x2048_S2048x4224_1_0) Cert.Reference18Ideal.Gen.transposes_S2048x4224_S4224x2048_1_0 : FVec Ideal S4224x2048 .f32) (ix2 r l)
      = ∑ x : Fin 8192, A (ix2 x r) * B (ix2 x l) := by
  pointwise

theorem algebraic : @Cert.algebraic_Kernel18Ideal_Reference18Ideal Cert.Kernel18Ideal.Gen.facts Cert.Reference18Ideal.Gen.facts := by
  intro m g m' g' _ hagree
  refine ⟨_, Value.run m g, (θ_run Cert.Reference18Ideal.defs _ _).mono (fun r hr c => ?_) (Cert.Reference18Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (G2_eq m c r l).symm

/-- The two programs are one text, over any floats. -/
theorem defs0_eq : @Cert.Kernel18.defs₀ Bits _ Cert.Kernel18.Gen.facts = @Cert.Kernel18Ideal.defs₀ Bits _ Cert.Kernel18Ideal.Gen.facts :=
  congrArg (Defs.onTc (nD := 1) (τ := Cert.Kernel18Ideal.τ)) (funext fun ℓ => match ℓ with
    | (0 : Fin 1) => rfl)
theorem defs_eq : @Cert.Kernel18.defs Bits _ Cert.Kernel18.Gen.facts = @Cert.Kernel18Ideal.defs Bits _ Cert.Kernel18Ideal.Gen.facts :=
  congrArg (Pipeline.defs (Cert.Kernel18Ideal.pcfgs (F := Bits))) defs0_eq

theorem frame : @Cert.quiescent_Kernel18 Cert.Kernel18.Gen.facts := fun m ρ _ => by
  rw [defs_eq]
  exact Cert.Kernel18Ideal.Gen.frame (F := Bits) m ρ
theorem frameI : @Cert.quiescent_Kernel18Ideal Cert.Kernel18Ideal.Gen.facts := fun m ρ _ => Cert.Kernel18Ideal.Gen.frame m ρ
theorem frameR : @Cert.quiescent_Reference18Ideal Cert.Reference18Ideal.Gen.facts := fun m ρ _ =>
  (θ_run Cert.Reference18Ideal.defs _ _).mono (fun r h => ⟨fun c => (h c).2, sem_eq_zero_of_no_sems (by decide) r.2⟩)
    (Cert.Reference18Ideal.Value.run m ρ)

end Cert.P18

end
-- ==== Proof.P19.lean ====
/- UNTRUSTED — the gradient of the input of the projection into the attention: the blocked product is the product. -/
module

public import proofs.«01_k».proof.Proof.Prod
public import proofs.«01_k».proof.Proof.Gen.Kernel19
public import proofs.«01_k».proof.Proof.Gen.Kernel19Ideal.Value
public import proofs.«01_k».proof.Proof.Gen.Reference19Ideal.Run
public import proofs.«01_k».proof.Defs
public import Idealize.ShloMosaic.Lib.StableHlo.RunRead
public import Idealize.ShloMosaic.Lib.Claim

@[expose] public section

set_option maxRecDepth 16384

noncomputable section

namespace Cert.P19

open Idealize.ShloMosaic Idealize.ShloMosaic.TcCoe Cert.Kernel19Ideal Cert.Kernel19Ideal.Gen

section Point

variable (c : Dev nD) (i : grid0.Coords) (arg3 : Memref sig .tc .vmem S1024x1408 .bf16) (harg3 : arg3.IsWhole) (arg4 : Memref sig .tc .vmem S1408x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1408 .bf16) (x1 : Vec Ideal S1408x1024 .bf16) (xs : Vec Ideal S1024x1024 .f32) (a : Fin 1024) (b : Fin 1024)

theorem sout_A (hc0 hc1 hc2) : sout0_A_0 (F := Ideal) c i arg3 harg3 arg4 harg4 arg5 harg5 arg6 harg6 hc0 hc1 hc2 x0 x1 (ix2 a b) = ∑ x : Fin 1408, x0 (ix2 a x) * x1 (ix2 x b) := by
  unfold sout0_A_0
  unfold kernelRun0_A
  sl_unfold_words
  dsimp only
  rw [Prod.read_writes_all, Prod.readAt_all, Prod.readAt_all, harg3.read_unread, harg4.read_unread]
  pointwise [k0_pay2, k0_pay1]

theorem sout_B (hc0 hc1 hc2) : sout0_B_0 (F := Ideal) c i arg3 harg3 arg4 harg4 arg5 harg5 arg6 harg6 hc0 hc1 hc2 x0 x1 xs (ix2 a b) = xs (ix2 a b) + ∑ x : Fin 1408, x0 (ix2 a x) * x1 (ix2 x b) := by
  unfold sout0_B_0
  unfold kernelRun0_B
  sl_unfold_words
  dsimp only
  rw [Prod.read_writes_all, Prod.readAt_all, Prod.readAt_all, Prod.readAt_all, harg3.read_unread, harg4.read_unread, harg6.read_unread]
  pointwise [k0_pay3, k0_pay1]

theorem out_C (hc0 hc1 hc2) : out0_C_2 (F := Ideal) c i arg3 harg3 arg4 harg4 arg5 harg5 arg6 harg6 hc0 hc1 hc2 x0 x1 xs (ix2 a b) = xs (ix2 a b) + ∑ x : Fin 1408, x0 (ix2 a x) * x1 (ix2 x b) := by
  unfold out0_C_2
  unfold kernelRun0_C
  sl_unfold_words
  dsimp only
  rw [Prod.read_writes_all, Prod.readAt_all, Prod.readAt_all, Prod.readAt_all, harg3.read_unread, harg4.read_unread, harg6.read_unread]
  pointwise [k0_pay4, k0_pay1]

end Point

theorem idx0 : ∀ t : Fin grid0.N, win0_0.index t 0 = t.val / 3 / 2 ∧ win0_0.index t 1 = t.val % 3 := by decide +kernel
theorem idx1 : ∀ t : Fin grid0.N, win0_1.index t 0 = t.val % 3 ∧ win0_1.index t 1 = t.val / 3 % 2 := by decide +kernel

variable (m : (ℓ : Loc nD τ sig) → Buf (Elt Ideal) ℓ) (c : Dev nD)

/-- The output's gradient, and the weight, and the weight transposed. -/
abbrev k0 : FVec Ideal S8192x4224 .f32 := m ((c.tc : Thread nD τ).loc main_arg1)
abbrev k1 : FVec Ideal S2048x4224 .f32 := m ((c.tc : Thread nD τ).loc main_arg0)
abbrev k1t : FVec Ideal S4224x2048 .f32 := transpose S4224x2048 [1, 0] (k1 m c) transposes_S2048x4224_S4224x2048_1_0

theorem V_0 : V m c main_v0 = truncf .bf16 (k0 m c) bitsLt_bf16_f32 := by
  unfold V
  unfold_abbrev_sides
  after_reads_simp
theorem V_1 : V m c main_v2 = truncf .bf16 (k1t m c) bitsLt_bf16_f32 := by
  unfold V
  unfold_abbrev_sides
  after_reads_simp

/-- A window's input block. -/
abbrev b0 (t : Fin cfg0.N) : Vec Ideal S1024x1408 .bf16 := iblk m c 0 t
abbrev b1 (t : Fin cfg0.N) : Vec Ideal S1408x1024 .bf16 := iblk m c 1 t

theorem b0_at (t : Fin cfg0.N) (a : Fin 1024) (b : Fin 1408) :
    b0 m c t (ix2 a b) = Prod.at2 (k0 m c) (t.val / 3 / 2 * 1024 + a) (t.val % 3 * 1408 + b) :=
  (Prod.at_blk (V m c main_v0) (((cfg0.win 0).blk t).view.emb (ix2 a b)) 1024 1408 a b rfl rfl (idx0 t)).trans (by rw [V_0]; rfl)
theorem b1_at (t : Fin cfg0.N) (a : Fin 1408) (b : Fin 1024) :
    b1 m c t (ix2 a b) = Prod.at2 (k1t m c) (t.val % 3 * 1408 + a) (t.val / 3 % 2 * 1024 + b) :=
  (Prod.at_blk (V m c main_v2) (((cfg0.win 1).blk t).view.emb (ix2 a b)) 1408 1024 a b rfl rfl (idx1 t)).trans (by rw [V_1]; rfl)

/-- The products an element sums. -/
def term (r l x : ℕ) : EReal := Prod.at2 (k0 m c) r x * Prod.at2 (k1t m c) x l

/-- What a grid point adds to a block's element. -/
theorem dot_eq (t : Fin cfg0.N) (a : Fin 1024) (b : Fin 1024) :
    ∑ x : Fin 1408, b0 m c t (ix2 a x) * b1 m c t (ix2 x b)
      = ∑ x : Fin 1408, term m c (t.val / 3 / 2 * 1024 + a) (t.val / 3 % 2 * 1024 + b) (t.val % 3 * 1408 + x) :=
  Finset.sum_congr rfl fun x _ => by rw [b0_at, b1_at]; rfl

theorem k1t_at (x : Fin 4224) (l : Fin 2048) : k1t m c (ix2 x l) = k1 m c (ix2 l x) := by pointwise

/-- The kernel's result. -/
theorem G2_eq (r : Fin 8192) (l : Fin 2048) :
    (Value.G2 m c : Vec Ideal S8192x2048 .f32) (ix2 r l) = ∑ x : Fin 4224, k0 m c (ix2 r x) * k1 m c (ix2 l x) := by
  have hp : Value.pt2Of (ix2 r l) = 3 * (2 * (r.val / 1024) + l.val / 1024) + 2 := by
    show 3 * (2 * (r.val / 1024 - 0) + 1 * (l.val / 1024 - 0)) + 2 = _; omega
  have hN : Value.pt2Of (ix2 r l) < cfg0.N := lt_of_lt_of_eq (by omega) N_0.symm
  unfold Value.G2
  rw [dif_pos hN, ← Value.outsAt0_sweep m c _ hN,
    show Value.loc2Of (ix2 r l) = ix2 ⟨r.val % 1024, Nat.mod_lt _ (by decide)⟩ ⟨l.val % 1024, Nat.mod_lt _ (by decide)⟩ from Prod.ext2 rfl rfl]
  refine (Prod.acc cfg0.N 3 1408 2 1024 1024 (by decide) (term m c) (fun n h => (outsAt0 m c n h).1) (fun n h => (outsAt0 m c n h).2)
    (fun n h h0 a b => ?_) (fun n h h' h0 h2 a b => ?_) (fun n h h' h2 a b => ?_)
    r l (by decide) (by decide) (by omega) _ hp hN).trans ?_
  · refine (congrFun (congrArg _root_.Prod.snd (outsAt0_A m c ⟨n, h⟩ h0 (by simp only; omega) (by simp only; omega))) (ix2 a b)).trans ?_
    dsimp only
    rw [sout_A]
    exact dot_eq m c ⟨n, h⟩ a b
  · refine (congrFun (congrArg _root_.Prod.snd (outsAt0_B m c ⟨n + 1, h⟩ h0 (by simp only; omega) h2)) (ix2 a b)).trans ?_
    dsimp only
    rw [sout_B]
    exact congrArg _ (dot_eq m c ⟨n + 1, h⟩ a b)
  · refine (congrFun (congrArg _root_.Prod.fst (outsAt0_C m c ⟨n + 1, h⟩ (by simp only; omega) (by simp only; omega) h2)) (ix2 a b)).trans ?_
    dsimp only
    rw [out_C]
    exact congrArg _ (dot_eq m c ⟨n + 1, h⟩ a b)
  · simp only [term, Prod.at2_ix, k1t_at]

/-- The reference's result. -/
theorem ref_eq (A : FVec Ideal S8192x4224 .f32) (B : FVec Ideal S2048x4224 .f32) (r : Fin 8192) (l : Fin 2048) :
    (Host.dotGeneral Cert.Reference19Ideal.dot_S8192x4224_S2048x4224_S8192x2048_1_1_0_0_n_n none A B : FVec Ideal S8192x2048 .f32) (ix2 r l)
      = ∑ x : Fin 4224, A (ix2 r x) * B (ix2 l x) := by
  pointwise

theorem algebraic : @Cert.algebraic_Kernel19Ideal_Reference19Ideal Cert.Kernel19Ideal.Gen.facts Cert.Reference19Ideal.Gen.facts := by
  intro m g m' g' _ hagree
  refine ⟨_, Value.run m g, (θ_run Cert.Reference19Ideal.defs _ _).mono (fun r hr c => ?_) (Cert.Reference19Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (G2_eq m c r l).symm

/-- The two programs are one text, over any floats. -/
theorem defs0_eq : @Cert.Kernel19.defs₀ Bits _ Cert.Kernel19.Gen.facts = @Cert.Kernel19Ideal.defs₀ Bits _ Cert.Kernel19Ideal.Gen.facts :=
  congrArg (Defs.onTc (nD := 1) (τ := Cert.Kernel19Ideal.τ)) (funext fun ℓ => match ℓ with
    | (0 : Fin 1) => rfl)
theorem defs_eq : @Cert.Kernel19.defs Bits _ Cert.Kernel19.Gen.facts = @Cert.Kernel19Ideal.defs Bits _ Cert.Kernel19Ideal.Gen.facts :=
  congrArg (Pipeline.defs (Cert.Kernel19Ideal.pcfgs (F := Bits))) defs0_eq

theorem frame : @Cert.quiescent_Kernel19 Cert.Kernel19.Gen.facts := fun m ρ _ => by
  rw [defs_eq]
  exact Cert.Kernel19Ideal.Gen.frame (F := Bits) m ρ
theorem frameI : @Cert.quiescent_Kernel19Ideal Cert.Kernel19Ideal.Gen.facts := fun m ρ _ => Cert.Kernel19Ideal.Gen.frame m ρ
theorem frameR : @Cert.quiescent_Reference19Ideal Cert.Reference19Ideal.Gen.facts := fun m ρ _ =>
  (θ_run Cert.Reference19Ideal.defs _ _).mono (fun r h => ⟨fun c => (h c).2, sem_eq_zero_of_no_sems (by decide) r.2⟩)
    (Cert.Reference19Ideal.Value.run m ρ)

end Cert.P19

end
-- ==== Proof.P20.lean ====
/- UNTRUSTED — the latent attention's projection of the queries: the blocked product is the product. -/
module

public import proofs.«01_k».proof.Proof.Prod
public import proofs.«01_k».proof.Proof.Gen.Kernel20
public import proofs.«01_k».proof.Proof.Gen.Kernel20Ideal.Value
public import proofs.«01_k».proof.Proof.Gen.Reference20Ideal.Run
public import proofs.«01_k».proof.Defs
public import Idealize.ShloMosaic.Lib.StableHlo.RunRead
public import Idealize.ShloMosaic.Lib.Claim

@[expose] public section

set_option maxRecDepth 16384

noncomputable section

namespace Cert.P20

open Idealize.ShloMosaic Idealize.ShloMosaic.TcCoe Cert.Kernel20Ideal Cert.Kernel20Ideal.Gen

theorem out_block (x0 : Vec Ideal S1024x512 .bf16) (x1 : Vec Ideal S1024x512 .bf16) (a : Fin 1024) (b : Fin 1024) :
    out0_2 (F := Ideal) x0 x1 (ix2 a b) = ∑ x : Fin 512, x0 (ix2 a x) * x1 (ix2 b x) := by
  unfold out0_2
  rw [Prod.canon_all, Prod.ld_all, Prod.ld_all]
  pointwise [k0_pay1]

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel

variable (m : (ℓ : Loc nD τ sig) → Buf (Elt Ideal) ℓ) (c : Dev nD)

/-- The latents, the queries' the first half of their columns, and the weight, and the weight transposed. -/
abbrev k0 : FVec Ideal S8192x1024 .f32 := m ((c.tc : Thread nD τ).loc main_arg0)
abbrev k0s : FVec Ideal Cert.Reference20Ideal.S8192x512 .f32 := extractStridedSlice Cert.Reference20Ideal.S8192x512 ![0, 0] (k0 m c) Cert.Reference20Ideal.Gen.slices_S8192x1024_S8192x512_0_0
abbrev k1 : FVec Ideal S512x2048 .f32 := m ((c.tc : Thread nD τ).loc main_arg1)
abbrev k1t : FVec Ideal S2048x512 .f32 := transpose S2048x512 [1, 0] (k1 m c) transposes_S512x2048_S2048x512_1_0

theorem V_0 : V m c main_v0 = truncf .bf16 (k0 m c) bitsLt_bf16_f32 := by
  unfold V
  unfold_abbrev_sides
  after_reads_simp
theorem V_1 : V m c main_v2 = truncf .bf16 (k1t m c) bitsLt_bf16_f32 := by
  unfold V
  unfold_abbrev_sides
  after_reads_simp

/-- A window's input block. -/
abbrev b0 (t : Fin cfg0.N) : Vec Ideal S1024x512 .bf16 := iblk m c 0 t
abbrev b1 (t : Fin cfg0.N) : Vec Ideal S1024x512 .bf16 := iblk m c 1 t

theorem b0_at (t : Fin cfg0.N) (a : Fin 1024) (b : Fin 512) :
    b0 m c t (ix2 a b) = Prod.at2 (k0 m c) (t.val / 2 * 1024 + a) (0 * 512 + b) :=
  (Prod.at_blk (V m c main_v0) (((cfg0.win 0).blk t).view.emb (ix2 a b)) 1024 512 a b rfl rfl (idx0 t)).trans (by rw [V_0]; rfl)
theorem b1_at (t : Fin cfg0.N) (a : Fin 1024) (b : Fin 512) :
    b1 m c t (ix2 a b) = Prod.at2 (k1t m c) (t.val % 2 * 1024 + a) (0 * 512 + b) :=
  (Prod.at_blk (V m c main_v2) (((cfg0.win 1).blk t).view.emb (ix2 a b)) 1024 512 a b rfl rfl (idx1 t)).trans (by rw [V_1]; rfl)

/-- The kernel's result. -/
abbrev out : Vec Ideal S8192x2048 .f32 := (dats m 0 c).arrAt 2 cfg0.N

theorem out_at (t : Fin cfg0.N) (a : Fin 1024) (b : Fin 1024) :
    Prod.at2 (out m c) (t.val / 2 * 1024 + a) (t.val % 2 * 1024 + b) = ∑ x : Fin 512, b0 m c t (ix2 a x) * b1 m c t (ix2 b x) :=
  (Prod.at_blk (out m c) (((cfg0.win 2).blk t).view.emb (ix2 a b)) 1024 1024 a b rfl rfl (idx2 t)).symm.trans
    ((congrFun ((Value.blocks2 m c t (flush0_2 t)).trans (Value.flushed2 m c t)) (ix2 a b)).trans (out_block (b0 m c t) (b1 m c t) a b))

theorem k0s_at (r : Fin 8192) (x : Fin 512) : k0s m c (ix2 r x) = Prod.at2 (k0 m c) r x := by
  refine Eq.trans ?_ (Prod.at2_ix (k0 m c) r ⟨x, by omega⟩).symm
  pointwise
theorem k1t_at (l : Fin 2048) (x : Fin 512) : k1t m c (ix2 l x) = k1 m c (ix2 x l) := by pointwise

theorem out_eq (r : Fin 8192) (l : Fin 2048) : out m c (ix2 r l) = ∑ x : Fin 512, k0s m c (ix2 r x) * k1 m c (ix2 x l) := by
  refine (Prod.grid 8 2 1024 1024 rfl rfl (fun r l => ∑ x : Fin 512, Prod.at2 (k0 m c) r x * Prod.at2 (k1t m c) l x) (out m c) (fun t ht a b => ?_) r l).trans ?_
  · refine (out_at m c ⟨t, lt_of_lt_of_eq ht N_0.symm⟩ a b).trans ?_
    simp only [b0_at, b1_at, Nat.zero_mul, Nat.zero_add]
  · simp only [k0s_at, Prod.at2_ix, k1t_at]

/-- The reference's result. -/
theorem ref_eq (A : FVec Ideal Cert.Reference20Ideal.S8192x512 .f32) (B : FVec Ideal S512x2048 .f32) (r : Fin 8192) (l : Fin 2048) :
    (Host.dotGeneral Cert.Reference20Ideal.dot_S8192x512_S512x2048_S8192x2048_1_0_0_1_n_n none A B : FVec Ideal S8192x2048 .f32) (ix2 r l)
      = ∑ x : Fin 512, A (ix2 r x) * B (ix2 x l) := by
  pointwise

theorem algebraic : @Cert.algebraic_Kernel20Ideal_Reference20Ideal Cert.Kernel20Ideal.Gen.facts Cert.Reference20Ideal.Gen.facts := by
  intro m g m' g' _ hagree
  refine ⟨_, Value.run_blocks m g, (θ_run Cert.Reference20Ideal.defs _ _).mono (fun r hr c => ?_) (Cert.Reference20Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0s m c) (k1 m c) r l).trans (out_eq m c r l).symm

/-- The two programs are one text, over any floats. -/
theorem defs0_eq : @Cert.Kernel20.defs₀ Bits _ Cert.Kernel20.Gen.facts = @Cert.Kernel20Ideal.defs₀ Bits _ Cert.Kernel20Ideal.Gen.facts :=
  congrArg (Defs.onTc (nD := 1) (τ := Cert.Kernel20Ideal.τ)) (funext fun ℓ => match ℓ with
    | (0 : Fin 1) => rfl)
theorem defs_eq : @Cert.Kernel20.defs Bits _ Cert.Kernel20.Gen.facts = @Cert.Kernel20Ideal.defs Bits _ Cert.Kernel20Ideal.Gen.facts :=
  congrArg (Pipeline.defs (Cert.Kernel20Ideal.pcfgs (F := Bits))) defs0_eq

theorem frame : @Cert.quiescent_Kernel20 Cert.Kernel20.Gen.facts := fun m ρ _ => by
  rw [defs_eq]
  exact Cert.Kernel20Ideal.Gen.frame (F := Bits) m ρ
theorem frameI : @Cert.quiescent_Kernel20Ideal Cert.Kernel20Ideal.Gen.facts := fun m ρ _ => Cert.Kernel20Ideal.Gen.frame m ρ
theorem frameR : @Cert.quiescent_Reference20Ideal Cert.Reference20Ideal.Gen.facts := fun m ρ _ =>
  (θ_run Cert.Reference20Ideal.defs _ _).mono (fun r h => ⟨fun c => (h c).2, sem_eq_zero_of_no_sems (by decide) r.2⟩)
    (Cert.Reference20Ideal.Value.run m ρ)

end Cert.P20

end
-- ==== Proof.P21.lean ====
/- UNTRUSTED — the latent attention's projection of the keys and values: the blocked product is the product. -/
module

public import proofs.«01_k».proof.Proof.Prod
public import proofs.«01_k».proof.Proof.Gen.Kernel21
public import proofs.«01_k».proof.Proof.Gen.Kernel21Ideal.Value
public import proofs.«01_k».proof.Proof.Gen.Reference21Ideal.Run
public import proofs.«01_k».proof.Defs
public import Idealize.ShloMosaic.Lib.StableHlo.RunRead
public import Idealize.ShloMosaic.Lib.Claim

@[expose] public section

set_option maxRecDepth 16384

noncomputable section

namespace Cert.P21

open Idealize.ShloMosaic Idealize.ShloMosaic.TcCoe Cert.Kernel21Ideal Cert.Kernel21Ideal.Gen

theorem out_block (x0 : Vec Ideal S1024x512 .bf16) (x1 : Vec Ideal S1024x512 .bf16) (a : Fin 1024) (b : Fin 1024) :
    out0_2 (F := Ideal) x0 x1 (ix2 a b) = ∑ x : Fin 512, x0 (ix2 a x) * x1 (ix2 b x) := by
  unfold out0_2
  rw [Prod.canon_all, Prod.ld_all, Prod.ld_all]
  pointwise [k0_pay1]

theorem idx0 : ∀ t : Fin grid0.N, win0_0.index t 0 = t.val / 2 ∧ win0_0.index t 1 = 1 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel

variable (m : (ℓ : Loc nD τ sig) → Buf (Elt Ideal) ℓ) (c : Dev nD)

/-- The latents, the keys' and values' the second half of their columns, and the weight, and the weight transposed. -/
abbrev k0 : FVec Ideal S8192x1024 .f32 := m ((c.tc : Thread nD τ).loc main_arg0)
abbrev k0s : FVec Ideal Cert.Reference21Ideal.S8192x512 .f32 := extractStridedSlice Cert.Reference21Ideal.S8192x512 ![0, 512] (k0 m c) Cert.Reference21Ideal.Gen.slices_S8192x1024_S8192x512_0_512
abbrev k1 : FVec Ideal S512x2048 .f32 := m ((c.tc : Thread nD τ).loc main_arg1)
abbrev k1t : FVec Ideal S2048x512 .f32 := transpose S2048x512 [1, 0] (k1 m c) transposes_S512x2048_S2048x512_1_0

theorem V_0 : V m c main_v0 = truncf .bf16 (k0 m c) bitsLt_bf16_f32 := by
  unfold V
  unfold_abbrev_sides
  after_reads_simp
theorem V_1 : V m c main_v2 = truncf .bf16 (k1t m c) bitsLt_bf16_f32 := by
  unfold V
  unfold_abbrev_sides
  after_reads_simp

/-- A window's input block. -/
abbrev b0 (t : Fin cfg0.N) : Vec Ideal S1024x512 .bf16 := iblk m c 0 t
abbrev b1 (t : Fin cfg0.N) : Vec Ideal S1024x512 .bf16 := iblk m c 1 t

theorem b0_at (t : Fin cfg0.N) (a : Fin 1024) (b : Fin 512) :
    b0 m c t (ix2 a b) = Prod.at2 (k0 m c) (t.val / 2 * 1024 + a) (1 * 512 + b) :=
  (Prod.at_blk (V m c main_v0) (((cfg0.win 0).blk t).view.emb (ix2 a b)) 1024 512 a b rfl rfl (idx0 t)).trans (by rw [V_0]; rfl)
theorem b1_at (t : Fin cfg0.N) (a : Fin 1024) (b : Fin 512) :
    b1 m c t (ix2 a b) = Prod.at2 (k1t m c) (t.val % 2 * 1024 + a) (0 * 512 + b) :=
  (Prod.at_blk (V m c main_v2) (((cfg0.win 1).blk t).view.emb (ix2 a b)) 1024 512 a b rfl rfl (idx1 t)).trans (by rw [V_1]; rfl)

/-- The kernel's result. -/
abbrev out : Vec Ideal S8192x2048 .f32 := (dats m 0 c).arrAt 2 cfg0.N

theorem out_at (t : Fin cfg0.N) (a : Fin 1024) (b : Fin 1024) :
    Prod.at2 (out m c) (t.val / 2 * 1024 + a) (t.val % 2 * 1024 + b) = ∑ x : Fin 512, b0 m c t (ix2 a x) * b1 m c t (ix2 b x) :=
  (Prod.at_blk (out m c) (((cfg0.win 2).blk t).view.emb (ix2 a b)) 1024 1024 a b rfl rfl (idx2 t)).symm.trans
    ((congrFun ((Value.blocks2 m c t (flush0_2 t)).trans (Value.flushed2 m c t)) (ix2 a b)).trans (out_block (b0 m c t) (b1 m c t) a b))

theorem k0s_at (r : Fin 8192) (x : Fin 512) : k0s m c (ix2 r x) = Prod.at2 (k0 m c) r (1 * 512 + x) := by
  refine Eq.trans ?_ (Prod.at2_ix (k0 m c) r ⟨1 * 512 + x, by omega⟩).symm
  pointwise
theorem k1t_at (l : Fin 2048) (x : Fin 512) : k1t m c (ix2 l x) = k1 m c (ix2 x l) := by pointwise

theorem out_eq (r : Fin 8192) (l : Fin 2048) : out m c (ix2 r l) = ∑ x : Fin 512, k0s m c (ix2 r x) * k1 m c (ix2 x l) := by
  refine (Prod.grid 8 2 1024 1024 rfl rfl (fun r l => ∑ x : Fin 512, Prod.at2 (k0 m c) r (1 * 512 + x) * Prod.at2 (k1t m c) l x) (out m c) (fun t ht a b => ?_) r l).trans ?_
  · refine (out_at m c ⟨t, lt_of_lt_of_eq ht N_0.symm⟩ a b).trans ?_
    simp only [b0_at, b1_at, Nat.zero_mul, Nat.zero_add]
  · simp only [k0s_at, Prod.at2_ix, k1t_at]

/-- The reference's result. -/
theorem ref_eq (A : FVec Ideal Cert.Reference21Ideal.S8192x512 .f32) (B : FVec Ideal S512x2048 .f32) (r : Fin 8192) (l : Fin 2048) :
    (Host.dotGeneral Cert.Reference21Ideal.dot_S8192x512_S512x2048_S8192x2048_1_0_0_1_n_n none A B : FVec Ideal S8192x2048 .f32) (ix2 r l)
      = ∑ x : Fin 512, A (ix2 r x) * B (ix2 x l) := by
  pointwise

theorem algebraic : @Cert.algebraic_Kernel21Ideal_Reference21Ideal Cert.Kernel21Ideal.Gen.facts Cert.Reference21Ideal.Gen.facts := by
  intro m g m' g' _ hagree
  refine ⟨_, Value.run_blocks m g, (θ_run Cert.Reference21Ideal.defs _ _).mono (fun r hr c => ?_) (Cert.Reference21Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0s m c) (k1 m c) r l).trans (out_eq m c r l).symm

/-- The two programs are one text, over any floats. -/
theorem defs0_eq : @Cert.Kernel21.defs₀ Bits _ Cert.Kernel21.Gen.facts = @Cert.Kernel21Ideal.defs₀ Bits _ Cert.Kernel21Ideal.Gen.facts :=
  congrArg (Defs.onTc (nD := 1) (τ := Cert.Kernel21Ideal.τ)) (funext fun ℓ => match ℓ with
    | (0 : Fin 1) => rfl)
theorem defs_eq : @Cert.Kernel21.defs Bits _ Cert.Kernel21.Gen.facts = @Cert.Kernel21Ideal.defs Bits _ Cert.Kernel21Ideal.Gen.facts :=
  congrArg (Pipeline.defs (Cert.Kernel21Ideal.pcfgs (F := Bits))) defs0_eq

theorem frame : @Cert.quiescent_Kernel21 Cert.Kernel21.Gen.facts := fun m ρ _ => by
  rw [defs_eq]
  exact Cert.Kernel21Ideal.Gen.frame (F := Bits) m ρ
theorem frameI : @Cert.quiescent_Kernel21Ideal Cert.Kernel21Ideal.Gen.facts := fun m ρ _ => Cert.Kernel21Ideal.Gen.frame m ρ
theorem frameR : @Cert.quiescent_Reference21Ideal Cert.Reference21Ideal.Gen.facts := fun m ρ _ =>
  (θ_run Cert.Reference21Ideal.defs _ _).mono (fun r h => ⟨fun c => (h c).2, sem_eq_zero_of_no_sems (by decide) r.2⟩)
    (Cert.Reference21Ideal.Value.run m ρ)

end Cert.P21

end
-- ==== Proof.P22.lean ====
/- UNTRUSTED — the gradient of the weight of the latent attention's queries: the blocked product is the product. -/
module

public import proofs.«01_k».proof.Proof.Prod
public import proofs.«01_k».proof.Proof.Gen.Kernel22
public import proofs.«01_k».proof.Proof.Gen.Kernel22Ideal.Value
public import proofs.«01_k».proof.Proof.Gen.Reference22Ideal.Run
public import proofs.«01_k».proof.Defs
public import Idealize.ShloMosaic.Lib.StableHlo.RunRead
public import Idealize.ShloMosaic.Lib.Claim

@[expose] public section

set_option maxRecDepth 16384

noncomputable section

namespace Cert.P22

open Idealize.ShloMosaic Idealize.ShloMosaic.TcCoe Cert.Kernel22Ideal Cert.Kernel22Ideal.Gen

section Point

variable (c : Dev nD) (i : grid0.Coords) (arg3 : Memref sig .tc .vmem S2048x1024 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole)
  (x0 : Vec Ideal S2048x1024 .bf16) (x1 : Vec Ideal S2048x512 .bf16) (xs : Vec Ideal S1024x512 .f32) (a : Fin 1024) (b : Fin 512)

theorem sout_A (hc0 hc1 hc2) : sout0_A_0 (F := Ideal) c i arg3 harg3 arg4 harg4 arg5 harg5 arg6 harg6 hc0 hc1 hc2 x0 x1 (ix2 a b) = ∑ x : Fin 2048, x0 (ix2 x a) * x1 (ix2 x b) := by
  unfold sout0_A_0
  unfold kernelRun0_A
  sl_unfold_words
  dsimp only
  rw [Prod.read_writes_all, Prod.readAt_all, Prod.readAt_all, harg3.read_unread, harg4.read_unread]
  pointwise [k0_pay2, k0_pay1]

theorem sout_B (hc0 hc1 hc2) : sout0_B_0 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold sout0_B_0
  unfold kernelRun0_B
  sl_unfold_words
  dsimp only
  rw [Prod.read_writes_all, Prod.readAt_all, Prod.readAt_all, Prod.readAt_all, harg3.read_unread, harg4.read_unread, harg6.read_unread]
  pointwise [k0_pay3, k0_pay1]

theorem out_C (hc0 hc1 hc2) : out0_C_2 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold out0_C_2
  unfold kernelRun0_C
  sl_unfold_words
  dsimp only
  rw [Prod.read_writes_all, Prod.readAt_all, Prod.readAt_all, Prod.readAt_all, harg3.read_unread, harg4.read_unread, harg6.read_unread]
  pointwise [k0_pay4, k0_pay1]

end Point

theorem idx0 : ∀ t : Fin grid0.N, win0_0.index t 0 = t.val % 4 ∧ win0_0.index t 1 = t.val / 4 / 1 := by decide +kernel
theorem idx1 : ∀ t : Fin grid0.N, win0_1.index t 0 = t.val % 4 ∧ win0_1.index t 1 = t.val / 4 % 1 := by decide +kernel

variable (m : (ℓ : Loc nD τ sig) → Buf (Elt Ideal) ℓ) (c : Dev nD)

/-- The output's gradient, and the latents, the queries' the first half of their columns. -/
abbrev k0 : FVec Ideal S8192x2048 .f32 := m ((c.tc : Thread nD τ).loc main_arg1)
abbrev k1 : FVec Ideal S8192x1024 .f32 := m ((c.tc : Thread nD τ).loc main_arg0)
abbrev k1s : FVec Ideal Cert.Reference22Ideal.S8192x512 .f32 := extractStridedSlice Cert.Reference22Ideal.S8192x512 ![0, 0] (k1 m c) Cert.Reference22Ideal.Gen.slices_S8192x1024_S8192x512_0_0

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

/-- A window's input block. -/
abbrev b0 (t : Fin cfg0.N) : Vec Ideal S2048x1024 .bf16 := iblk m c 0 t
abbrev b1 (t : Fin cfg0.N) : Vec Ideal S2048x512 .bf16 := iblk m c 1 t

theorem b0_at (t : Fin cfg0.N) (a : Fin 2048) (b : Fin 1024) :
    b0 m c t (ix2 a b) = Prod.at2 (k0 m c) (t.val % 4 * 2048 + a) (t.val / 4 / 1 * 1024 + b) :=
  (Prod.at_blk (V m c main_v0) (((cfg0.win 0).blk t).view.emb (ix2 a b)) 2048 1024 a b rfl rfl (idx0 t)).trans (by rw [V_0]; rfl)
theorem b1_at (t : Fin cfg0.N) (a : Fin 2048) (b : Fin 512) :
    b1 m c t (ix2 a b) = Prod.at2 (k1 m c) (t.val % 4 * 2048 + a) (t.val / 4 % 1 * 512 + b) :=
  (Prod.at_blk (V m c main_v1) (((cfg0.win 1).blk t).view.emb (ix2 a b)) 2048 512 a b rfl rfl (idx1 t)).trans (by rw [V_1]; rfl)

/-- The products an element sums. -/
def term (r l x : ℕ) : EReal := Prod.at2 (k0 m c) x r * Prod.at2 (k1 m c) x l

/-- What a grid point adds to a block's element. -/
theorem dot_eq (t : Fin cfg0.N) (a : Fin 1024) (b : Fin 512) :
    ∑ x : Fin 2048, b0 m c t (ix2 x a) * b1 m c t (ix2 x b)
      = ∑ x : Fin 2048, term m c (t.val / 4 / 1 * 1024 + a) (t.val / 4 % 1 * 512 + b) (t.val % 4 * 2048 + x) :=
  Finset.sum_congr rfl fun x _ => by rw [b0_at, b1_at]; rfl

theorem k1s_at (x : Fin 8192) (l : Fin 512) : k1s m c (ix2 x l) = Prod.at2 (k1 m c) x l := by
  refine Eq.trans ?_ (Prod.at2_ix (k1 m c) x ⟨l, by omega⟩).symm
  pointwise

/-- The kernel's result. -/
theorem G2_eq (r : Fin 2048) (l : Fin 512) :
    (Value.G2 m c : Vec Ideal S2048x512 .f32) (ix2 r l) = ∑ x : Fin 8192, k0 m c (ix2 x r) * k1s m c (ix2 x l) := by
  have hp : Value.pt2Of (ix2 r l) = 4 * (1 * (r.val / 1024) + l.val / 512) + 3 := by
    show 4 * (1 * (r.val / 1024 - 0) + 1 * (l.val / 512 - 0)) + 3 = _; omega
  have hN : Value.pt2Of (ix2 r l) < cfg0.N := lt_of_lt_of_eq (by omega) N_0.symm
  unfold Value.G2
  rw [dif_pos hN, ← Value.outsAt0_sweep m c _ hN,
    show Value.loc2Of (ix2 r l) = ix2 ⟨r.val % 1024, Nat.mod_lt _ (by decide)⟩ ⟨l.val % 512, Nat.mod_lt _ (by decide)⟩ from Prod.ext2 rfl rfl]
  refine (Prod.acc cfg0.N 4 2048 1 1024 512 (by decide) (term m c) (fun n h => (outsAt0 m c n h).1) (fun n h => (outsAt0 m c n h).2)
    (fun n h h0 a b => ?_) (fun n h h' h0 h2 a b => ?_) (fun n h h' h2 a b => ?_)
    r l (by decide) (by decide) (by omega) _ hp hN).trans ?_
  · refine (congrFun (congrArg _root_.Prod.snd (outsAt0_A m c ⟨n, h⟩ h0 (by simp only; omega) (by simp only; omega))) (ix2 a b)).trans ?_
    dsimp only
    rw [sout_A]
    exact dot_eq m c ⟨n, h⟩ a b
  · refine (congrFun (congrArg _root_.Prod.snd (outsAt0_B m c ⟨n + 1, h⟩ h0 (by simp only; omega) h2)) (ix2 a b)).trans ?_
    dsimp only
    rw [sout_B]
    exact congrArg _ (dot_eq m c ⟨n + 1, h⟩ a b)
  · refine (congrFun (congrArg _root_.Prod.fst (outsAt0_C m c ⟨n + 1, h⟩ (by simp only; omega) (by simp only; omega) h2)) (ix2 a b)).trans ?_
    dsimp only
    rw [out_C]
    exact congrArg _ (dot_eq m c ⟨n + 1, h⟩ a b)
  · simp only [term, k1s_at, Prod.at2_ix]

/-- The reference's result. -/
theorem ref_eq (A : FVec Ideal S8192x2048 .f32) (B : FVec Ideal Cert.Reference22Ideal.S8192x512 .f32) (r : Fin 2048) (l : Fin 512) :
    (transpose Cert.Reference22Ideal.S2048x512 [1, 0] (transpose Cert.Reference22Ideal.S512x2048 [1, 0] (Host.dotGeneral Cert.Reference22Ideal.dot_S8192x2048_S8192x512_S2048x512_0_0_1_1_n_n none A B : FVec Ideal Cert.Reference22Ideal.S2048x512 .f32) Cert.Reference22Ideal.Gen.transposes_S2048x512_S512x2048_1_0) Cert.Reference22Ideal.Gen.transposes_S512x2048_S2048x512_1_0 : FVec Ideal S2048x512 .f32) (ix2 r l)
      = ∑ x : Fin 8192, A (ix2 x r) * B (ix2 x l) := by
  pointwise

theorem algebraic : @Cert.algebraic_Kernel22Ideal_Reference22Ideal Cert.Kernel22Ideal.Gen.facts Cert.Reference22Ideal.Gen.facts := by
  intro m g m' g' _ hagree
  refine ⟨_, Value.run m g, (θ_run Cert.Reference22Ideal.defs _ _).mono (fun r hr c => ?_) (Cert.Reference22Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1s m c) r l).trans (G2_eq m c r l).symm

/-- The two programs are one text, over any floats. -/
theorem defs0_eq : @Cert.Kernel22.defs₀ Bits _ Cert.Kernel22.Gen.facts = @Cert.Kernel22Ideal.defs₀ Bits _ Cert.Kernel22Ideal.Gen.facts :=
  congrArg (Defs.onTc (nD := 1) (τ := Cert.Kernel22Ideal.τ)) (funext fun ℓ => match ℓ with
    | (0 : Fin 1) => rfl)
theorem defs_eq : @Cert.Kernel22.defs Bits _ Cert.Kernel22.Gen.facts = @Cert.Kernel22Ideal.defs Bits _ Cert.Kernel22Ideal.Gen.facts :=
  congrArg (Pipeline.defs (Cert.Kernel22Ideal.pcfgs (F := Bits))) defs0_eq

theorem frame : @Cert.quiescent_Kernel22 Cert.Kernel22.Gen.facts := fun m ρ _ => by
  rw [defs_eq]
  exact Cert.Kernel22Ideal.Gen.frame (F := Bits) m ρ
theorem frameI : @Cert.quiescent_Kernel22Ideal Cert.Kernel22Ideal.Gen.facts := fun m ρ _ => Cert.Kernel22Ideal.Gen.frame m ρ
theorem frameR : @Cert.quiescent_Reference22Ideal Cert.Reference22Ideal.Gen.facts := fun m ρ _ =>
  (θ_run Cert.Reference22Ideal.defs _ _).mono (fun r h => ⟨fun c => (h c).2, sem_eq_zero_of_no_sems (by decide) r.2⟩)
    (Cert.Reference22Ideal.Value.run m ρ)

end Cert.P22

end
-- ==== Proof.P23.lean ====
/- UNTRUSTED — the gradient of the weight of the latent attention's keys and values: the blocked product is the product. -/
module

public import proofs.«01_k».proof.Proof.Prod
public import proofs.«01_k».proof.Proof.Gen.Kernel23
public import proofs.«01_k».proof.Proof.Gen.Kernel23Ideal.Value
public import proofs.«01_k».proof.Proof.Gen.Reference23Ideal.Run
public import proofs.«01_k».proof.Defs
public import Idealize.ShloMosaic.Lib.StableHlo.RunRead
public import Idealize.ShloMosaic.Lib.Claim

@[expose] public section

set_option maxRecDepth 16384

noncomputable section

namespace Cert.P23

open Idealize.ShloMosaic Idealize.ShloMosaic.TcCoe Cert.Kernel23Ideal Cert.Kernel23Ideal.Gen

section Point

variable (c : Dev nD) (i : grid0.Coords) (arg3 : Memref sig .tc .vmem S2048x1024 .bf16) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x512 .f32) (harg6 : arg6.IsWhole)
  (x0 : Vec Ideal S2048x1024 .bf16) (x1 : Vec Ideal S2048x512 .bf16) (xs : Vec Ideal S1024x512 .f32) (a : Fin 1024) (b : Fin 512)

theorem sout_A (hc0 hc1 hc2) : sout0_A_0 (F := Ideal) c i arg3 harg3 arg4 harg4 arg5 harg5 arg6 harg6 hc0 hc1 hc2 x0 x1 (ix2 a b) = ∑ x : Fin 2048, x0 (ix2 x a) * x1 (ix2 x b) := by
  unfold sout0_A_0
  unfold kernelRun0_A
  sl_unfold_words
  dsimp only
  rw [Prod.read_writes_all, Prod.readAt_all, Prod.readAt_all, harg3.read_unread, harg4.read_unread]
  pointwise [k0_pay2, k0_pay1]

theorem sout_B (hc0 hc1 hc2) : sout0_B_0 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold sout0_B_0
  unfold kernelRun0_B
  sl_unfold_words
  dsimp only
  rw [Prod.read_writes_all, Prod.readAt_all, Prod.readAt_all, Prod.readAt_all, harg3.read_unread, harg4.read_unread, harg6.read_unread]
  pointwise [k0_pay3, k0_pay1]

theorem out_C (hc0 hc1 hc2) : out0_C_2 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold out0_C_2
  unfold kernelRun0_C
  sl_unfold_words
  dsimp only
  rw [Prod.read_writes_all, Prod.readAt_all, Prod.readAt_all, Prod.readAt_all, harg3.read_unread, harg4.read_unread, harg6.read_unread]
  pointwise [k0_pay4, k0_pay1]

end Point

theorem idx0 : ∀ t : Fin grid0.N, win0_0.index t 0 = t.val % 4 ∧ win0_0.index t 1 = t.val / 4 / 1 := by decide +kernel
theorem idx1 : ∀ t : Fin grid0.N, win0_1.index t 0 = t.val % 4 ∧ win0_1.index t 1 = 1 + t.val / 4 % 1 := by decide +kernel

variable (m : (ℓ : Loc nD τ sig) → Buf (Elt Ideal) ℓ) (c : Dev nD)

/-- The output's gradient, and the latents, the keys' and values' the second half of their columns. -/
abbrev k0 : FVec Ideal S8192x2048 .f32 := m ((c.tc : Thread nD τ).loc main_arg1)
abbrev k1 : FVec Ideal S8192x1024 .f32 := m ((c.tc : Thread nD τ).loc main_arg0)
abbrev k1s : FVec Ideal Cert.Reference23Ideal.S8192x512 .f32 := extractStridedSlice Cert.Reference23Ideal.S8192x512 ![0, 512] (k1 m c) Cert.Reference23Ideal.Gen.slices_S8192x1024_S8192x512_0_512

theorem V_0 : V m c main_v0 = truncf .bf16 (k0 m c) bitsLt_bf16_f32 := by
  unfold V
  unfold_abbrev_sides
  after_reads_simp
theorem V_1 : V m c main_v1 = truncf .bf16 (k1 m c) bitsLt_bf16_f32 := by
  unfold V
  unfold_abbrev_sides
  after_reads_simp

/-- A window's input block. -/
abbrev b0 (t : Fin cfg0.N) : Vec Ideal S2048x1024 .bf16 := iblk m c 0 t
abbrev b1 (t : Fin cfg0.N) : Vec Ideal S2048x512 .bf16 := iblk m c 1 t

theorem b0_at (t : Fin cfg0.N) (a : Fin 2048) (b : Fin 1024) :
    b0 m c t (ix2 a b) = Prod.at2 (k0 m c) (t.val % 4 * 2048 + a) (t.val / 4 / 1 * 1024 + b) :=
  (Prod.at_blk (V m c main_v0) (((cfg0.win 0).blk t).view.emb (ix2 a b)) 2048 1024 a b rfl rfl (idx0 t)).trans (by rw [V_0]; rfl)
theorem b1_at (t : Fin cfg0.N) (a : Fin 2048) (b : Fin 512) :
    b1 m c t (ix2 a b) = Prod.at2 (k1 m c) (t.val % 4 * 2048 + a) (512 + (t.val / 4 % 1 * 512 + b)) :=
  (Prod.at_blk (V m c main_v1) (((cfg0.win 1).blk t).view.emb (ix2 a b)) 2048 512 a b rfl rfl (idx1 t)).trans (by
    rw [V_1, show (1 + t.val / 4 % 1) * 512 + (b : ℕ) = 512 + (t.val / 4 % 1 * 512 + b) by omega]; rfl)

/-- The products an element sums. -/
def term (r l x : ℕ) : EReal := Prod.at2 (k0 m c) x r * Prod.at2 (k1 m c) x (512 + l)

/-- What a grid point adds to a block's element. -/
theorem dot_eq (t : Fin cfg0.N) (a : Fin 1024) (b : Fin 512) :
    ∑ x : Fin 2048, b0 m c t (ix2 x a) * b1 m c t (ix2 x b)
      = ∑ x : Fin 2048, term m c (t.val / 4 / 1 * 1024 + a) (t.val / 4 % 1 * 512 + b) (t.val % 4 * 2048 + x) :=
  Finset.sum_congr rfl fun x _ => by rw [b0_at, b1_at]; rfl

theorem k1s_at (x : Fin 8192) (l : Fin 512) : k1s m c (ix2 x l) = Prod.at2 (k1 m c) x (512 + l) := by
  refine Eq.trans ?_ (Prod.at2_ix (k1 m c) x ⟨512 + l, by omega⟩).symm
  pointwise

/-- The kernel's result. -/
theorem G2_eq (r : Fin 2048) (l : Fin 512) :
    (Value.G2 m c : Vec Ideal S2048x512 .f32) (ix2 r l) = ∑ x : Fin 8192, k0 m c (ix2 x r) * k1s m c (ix2 x l) := by
  have hp : Value.pt2Of (ix2 r l) = 4 * (1 * (r.val / 1024) + l.val / 512) + 3 := by
    show 4 * (1 * (r.val / 1024 - 0) + 1 * (l.val / 512 - 0)) + 3 = _; omega
  have hN : Value.pt2Of (ix2 r l) < cfg0.N := lt_of_lt_of_eq (by omega) N_0.symm
  unfold Value.G2
  rw [dif_pos hN, ← Value.outsAt0_sweep m c _ hN,
    show Value.loc2Of (ix2 r l) = ix2 ⟨r.val % 1024, Nat.mod_lt _ (by decide)⟩ ⟨l.val % 512, Nat.mod_lt _ (by decide)⟩ from Prod.ext2 rfl rfl]
  refine (Prod.acc cfg0.N 4 2048 1 1024 512 (by decide) (term m c) (fun n h => (outsAt0 m c n h).1) (fun n h => (outsAt0 m c n h).2)
    (fun n h h0 a b => ?_) (fun n h h' h0 h2 a b => ?_) (fun n h h' h2 a b => ?_)
    r l (by decide) (by decide) (by omega) _ hp hN).trans ?_
  · refine (congrFun (congrArg _root_.Prod.snd (outsAt0_A m c ⟨n, h⟩ h0 (by simp only; omega) (by simp only; omega))) (ix2 a b)).trans ?_
    dsimp only
    rw [sout_A]
    exact dot_eq m c ⟨n, h⟩ a b
  · refine (congrFun (congrArg _root_.Prod.snd (outsAt0_B m c ⟨n + 1, h⟩ h0 (by simp only; omega) h2)) (ix2 a b)).trans ?_
    dsimp only
    rw [sout_B]
    exact congrArg _ (dot_eq m c ⟨n + 1, h⟩ a b)
  · refine (congrFun (congrArg _root_.Prod.fst (outsAt0_C m c ⟨n + 1, h⟩ (by simp only; omega) (by simp only; omega) h2)) (ix2 a b)).trans ?_
    dsimp only
    rw [out_C]
    exact congrArg _ (dot_eq m c ⟨n + 1, h⟩ a b)
  · simp only [term, k1s_at, Prod.at2_ix]

/-- The reference's result. -/
theorem ref_eq (A : FVec Ideal S8192x2048 .f32) (B : FVec Ideal Cert.Reference23Ideal.S8192x512 .f32) (r : Fin 2048) (l : Fin 512) :
    (transpose Cert.Reference23Ideal.S2048x512 [1, 0] (transpose Cert.Reference23Ideal.S512x2048 [1, 0] (Host.dotGeneral Cert.Reference23Ideal.dot_S8192x2048_S8192x512_S2048x512_0_0_1_1_n_n none A B : FVec Ideal Cert.Reference23Ideal.S2048x512 .f32) Cert.Reference23Ideal.Gen.transposes_S2048x512_S512x2048_1_0) Cert.Reference23Ideal.Gen.transposes_S512x2048_S2048x512_1_0 : FVec Ideal S2048x512 .f32) (ix2 r l)
      = ∑ x : Fin 8192, A (ix2 x r) * B (ix2 x l) := by
  pointwise

theorem algebraic : @Cert.algebraic_Kernel23Ideal_Reference23Ideal Cert.Kernel23Ideal.Gen.facts Cert.Reference23Ideal.Gen.facts := by
  intro m g m' g' _ hagree
  refine ⟨_, Value.run m g, (θ_run Cert.Reference23Ideal.defs _ _).mono (fun r hr c => ?_) (Cert.Reference23Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1s m c) r l).trans (G2_eq m c r l).symm

/-- The two programs are one text, over any floats. -/
theorem defs0_eq : @Cert.Kernel23.defs₀ Bits _ Cert.Kernel23.Gen.facts = @Cert.Kernel23Ideal.defs₀ Bits _ Cert.Kernel23Ideal.Gen.facts :=
  congrArg (Defs.onTc (nD := 1) (τ := Cert.Kernel23Ideal.τ)) (funext fun ℓ => match ℓ with
    | (0 : Fin 1) => rfl)
theorem defs_eq : @Cert.Kernel23.defs Bits _ Cert.Kernel23.Gen.facts = @Cert.Kernel23Ideal.defs Bits _ Cert.Kernel23Ideal.Gen.facts :=
  congrArg (Pipeline.defs (Cert.Kernel23Ideal.pcfgs (F := Bits))) defs0_eq

theorem frame : @Cert.quiescent_Kernel23 Cert.Kernel23.Gen.facts := fun m ρ _ => by
  rw [defs_eq]
  exact Cert.Kernel23Ideal.Gen.frame (F := Bits) m ρ
theorem frameI : @Cert.quiescent_Kernel23Ideal Cert.Kernel23Ideal.Gen.facts := fun m ρ _ => Cert.Kernel23Ideal.Gen.frame m ρ
theorem frameR : @Cert.quiescent_Reference23Ideal Cert.Reference23Ideal.Gen.facts := fun m ρ _ =>
  (θ_run Cert.Reference23Ideal.defs _ _).mono (fun r h => ⟨fun c => (h c).2, sem_eq_zero_of_no_sems (by decide) r.2⟩)
    (Cert.Reference23Ideal.Value.run m ρ)

end Cert.P23

end
-- ==== Proof.P24.lean ====
/- UNTRUSTED — the gradient through a projection out of the latents: the blocked product is the product. -/
module

public import proofs.«01_k».proof.Proof.Prod
public import proofs.«01_k».proof.Proof.Gen.Kernel24
public import proofs.«01_k».proof.Proof.Gen.Kernel24Ideal.Value
public import proofs.«01_k».proof.Proof.Gen.Reference24Ideal.Run
public import proofs.«01_k».proof.Defs
public import Idealize.ShloMosaic.Lib.StableHlo.RunRead
public import Idealize.ShloMosaic.Lib.Claim

@[expose] public section

set_option maxRecDepth 16384

noncomputable section

namespace Cert.P24

open Idealize.ShloMosaic Idealize.ShloMosaic.TcCoe Cert.Kernel24Ideal Cert.Kernel24Ideal.Gen

theorem out_block (x0 : Vec Ideal S1024x2048 .bf16) (x1 : Vec Ideal S2048x512 .bf16) (a : Fin 1024) (b : Fin 512) :
    out0_2 (F := Ideal) x0 x1 (ix2 a b) = ∑ x : Fin 2048, x0 (ix2 a x) * x1 (ix2 x b) := by
  unfold out0_2
  rw [Prod.canon_all, Prod.ld_all, Prod.ld_all]
  pointwise [k0_pay1]

theorem idx0 : ∀ t : Fin grid0.N, win0_0.index t 0 = t.val / 1 ∧ win0_0.index t 1 = 0 := by decide +kernel
theorem idx1 : ∀ t : Fin grid0.N, win0_1.index t 0 = 0 ∧ win0_1.index t 1 = t.val % 1 := by decide +kernel
theorem idx2 : ∀ t : Fin grid0.N, win0_2.index t 0 = t.val / 1 ∧ win0_2.index t 1 = t.val % 1 := by decide +kernel

variable (m : (ℓ : Loc nD τ sig) → Buf (Elt Ideal) ℓ) (c : Dev nD)

/-- The output's gradient, and the weight, and the weight transposed. -/
abbrev k0 : FVec Ideal S8192x2048 .f32 := m ((c.tc : Thread nD τ).loc main_arg1)
abbrev k1 : FVec Ideal S512x2048 .f32 := m ((c.tc : Thread nD τ).loc main_arg0)
abbrev k1t : FVec Ideal S2048x512 .f32 := transpose S2048x512 [1, 0] (k1 m c) transposes_S512x2048_S2048x512_1_0

theorem V_0 : V m c main_v0 = truncf .bf16 (k0 m c) bitsLt_bf16_f32 := by
  unfold V
  unfold_abbrev_sides
  after_reads_simp
theorem V_1 : V m c main_v2 = truncf .bf16 (k1t m c) bitsLt_bf16_f32 := by
  unfold V
  unfold_abbrev_sides
  after_reads_simp

/-- A window's input block. -/
abbrev b0 (t : Fin cfg0.N) : Vec Ideal S1024x2048 .bf16 := iblk m c 0 t
abbrev b1 (t : Fin cfg0.N) : Vec Ideal S2048x512 .bf16 := iblk m c 1 t

theorem b0_at (t : Fin cfg0.N) (a : Fin 1024) (b : Fin 2048) :
    b0 m c t (ix2 a b) = Prod.at2 (k0 m c) (t.val / 1 * 1024 + a) (0 * 2048 + b) :=
  (Prod.at_blk (V m c main_v0) (((cfg0.win 0).blk t).view.emb (ix2 a b)) 1024 2048 a b rfl rfl (idx0 t)).trans (by rw [V_0]; rfl)
theorem b1_at (t : Fin cfg0.N) (a : Fin 2048) (b : Fin 512) :
    b1 m c t (ix2 a b) = Prod.at2 (k1t m c) (0 * 2048 + a) (t.val % 1 * 512 + b) :=
  (Prod.at_blk (V m c main_v2) (((cfg0.win 1).blk t).view.emb (ix2 a b)) 2048 512 a b rfl rfl (idx1 t)).trans (by rw [V_1]; rfl)

/-- The kernel's result. -/
abbrev out : Vec Ideal S8192x512 .f32 := (dats m 0 c).arrAt 2 cfg0.N

theorem out_at (t : Fin cfg0.N) (a : Fin 1024) (b : Fin 512) :
    Prod.at2 (out m c) (t.val / 1 * 1024 + a) (t.val % 1 * 512 + b) = ∑ x : Fin 2048, b0 m c t (ix2 a x) * b1 m c t (ix2 x b) :=
  (Prod.at_blk (out m c) (((cfg0.win 2).blk t).view.emb (ix2 a b)) 1024 512 a b rfl rfl (idx2 t)).symm.trans
    ((congrFun ((Value.blocks2 m c t (flush0_2 t)).trans (Value.flushed2 m c t)) (ix2 a b)).trans (out_block (b0 m c t) (b1 m c t) a b))

theorem k1t_at (x : Fin 2048) (l : Fin 512) : k1t m c (ix2 x l) = k1 m c (ix2 l x) := by pointwise

theorem out_eq (r : Fin 8192) (l : Fin 512) : out m c (ix2 r l) = ∑ x : Fin 2048, k0 m c (ix2 r x) * k1 m c (ix2 l x) := by
  refine (Prod.grid 8 1 1024 512 rfl rfl (fun r l => ∑ x : Fin 2048, Prod.at2 (k0 m c) r (0 * 2048 + x) * Prod.at2 (k1t m c) (0 * 2048 + x) l) (out m c) (fun t ht a b => ?_) r l).trans ?_
  · refine (out_at m c ⟨t, lt_of_lt_of_eq ht N_0.symm⟩ a b).trans ?_
    simp only [b0_at, b1_at]
  · simp only [Nat.zero_mul, Nat.zero_add, Prod.at2_ix, k1t_at]

/-- The reference's result. -/
theorem ref_eq (A : FVec Ideal S8192x2048 .f32) (B : FVec Ideal S512x2048 .f32) (r : Fin 8192) (l : Fin 512) :
    (Host.dotGeneral Cert.Reference24Ideal.dot_S8192x2048_S512x2048_S8192x512_1_1_0_0_n_n none A B : FVec Ideal S8192x512 .f32) (ix2 r l)
      = ∑ x : Fin 2048, A (ix2 r x) * B (ix2 l x) := by
  pointwise

theorem algebraic : @Cert.algebraic_Kernel24Ideal_Reference24Ideal Cert.Kernel24Ideal.Gen.facts Cert.Reference24Ideal.Gen.facts := by
  intro m g m' g' _ hagree
  refine ⟨_, Value.run_blocks m g, (θ_run Cert.Reference24Ideal.defs _ _).mono (fun r hr c => ?_) (Cert.Reference24Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (out_eq m c r l).symm

/-- The two programs are one text, over any floats. -/
theorem defs0_eq : @Cert.Kernel24.defs₀ Bits _ Cert.Kernel24.Gen.facts = @Cert.Kernel24Ideal.defs₀ Bits _ Cert.Kernel24Ideal.Gen.facts :=
  congrArg (Defs.onTc (nD := 1) (τ := Cert.Kernel24Ideal.τ)) (funext fun ℓ => match ℓ with
    | (0 : Fin 1) => rfl)
theorem defs_eq : @Cert.Kernel24.defs Bits _ Cert.Kernel24.Gen.facts = @Cert.Kernel24Ideal.defs Bits _ Cert.Kernel24Ideal.Gen.facts :=
  congrArg (Pipeline.defs (Cert.Kernel24Ideal.pcfgs (F := Bits))) defs0_eq

theorem frame : @Cert.quiescent_Kernel24 Cert.Kernel24.Gen.facts := fun m ρ _ => by
  rw [defs_eq]
  exact Cert.Kernel24Ideal.Gen.frame (F := Bits) m ρ
theorem frameI : @Cert.quiescent_Kernel24Ideal Cert.Kernel24Ideal.Gen.facts := fun m ρ _ => Cert.Kernel24Ideal.Gen.frame m ρ
theorem frameR : @Cert.quiescent_Reference24Ideal Cert.Reference24Ideal.Gen.facts := fun m ρ _ =>
  (θ_run Cert.Reference24Ideal.defs _ _).mono (fun r h => ⟨fun c => (h c).2, sem_eq_zero_of_no_sems (by decide) r.2⟩)
    (Cert.Reference24Ideal.Value.run m ρ)

end Cert.P24

end
-- ==== Proof.P25.lean ====
/- UNTRUSTED — the projection of the per-layer embedding, forward: the blocked product is the product. -/
module

public import proofs.«01_k».proof.Proof.Prod
public import proofs.«01_k».proof.Proof.Gen.Kernel25
public import proofs.«01_k».proof.Proof.Gen.Kernel25Ideal.Value
public import proofs.«01_k».proof.Proof.Gen.Reference25Ideal.Run
public import proofs.«01_k».proof.Defs
public import Idealize.ShloMosaic.Lib.StableHlo.RunRead
public import Idealize.ShloMosaic.Lib.Claim

@[expose] public section

set_option maxRecDepth 16384

noncomputable section

namespace Cert.P25

open Idealize.ShloMosaic Idealize.ShloMosaic.TcCoe Cert.Kernel25Ideal Cert.Kernel25Ideal.Gen

theorem out_block (x0 : Vec Ideal S1024x256 .f32) (x1 : Vec Ideal S1024x256 .bf16) (a : Fin 1024) (b : Fin 1024) :
    out0_2 (F := Ideal) x0 x1 (ix2 a b) = ∑ x : Fin 256, x0 (ix2 a x) * x1 (ix2 b x) := by
  unfold out0_2
  rw [Prod.canon_all, Prod.ld_all, Prod.ld_all]
  pointwise [k0_pay1]

theorem idx0 : ∀ t : Fin grid0.N, win0_0.index t 0 = t.val / 2 ∧ win0_0.index t 1 = 0 := by decide +kernel
theorem idx1 : ∀ t : Fin grid0.N, win0_1.index t 0 = t.val % 2 ∧ win0_1.index t 1 = 0 := by decide +kernel
theorem idx2 : ∀ t : Fin grid0.N, win0_2.index t 0 = t.val / 2 ∧ win0_2.index t 1 = t.val % 2 := by decide +kernel

variable (m : (ℓ : Loc nD τ sig) → Buf (Elt Ideal) ℓ) (c : Dev nD)

/-- The rows, and the weight, and the weight transposed. -/
abbrev k0 : FVec Ideal S8192x256 .f32 := m ((c.tc : Thread nD τ).loc main_arg0)
abbrev k1 : FVec Ideal S256x2048 .f32 := m ((c.tc : Thread nD τ).loc main_arg1)
abbrev k1t : FVec Ideal S2048x256 .f32 := transpose S2048x256 [1, 0] (k1 m c) transposes_S256x2048_S2048x256_1_0

theorem V_1 : V m c main_v1 = truncf .bf16 (k1t m c) bitsLt_bf16_f32 := by
  unfold V
  unfold_abbrev_sides
  after_reads_simp

/-- A window's input block. -/
abbrev b0 (t : Fin cfg0.N) : Vec Ideal S1024x256 .f32 := iblk m c 0 t
abbrev b1 (t : Fin cfg0.N) : Vec Ideal S1024x256 .bf16 := iblk m c 1 t

theorem b0_at (t : Fin cfg0.N) (a : Fin 1024) (b : Fin 256) :
    b0 m c t (ix2 a b) = Prod.at2 (k0 m c) (t.val / 2 * 1024 + a) (0 * 256 + b) :=
  (Prod.at_blk (V m c main_arg0) (((cfg0.win 0).blk t).view.emb (ix2 a b)) 1024 256 a b rfl rfl (idx0 t)).trans (by rw [V_main_arg0])
theorem b1_at (t : Fin cfg0.N) (a : Fin 1024) (b : Fin 256) :
    b1 m c t (ix2 a b) = Prod.at2 (k1t m c) (t.val % 2 * 1024 + a) (0 * 256 + b) :=
  (Prod.at_blk (V m c main_v1) (((cfg0.win 1).blk t).view.emb (ix2 a b)) 1024 256 a b rfl rfl (idx1 t)).trans (by rw [V_1]; rfl)

/-- The kernel's result. -/
abbrev out : Vec Ideal S8192x2048 .f32 := (dats m 0 c).arrAt 2 cfg0.N

theorem out_at (t : Fin cfg0.N) (a : Fin 1024) (b : Fin 1024) :
    Prod.at2 (out m c) (t.val / 2 * 1024 + a) (t.val % 2 * 1024 + b) = ∑ x : Fin 256, b0 m c t (ix2 a x) * b1 m c t (ix2 b x) :=
  (Prod.at_blk (out m c) (((cfg0.win 2).blk t).view.emb (ix2 a b)) 1024 1024 a b rfl rfl (idx2 t)).symm.trans
    ((congrFun ((Value.blocks2 m c t (flush0_2 t)).trans (Value.flushed2 m c t)) (ix2 a b)).trans (out_block (b0 m c t) (b1 m c t) a b))

theorem k1t_at (l : Fin 2048) (x : Fin 256) : k1t m c (ix2 l x) = k1 m c (ix2 x l) := by pointwise

theorem out_eq (r : Fin 8192) (l : Fin 2048) : out m c (ix2 r l) = ∑ x : Fin 256, k0 m c (ix2 r x) * k1 m c (ix2 x l) := by
  refine (Prod.grid 8 2 1024 1024 rfl rfl (fun r l => ∑ x : Fin 256, Prod.at2 (k0 m c) r x * Prod.at2 (k1t m c) l x) (out m c) (fun t ht a b => ?_) r l).trans ?_
  · refine (out_at m c ⟨t, lt_of_lt_of_eq ht N_0.symm⟩ a b).trans ?_
    simp only [b0_at, b1_at, Nat.zero_mul, Nat.zero_add]
  · simp only [Prod.at2_ix, k1t_at]

/-- The reference's result. -/
theorem ref_eq (A : FVec Ideal S8192x256 .f32) (B : FVec Ideal S256x2048 .f32) (r : Fin 8192) (l : Fin 2048) :
    (Host.dotGeneral Cert.Reference25Ideal.dot_S8192x256_S256x2048_S8192x2048_1_0_0_1_n_n none A B : FVec Ideal S8192x2048 .f32) (ix2 r l)
      = ∑ x : Fin 256, A (ix2 r x) * B (ix2 x l) := by
  pointwise

theorem algebraic : @Cert.algebraic_Kernel25Ideal_Reference25Ideal Cert.Kernel25Ideal.Gen.facts Cert.Reference25Ideal.Gen.facts := by
  intro m g m' g' _ hagree
  refine ⟨_, Value.run_blocks m g, (θ_run Cert.Reference25Ideal.defs _ _).mono (fun r hr c => ?_) (Cert.Reference25Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0 m c) (k1 m c) r l).trans (out_eq m c r l).symm

/-- The two programs are one text, over any floats. -/
theorem defs0_eq : @Cert.Kernel25.defs₀ Bits _ Cert.Kernel25.Gen.facts = @Cert.Kernel25Ideal.defs₀ Bits _ Cert.Kernel25Ideal.Gen.facts :=
  congrArg (Defs.onTc (nD := 1) (τ := Cert.Kernel25Ideal.τ)) (funext fun ℓ => match ℓ with
    | (0 : Fin 1) => rfl)
theorem defs_eq : @Cert.Kernel25.defs Bits _ Cert.Kernel25.Gen.facts = @Cert.Kernel25Ideal.defs Bits _ Cert.Kernel25Ideal.Gen.facts :=
  congrArg (Pipeline.defs (Cert.Kernel25Ideal.pcfgs (F := Bits))) defs0_eq

theorem frame : @Cert.quiescent_Kernel25 Cert.Kernel25.Gen.facts := fun m ρ _ => by
  rw [defs_eq]
  exact Cert.Kernel25Ideal.Gen.frame (F := Bits) m ρ
theorem frameI : @Cert.quiescent_Kernel25Ideal Cert.Kernel25Ideal.Gen.facts := fun m ρ _ => Cert.Kernel25Ideal.Gen.frame m ρ
theorem frameR : @Cert.quiescent_Reference25Ideal Cert.Reference25Ideal.Gen.facts := fun m ρ _ =>
  (θ_run Cert.Reference25Ideal.defs _ _).mono (fun r h => ⟨fun c => (h c).2, sem_eq_zero_of_no_sems (by decide) r.2⟩)
    (Cert.Reference25Ideal.Value.run m ρ)

end Cert.P25

end
-- ==== Proof.P26.lean ====
/- UNTRUSTED — the gradient of the weight of the per-layer embedding's projection: the blocked product is the product. -/
module

public import proofs.«01_k».proof.Proof.Prod
public import proofs.«01_k».proof.Proof.Gen.Kernel26
public import proofs.«01_k».proof.Proof.Gen.Kernel26Ideal.Value
public import proofs.«01_k».proof.Proof.Gen.Reference26Ideal.Run
public import proofs.«01_k».proof.Defs
public import Idealize.ShloMosaic.Lib.StableHlo.RunRead
public import Idealize.ShloMosaic.Lib.Claim

@[expose] public section

set_option maxRecDepth 16384

noncomputable section

namespace Cert.P26

open Idealize.ShloMosaic Idealize.ShloMosaic.TcCoe Cert.Kernel26Ideal Cert.Kernel26Ideal.Gen

section Point

variable (c : Dev nD) (i : grid0.Coords) (arg3 : Memref sig .tc .vmem S2048x1024 .bf16) (harg3 : arg3.IsWhole) (arg4 : Memref sig .tc .vmem S2048x256 .f32) (harg4 : arg4.IsWhole) (arg5 : Memref sig .tc .vmem S1024x256 .f32) (harg5 : arg5.IsWhole) (arg6 : Memref sig .tc .vmem S1024x256 .f32) (harg6 : arg6.IsWhole)
  (x0 : Vec Ideal S2048x1024 .bf16) (x1 : Vec Ideal S2048x256 .f32) (xs : Vec Ideal S1024x256 .f32) (a : Fin 1024) (b : Fin 256)

theorem sout_A (hc0 hc1 hc2) : sout0_A_0 (F := Ideal) c i arg3 harg3 arg4 harg4 arg5 harg5 arg6 harg6 hc0 hc1 hc2 x0 x1 (ix2 a b) = ∑ x : Fin 2048, x0 (ix2 x a) * x1 (ix2 x b) := by
  unfold sout0_A_0
  unfold kernelRun0_A
  sl_unfold_words
  dsimp only
  rw [Prod.read_writes_all, Prod.readAt_all, Prod.readAt_all, harg3.read_unread, harg4.read_unread]
  pointwise [k0_pay2, k0_pay1]

theorem sout_B (hc0 hc1 hc2) : sout0_B_0 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold sout0_B_0
  unfold kernelRun0_B
  sl_unfold_words
  dsimp only
  rw [Prod.read_writes_all, Prod.readAt_all, Prod.readAt_all, Prod.readAt_all, harg3.read_unread, harg4.read_unread, harg6.read_unread]
  pointwise [k0_pay3, k0_pay1]

theorem out_C (hc0 hc1 hc2) : out0_C_2 (F := Ideal) c i arg3 harg3 arg4 harg4 arg5 harg5 arg6 harg6 hc0 hc1 hc2 x0 x1 xs (ix2 a b) = xs (ix2 a b) + ∑ x : Fin 2048, x0 (ix2 x a) * x1 (ix2 x b) := by
  unfold out0_C_2
  unfold kernelRun0_C
  sl_unfold_words
  dsimp only
  rw [Prod.read_writes_all, Prod.readAt_all, Prod.readAt_all, Prod.readAt_all, harg3.read_unread, harg4.read_unread, harg6.read_unread]
  pointwise [k0_pay4, k0_pay1]

end Point

theorem idx0 : ∀ t : Fin grid0.N, win0_0.index t 0 = t.val % 4 ∧ win0_0.index t 1 = t.val / 4 / 1 := by decide +kernel
theorem idx1 : ∀ t : Fin grid0.N, win0_1.index t 0 = t.val % 4 ∧ win0_1.index t 1 = t.val / 4 % 1 := by decide +kernel

variable (m : (ℓ : Loc nD τ sig) → Buf (Elt Ideal) ℓ) (c : Dev nD)

/-- Two gradients side by side, the first of them the output's, and the rows. -/
abbrev k0 : FVec Ideal S8192x4096 .f32 := m ((c.tc : Thread nD τ).loc main_arg1)
abbrev k0s : FVec Ideal Cert.Reference26Ideal.S8192x2048 .f32 := extractStridedSlice Cert.Reference26Ideal.S8192x2048 ![0, 0] (k0 m c) Cert.Reference26Ideal.Gen.slices_S8192x4096_S8192x2048_0_0
abbrev k1 : FVec Ideal S8192x256 .f32 := m ((c.tc : Thread nD τ).loc main_arg0)

theorem V_0 : V m c main_v0 = truncf .bf16 (k0 m c) bitsLt_bf16_f32 := by
  unfold V
  unfold_abbrev_sides
  after_reads_simp

/-- A window's input block. -/
abbrev b0 (t : Fin cfg0.N) : Vec Ideal S2048x1024 .bf16 := iblk m c 0 t
abbrev b1 (t : Fin cfg0.N) : Vec Ideal S2048x256 .f32 := iblk m c 1 t

theorem b0_at (t : Fin cfg0.N) (a : Fin 2048) (b : Fin 1024) :
    b0 m c t (ix2 a b) = Prod.at2 (k0 m c) (t.val % 4 * 2048 + a) (t.val / 4 / 1 * 1024 + b) :=
  (Prod.at_blk (V m c main_v0) (((cfg0.win 0).blk t).view.emb (ix2 a b)) 2048 1024 a b rfl rfl (idx0 t)).trans (by rw [V_0]; rfl)
theorem b1_at (t : Fin cfg0.N) (a : Fin 2048) (b : Fin 256) :
    b1 m c t (ix2 a b) = Prod.at2 (k1 m c) (t.val % 4 * 2048 + a) (t.val / 4 % 1 * 256 + b) :=
  (Prod.at_blk (V m c main_arg0) (((cfg0.win 1).blk t).view.emb (ix2 a b)) 2048 256 a b rfl rfl (idx1 t)).trans (by rw [V_main_arg0])

/-- The products an element sums. -/
def term (r l x : ℕ) : EReal := Prod.at2 (k0 m c) x r * Prod.at2 (k1 m c) x l

/-- What a grid point adds to a block's element. -/
theorem dot_eq (t : Fin cfg0.N) (a : Fin 1024) (b : Fin 256) :
    ∑ x : Fin 2048, b0 m c t (ix2 x a) * b1 m c t (ix2 x b)
      = ∑ x : Fin 2048, term m c (t.val / 4 / 1 * 1024 + a) (t.val / 4 % 1 * 256 + b) (t.val % 4 * 2048 + x) :=
  Finset.sum_congr rfl fun x _ => by rw [b0_at, b1_at]; rfl

theorem k0s_at (x : Fin 8192) (r : Fin 2048) : k0s m c (ix2 x r) = Prod.at2 (k0 m c) x r := by
  refine Eq.trans ?_ (Prod.at2_ix (k0 m c) x ⟨r, by omega⟩).symm
  pointwise

/-- The kernel's result. -/
theorem G2_eq (r : Fin 2048) (l : Fin 256) :
    (Value.G2 m c : Vec Ideal S2048x256 .f32) (ix2 r l) = ∑ x : Fin 8192, k0s m c (ix2 x r) * k1 m c (ix2 x l) := by
  have hp : Value.pt2Of (ix2 r l) = 4 * (1 * (r.val / 1024) + l.val / 256) + 3 := by
    show 4 * (1 * (r.val / 1024 - 0) + 1 * (l.val / 256 - 0)) + 3 = _; omega
  have hN : Value.pt2Of (ix2 r l) < cfg0.N := lt_of_lt_of_eq (by omega) N_0.symm
  unfold Value.G2
  rw [dif_pos hN, ← Value.outsAt0_sweep m c _ hN,
    show Value.loc2Of (ix2 r l) = ix2 ⟨r.val % 1024, Nat.mod_lt _ (by decide)⟩ ⟨l.val % 256, Nat.mod_lt _ (by decide)⟩ from Prod.ext2 rfl rfl]
  refine (Prod.acc cfg0.N 4 2048 1 1024 256 (by decide) (term m c) (fun n h => (outsAt0 m c n h).1) (fun n h => (outsAt0 m c n h).2)
    (fun n h h0 a b => ?_) (fun n h h' h0 h2 a b => ?_) (fun n h h' h2 a b => ?_)
    r l (by decide) (by decide) (by omega) _ hp hN).trans ?_
  · refine (congrFun (congrArg _root_.Prod.snd (outsAt0_A m c ⟨n, h⟩ h0 (by simp only; omega) (by simp only; omega))) (ix2 a b)).trans ?_
    dsimp only
    rw [sout_A]
    exact dot_eq m c ⟨n, h⟩ a b
  · refine (congrFun (congrArg _root_.Prod.snd (outsAt0_B m c ⟨n + 1, h⟩ h0 (by simp only; omega) h2)) (ix2 a b)).trans ?_
    dsimp only
    rw [sout_B]
    exact congrArg _ (dot_eq m c ⟨n + 1, h⟩ a b)
  · refine (congrFun (congrArg _root_.Prod.fst (outsAt0_C m c ⟨n + 1, h⟩ (by simp only; omega) (by simp only; omega) h2)) (ix2 a b)).trans ?_
    dsimp only
    rw [out_C]
    exact congrArg _ (dot_eq m c ⟨n + 1, h⟩ a b)
  · simp only [term, k0s_at, Prod.at2_ix]

/-- The reference's result. -/
theorem ref_eq (A : FVec Ideal Cert.Reference26Ideal.S8192x2048 .f32) (B : FVec Ideal S8192x256 .f32) (r : Fin 2048) (l : Fin 256) :
    (transpose Cert.Reference26Ideal.S2048x256 [1, 0] (transpose Cert.Reference26Ideal.S256x2048 [1, 0] (Host.dotGeneral Cert.Reference26Ideal.dot_S8192x2048_S8192x256_S2048x256_0_0_1_1_n_n none A B : FVec Ideal Cert.Reference26Ideal.S2048x256 .f32) Cert.Reference26Ideal.Gen.transposes_S2048x256_S256x2048_1_0) Cert.Reference26Ideal.Gen.transposes_S256x2048_S2048x256_1_0 : FVec Ideal S2048x256 .f32) (ix2 r l)
      = ∑ x : Fin 8192, A (ix2 x r) * B (ix2 x l) := by
  pointwise

theorem algebraic : @Cert.algebraic_Kernel26Ideal_Reference26Ideal Cert.Kernel26Ideal.Gen.facts Cert.Reference26Ideal.Gen.facts := by
  intro m g m' g' _ hagree
  refine ⟨_, Value.run m g, (θ_run Cert.Reference26Ideal.defs _ _).mono (fun r hr c => ?_) (Cert.Reference26Ideal.Value.run m' g')⟩
  obtain ⟨a0, a1⟩ := hagree c
  refine ⟨(hr c).1.trans ?_, (hr c).2⟩
  rw [a0, a1]
  funext j
  obtain ⟨r, l, rfl⟩ := Prod.exists_ix2 j
  exact (ref_eq (k0s m c) (k1 m c) r l).trans (G2_eq m c r l).symm

/-- The two programs are one text, over any floats. -/
theorem defs0_eq : @Cert.Kernel26.defs₀ Bits _ Cert.Kernel26.Gen.facts = @Cert.Kernel26Ideal.defs₀ Bits _ Cert.Kernel26Ideal.Gen.facts :=
  congrArg (Defs.onTc (nD := 1) (τ := Cert.Kernel26Ideal.τ)) (funext fun ℓ => match ℓ with
    | (0 : Fin 1) => rfl)
theorem defs_eq : @Cert.Kernel26.defs Bits _ Cert.Kernel26.Gen.facts = @Cert.Kernel26Ideal.defs Bits _ Cert.Kernel26Ideal.Gen.facts :=
  congrArg (Pipeline.defs (Cert.Kernel26Ideal.pcfgs (F := Bits))) defs0_eq

theorem frame : @Cert.quiescent_Kernel26 Cert.Kernel26.Gen.facts := fun m ρ _ => by
  rw [defs_eq]
  exact Cert.Kernel26Ideal.Gen.frame (F := Bits) m ρ
theorem frameI : @Cert.quiescent_Kernel26Ideal Cert.Kernel26Ideal.Gen.facts := fun m ρ _ => Cert.Kernel26Ideal.Gen.frame m ρ
theorem frameR : @Cert.quiescent_Reference26Ideal Cert.Reference26Ideal.Gen.facts := fun m ρ _ =>
  (θ_run Cert.Reference26Ideal.defs _ _).mono (fun r h => ⟨fun c => (h c).2, sem_eq_zero_of_no_sems (by decide) r.2⟩)
    (Cert.Reference26Ideal.Value.run m ρ)

end Cert.P26

end
-- ==== Proof.Online.lean ====
/- UNTRUSTED — the softmax taken block by block with a running maximum: what one query row's running maximum, sum and
   weighted sums are after `n` keys, and how they end, over the reals. -/
module

public import proofs.«01_k».proof.Proof.HostK

@[expose] public section

set_option maxRecDepth 16384

noncomputable section

namespace Cert.Attn

open Idealize.ShloMosaic

/-- What one head of the forward pass reads: the queries and keys real, the values any extended reals. -/
structure Fwd where
  q : ℕ → ℕ → ℝ
  k : ℕ → ℕ → ℝ
  v : ℕ → ℕ → EReal

variable (X : Fwd)

/-- The score of key row `r` and query row `c`, in base two. -/
def Fwd.s (r c : ℕ) : ℝ := (∑ d : Fin 256, X.k r d * X.q c d) * (csc * cl2)
/-- The same under the mask. -/
def Fwd.ms (r c : ℕ) : EReal := if r ≤ c then ((X.s r c : ℝ) : EReal) else ⊥
/-- Its power of two against the number `M`, nothing above the diagonal. -/
def Fwd.w (M : ℝ) (r c : ℕ) : ℝ := if r ≤ c then Real.rpow 2 (X.s r c - M) else 0

theorem Fwd.exp2_ms (M : ℝ) (r c : ℕ) : Ideal.exp2 (X.ms r c - (M : EReal)) = ((X.w M r c : ℝ) : EReal) := by
  unfold Fwd.ms Fwd.w
  split_ifs
  · rw [← EReal.coe_sub, Ideal.exp2_coe]
  · rw [EReal.bot_sub, Ideal.exp2_bot, EReal.coe_zero]

theorem Fwd.ms_ne_top (r c : ℕ) : X.ms r c ≠ ⊤ := by
  unfold Fwd.ms
  split_ifs
  · exact EReal.coe_ne_top _
  · exact bot_ne_top

/-- A larger number scales every weight alike. -/
theorem Fwd.w_scale (M M' : ℝ) (r c : ℕ) : Real.rpow 2 (M - M') * X.w M r c = X.w M' r c := by
  unfold Fwd.w
  split_ifs
  · show (2 : ℝ) ^ (M - M') * (2 : ℝ) ^ (X.s r c - M) = (2 : ℝ) ^ (X.s r c - M')
    rw [← Real.rpow_add (by norm_num)]
    congr 1
    ring
  · rw [mul_zero]

/-- A nonnegative real factor goes into a sum of extended reals. -/
theorem mul_sum_coe {ι : Type} (s : Finset ι) {ρ : ℝ} (hρ : 0 ≤ ρ) (f : ι → EReal) : (ρ : EReal) * ∑ i ∈ s, f i = ∑ i ∈ s, (ρ : EReal) * f i := by
  classical
  induction s using Finset.induction_on with
  | empty => rw [Finset.sum_empty, Finset.sum_empty, mul_zero]
  | insert a s ha ih =>
    rw [Finset.sum_insert ha, Finset.sum_insert ha, EReal.left_distrib_of_nonneg_of_ne_top (by exact_mod_cast hρ) (EReal.coe_ne_top _), ih]

/-- What a query row's running maximum `m`, sum `l` and weighted sums `a` are when the first `n` keys are done. -/
def Fwd.St (n c : ℕ) (m l : EReal) (a : Fin 128 → EReal) : Prop :=
  (n = 0 ∧ m = ⊥ ∧ l = 0 ∧ ∀ b, a b = 0)
  ∨ ∃ M : ℝ, m = (M : EReal) ∧ l = ((∑ r ∈ Finset.range n, X.w M r c : ℝ) : EReal)
      ∧ ∀ b, a b = ∑ r ∈ Finset.range n, X.v r b * ((X.w M r c : ℝ) : EReal)

theorem Fwd.St_zero (c : ℕ) : X.St 0 c ⊥ 0 fun _ => 0 := Or.inl ⟨rfl, rfl, rfl, fun _ => rfl⟩

/-- One more block of keys. -/
theorem Fwd.St_step {n c w : ℕ} (hw : 0 < w) (hn : n ≤ c) {m l : EReal} {a : Fin 128 → EReal} (h : X.St n c m l a) {sc : Fin w → EReal} (hs : ∀ x, sc x = X.ms (n + x) c)
    {m' : EReal} (hm : m' = max m (Finset.fold max (⊥ : EReal) sc Finset.univ)) :
    X.St (n + w) c m' (Ideal.exp2 (m - m') * l + ∑ x : Fin w, Ideal.exp2 (sc x - m'))
      fun b => Ideal.exp2 (m - m') * a b + ∑ x : Fin w, X.v (n + x) b * Ideal.exp2 (sc x - m') := by
  have h1 : m ≠ ⊤ := by
    rcases h with ⟨_, h, _⟩ | ⟨M, h, _⟩
    · rw [h]; exact bot_ne_top
    · rw [h]; exact EReal.coe_ne_top _
  have h2 : Finset.fold max (⊥ : EReal) sc Finset.univ ≠ ⊤ := fold_max_ne_top fun x => by rw [hs]; exact X.ms_ne_top _ _
  have h3 : Finset.fold max (⊥ : EReal) sc Finset.univ ≠ ⊥ := fold_max_ne_bot ⟨0, hw⟩ (by
    rw [hs]; unfold Fwd.ms; rw [if_pos (by simpa using hn)]; exact EReal.coe_ne_bot _)
  have hM : ((m'.toReal : ℝ) : EReal) = m' := EReal.coe_toReal
    (by rw [hm]; exact ne_of_lt (max_lt (lt_top_iff_ne_top.mpr h1) (lt_top_iff_ne_top.mpr h2)))
    (by rw [hm]; exact ne_of_gt (lt_of_lt_of_le (bot_lt_iff_ne_bot.mpr h3) (le_max_right _ _)))
  generalize m'.toReal = M' at hM
  subst hM
  have he (x : Fin w) : Ideal.exp2 (sc x - (M' : EReal)) = ((X.w M' (n + x) c : ℝ) : EReal) := by rw [hs, X.exp2_ms]
  refine Or.inr ⟨M', rfl, ?_, fun b => ?_⟩
  · simp only [he, ← coe_sum]
    rcases h with ⟨h0, hm0, hl, _⟩ | ⟨M, hm0, hl, _⟩
    · subst h0
      rw [hm0, hl, mul_zero, zero_add, zero_add, Finset.sum_range]
      simp only [zero_add]
    · rw [hm0, hl, ← EReal.coe_sub, Ideal.exp2_coe, ← EReal.coe_mul, ← EReal.coe_add, Finset.sum_range_add, Finset.mul_sum,
        Finset.sum_range (n := w)]
      simp only [X.w_scale]
  · simp only [he]
    rcases h with ⟨h0, hm0, _, ha⟩ | ⟨M, hm0, _, ha⟩
    · subst h0
      rw [ha, mul_zero, zero_add, zero_add, Finset.sum_range]
      simp only [zero_add]
    · rw [hm0, ha, ← EReal.coe_sub, Ideal.exp2_coe, mul_sum_coe _ (ρ := Real.rpow 2 (M - M')) (Real.rpow_nonneg (by norm_num) _), Finset.sum_range_add,
        Finset.sum_range (n := w)]
      refine congrArg₂ _ (Finset.sum_congr rfl fun r _ => ?_) rfl
      rw [mul_left_comm, ← EReal.coe_mul, X.w_scale]

/-! ## The end, against the softmax of the reference -/

section End

variable (fq fk : ℕ → ℕ → ℕ → ℝ) (fv : ℕ → ℕ → ℕ → EReal) (M : ℕ → ℕ → ℝ)

/-- What head `h` reads. -/
def fwdR (h : ℕ) : Fwd where
  q r d := fq r h d
  k r d := fk r h d
  v r d := fv r h d

theorem fwdR_s (hz : ∀ r h d, 192 ≤ d → fq r h d = 0) (h r c : ℕ) : (fwdR fq fk fv h).s r c = sR fq fk h c r * cl2 := by
  unfold Fwd.s sR fwdR csc
  rw [Fin.sum_univ_add (a := 192) (b := 64) fun d : Fin 256 => fk r h d * fq c h d,
    Finset.sum_eq_zero (s := (Finset.univ : Finset (Fin 64))) fun d _ => by rw [hz c h _ (by simp), mul_zero], add_zero, div_eq_mul_inv, ← mul_assoc]
  simp only [Fin.val_castAdd, mul_comm]

/-- Every weight is the reference's exponential, by one factor for the row. -/
theorem fwdR_w (hz : ∀ r h d, 192 ≤ d → fq r h d = 0) (N : ℝ) (h r c : ℕ) :
    (fwdR fq fk fv h).w N r c = Real.exp (M h c - N * Real.log 2) * eR fq fk M h c r := by
  unfold Fwd.w eR
  split_ifs
  · have h2 := log2_pos.ne'
    rw [fwdR_s fq fk fv hz, ← Real.exp_add]
    show (2 : ℝ) ^ (sR fq fk h c r * cl2 - N) = _
    rw [Real.rpow_def_of_pos (by norm_num)]
    congr 1
    unfold cl2
    field_simp
    ring
  · rw [mul_zero]

theorem eR_zero {h c r : ℕ} (hr : c < r) : eR fq fk M h c r = 0 := if_neg (by omega)

/-- The weights of the keys up to the query's block sum to the reference's sum. -/
theorem fwdR_sum (hz : ∀ r h d, 192 ≤ d → fq r h d = 0) (N : ℝ) (h : ℕ) {n c : ℕ} (hc : c < n) (hn : n ≤ 8192) :
    ∑ r ∈ Finset.range n, (fwdR fq fk fv h).w N r c = Real.exp (M h c - N * Real.log 2) * lR fq fk M h c := by
  unfold lR
  simp only [fwdR_w fq fk fv M hz N, ← Finset.mul_sum]
  rw [← Finset.sum_range (fun r => eR fq fk M h c r)]
  refine congrArg _ (Finset.sum_subset (Finset.range_subset_range.mpr hn) fun r _ hr => ?_)
  exact eR_zero fq fk M (by simp at hr; omega)

variable {n c : ℕ} {m l : EReal} {a : Fin 128 → EReal}

/-- The row's output is the probabilities' average of the values. -/
theorem St_out (hz : ∀ r h d, 192 ≤ d → fq r h d = 0) (h : ℕ) (hc : c < n) (hn : n ≤ 8192) (hs : (fwdR fq fk fv h).St n c m l a) (b : Fin 128) :
    Ideal.div (a b) l = ∑ r : Fin 8192, fv r h b * ((pR fq fk M h c r : ℝ) : EReal) := by
  rcases hs with ⟨h0, _⟩ | ⟨N, _, hl, ha⟩
  · omega
  · have hK := Real.exp_pos (M h c - N * Real.log 2)
    have hL := lR_pos fq fk M h c
    rw [hl, ha, fwdR_sum fq fk fv M hz N h hc hn, Ideal.div_coe (mul_pos hK hL).ne', mul_comm, mul_sum_coe _ (by positivity)]
    rw [← Finset.sum_range (fun r => fv r h b * ((pR fq fk M h c r : ℝ) : EReal))]
    refine (Finset.sum_congr rfl fun r _ => ?_).trans (Finset.sum_subset (Finset.range_subset_range.mpr hn) fun r _ hr => ?_)
    · rw [mul_left_comm, ← EReal.coe_mul, fwdR_w fq fk fv M hz N]
      show fv r h b * _ = _
      refine congrArg (fun x : ℝ => fv r h b * (x : EReal)) ?_
      unfold pR
      field_simp
    · unfold pR
      rw [eR_zero fq fk M (by simp at hr; omega), zero_div, EReal.coe_zero, mul_zero]

/-- The row's log-sum-exp, in base two. -/
theorem St_lse (hz : ∀ r h d, 192 ≤ d → fq r h d = 0) (h : ℕ) (hc : c < n) (hn : n ≤ 8192) (hs : (fwdR fq fk fv h).St n c m l a) :
    m + Ideal.log l * ((cl2 : ℝ) : EReal) = (((M h c + Real.log (lR fq fk M h c)) / Real.log 2 : ℝ) : EReal) := by
  rcases hs with ⟨h0, _⟩ | ⟨N, hm, hl, _⟩
  · omega
  · have hK := Real.exp_pos (M h c - N * Real.log 2)
    have hL := lR_pos fq fk M h c
    have h2 := log2_pos.ne'
    rw [hl, hm, fwdR_sum fq fk fv M hz N h hc hn, Ideal.log_coe, if_neg (not_le.mpr (mul_pos hK hL)), ← EReal.coe_mul, ← EReal.coe_add,
      Real.log_mul hK.ne' hL.ne', Real.log_exp]
    congr 1
    unfold cl2
    field_simp
    ring

end End

end Cert.Attn

end
-- ==== Proof.Fwd.lean ====
/- UNTRUSTED — the latent attention's forward kernel over the extended reals: one block of keys, the loop over the blocks
   before the diagonal, the block on it, and what is stored. -/
module

public import proofs.«01_k».proof.Proof.Online
public import proofs.«01_k».proof.Proof.Prod
public import proofs.«01_k».proof.Proof.Gen.Kernel27Ideal.Frame

@[expose] public section

set_option maxRecDepth 16384

noncomputable section

namespace Cert.Fwd

open Idealize.ShloMosaic Cert.Attn Cert.Kernel27Ideal Cert.Kernel27Ideal.Gen

theorem k_mask : Named.named (F := Ideal) (φ := .f32) κ "mask" 0xF149F2CA#32 = (⊥ : EReal) :=
  IdealRules.named_const.ideal_named_scalar _ _ _ _ rfl
theorem k_scale : Named.named (F := Ideal) (φ := .f32) κ "scale_log2e" 0x3DD53B95#32 = ((csc * cl2 : ℝ) : EReal) :=
  IdealRules.named_const.ideal_named_scalar _ _ _ _ (by unfold csc cl2; rfl)
theorem k_log2e : Named.named (F := Ideal) (φ := .f32) κ "log2e" 0x3FB8AA3B#32 = ((cl2 : ℝ) : EReal) :=
  IdealRules.named_const.ideal_named_scalar _ _ _ _ rfl

/-! ## One block of keys -/

section Step

variable (sc : FVec Ideal S512x512 .f32) (v32 v41 : Vec Ideal S1x512 .f32) (v46 : Vec Ideal S128x512 .f32) (v50 : Vec Ideal S128x512 .bf16)

/-- The new running maximum of column `c`. -/
def mNew (c : Fin 512) : EReal := max (v32 (ix2 0 c)) (Finset.fold max (⊥ : EReal) (fun x : Fin 512 => sc (ix2 x c)) Finset.univ)

theorem pay24_at (a : Fin 1) (c : Fin 512) : k0_pay24 (F := Ideal) sc v32 (ix2 a c) = mNew sc v32 c := by
  obtain rfl : a = 0 := Subsingleton.elim _ _
  pointwise [k0_pay24]
  unfold mNew
  rw [ofBits_neg_inf]

theorem pay28_at (a : Fin 8) (c : Fin 512) : k0_pay28 (F := Ideal) sc v32 (ix2 a c) = mNew sc v32 c := by
  pointwise [k0_pay28]
  exact pay24_at sc v32 _ c

theorem pay25_at (a : Fin 1) (c : Fin 512) : k0_pay25 (F := Ideal) sc v32 (ix2 a c) = Ideal.exp2 (v32 (ix2 0 c) - mNew sc v32 c) := by
  obtain rfl : a = 0 := Subsingleton.elim _ _
  pointwise [k0_pay25]
  rw [pay24_at]
  rfl

theorem pay26_at (x c : Fin 512) : k0_pay26 (F := Ideal) sc v32 (ix2 x c) = Ideal.exp2 (sc (ix2 x c) - mNew sc v32 c) := by
  pointwise [k0_pay26]
  rw [pay24_at]
  rfl

theorem pay29_at (a : Fin 8) (c : Fin 512) : k0_pay29 (F := Ideal) sc v32 v41 (ix2 a c)
    = Ideal.exp2 (v32 (ix2 0 c) - mNew sc v32 c) * v41 (ix2 0 c) + ∑ x : Fin 512, Ideal.exp2 (sc (ix2 x c) - mNew sc v32 c) := by
  pointwise [k0_pay29]
  simp only [pay25_at, pay26_at]

theorem pay27_at (b : Fin 128) (c : Fin 512) : k0_pay27 (F := Ideal) sc v32 v46 v50 (ix2 b c)
    = Ideal.exp2 (v32 (ix2 0 c) - mNew sc v32 c) * v46 (ix2 b c) + ∑ x : Fin 512, v50 (ix2 b x) * Ideal.exp2 (sc (ix2 x c) - mNew sc v32 c) := by
  pointwise [k0_pay27]
  simp only [pay25_at, pay26_at]

end Step

/-! ## The scores -/

section Scores

variable (X : Cert.Attn.Fwd) {C n : ℕ}

/-- The scores of a block of keys from `n`, before the mask. -/
theorem pay3_at {v12 v84 : Vec Ideal S512x256 .bf16} (hq : IsBlk (n := 512) (m := 256) v12 X.q C) (hk : IsBlk (n := 512) (m := 256) v84 X.k n) (x c : Fin 512) :
    k0_pay3 (F := Ideal) (k0_pay20 v12) v84 (ix2 x c) = ((X.s (n + x) (C + c) : ℝ) : EReal) := by
  pointwise [k0_pay3, k0_pay20]
  rw [k_scale, Finset.sum_congr rfl fun d _ => by rw [hk x d, hq c d, ← EReal.coe_mul], ← coe_sum, ← EReal.coe_mul]
  rfl

/-- Before the diagonal the mask hides nothing. -/
theorem pay3_ms {v12 v84 : Vec Ideal S512x256 .bf16} (hq : IsBlk (n := 512) (m := 256) v12 X.q C) (hk : IsBlk (n := 512) (m := 256) v84 X.k n)
    (hn : n + 512 ≤ C) (x c : Fin 512) : k0_pay3 (F := Ideal) (k0_pay20 v12) v84 (ix2 x c) = X.ms (n + x) (C + c) :=
  (pay3_at X hq hk x c).trans (if_pos (by omega)).symm

/-- On the diagonal a key is seen up to the query's row. -/
theorem pay23_ms {v12 v22 : Vec Ideal S512x256 .bf16} (hq : IsBlk (n := 512) (m := 256) v12 X.q C) (hk : IsBlk (n := 512) (m := 256) v22 X.k C)
    (x c : Fin 512) : k0_pay23 (F := Ideal) v12 v22 (ix2 x c) = X.ms (C + x) (C + c) := by
  have h3 := pay3_at X hq hk x c
  have hw : IntOp.cmpi .sle (BitVec.ofNat 32 (x : ℕ)) (BitVec.ofNat 32 (c : ℕ)) = 1#1 ↔ (x : ℕ) ≤ c :=
    Idealize.ShloMosaic.WordCmp.cmpi_sle_ofNat_eq_one_iff (by have := x.isLt; norm_num; omega) (by have := c.isLt; norm_num; omega)
  pointwise [k0_pay3, k0_pay20] at h3
  pointwise [k0_pay23, k0_pay20]
  rw [h3, k_mask]
  unfold Fwd.ms
  by_cases h : (x : ℕ) ≤ c
  · rw [if_pos (by omega), hw.2 h]
    rfl
  · have h0 : IntOp.cmpi .sle (BitVec.ofNat 32 (x : ℕ)) (BitVec.ofNat 32 (c : ℕ)) = 0#1 := by
      have := hw.not.2 h
      generalize IntOp.cmpi .sle (BitVec.ofNat 32 (x : ℕ)) (BitVec.ofNat 32 (c : ℕ)) = z at this
      clear hw h
      revert z; decide
    rw [if_neg (by omega), h0]
    rfl

end Scores

/-! ## The accumulators -/

section Acc

variable (X : Cert.Attn.Fwd)

/-- What the three scratch blocks hold when a block of query rows from `C` has seen the first `n` keys. -/
def Acc (A7 A8 : Vec Ideal S8x512 .f32) (A9 : Vec Ideal S128x512 .f32) (C n : ℕ) : Prop :=
  ∀ c : Fin 512, ∃ m l : EReal, (∀ a : Fin 8, A7 (ix2 a c) = m) ∧ (∀ a : Fin 8, A8 (ix2 a c) = l) ∧ X.St n (C + c) m l fun b => A9 (ix2 b c)

variable {A7 A8 : Vec Ideal S8x512 .f32} {A9 : Vec Ideal S128x512 .f32} {C n : ℕ}

theorem Acc.zero (C : ℕ) : Acc X (k0_pay17 (F := Ideal)) (k0_pay18 (F := Ideal)) (k0_pay19 (F := Ideal)) C 0 := fun c => by
  refine ⟨⊥, 0, fun a => ?_, fun a => ?_, ?_⟩
  · pointwise [k0_pay17]
    exact k_mask
  · pointwise [k0_pay18]
  · have h (b : Fin 128) : k0_pay19 (F := Ideal) (ix2 b c) = 0 := by pointwise [k0_pay19]
    simp only [h]
    exact X.St_zero _

/-- One block of keys further. -/
theorem Acc.step (ha : Acc X A7 A8 A9 C n) {sc : FVec Ideal S512x512 .f32} (hs : ∀ x c : Fin 512, sc (ix2 x c) = X.ms (n + x) (C + c)) (hn : n ≤ C)
    {v32 v41 : Vec Ideal S1x512 .f32} {v46 : Vec Ideal S128x512 .f32} {v50 : Vec Ideal S128x512 .bf16}
    (h32 : ∀ c : Fin 512, v32 (ix2 0 c) = A7 (ix2 0 c)) (h41 : ∀ c : Fin 512, v41 (ix2 0 c) = A8 (ix2 0 c)) (h46 : v46 = A9)
    (hv : ∀ (b : Fin 128) (x : Fin 512), v50 (ix2 b x) = X.v (n + x) b) :
    Acc X (k0_pay28 (F := Ideal) sc v32) (k0_pay29 (F := Ideal) sc v32 v41) (k0_pay27 (F := Ideal) sc v32 v46 v50) C (n + 512) := fun c => by
  subst h46
  obtain ⟨m, l, h7, h8, hst⟩ := ha c
  have hst' := X.St_step (w := 512) (by norm_num) (Nat.le_add_right_of_le hn) hst (sc := fun x => sc (ix2 x c)) (fun x => hs x c) rfl
  refine ⟨_, _, fun a => pay28_at sc v32 a c, fun a => pay29_at sc v32 v41 a c, ?_⟩
  simp only [pay27_at, mNew, h32, h41, h7, h8, hv]
  exact hst'

end Acc

/-! ## A block read and written -/

section Views

variable {sig : RefSig} {κ' : Kind} {sp : Space} {e : EltTy} {N M w : ℕ} {Val : EltTy → Type}

/-- Columns `[o, o + w)` of an array, as a `vector.load` reads them. -/
theorem readAt_cols (v : View sig κ' sp (⟨2, ![N, M]⟩ : Shape) e) (f : v.ty.Contents Val)
    {off : Fin 2 → ℕ} {o : ℕ} (inb : ∀ a : Fin 2, off a + (![N, w] : Fin 2 → ℕ) a ≤ (![N, M] : Fin 2 → ℕ) a)
    (hoff : off = ![0, o]) (a : Fin N) (b : Fin w) :
    v.readAt Val (Rect.unit (s := ⟨2, ![N, M]⟩) off ![N, w] inb).toLoadRect f (ix2 a b)
      = v.read Val f (ix2 a ⟨o + b, by subst hoff; have h : o + w ≤ M := inb 1; have := b.isLt; omega⟩) := by
  subst hoff
  rw [View.readAt_eq_ld]
  refine View.ld_unit_apply_of (S := ⟨2, ![N, M]⟩) _ ![0, o] ![N, w] inb (ix2 a b) (ix2 a ⟨o + b, _⟩) fun x => ?_
  match x with
  | (0 : Fin 2) => exact (Nat.zero_add _).symm
  | (1 : Fin 2) => rfl

end Views

section Loop

variable (X : Cert.Attn.Fwd) (𝒱 : Variants) (c : Dev nD) (bd : Option 𝒱.V) (i : grid0.Coords) (arg2 : Memref sig .tc .vmem S512x256 .bf16) (harg2 : arg2.IsWhole) (arg3 : Memref sig .tc .vmem S8192x256 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S128x512 .f32) (harg9 : arg9.IsWhole)
  (v12 : Vec Ideal S512x256 .bf16) (X3 : BufTy.Contents (Elt Ideal) arg3.view.ty) (X4 : BufTy.Contents (Elt Ideal) arg4.view.ty)
  (f7 : BufTy.Contents (Elt Ideal) arg7.view.ty) (f8 : BufTy.Contents (Elt Ideal) arg8.view.ty) (f9 : BufTy.Contents (Elt Ideal) arg9.view.ty)

/-- What the query block and the head's keys and values hold. -/
structure Ins (C : ℕ) : Prop where
  q : IsBlk (n := 512) (m := 256) v12 X.q C
  k : IsBlk (n := 8192) (m := 256) (arg3.view.read (Elt Ideal) X3) X.k 0
  v : ∀ (b : Fin 128) (r : Fin 8192), arg4.view.read (Elt Ideal) X4 (ix2 b r) = X.v r b

/-- The invariant, of the scratch memrefs' contents. -/
abbrev AccM (C n : ℕ) : Prop := Acc X (arg7.view.read (Elt Ideal) f7) (arg8.view.read (Elt Ideal) f8) (arg9.view.read (Elt Ideal) f9) C n

variable {X arg3 arg4 arg7 arg8 arg9 v12 X3 X4 f7 f8 f9} in
/-- One block of keys further, the three memrefs overwritten whole. -/
theorem AccM.step {C n : ℕ} (hin : Ins X arg3 arg4 v12 X3 X4 C) (ha : AccM X arg7 arg8 arg9 f7 f8 f9 C n) (hn : n ≤ C)
    {sc : FVec Ideal S512x512 .f32} (hs : ∀ x c : Fin 512, sc (ix2 x c) = X.ms (n + x) (C + c))
    {off : Fin 2 → ℕ} (inb : ∀ a : Fin 2, off a + S128x512.size a ≤ S128x8192.size a) (hoff : off = ![0, n]) :
    AccM X arg7 arg8 arg9
      (arg7.view.writes (Elt Ideal) f7 [⟨Rect.unit (s := S8x512) ![0, 0] S8x512.size inb_S8x512_S8x512_0_0,
        k0_pay28 (F := Ideal) sc (arg7.view.readAt (Elt Ideal) (Rect.unit (s := S8x512) ![0, 0] S1x512.size inb_S8x512_S1x512_0_0).toLoadRect f7)⟩])
      (arg8.view.writes (Elt Ideal) f8 [⟨Rect.unit (s := S8x512) ![0, 0] S8x512.size inb_S8x512_S8x512_0_0,
        k0_pay29 (F := Ideal) sc (arg7.view.readAt (Elt Ideal) (Rect.unit (s := S8x512) ![0, 0] S1x512.size inb_S8x512_S1x512_0_0).toLoadRect f7)
          (arg8.view.readAt (Elt Ideal) (Rect.unit (s := S8x512) ![0, 0] S1x512.size inb_S8x512_S1x512_0_0).toLoadRect f8)⟩])
      (arg9.view.writes (Elt Ideal) f9 [⟨Rect.unit (s := S128x512) ![0, 0] S128x512.size inb_S128x512_S128x512_0_0,
        k0_pay27 (F := Ideal) sc (arg7.view.readAt (Elt Ideal) (Rect.unit (s := S8x512) ![0, 0] S1x512.size inb_S8x512_S1x512_0_0).toLoadRect f7)
          (arg9.view.readAt (Elt Ideal) (Rect.unit (s := S128x512) ![0, 0] S128x512.size inb_S128x512_S128x512_0_0).toLoadRect f9)
          (arg4.view.readAt (Elt Ideal) (Rect.unit (s := S128x8192) off S128x512.size inb).toLoadRect X4)⟩]) C (n + 512) := by
  have h7 := Prod.read_writes_all arg7.view f7 inb_S8x512_S8x512_0_0
    (k0_pay28 (F := Ideal) sc (arg7.view.readAt (Elt Ideal) (Rect.unit (s := S8x512) ![0, 0] S1x512.size inb_S8x512_S1x512_0_0).toLoadRect f7)) []
  have h8 := Prod.read_writes_all arg8.view f8 inb_S8x512_S8x512_0_0
    (k0_pay29 (F := Ideal) sc (arg7.view.readAt (Elt Ideal) (Rect.unit (s := S8x512) ![0, 0] S1x512.size inb_S8x512_S1x512_0_0).toLoadRect f7)
      (arg8.view.readAt (Elt Ideal) (Rect.unit (s := S8x512) ![0, 0] S1x512.size inb_S8x512_S1x512_0_0).toLoadRect f8)) []
  have h9 := Prod.read_writes_all arg9.view f9 inb_S128x512_S128x512_0_0
    (k0_pay27 (F := Ideal) sc (arg7.view.readAt (Elt Ideal) (Rect.unit (s := S8x512) ![0, 0] S1x512.size inb_S8x512_S1x512_0_0).toLoadRect f7)
      (arg9.view.readAt (Elt Ideal) (Rect.unit (s := S128x512) ![0, 0] S128x512.size inb_S128x512_S128x512_0_0).toLoadRect f9)
      (arg4.view.readAt (Elt Ideal) (Rect.unit (s := S128x8192) off S128x512.size inb).toLoadRect X4)) []
  have hst := Acc.step X ha hs hn
    (v32 := arg7.view.readAt (Elt Ideal) (Rect.unit (s := S8x512) ![0, 0] S1x512.size inb_S8x512_S1x512_0_0).toLoadRect f7)
    (v41 := arg8.view.readAt (Elt Ideal) (Rect.unit (s := S8x512) ![0, 0] S1x512.size inb_S8x512_S1x512_0_0).toLoadRect f8)
    (v46 := arg9.view.readAt (Elt Ideal) (Rect.unit (s := S128x512) ![0, 0] S128x512.size inb_S128x512_S128x512_0_0).toLoadRect f9)
    (v50 := arg4.view.readAt (Elt Ideal) (Rect.unit (s := S128x8192) off S128x512.size inb).toLoadRect X4)
    (fun c => readAt_rows arg7.view f7 inb_S8x512_S1x512_0_0 rfl 0 c) (fun c => readAt_rows arg8.view f8 inb_S8x512_S1x512_0_0 rfl 0 c)
    (Prod.readAt_all arg9.view f9 inb_S128x512_S128x512_0_0)
    (fun b x => (readAt_cols arg4.view X4 inb hoff b x).trans (hin.v b _))
  unfold AccM
  rwa [← h7, ← h8, ← h9] at hst

theorem trips1 (i : grid0.Coords) : (k0_t1_loop i).trips = (i 1).val := words_t1 (i 1)

/-- One trip of the loop. -/
theorem trip_acc (hin : Ins X arg3 arg4 v12 X3 X4 (512 * (i 1).val)) (k : Fin (k0_t1_loop i).trips)
    (ha : AccM X arg7 arg8 arg9 f7 f8 f9 (512 * (i 1).val) (512 * k.val)) :
    AccM X arg7 arg8 arg9
      (arg7.view.writes (Elt Ideal) f7 ((trip_k0_t1 (F := Ideal) 𝒱 c bd i arg2 harg2 arg3 harg3 arg4 harg4 arg5 harg5 arg6 harg6 arg7 harg7 arg8 harg8 arg9 harg9 v12 X3 X4 k).1 f7 f8 f9))
      (arg8.view.writes (Elt Ideal) f8 ((trip_k0_t1 (F := Ideal) 𝒱 c bd i arg2 harg2 arg3 harg3 arg4 harg4 arg5 harg5 arg6 harg6 arg7 harg7 arg8 harg8 arg9 harg9 v12 X3 X4 k).2.1 f7 f8 f9))
      (arg9.view.writes (Elt Ideal) f9 ((trip_k0_t1 (F := Ideal) 𝒱 c bd i arg2 harg2 arg3 harg3 arg4 harg4 arg5 harg5 arg6 harg6 arg7 harg7 arg8 harg8 arg9 harg9 v12 X3 X4 k).2.2.1 f7 f8 f9))
      (512 * (i 1).val) (512 * (k.val + 1)) := by
  have hk : k.val < (i 1).val := lt_of_lt_of_eq k.isLt (trips1 i)
  have hK := blk_readAt_bf16 (n := 512) (k0_off1_inb i k) (k0_off1_eq i k) hin.k
  rw [Nat.mul_succ]
  unfold trip_k0_t1
  sl_unfold_words
  dsimp only
  exact ha.step hin (by omega) (pay3_ms X hin.q hK (by omega)) (k0_off2_inb i k) (k0_off2_eq i k)

/-- The loop's first `n` trips. -/
theorem loop_acc (hin : Ins X arg3 arg4 v12 X3 X4 (512 * (i 1).val))
    (ha : AccM X arg7 arg8 arg9 f7 f8 f9 (512 * (i 1).val) (512 * 0)) (n : ℕ) (hn : n ≤ (k0_t1_loop i).trips) :
    AccM X arg7 arg8 arg9
      (arg7.view.writes (Elt Ideal) f7 (pb_k0_t1 (F := Ideal) 𝒱 c bd i arg2 harg2 arg3 harg3 arg4 harg4 arg5 harg5 arg6 harg6 arg7 harg7 arg8 harg8 arg9 harg9 v12 X3 X4 f7 f8 f9 n).1)
      (arg8.view.writes (Elt Ideal) f8 (pb_k0_t1 (F := Ideal) 𝒱 c bd i arg2 harg2 arg3 harg3 arg4 harg4 arg5 harg5 arg6 harg6 arg7 harg7 arg8 harg8 arg9 harg9 v12 X3 X4 f7 f8 f9 n).2.1)
      (arg9.view.writes (Elt Ideal) f9 (pb_k0_t1 (F := Ideal) 𝒱 c bd i arg2 harg2 arg3 harg3 arg4 harg4 arg5 harg5 arg6 harg6 arg7 harg7 arg8 harg8 arg9 harg9 v12 X3 X4 f7 f8 f9 n).2.2)
      (512 * (i 1).val) (512 * n) := by
  induction n with
  | zero => exact ha
  | succ n ih =>
    have hs := pb_k0_t1_succ (F := Ideal) 𝒱 c bd i arg2 harg2 arg3 harg3 arg4 harg4 arg5 harg5 arg6 harg6 arg7 harg7 arg8 harg8 arg9 harg9 v12 X3 X4 f7 f8 f9 ⟨n, hn⟩
    dsimp only at hs
    rw [hs]
    unfold AccM at ih ⊢
    simp only [View.writes_append]
    exact trip_acc X 𝒱 c bd i arg2 harg2 arg3 harg3 arg4 harg4 arg5 harg5 arg6 harg6 arg7 harg7 arg8 harg8 arg9 harg9 v12 X3 X4 _ _ _ hin ⟨n, hn⟩ (ih (by omega))

end Loop

/-! ## What a grid point leaves -/

section Point

theorem pay1_at (v68 : Vec Ideal S128x512 .f32) (v69 : Vec Ideal S1x512 .f32) (c : Fin 512) (b : Fin 128) :
    k0_pay1 (F := Ideal) v68 v69 (ix2 c b) = Ideal.div (v68 (ix2 b c)) (v69 (ix2 0 c)) := by
  pointwise [k0_pay1]

theorem pay2_at (v74 v75 : Vec Ideal S8x512 .f32) (a : Fin 8) (c : Fin 512) :
    k0_pay2 (F := Ideal) v74 v75 (ix2 a c) = v74 (ix2 a c) + Ideal.log (v75 (ix2 a c)) * ((cl2 : ℝ) : EReal) := by
  pointwise [k0_pay2]
  rw [k_log2e]

/-- What query row `c` of a point's block ends with, and the two outputs made of it. -/
def Out (X : Cert.Attn.Fwd) (C : ℕ) (o : Vec Ideal S512x128 .f32) (s : Vec Ideal S8x512 .f32) : Prop :=
  ∀ c : Fin 512, ∃ (m l : EReal) (a : Fin 128 → EReal), X.St (C + 512) (C + c) m l a
    ∧ (∀ b : Fin 128, o (ix2 c b) = Ideal.div (a b) l) ∧ ∀ e : Fin 8, s (ix2 e c) = m + Ideal.log l * ((cl2 : ℝ) : EReal)

variable (X : Cert.Attn.Fwd) (c : Dev nD) (i : grid0.Coords) (arg2 : Memref sig .tc .vmem S512x256 .bf16) (harg2 : arg2.IsWhole) (arg3 : Memref sig .tc .vmem S8192x256 .bf16) (harg3 : arg3.IsWhole) (arg4 : Memref sig .tc .vmem S128x8192 .bf16) (harg4 : arg4.IsWhole) (arg5 : Memref sig .tc .vmem S512x128 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S128x512 .f32) (harg9 : arg9.IsWhole)

variable {X arg7 arg8 arg9} in
/-- The outputs as the body makes them of the scratch. -/
theorem AccM.out {f7 : BufTy.Contents (Elt Ideal) arg7.view.ty} {f8 : BufTy.Contents (Elt Ideal) arg8.view.ty} {f9 : BufTy.Contents (Elt Ideal) arg9.view.ty}
    {C : ℕ} (ha : AccM X arg7 arg8 arg9 f7 f8 f9 C (C + 512)) :
    Out X C (k0_pay1 (F := Ideal) (arg9.view.readAt (Elt Ideal) (Rect.unit (s := S128x512) ![0, 0] S128x512.size inb_S128x512_S128x512_0_0).toLoadRect f9)
        (arg8.view.readAt (Elt Ideal) (Rect.unit (s := S8x512) ![0, 0] S1x512.size inb_S8x512_S1x512_0_0).toLoadRect f8))
      (k0_pay2 (F := Ideal) (arg7.view.readAt (Elt Ideal) (Rect.unit (s := S8x512) ![0, 0] S8x512.size inb_S8x512_S8x512_0_0).toLoadRect f7)
        (arg8.view.readAt (Elt Ideal) (Rect.unit (s := S8x512) ![0, 0] S8x512.size inb_S8x512_S8x512_0_0).toLoadRect f8)) := fun c => by
  obtain ⟨m, l, h7, h8, hst⟩ := ha c
  have h7' := Prod.readAt_all arg7.view f7 inb_S8x512_S8x512_0_0
  have h8' := Prod.readAt_all arg8.view f8 inb_S8x512_S8x512_0_0
  have h9' := Prod.readAt_all arg9.view f9 inb_S128x512_S128x512_0_0
  refine ⟨m, l, _, hst, fun b => ?_, fun e => ?_⟩
  · refine (pay1_at _ _ c b).trans (congrArg₂ Ideal.div (congrFun h9' _) ?_)
    exact (readAt_rows arg8.view f8 inb_S8x512_S1x512_0_0 rfl 0 c).trans (h8 _)
  · refine (pay2_at _ _ e c).trans (congrArg₂ (fun x y => x + Ideal.log y * ((cl2 : ℝ) : EReal)) ?_ ?_)
    · exact (congrFun h7' _).trans (h7 e)
    · exact (congrFun h8' _).trans (h8 e)

variable {x0 : Vec Ideal S512x256 .bf16} {x1 : Vec Ideal S8192x256 .bf16} {x2 : Vec Ideal S128x8192 .bf16}

theorem words2 : ∀ n : Fin 16, (k0_t2_loop (Fin.cons (0 : Fin 8) (Fin.cons n finZeroElim) : grid0.Coords)).trips = 0 := by
  decide +kernel
theorem trips2 (i : grid0.Coords) : (k0_t2_loop i).trips = 0 := words2 (i 1)

theorem point_out (hq : IsBlk (n := 512) (m := 256) x0 X.q (512 * (i 1).val)) (hk : IsBlk (n := 8192) (m := 256) x1 X.k 0)
    (hv : ∀ (b : Fin 128) (r : Fin 8192), x2 (ix2 b r) = X.v r b) :
    Out X (512 * (i 1).val) (out0_A_3 (F := Ideal) c i arg2 harg2 arg3 harg3 arg4 harg4 arg5 harg5 arg6 harg6 arg7 harg7 arg8 harg8 arg9 harg9 x0 x1 x2)
      (out0_A_4 (F := Ideal) c i arg2 harg2 arg3 harg3 arg4 harg4 arg5 harg5 arg6 harg6 arg7 harg7 arg8 harg8 arg9 harg9 x0 x1 x2) := by
  have hin : Ins X arg3 arg4 (arg2.view.readAt (Elt Ideal) (Rect.unit (s := S512x256) ![0, 0] S512x256.size inb_S512x256_S512x256_0_0).toLoadRect (harg2.unread x0))
      (harg3.unread x1) (harg4.unread x2) (512 * (i 1).val) :=
    { q := fun a b => (congrFun (Prod.readAt_all arg2.view (harg2.unread x0) inb_S512x256_S512x256_0_0) _).trans (by rw [harg2.read_unread]; exact hq a b)
      k := by rw [harg3.read_unread]; exact hk
      v := by rw [harg4.read_unread]; exact hv }
  have ha : AccM X arg7 arg8 arg9
      (arg7.view.writes (Elt Ideal) arg7.view.junk [⟨Rect.unit (s := S8x512) ![0, 0] S8x512.size inb_S8x512_S8x512_0_0, k0_pay17 (F := Ideal)⟩])
      (arg8.view.writes (Elt Ideal) arg8.view.junk [⟨Rect.unit (s := S8x512) ![0, 0] S8x512.size inb_S8x512_S8x512_0_0, k0_pay18 (F := Ideal)⟩])
      (arg9.view.writes (Elt Ideal) arg9.view.junk [⟨Rect.unit (s := S128x512) ![0, 0] S128x512.size inb_S128x512_S128x512_0_0, k0_pay19 (F := Ideal)⟩])
      (512 * (i 1).val) (512 * 0) := by
    have h := Acc.zero X (512 * (i 1).val)
    have h7 := Prod.read_writes_all (Val := Elt Ideal) arg7.view arg7.view.junk inb_S8x512_S8x512_0_0 (k0_pay17 (F := Ideal)) []
    have h8 := Prod.read_writes_all (Val := Elt Ideal) arg8.view arg8.view.junk inb_S8x512_S8x512_0_0 (k0_pay18 (F := Ideal)) []
    have h9 := Prod.read_writes_all (Val := Elt Ideal) arg9.view arg9.view.junk inb_S128x512_S128x512_0_0 (k0_pay19 (F := Ideal)) []
    unfold AccM
    rwa [← h7, ← h8, ← h9] at h
  have h3 := fun w => Prod.read_writes_all (Val := Elt Ideal) VO0_3 VO0_3.junk inb_S512x128_S512x128_0_0 w []
  have h4 := fun w => Prod.read_writes_all (Val := Elt Ideal) VO0_4 VO0_4.junk inb_S8x512_S8x512_0_0 w []
  unfold out0_A_3 out0_A_4
  unfold kernelRun0_A
  sl_unfold_words
  dsimp only
  rw [show Scf.trips (Scalar.addi 0#32 (Scalar.muli (Scalar.divsi (Scalar.subi (BitVec.ofNat 32 (i 1).val) 0#32) 1#32) 1#32)) (Scalar.addi 0#32 (Scalar.subi (BitVec.ofNat 32 (i 1).val) 0#32)) 1#32 = 0 from trips2 i,
    show Scf.trips 0#32 (Scalar.addi 0#32 (Scalar.muli (Scalar.divsi (Scalar.subi (BitVec.ofNat 32 (i 1).val) 0#32) 1#32) 1#32)) 1#32 = (i 1).val from trips1 i]
  simp only [pb_k0_t2, List.nil_append]
  have hl := loop_acc X Variants.none c none i arg2 harg2 arg3 harg3 arg4 harg4 arg5 harg5 arg6 harg6 arg7 harg7 arg8 harg8 arg9 harg9 _ _ _ _ _ _ hin ha _ (le_refl _)
  rw [trips1] at hl
  dsimp only at hl
  generalize pb_k0_t1 (F := Ideal) Variants.none c none i arg2 harg2 arg3 harg3 arg4 harg4 arg5 harg5 arg6 harg6 arg7 harg7 arg8 harg8 arg9 harg9 _ _ _ _ _ _ _ = P at hl ⊢
  obtain ⟨P7, P8, P9⟩ := P
  dsimp only at hl ⊢
  have hK := blk_readAt_bf16 (n := 512) (k0_off5_inb i) (k0_off5_eq i) hin.k
  have ho := (hl.step hin (le_refl _) (pay23_ms X hin.q hK) (k0_off6_inb i) (k0_off6_eq i)).out
  simp only [← View.writes_append] at ho
  clear hl ha hin hq hk hv
  exact Eq.mp (congrArg₂ (Out X _) (h3 _).symm (h4 _).symm) ho

end Point

end Cert.Fwd

end
-- ==== Proof.P27.lean ====
/- UNTRUSTED — program 27: the latent attention's forward pass. What the kernel's two arrays end holding, what the
   reference returns, and that they are one. -/
module

public import proofs.«01_k».proof.Proof.Fwd
public import proofs.«01_k».proof.Proof.Algebraic
public import proofs.«01_k».proof.Proof.Gen.Kernel27
public import proofs.«01_k».proof.Proof.Gen.Reference27Ideal.Run
public import proofs.«01_k».proof.Defs

@[expose] public section

set_option maxRecDepth 16384

noncomputable section

namespace Cert.P27

open Idealize.ShloMosaic Idealize.ShloMosaic.TcCoe Cert.Attn Cert.Kernel27Ideal Cert.Kernel27Ideal.Gen

/-! ## The grid -/

theorem idx0 : ∀ t : Fin grid0.N, win0_0.index t 0 = t.val % 16 ∧ win0_0.index t 1 = t.val / 16 := by decide +kernel
theorem idx1 : ∀ t : Fin grid0.N, win0_1.index t 0 = 0 ∧ win0_1.index t 1 = t.val / 16 := by decide +kernel
theorem idx2 : ∀ t : Fin grid0.N, win0_2.index t 0 = t.val / 16 ∧ win0_2.index t 1 = 0 := by decide +kernel
theorem idx3 : ∀ t : Fin grid0.N, win0_3.index t 0 = t.val % 16 ∧ win0_3.index t 1 = t.val / 16 := by decide +kernel
theorem idx4 : ∀ t : Fin grid0.N, win0_4.index t 0 = t.val / 16 ∧ win0_4.index t 1 = t.val % 16 := by decide +kernel
theorem coord1 : ∀ t : Fin grid0.N, (grid0.coords t 1).val = t.val % 16 := by decide +kernel
theorem pt_lt (t : Fin cfg0.N) : t.val < 128 := lt_of_lt_of_eq t.isLt N_0

theorem blk0_eq (A : Vec Ideal S8192x2048 .bf16) (t : Fin cfg0.N) (a : Fin 512) (b : Fin 256) :
    (((cfg0.win 0).blk t).view.read (Elt Ideal) A : Vec Ideal S512x256 .bf16) (ix2 a b) = A (ix2 ⟨t.val % 16 * 512 + a, by have := pt_lt t; omega⟩ ⟨t.val / 16 * 256 + b, by have := pt_lt t; omega⟩ : S8192x2048.Idx) := by
  have hi := idx0 t
  rw [View.read_apply]
  refine congrArg A (funext fun x => Fin.ext ?_)
  match x with
  | ⟨0, _⟩ => show win0_0.index t 0 * 512 + 1 * (a : ℕ) = _; rw [hi.1, one_mul]; rfl
  | ⟨1, _⟩ => show win0_0.index t 1 * 256 + 1 * (b : ℕ) = _; rw [hi.2, one_mul]; rfl

theorem blk1_eq (A : Vec Ideal S8192x2048 .bf16) (t : Fin cfg0.N) (a : Fin 8192) (b : Fin 256) :
    (((cfg0.win 1).blk t).view.read (Elt Ideal) A : Vec Ideal S8192x256 .bf16) (ix2 a b) = A (ix2 a ⟨t.val / 16 * 256 + b, by have := pt_lt t; omega⟩ : S8192x2048.Idx) := by
  have hi := idx1 t
  rw [View.read_apply]
  refine congrArg A (funext fun x => Fin.ext ?_)
  match x with
  | ⟨0, _⟩ => show win0_1.index t 0 * 8192 + 1 * (a : ℕ) = _; rw [hi.1, one_mul, Nat.zero_mul, Nat.zero_add]; rfl
  | ⟨1, _⟩ => show win0_1.index t 1 * 256 + 1 * (b : ℕ) = _; rw [hi.2, one_mul]; rfl

theorem blk2_eq (A : Vec Ideal S1024x8192 .bf16) (t : Fin cfg0.N) (a : Fin 128) (b : Fin 8192) :
    (((cfg0.win 2).blk t).view.read (Elt Ideal) A : Vec Ideal S128x8192 .bf16) (ix2 a b) = A (ix2 ⟨t.val / 16 * 128 + a, by have := pt_lt t; omega⟩ b : S1024x8192.Idx) := by
  have hi := idx2 t
  rw [View.read_apply]
  refine congrArg A (funext fun x => Fin.ext ?_)
  match x with
  | ⟨0, _⟩ => show win0_2.index t 0 * 128 + 1 * (a : ℕ) = _; rw [hi.1, one_mul]; rfl
  | ⟨1, _⟩ => show win0_2.index t 1 * 8192 + 1 * (b : ℕ) = _; rw [hi.2, one_mul, Nat.zero_mul, Nat.zero_add]; rfl

theorem blk3_eq (A : Vec Ideal S8192x1024 .f32) (t : Fin cfg0.N) (a : Fin 512) (b : Fin 128) :
    (((cfg0.win 3).blk t).view.read (Elt Ideal) A : Vec Ideal S512x128 .f32) (ix2 a b) = A (ix2 ⟨t.val % 16 * 512 + a, by have := pt_lt t; omega⟩ ⟨t.val / 16 * 128 + b, by have := pt_lt t; omega⟩ : S8192x1024.Idx) := by
  have hi := idx3 t
  rw [View.read_apply]
  refine congrArg A (funext fun x => Fin.ext ?_)
  match x with
  | ⟨0, _⟩ => show win0_3.index t 0 * 512 + 1 * (a : ℕ) = _; rw [hi.1, one_mul]; rfl
  | ⟨1, _⟩ => show win0_3.index t 1 * 128 + 1 * (b : ℕ) = _; rw [hi.2, one_mul]; rfl

theorem blk4_eq (A : Vec Ideal S64x8192 .f32) (t : Fin cfg0.N) (a : Fin 8) (b : Fin 512) :
    (((cfg0.win 4).blk t).view.read (Elt Ideal) A : Vec Ideal S8x512 .f32) (ix2 a b) = A (ix2 ⟨t.val / 16 * 8 + a, by have := pt_lt t; omega⟩ ⟨t.val % 16 * 512 + b, by have := pt_lt t; omega⟩ : S64x8192.Idx) := by
  have hi := idx4 t
  rw [View.read_apply]
  refine congrArg A (funext fun x => Fin.ext ?_)
  match x with
  | ⟨0, _⟩ => show win0_4.index t 0 * 8 + 1 * (a : ℕ) = _; rw [hi.1, one_mul]; rfl
  | ⟨1, _⟩ => show win0_4.index t 1 * 512 + 1 * (b : ℕ) = _; rw [hi.2, one_mul]; rfl

/-! ## The operands -/

section Kernel

variable (m : (ℓ : Loc nD τ sig) → Buf (Elt Ideal) ℓ) (c : Dev nD)

abbrev k0 : FVec Ideal S8192x8x192 .f32 := m ((c.tc : Thread nD τ).loc main_arg0)
abbrev k1 : FVec Ideal S8192x8x192 .f32 := m ((c.tc : Thread nD τ).loc main_arg1)
abbrev k2 : FVec Ideal S8192x8x128 .f32 := m ((c.tc : Thread nD τ).loc main_arg2)

/-- The values, the heads one below the other. -/
def vtK (v : FVec Ideal S8192x8x128 .f32) : FVec Ideal S1024x8192 .bf16 :=
  transpose S1024x8192 [1, 0] (truncf .bf16 (shapeCast S8192x1024 v shapeCasts_S8192x8x128_S8192x1024 : FVec Ideal S8192x1024 .f32) bitsLt_bf16_f32 : FVec Ideal S8192x1024 .bf16) transposes_S8192x1024_S1024x8192_1_0

theorem vtK_at (v : FVec Ideal S8192x8x128 .f32) (h : Fin 8) (b : Fin 128) (r : Fin 8192) :
    vtK v (ix2 ⟨h.val * 128 + b.val, by omega⟩ r) = v (ix3 r h b) := by
  unfold vtK
  pointwise

theorem V_q : V m c main_v2 = padK (k0 m c) := by
  unfold V
  unfold_abbrev_sides
  simp only [List.flatten_cons, List.flatten_nil, List.append_nil]
  after_reads_simp
  rfl
theorem V_k : V m c main_v5 = padK (k1 m c) := by
  unfold V
  unfold_abbrev_sides
  simp only [List.flatten_cons, List.flatten_nil, List.append_nil]
  after_reads_simp
  rfl
theorem V_v : V m c main_v8 = vtK (k2 m c) := by
  unfold V
  unfold_abbrev_sides
  simp only [List.flatten_cons, List.flatten_nil, List.append_nil]
  after_reads_simp
  rfl

/-- The entry of the values at natural numbers. -/
def vN (v : FVec Ideal S8192x8x128 .f32) (r h d : ℕ) : EReal :=
  if x : r < 8192 ∧ h < 8 ∧ d < 128 then v (ix3 ⟨r, x.1⟩ ⟨h, x.2.1⟩ ⟨d, x.2.2⟩) else 0

theorem vN_ix (v : FVec Ideal S8192x8x128 .f32) (r : Fin 8192) (h : Fin 8) (d : Fin 128) : vN v r h d = v (ix3 r h d) :=
  dif_pos ⟨r.isLt, h.isLt, d.isLt⟩

/-! ## The two arrays -/

/-- The attention's output, the heads side by side. -/
def outK (P : ℕ → ℕ → ℕ → ℝ) (v : FVec Ideal S8192x8x128 .f32) : Vec Ideal S8192x1024 .f32 := fun j =>
  ∑ r : Fin 8192, vN v r ((j 1).val / 128) ((j 1).val % 128) * ((P ((j 1).val / 128) (j 0).val r : ℝ) : EReal)

theorem outK_ix2 (P : ℕ → ℕ → ℕ → ℝ) (v : FVec Ideal S8192x8x128 .f32) (a : Fin 8192) (b : Fin 1024) :
    outK P v (ix2 a b) = ∑ r : Fin 8192, vN v r (b.val / 128) (b.val % 128) * ((P (b.val / 128) a.val r : ℝ) : EReal) := rfl

/-- One row a head, eight times over. -/
def rows8 (L : ℕ → ℕ → ℝ) : Vec Ideal S64x8192 .f32 := fun j => ((L ((j 0).val / 8) (j 1).val : ℝ) : EReal)

theorem rows8_ix2 (L : ℕ → ℕ → ℝ) (a : Fin 64) (b : Fin 8192) : rows8 L (ix2 a b) = ((L (a.val / 8) b.val : ℝ) : EReal) := rfl

variable {m c} {fq fk : ℕ → ℕ → ℕ → ℝ} {M : ℕ → ℕ → ℝ}
  (hq : IsR3 (n := 8192) (k := 8) (d := 192) (k0 m c) fq) (hk : IsR3 (n := 8192) (k := 8) (d := 192) (k1 m c) fk)
  (hz : ∀ r h d, 192 ≤ d → fq r h d = 0) (hz' : ∀ r h d, 192 ≤ d → fk r h d = 0)

include hq hz in
theorem blkq (t : Fin cfg0.N) : IsBlk (n := 512) (m := 256) (iblk m c 0 t : Vec Ideal S512x256 .bf16) (fun r d => fq r (t.val / 16) d) (512 * (grid0.coords t 1).val) := fun a b => by
  have hlt := pt_lt t
  refine (blk0_eq (V m c main_v2) t a b).trans ?_
  rw [V_q, coord1 t]
  refine (padK_real hq hz ⟨t.val % 16 * 512 + a, by omega⟩ ⟨t.val / 16, by omega⟩ b).trans ?_
  dsimp only
  rw [Nat.mul_comm]

include hk hz' in
theorem blkk (t : Fin cfg0.N) : IsBlk (n := 8192) (m := 256) (iblk m c 1 t : Vec Ideal S8192x256 .bf16) (fun r d => fk r (t.val / 16) d) 0 := fun a b => by
  have hlt := pt_lt t
  refine (blk1_eq (V m c main_v5) t a b).trans ?_
  rw [V_k]
  refine (padK_real hk hz' a ⟨t.val / 16, by omega⟩ b).trans ?_
  dsimp only
  rw [Nat.zero_add]

theorem blkv (t : Fin cfg0.N) (b : Fin 128) (r : Fin 8192) : (iblk m c 2 t : Vec Ideal S128x8192 .bf16) (ix2 b r) = vN (k2 m c) r (t.val / 16) b := by
  have hlt := pt_lt t
  refine (blk2_eq (V m c main_v8) t b r).trans ?_
  rw [V_v]
  exact (vtK_at _ ⟨t.val / 16, by omega⟩ b r).trans (vN_ix _ r ⟨t.val / 16, by omega⟩ b).symm

include hq hk hz hz' in
/-- What a grid point leaves: its head's rows of its block. -/
theorem outs (t : Fin cfg0.N) : Fwd.Out (fwdR fq fk (vN (k2 m c)) (t.val / 16)) (512 * (t.val % 16)) (outsAt0 m c t).1 (outsAt0 m c t).2 := by
  have h0 := blkq hq hz t
  have h1 := blkk hk hz' t
  have h2 := blkv (m := m) (c := c) t
  unfold outsAt0
  dsimp only
  generalize (iblk m c 0 t : Vec Ideal S512x256 .bf16) = x0 at h0 ⊢
  generalize (iblk m c 1 t : Vec Ideal S8192x256 .bf16) = x1 at h1 ⊢
  generalize (iblk m c 2 t : Vec Ideal S128x8192 .bf16) = x2 at h2 ⊢
  have h := Fwd.point_out (x0 := x0) (x1 := x1) (x2 := x2) (fwdR fq fk (vN (k2 m c)) (t.val / 16)) c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _) h0 h1 h2
  exact (congrArg (fun n => Fwd.Out (fwdR fq fk (vN (k2 m c)) (t.val / 16)) (512 * n) _ _) (coord1 t)).mp h

include hq hk hz hz' in
theorem flushed3 (t : Fin cfg0.N) (_ : (cfg0.win 3).flush t = true) :
    (dats m 0 c).flushed 3 t = ((cfg0.win 3).blk t).view.read (Elt Ideal) (outK (pR fq fk M) (k2 m c)) := by
  have hlt := pt_lt t
  have ho := outs hq hk hz hz' t
  show (cfg0.win 3).cut (grid0.coords t) ((dats m 0 c).after 3 t) = _
  rw [after0_3]
  generalize outsAt0 m c t = y at ho ⊢
  funext (j : S512x128.Idx)
  obtain ⟨a, b, rfl⟩ := Prod.exists_ix2 j
  refine Eq.trans ?_ (blk3_eq _ t a b).symm
  obtain ⟨_, l, s, hst, h3, _⟩ := ho a
  refine (h3 b).trans ((St_out fq fk (vN (k2 m c)) M hz (t.val / 16) (by omega) (by omega) hst b).trans ?_)
  rw [outK_ix2]
  dsimp only
  rw [show (t.val / 16 * 128 + (b : ℕ)) / 128 = t.val / 16 by omega, show (t.val / 16 * 128 + (b : ℕ)) % 128 = b by omega, Nat.mul_comm (t.val % 16)]

include hq hk hz hz' in
theorem flushed4 (t : Fin cfg0.N) (_ : (cfg0.win 4).flush t = true) :
    (dats m 0 c).flushed 4 t = ((cfg0.win 4).blk t).view.read (Elt Ideal) (rows8 fun h c => (M h c + Real.log (lR fq fk M h c)) / Real.log 2) := by
  have hlt := pt_lt t
  have ho := outs hq hk hz hz' t
  show (cfg0.win 4).cut (grid0.coords t) ((dats m 0 c).after 4 t) = _
  rw [after0_4]
  generalize outsAt0 m c t = y at ho ⊢
  funext (j : S8x512.Idx)
  obtain ⟨e, a, rfl⟩ := Prod.exists_ix2 j
  refine Eq.trans ?_ (blk4_eq _ t e a).symm
  obtain ⟨_, l, s, hst, _, h4⟩ := ho a
  refine (h4 e).trans ((St_lse fq fk (vN (k2 m c)) M hz (t.val / 16) (by omega) (by omega) hst).trans ?_)
  rw [rows8_ix2]
  dsimp only
  rw [show (t.val / 16 * 8 + (e : ℕ)) / 8 = t.val / 16 by omega, Nat.mul_comm (t.val % 16)]

include hq hk hz hz' in
theorem final3 : (dats m 0 c).arrAt 3 cfg0.N = outK (pR fq fk M) (k2 m c) :=
  (dats m 0 c).arrAt_eq_of_cover 3 _ (flushed3 hq hk hz hz') fun i => by
    have h0 : (i 0 : Nat) < 8192 := (i 0).isLt
    have h1 : (i 1 : Nat) < 1024 := (i 1).isLt
    refine ⟨⟨(i 1).val / 128 * 16 + (i 0).val / 512, lt_of_lt_of_eq (by omega) N_0.symm⟩, flush0_3 _, ?_⟩
    generalize ht : (⟨_, _⟩ : Fin cfg0.N) = t
    have hv : t.val = _ := congrArg Fin.val ht.symm
    have hi := idx3 t
    show i ∈ ((View.whole main_v9_0).slice (win0_3.rect t)).set
    rw [View.set_slice_whole, Rect.mem_set_unit]
    intro x
    match x with
    | ⟨0, _⟩ => show win0_3.index t 0 * 512 ≤ (i 0 : Nat) ∧ (i 0 : Nat) < win0_3.index t 0 * 512 + 512
                rw [hi.1]; dsimp only at hv; omega
    | ⟨1, _⟩ => show win0_3.index t 1 * 128 ≤ (i 1 : Nat) ∧ (i 1 : Nat) < win0_3.index t 1 * 128 + 128
                rw [hi.2]; dsimp only at hv; omega

include hq hk hz hz' in
theorem final4 : (dats m 0 c).arrAt 4 cfg0.N = rows8 fun h c => (M h c + Real.log (lR fq fk M h c)) / Real.log 2 :=
  (dats m 0 c).arrAt_eq_of_cover 4 _ (flushed4 hq hk hz hz') fun i => by
    have h0 : (i 0 : Nat) < 64 := (i 0).isLt
    have h1 : (i 1 : Nat) < 8192 := (i 1).isLt
    refine ⟨⟨(i 0).val / 8 * 16 + (i 1).val / 512, lt_of_lt_of_eq (by omega) N_0.symm⟩, flush0_4 _, ?_⟩
    generalize ht : (⟨_, _⟩ : Fin cfg0.N) = t
    have hv : t.val = _ := congrArg Fin.val ht.symm
    have hi := idx4 t
    show i ∈ ((View.whole main_v9_1).slice (win0_4.rect t)).set
    rw [View.set_slice_whole, Rect.mem_set_unit]
    intro x
    match x with
    | ⟨0, _⟩ => show win0_4.index t 0 * 8 ≤ (i 0 : Nat) ∧ (i 0 : Nat) < win0_4.index t 0 * 8 + 8
                rw [hi.1]; dsimp only at hv; omega
    | ⟨1, _⟩ => show win0_4.index t 1 * 512 ≤ (i 1 : Nat) ∧ (i 1 : Nat) < win0_4.index t 1 * 512 + 512
                rw [hi.2]; dsimp only at hv; omega

end Kernel

section Results

variable (m : (ℓ : Loc nD τ sig) → Buf (Elt Ideal) ℓ) (c : Dev nD)

theorem tail_0 : Pipeline.afterTail₀ cfgs (dats m) 0 (V0 m) [hostOps1] c main_v10
    = (shapeCast S8192x8x128 ((dats m 0 c).arrAt 3 cfg0.N : Vec Ideal S8192x1024 .f32) shapeCasts_S8192x1024_S8192x8x128 : Vec Ideal S8192x8x128 .f32) := by
  unfold Pipeline.afterTail₀
  simp only [List.flatten_cons, List.flatten_nil, List.append_nil]
  generalize (dats m 0 c).arrAt = A
  generalize V0 m c = W
  after_results
  rw [show Pipeline.withArrays (cfgs 0).spec c W (fun w => A w (cfgs 0).N) (Proc.devRef .tc main_v9_0) = A 3 cfg0.N from
    Pipeline.withArrays_arr spec0 (by decide) c W _ 3]
  rfl

/-- The attention's output, head by head. -/
def outA (P : ℕ → ℕ → ℕ → ℝ) (v : FVec Ideal S8192x8x128 .f32) : Vec Ideal S8192x8x128 .f32 := fun j =>
  ∑ r : Fin 8192, vN v r (j 1).val (j 2).val * ((P (j 1).val (j 0).val r : ℝ) : EReal)

theorem outA_ix3 (P : ℕ → ℕ → ℕ → ℝ) (v : FVec Ideal S8192x8x128 .f32) (r : Fin 8192) (h : Fin 8) (d : Fin 128) :
    outA P v (ix3 r h d) = ∑ s : Fin 8192, vN v s h d * ((P h r s : ℝ) : EReal) := rfl

theorem heads_out (P : ℕ → ℕ → ℕ → ℝ) (v : FVec Ideal S8192x8x128 .f32) :
    (shapeCast S8192x8x128 (outK P v) shapeCasts_S8192x1024_S8192x8x128 : Vec Ideal S8192x8x128 .f32) = outA P v := by
  funext j
  idx_vars j
  refine Eq.trans ?_ (outA_ix3 P v j0 j1 j2).symm
  have h : (shapeCast S8192x8x128 (outK P v) shapeCasts_S8192x1024_S8192x8x128 : Vec Ideal S8192x8x128 .f32) (ix3 j0 j1 j2)
      = outK P v (ix2 j0 ⟨j1.val * 128 + j2.val, by omega⟩) := by pointwise
  refine h.trans ?_
  rw [outK_ix2]
  dsimp only
  rw [show ((j1 : ℕ) * 128 + j2) / 128 = j1 by omega, show ((j1 : ℕ) * 128 + j2) % 128 = j2 by omega]

theorem kernel_run (ρ : Dev nD → PrngReg) {fq fk : Dev nD → ℕ → ℕ → ℕ → ℝ} {M : Dev nD → ℕ → ℕ → ℝ}
    (hq : ∀ c, IsR3 (n := 8192) (k := 8) (d := 192) (k0 m c) (fq c)) (hk : ∀ c, IsR3 (n := 8192) (k := 8) (d := 192) (k1 m c) (fk c))
    (hz : ∀ c r h d, 192 ≤ d → fq c r h d = 0) (hz' : ∀ c r h d, 192 ≤ d → fk c r h d = 0) :
    θ_run defs (onTc (τ := τ) (main (F := Ideal))) ⟨m, fun _ => 0, ρ⟩ fun r => ∀ c : Dev nD,
      r.2.mem ((c.tc : Thread nD τ).loc main_v10) = outA (pR (fq c) (fk c) (M c)) (k2 m c)
      ∧ r.2.mem ((c.tc : Thread nD τ).loc main_v9_1) = rows8 (fun h r => (M c h r + Real.log (lR (fq c) (fk c) (M c) h r)) / Real.log 2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v10 (Pipeline.mem_restRefs_of main_v10 (by decide) (by decide))).trans
        ((tail_0 m c).trans (by rw [final3 (M := M c) (hq c) (hk c) (hz c) (hz' c)]; exact heads_out _ _)),
     ((h c).1 4).trans (final4 (M := M c) (hq c) (hk c) (hz c) (hz' c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Results

/-! ## The reference -/

section Reference

variable (m : (ℓ : Loc Cert.Reference27Ideal.nD Cert.Reference27Ideal.τ Cert.Reference27Ideal.sig) → Buf (Elt Ideal) ℓ) (c : Dev Cert.Reference27Ideal.nD)

abbrev r0 : FVec Ideal S8192x8x192 .f32 := m ((c.tc : Thread Cert.Reference27Ideal.nD Cert.Reference27Ideal.τ).loc Cert.Reference27Ideal.main_arg0)
abbrev r1 : FVec Ideal S8192x8x192 .f32 := m ((c.tc : Thread Cert.Reference27Ideal.nD Cert.Reference27Ideal.τ).loc Cert.Reference27Ideal.main_arg1)
abbrev r2 : FVec Ideal S8192x8x128 .f32 := m ((c.tc : Thread Cert.Reference27Ideal.nD Cert.Reference27Ideal.τ).loc Cert.Reference27Ideal.main_arg2)

/-- The values under given probabilities. -/
def avA (v : FVec Ideal S8192x8x128 .f32) (P : FVec Ideal Cert.Reference27Ideal.S8x8192x8192 .f32) : FVec Ideal S8192x8x128 .f32 :=
  transpose S8192x8x128 [2, 0, 1] (Host.dotGeneral Cert.Reference27Ideal.dot_S8192x8x128_S8x8192x8192_S8x128x8192_0_2_2_1_1_0 none v P : FVec Ideal Cert.Reference27Ideal.S8x128x8192 .f32) Cert.Reference27Ideal.Gen.transposes_S8x128x8192_S8192x8x128_2_0_1

theorem avA_eq (v : FVec Ideal S8192x8x128 .f32) {P : FVec Ideal Cert.Reference27Ideal.S8x8192x8192 .f32} {p : ℕ → ℕ → ℕ → ℝ} (hP : IsR3 (n := 8) (k := 8192) (d := 8192) P p) : avA v P = outA p v := by
  funext j
  idx_vars j
  refine Eq.trans ?_ (outA_ix3 p v j0 j1 j2).symm
  unfold avA
  pointwise
  simp only [hP _ _ _, vN_ix]

theorem res0_eq : Cert.Reference27Ideal.Value.res_main_v50 m c = avA (r2 m c) (Host.divf (exR (r0 m c) (r1 m c)) (rowsA (Host.reduceAdd (exR (r0 m c) (r1 m c)) (constant Cert.Reference27Ideal.S_ .f32 0x00000000#32) Cert.Reference27Ideal.Gen.reducesTo_S8x8192x8192_S8x8192_d2 Cert.Reference27Ideal.Gen.h_S_))) := rfl

theorem rows_eq {L : FVec Ideal Cert.Reference27Ideal.S8x8192 .f32} {l : ℕ → ℕ → ℝ} (hL : IsR2 (n := 8) (k := 8192) L l) : rowK L = rows8 l := by
  funext j
  obtain ⟨a, b, rfl⟩ := Prod.exists_ix2 j
  refine Eq.trans ?_ (rows8_ix2 l a b).symm
  refine Eq.trans ?_ (hL ⟨a.val / 8, by omega⟩ b)
  refine Eq.trans (congrArg (rowK L) (congrArg (fun x => ix2 x b) (Fin.ext ?_))) (rowK_at L ⟨a.val / 8, by omega⟩ ⟨a.val % 8, by omega⟩ b)
  dsimp only
  omega

end Reference

/-! ## The claims -/

theorem preFacts : Cert.Pre_finite27.Facts where
  bcast_S_S8192x8x192 := by decide

theorem pre0 [Cert.Pre_finite27.Facts] {x0 x1 x2} (h : (Cert.Pre_finite27.fn (F := Ideal) x0 x1 x2).1 = fun _ => 1#1) : IsR3 (n := 8192) (k := 8) (d := 192) x0 (at3 (n := 8192) (k := 8) (d := 192) x0) :=
  at3_real fun i => finite_of (congrFun h i)
theorem pre1 [Cert.Pre_finite27.Facts] {x0 x1 x2} (h : (Cert.Pre_finite27.fn (F := Ideal) x0 x1 x2).2 = fun _ => 1#1) : IsR3 (n := 8192) (k := 8) (d := 192) x1 (at3 (n := 8192) (k := 8) (d := 192) x1) :=
  at3_real fun i => finite_of (congrFun h i)

theorem algebraic [hPre : Cert.Pre_finite27.Facts] : @Cert.algebraic_Kernel27Ideal_Reference27Ideal_pre_finite27 Cert.Kernel27Ideal.Gen.facts Cert.Reference27Ideal.Gen.facts hPre := by
  intro m g m' g' hpre hagree
  have hq c := pre0 (hpre c).1
  have hk c := pre1 (hpre c).2
  have hM c := mxA_real (hq c) (hk c)
  have hzq c (r h d : ℕ) (hd : 192 ≤ d) := at3_zero (n := 8192) (k := 8) (d := 192) (k0 m c) r h d hd
  have hzk c (r h d : ℕ) (hd : 192 ≤ d) := at3_zero (n := 8192) (k := 8) (d := 192) (k1 m c) r h d hd
  refine ⟨_, _, kernel_run m g (M := fun c => topR (k0 m c) (k1 m c)) hq hk hzq hzk, ?_⟩
  refine (θ_run Cert.Reference27Ideal.defs _ _).mono (fun r hr c => ?_) (Cert.Reference27Ideal.Value.run m' g')
  obtain ⟨h0, h1, h2⟩ := hr c
  obtain ⟨a0, a1, a2⟩ := hagree c
  have e0 : r0 m' c = k0 m c := a0
  have e1 : r1 m' c = k1 m c := a1
  have e2 : r2 m' c = k2 m c := a2
  refine ⟨?_, ?_, h2⟩
  · refine h0.trans ((res0_eq m' c).trans ?_)
    rw [exR_eq, e0, e1, e2]
    exact avA_eq _ (prA_real (hq c) (hk c) (hM c))
  · refine h1.trans ?_
    refine Eq.trans (b := rowK (lseK (mxA (r0 m' c) (r1 m' c)) (smA (r0 m' c) (r1 m' c)))) rfl ?_
    rw [e0, e1]
    exact rows_eq (lseK_real (hM c) (smA_real (hq c) (hk c) (hM c)) (lR_pos _ _ _))

/-- A named constant as the bits it is printed with. -/
@[reducible] def bitsNamed : Named Bits where
  named _ _ {φ} b := Scalar.ofBits φ b

/-- The two programs are one text where a named constant is its bits. -/
theorem defs0_eq : @Cert.Kernel27.defs₀ Bits _ Cert.Kernel27.Gen.facts = @Cert.Kernel27Ideal.defs₀ Bits _ bitsNamed Cert.Kernel27Ideal.Gen.facts :=
  congrArg (Defs.onTc (nD := 1) (τ := Cert.Kernel27Ideal.τ)) (funext fun ℓ => match ℓ with
    | (0 : Fin 1) => rfl)
theorem defs_eq : @Cert.Kernel27.defs Bits _ Cert.Kernel27.Gen.facts = @Cert.Kernel27Ideal.defs Bits _ bitsNamed Cert.Kernel27Ideal.Gen.facts :=
  congrArg (Pipeline.defs (Cert.Kernel27Ideal.pcfgs (F := Bits))) defs0_eq

theorem frame : @Cert.quiescent_Kernel27 Cert.Kernel27.Gen.facts := fun m ρ _ => by
  rw [defs_eq]
  exact @Cert.Kernel27Ideal.Gen.frame Bits _ bitsNamed m ρ
theorem frameI : @Cert.quiescent_Kernel27Ideal Cert.Kernel27Ideal.Gen.facts := fun m ρ _ => Cert.Kernel27Ideal.Gen.frame m ρ
theorem frameR : @Cert.quiescent_Reference27Ideal Cert.Reference27Ideal.Gen.facts := fun m ρ _ =>
  (θ_run Cert.Reference27Ideal.defs _ _).mono (fun r h => ⟨fun c => (h c).2.2, sem_eq_zero_of_no_sems (by decide) r.2⟩)
    (Cert.Reference27Ideal.Value.run m ρ)

end Cert.P27

end
-- ==== Proof.lean ====
/- UNTRUSTED — the proof of `Cert.Claim`: the frames, the named constants, and the equations. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import proofs.«01_k».proof.Proof.Gen.Kernel2
public import proofs.«01_k».proof.Proof.Gen.Kernel2Ideal.Value
public import proofs.«01_k».proof.Proof.Gen.Reference2Ideal.Run
public import proofs.«01_k».proof.Proof.P2
public import proofs.«01_k».proof.Proof.Gen.Kernel3
public import proofs.«01_k».proof.Proof.Gen.Kernel3Ideal.Value
public import proofs.«01_k».proof.Proof.Gen.Reference3Ideal.Run
public import proofs.«01_k».proof.Proof.P3
public import proofs.«01_k».proof.Proof.Gen.Kernel4
public import proofs.«01_k».proof.Proof.Gen.Kernel4Ideal.Value
public import proofs.«01_k».proof.Proof.Gen.Reference4Ideal.Run
public import proofs.«01_k».proof.Proof.P4
public import proofs.«01_k».proof.Proof.Gen.Kernel5
public import proofs.«01_k».proof.Proof.Gen.Kernel5Ideal.Value
public import proofs.«01_k».proof.Proof.Gen.Reference5Ideal.Run
public import proofs.«01_k».proof.Proof.P5
public import proofs.«01_k».proof.Proof.Gen.Kernel6
public import proofs.«01_k».proof.Proof.Gen.Kernel6Ideal.Value
public import proofs.«01_k».proof.Proof.Gen.Reference6Ideal.Run
public import proofs.«01_k».proof.Proof.P6
public import proofs.«01_k».proof.Proof.Gen.Kernel7
public import proofs.«01_k».proof.Proof.Gen.Kernel7Ideal.Value
public import proofs.«01_k».proof.Proof.Gen.Reference7Ideal.Run
public import proofs.«01_k».proof.Proof.P7
public import proofs.«01_k».proof.Proof.Gen.Kernel8
public import proofs.«01_k».proof.Proof.Gen.Kernel8Ideal.Value
public import proofs.«01_k».proof.Proof.Gen.Reference8Ideal.Run
public import proofs.«01_k».proof.Proof.P8
public import proofs.«01_k».proof.Proof.Gen.Kernel9
public import proofs.«01_k».proof.Proof.Gen.Kernel9Ideal.Value
public import proofs.«01_k».proof.Proof.Gen.Reference9Ideal.Run
public import proofs.«01_k».proof.Proof.P9
public import proofs.«01_k».proof.Proof.Gen.Kernel10
public import proofs.«01_k».proof.Proof.Gen.Kernel10Ideal.Value
public import proofs.«01_k».proof.Proof.Gen.Reference10Ideal.Run
public import proofs.«01_k».proof.Proof.P10
public import proofs.«01_k».proof.Proof.Gen.Kernel11
public import proofs.«01_k».proof.Proof.Gen.Kernel11Ideal.Value
public import proofs.«01_k».proof.Proof.Gen.Reference11Ideal.Run
public import proofs.«01_k».proof.Proof.P11
public import proofs.«01_k».proof.Proof.Gen.Kernel12
public import proofs.«01_k».proof.Proof.Gen.Kernel12Ideal.Value
public import proofs.«01_k».proof.Proof.Gen.Reference12Ideal.Run
public import proofs.«01_k».proof.Proof.P12
public import proofs.«01_k».proof.Proof.Gen.Kernel13
public import proofs.«01_k».proof.Proof.Gen.Kernel13Ideal.Value
public import proofs.«01_k».proof.Proof.Gen.Reference13Ideal.Run
public import proofs.«01_k».proof.Proof.P13
public import proofs.«01_k».proof.Proof.Gen.Kernel14
public import proofs.«01_k».proof.Proof.Gen.Kernel14Ideal.Value
public import proofs.«01_k».proof.Proof.Gen.Reference14Ideal.Run
public import proofs.«01_k».proof.Proof.P14
public import proofs.«01_k».proof.Proof.Gen.Kernel15
public import proofs.«01_k».proof.Proof.Gen.Kernel15Ideal.Value
public import proofs.«01_k».proof.Proof.Gen.Reference15Ideal.Run
public import proofs.«01_k».proof.Proof.P15
public import proofs.«01_k».proof.Proof.Gen.Kernel16
public import proofs.«01_k».proof.Proof.Gen.Kernel16Ideal.Value
public import proofs.«01_k».proof.Proof.Gen.Reference16Ideal.Run
public import proofs.«01_k».proof.Proof.P16
public import proofs.«01_k».proof.Proof.Gen.Kernel17
public import proofs.«01_k».proof.Proof.Gen.Kernel17Ideal.Value
public import proofs.«01_k».proof.Proof.Gen.Reference17Ideal.Run
public import proofs.«01_k».proof.Proof.P17
public import proofs.«01_k».proof.Proof.Gen.Kernel18
public import proofs.«01_k».proof.Proof.Gen.Kernel18Ideal.Value
public import proofs.«01_k».proof.Proof.Gen.Reference18Ideal.Run
public import proofs.«01_k».proof.Proof.P18
public import proofs.«01_k».proof.Proof.Gen.Kernel19
public import proofs.«01_k».proof.Proof.Gen.Kernel19Ideal.Value
public import proofs.«01_k».proof.Proof.Gen.Reference19Ideal.Run
public import proofs.«01_k».proof.Proof.P19
public import proofs.«01_k».proof.Proof.Gen.Kernel20
public import proofs.«01_k».proof.Proof.Gen.Kernel20Ideal.Value
public import proofs.«01_k».proof.Proof.Gen.Reference20Ideal.Run
public import proofs.«01_k».proof.Proof.P20
public import proofs.«01_k».proof.Proof.Gen.Kernel21
public import proofs.«01_k».proof.Proof.Gen.Kernel21Ideal.Value
public import proofs.«01_k».proof.Proof.Gen.Reference21Ideal.Run
public import proofs.«01_k».proof.Proof.P21
public import proofs.«01_k».proof.Proof.Gen.Kernel22
public import proofs.«01_k».proof.Proof.Gen.Kernel22Ideal.Value
public import proofs.«01_k».proof.Proof.Gen.Reference22Ideal.Run
public import proofs.«01_k».proof.Proof.P22
public import proofs.«01_k».proof.Proof.Gen.Kernel23
public import proofs.«01_k».proof.Proof.Gen.Kernel23Ideal.Value
public import proofs.«01_k».proof.Proof.Gen.Reference23Ideal.Run
public import proofs.«01_k».proof.Proof.P23
public import proofs.«01_k».proof.Proof.Gen.Kernel24
public import proofs.«01_k».proof.Proof.Gen.Kernel24Ideal.Value
public import proofs.«01_k».proof.Proof.Gen.Reference24Ideal.Run
public import proofs.«01_k».proof.Proof.P24
public import proofs.«01_k».proof.Proof.Gen.Kernel25
public import proofs.«01_k».proof.Proof.Gen.Kernel25Ideal.Value
public import proofs.«01_k».proof.Proof.Gen.Reference25Ideal.Run
public import proofs.«01_k».proof.Proof.P25
public import proofs.«01_k».proof.Proof.Gen.Kernel26
public import proofs.«01_k».proof.Proof.Gen.Kernel26Ideal.Value
public import proofs.«01_k».proof.Proof.Gen.Reference26Ideal.Run
public import proofs.«01_k».proof.Proof.P26
public import proofs.«01_k».proof.Proof.Gen.Kernel27
public import proofs.«01_k».proof.Proof.Gen.Kernel27Ideal.Frame
public import proofs.«01_k».proof.Proof.Gen.Reference27Ideal.Run
public import proofs.«01_k».proof.Proof.P27
public import Idealize.ShloMosaic.Adequacy
public import Idealize.ShloMosaic.Init

@[expose] public section

noncomputable section

namespace Cert.Proof

open Idealize.ShloMosaic Idealize.SL.Sem Cert.Kernel

/-- The preconditions' own side conditions hold. -/
instance : Cert.Pre_finite.Facts := Cert.Attn.preFacts
instance : Cert.Pre_finite2.Facts := Cert.P2.preFacts
instance : Cert.Pre_finite27.Facts := Cert.P27.preFacts

/-- The reference runs, leaves its arguments alone, and has no semaphores. -/
theorem reference_frame [hR : Cert.ReferenceIdeal.Facts] : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

/-- The three named constants are what they are named. -/
theorem names : Cert.preserves_Kernel_KernelIdeal :=
  ⟨IdealRules.named_const.statement Cert.KernelIdeal.κ "scale_log2e" .f32 0x3DD53B95#32 (((Real.sqrt 192)⁻¹ * (Real.log 2)⁻¹ : ℝ) : EReal) rfl,
    IdealRules.named_const.statement Cert.KernelIdeal.κ "scale" .f32 0x3D93CD3A#32 (((Real.sqrt 192)⁻¹ : ℝ) : EReal) rfl,
    IdealRules.named_const.statement Cert.KernelIdeal.κ "mask" .f32 0xF149F2CA#32 ⊥ rfl⟩

/-- So are those of the forward pass. -/
theorem names27 : Cert.preserves_Kernel27_Kernel27Ideal :=
  ⟨IdealRules.named_const.statement Cert.Kernel27Ideal.κ "mask" .f32 0xF149F2CA#32 ⊥ rfl,
    IdealRules.named_const.statement Cert.Kernel27Ideal.κ "scale_log2e" .f32 0x3DD53B95#32 (((Real.sqrt 192)⁻¹ * (Real.log 2)⁻¹ : ℝ) : EReal) rfl,
    IdealRules.named_const.statement Cert.Kernel27Ideal.κ "log2e" .f32 0x3FB8AA3B#32 (((Real.log 2)⁻¹ : ℝ) : EReal) rfl⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Attn.preFacts, Cert.P2.preFacts, Cert.P27.preFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    Cert.P2.frame, Cert.P2.frameI, fun m ρ _ => Cert.P2.frameI m ρ trivial, Cert.P2.frameR, fun m ρ _ => Cert.P2.frameR m ρ trivial,
    Cert.P3.frame, Cert.P3.frameI, Cert.P3.frameR,
    Cert.P4.frame, Cert.P4.frameI, Cert.P4.frameR,
    Cert.P5.frame, Cert.P5.frameI, Cert.P5.frameR,
    Cert.P6.frame, Cert.P6.frameI, Cert.P6.frameR,
    Cert.P7.frame, Cert.P7.frameI, Cert.P7.frameR,
    Cert.P8.frame, Cert.P8.frameI, Cert.P8.frameR,
    Cert.P9.frame, Cert.P9.frameI, Cert.P9.frameR,
    Cert.P10.frame, Cert.P10.frameI, Cert.P10.frameR,
    Cert.P11.frame, Cert.P11.frameI, Cert.P11.frameR,
    Cert.P12.frame, Cert.P12.frameI, Cert.P12.frameR,
    Cert.P13.frame, Cert.P13.frameI, Cert.P13.frameR,
    Cert.P14.frame, Cert.P14.frameI, Cert.P14.frameR,
    Cert.P15.frame, Cert.P15.frameI, Cert.P15.frameR,
    Cert.P16.frame, Cert.P16.frameI, Cert.P16.frameR,
    Cert.P17.frame, Cert.P17.frameI, Cert.P17.frameR,
    Cert.P18.frame, Cert.P18.frameI, Cert.P18.frameR,
    Cert.P19.frame, Cert.P19.frameI, Cert.P19.frameR,
    Cert.P20.frame, Cert.P20.frameI, Cert.P20.frameR,
    Cert.P21.frame, Cert.P21.frameI, Cert.P21.frameR,
    Cert.P22.frame, Cert.P22.frameI, Cert.P22.frameR,
    Cert.P23.frame, Cert.P23.frameI, Cert.P23.frameR,
    Cert.P24.frame, Cert.P24.frameI, Cert.P24.frameR,
    Cert.P25.frame, Cert.P25.frameI, Cert.P25.frameR,
    Cert.P26.frame, Cert.P26.frameI, Cert.P26.frameR,
    Cert.P27.frame, Cert.P27.frameI, fun m ρ _ => Cert.P27.frameI m ρ trivial, Cert.P27.frameR, fun m ρ _ => Cert.P27.frameR m ρ trivial,
    names,
    Cert.Attn.algebraic,
    trivial, Cert.P2.algebraic,
    trivial, Cert.P3.algebraic,
    trivial, Cert.P4.algebraic,
    trivial, Cert.P5.algebraic,
    trivial, Cert.P6.algebraic,
    trivial, Cert.P7.algebraic,
    trivial, Cert.P8.algebraic,
    trivial, Cert.P9.algebraic,
    trivial, Cert.P10.algebraic,
    trivial, Cert.P11.algebraic,
    trivial, Cert.P12.algebraic,
    trivial, Cert.P13.algebraic,
    trivial, Cert.P14.algebraic,
    trivial, Cert.P15.algebraic,
    trivial, Cert.P16.algebraic,
    trivial, Cert.P17.algebraic,
    trivial, Cert.P18.algebraic,
    trivial, Cert.P19.algebraic,
    trivial, Cert.P20.algebraic,
    trivial, Cert.P21.algebraic,
    trivial, Cert.P22.algebraic,
    trivial, Cert.P23.algebraic,
    trivial, Cert.P24.algebraic,
    trivial, Cert.P25.algebraic,
    trivial, Cert.P26.algebraic,
    names27, Cert.P27.algebraic⟩

end Cert.Proof

end
